-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_enough_candidates [hPre_enough_candidates : Cert.Pre_enough_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_enough_candidates.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_candidates [hPre_enough_candidates : Cert.Pre_enough_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_candidates.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_enough_candidates [hKernelIdeal : Cert.KernelIdeal.Facts] [hPre_enough_candidates : Cert.Pre_enough_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_candidates m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_enough_candidates [hReferenceIdeal : Cert.ReferenceIdeal.Facts] [hPre_enough_candidates : Cert.Pre_enough_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_enough_candidates [hKernelIdeal : Cert.KernelIdeal.Facts] [hReferenceIdeal : Cert.ReferenceIdeal.Facts] [hPre_enough_candidates : Cert.Pre_enough_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_enough_candidates : Cert.Pre_enough_candidates.Facts),
    quiescent_Kernel (hKernel := hKernel)
    ∧ quiescent_KernelIdeal (hKernelIdeal := hKernelIdeal)
    ∧ quiescent_KernelIdeal_pre_enough_candidates (hKernelIdeal := hKernelIdeal) (hPre_enough_candidates := hPre_enough_candidates)
    ∧ quiescent_ReferenceIdeal (hReferenceIdeal := hReferenceIdeal)
    ∧ quiescent_ReferenceIdeal_pre_enough_candidates (hReferenceIdeal := hReferenceIdeal) (hPre_enough_candidates := hPre_enough_candidates)
    ∧ preserves_Kernel_KernelIdeal
    ∧ algebraic_KernelIdeal_ReferenceIdeal_pre_enough_candidates (hKernelIdeal := hKernelIdeal) (hReferenceIdeal := hReferenceIdeal) (hPre_enough_candidates := hPre_enough_candidates)
-- ==== Pre_enough_candidates.lean ====
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x10112 : Shape := ⟨2, ![10000, 10112]⟩
abbrev S10000x79x128 : Shape := ⟨3, ![10000, 79, 128]⟩
abbrev S10000x79 : Shape := ⟨2, ![10000, 79]⟩

class Facts : Prop where
  reducesTo_S10000x3_S10000_d1 : S10000x3.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x3_S3x10000_1_0 : S10000x3.Transposes [1, 0] S3x10000
  bcast_S_S10000x10000 : S_.BroadcastsInDim S10000x10000 (![] : Fin 0 → Fin S10000x10000.rank)
  pads_S10000x10000_S10000x10112_000_01120 : S10000x10000.Pads (![0, 0] : Fin 2 → Nat) ![0, 112] ![0, 0] S10000x10112
  shapeCasts_S10000x10112_S10000x79x128 : S10000x10112.ShapeCasts S10000x79x128
  reducesTo_S10000x79x128_S10000x79_d2 : S10000x79x128.ReducesTo [2] S10000x79
  reducesTo_S10000x79_S10000_d1 : S10000x79.ReducesTo [1] S10000
  bcast_S10000x1_S10000x79_0_1 : S10000x1.BroadcastsInDim S10000x79 (![0, 1] : Fin 2 → Fin S10000x79.rank)
  bcast_S_S10000x79 : S_.BroadcastsInDim S10000x79 (![] : Fin 0 → Fin S10000x79.rank)
  natLt_1_32 : 1 < 32
  reducesTo_S10000x10000_S10000_d1 : S10000x10000.ReducesTo [1] S10000
  bcast_S_S10000 : S_.BroadcastsInDim S10000 (![] : Fin 0 → Fin S10000.rank)
  dot_S10000x3_S3x10000_S10000x10000_1_0_0_1_n_n_wf : DotDims.WF S10000x3 S3x10000 S10000x10000 [1] [0] [0] [1] [] []

variable [Facts]

def dot_S10000x3_S3x10000_S10000x10000_1_0_0_1_n_n : DotDims S10000x3 S3x10000 S10000x10000 where
  lhsContracting := [1]
  rhsContracting := [0]
  lhsNonContracting := [0]
  rhsNonContracting := [1]
  lhsBatch := []
  rhsBatch := []
  wf := dot_S10000x3_S3x10000_S10000x10000_1_0_0_1_n_n_wf
def fn_pad {F : FTy → Type} [FloatOps F] (arg0 : FVec F S10000x10000 .f32) (arg1 : FVec F S_ .f32) : FVec F S10000x10112 .f32 :=
  let v0 : FVec F S_ .f32 := id arg1
  let v1 : FVec F S10000x10112 .f32 := (fun x v => pad S10000x10112 ![0, 0] ![0, 112] ![0, 0] x v pads_S10000x10000_S10000x10112_000_01120 h_S_) arg0 v0
  v1

def fn_where {F : FTy → Type} [FloatOps F] (arg0 : IVec S10000x79 1) (arg1 : FVec F S_ .f32) (arg2 : FVec F S10000x79 .f32) : FVec F S10000x79 .f32 :=
  let v0 : FVec F S_ .f32 := id arg1
  let v1 : FVec F S10000x79 .f32 := broadcastInDim S10000x79 ![] bcast_S_S10000x79 v0
  let v2 : FVec F S10000x79 .f32 := select arg0 v1 arg2
  v2

def fn_part16 {F : FTy → Type} [FloatOps F] (main_v22 : FVec F S10000x10000 .f32) (main_v271 : FVec F S10000 .f32) (main_v276 : FVec F S10000x1 .f32) : IVec S10000 1 :=
  let main_v277 : FVec F S10000x10000 .f32 := broadcastInDim S10000x10000 ![0, 1] bcast_S10000x1_S10000x10000_0_1 main_v276
  let main_v278 : IVec S10000x10000 1 := cmpf .ole main_v22 main_v277
  let main_v279 : IVec S10000x10000 32 := (extui 32 · natLt_1_32) main_v278
  let main_c_105 : IVec S_ 32 := constantI S_ 32 0#32
  let main_v280 : IVec S10000 32 := (fun x v => Host.reduce IntOp.addi x v reducesTo_S10000x10000_S10000_d1 h_S_) main_v279 main_c_105
  let main_c_106 : IVec S_ 32 := constantI S_ 32 2048#32
  let main_v281 : IVec S10000 32 := broadcastInDim S10000 ![] bcast_S_S10000 main_c_106
  let main_v282 : IVec S10000 1 := cmpi .sle main_v280 main_v281
  let main_cst_107 : FVec F S_ .f32 := constant S_ .f32 0x7EE1B1E6#32
  let main_v283 : FVec F S10000 .f32 := broadcastInDim S10000 ![] bcast_S_S10000 main_cst_107
  let main_v284 : IVec S10000 1 := cmpf .olt main_v271 main_v283
  let main_v285 : IVec S10000 1 := andi main_v282 main_v284
  main_v285

def fn_part15 {F : FTy → Type} [FloatOps F] (main_v22 : FVec F S10000x10000 .f32) (main_v255 : FVec F S10000x79 .f32) (main_v259 : IVec S10000x79 1) : IVec S10000 1 :=
  let main_cst_98 : FVec F S_ .f32 := constant S_ .f32 0x7EE1B1E6#32
  let main_v260 : FVec F S10000x79 .f32 := fn_where (F := F) main_v259 main_cst_98 main_v255
  let main_cst_99 : FVec F S_ .f32 := constant S_ .f32 0x7F800000#32
  let main_v261 : FVec F S10000 .f32 := (fun x v => Host.reduce FloatOps.minimumf x v reducesTo_S10000x79_S10000_d1 h_S_) main_v260 main_cst_99
  let main_v262 : FVec F S10000x1 .f32 := broadcastInDim S10000x1 ![0] bcast_S10000_S10000x1_0 main_v261
  let main_v263 : FVec F S10000x79 .f32 := broadcastInDim S10000x79 ![0, 1] bcast_S10000x1_S10000x79_0_1 main_v262
  let main_v264 : IVec S10000x79 1 := cmpf .oeq main_v260 main_v263
  let main_cst_100 : FVec F S_ .f32 := constant S_ .f32 0x7EE1B1E6#32
  let main_v265 : FVec F S10000x79 .f32 := fn_where (F := F) main_v264 main_cst_100 main_v260
  let main_cst_101 : FVec F S_ .f32 := constant S_ .f32 0x7F800000#32
  let main_v266 : FVec F S10000 .f32 := (fun x v => Host.reduce FloatOps.minimumf x v reducesTo_S10000x79_S10000_d1 h_S_) main_v265 main_cst_101
  let main_v267 : FVec F S10000x1 .f32 := broadcastInDim S10000x1 ![0] bcast_S10000_S10000x1_0 main_v266
  let main_v268 : FVec F S10000x79 .f32 := broadcastInDim S10000x79 ![0, 1] bcast_S10000x1_S10000x79_0_1 main_v267
  let main_v269 : IVec S10000x79 1 := cmpf .oeq main_v265 main_v268
  let main_cst_102 : FVec F S_ .f32 := constant S_ .f32 0x7EE1B1E6#32
  let main_v270 : FVec F S10000x79 .f32 := fn_where (F := F) main_v269 main_cst_102 main_v265
  let main_cst_103 : FVec F S_ .f32 := constant S_ .f32 0x7F800000#32
  let main_v271 : FVec F S10000 .f32 := (fun x v => Host.reduce FloatOps.minimumf x v reducesTo_S10000x79_S10000_d1 h_S_) main_v270 main_cst_103
  let main_v272 : FVec F S10000x1 .f32 := broadcastInDim S10000x1 ![0] bcast_S10000_S10000x1_0 main_v271
  let main_v273 : FVec F S10000x79 .f32 := broadcastInDim S10000x79 ![0, 1] bcast_S10000x1_S10000x79_0_1 main_v272
  let main_v274 : IVec S10000x79 1 := cmpf .oeq main_v270 main_v273
  let main_cst_104 : FVec F S_ .f32 := constant S_ .f32 0x7EE1B1E6#32
  let main_v275 : FVec F S10000x79 .f32 := fn_where (F := F) main_v274 main_cst_104 main_v270
  let main_v276 : FVec F S10000x1 .f32 := broadcastInDim S10000x1 ![0] bcast_S10000_S10000x1_0 main_v271
  fn_part16 (F := F) main_v22 main_v271 main_v276

def fn_part14 {F : FTy → Type} [FloatOps F] (main_v22 : FVec F S10000x10000 .f32) (main_v240 : FVec F S10000x79 .f32) (main_v241 : FVec F S10000 .f32) : IVec S10000 1 :=
  let main_v242 : FVec F S10000x1 .f32 := broadcastInDim S10000x1 ![0] bcast_S10000_S10000x1_0 main_v241
  let main_v243 : FVec F S10000x79 .f32 := broadcastInDim S10000x79 ![0, 1] bcast_S10000x1_S10000x79_0_1 main_v242
  let main_v244 : IVec S10000x79 1 := cmpf .oeq main_v240 main_v243
  let main_cst_92 : FVec F S_ .f32 := constant S_ .f32 0x7EE1B1E6#32
  let main_v245 : FVec F S10000x79 .f32 := fn_where (F := F) main_v244 main_cst_92 main_v240
  let main_cst_93 : FVec F S_ .f32 := constant S_ .f32 0x7F800000#32
  let main_v246 : FVec F S10000 .f32 := (fun x v => Host.reduce FloatOps.minimumf x v reducesTo_S10000x79_S10000_d1 h_S_) main_v245 main_cst_93
  let main_v247 : FVec F S10000x1 .f32 := broadcastInDim S10000x1 ![0] bcast_S10000_S10000x1_0 main_v246
  let main_v248 : FVec F S10000x79 .f32 := broadcastInDim S10000x79 ![0, 1] bcast_S10000x1_S10000x79_0_1 main_v247
  let main_v249 : IVec S10000x79 1 := cmpf .oeq main_v245 main_v248
  let main_cst_94 : FVec F S_ .f32 := constant S_ .f32 0x7EE1B1E6#32
  let main_v250 : FVec F S10000x79 .f32 := fn_where (F := F) main_v249 main_cst_94 main_v245
  let main_cst_95 : FVec F S_ .f32 := constant S_ .f32 0x7F800000#32
  let main_v251 : FVec F S10000 .f32 := (fun x v => Host.reduce FloatOps.minimumf x v reducesTo_S10000x79_S10000_d1 h_S_) main_v250 main_cst_95
  let main_v252 : FVec F S10000x1 .f32 := broadcastInDim S10000x1 ![0] bcast_S10000_S10000x1_0 main_v251
  let main_v253 : FVec F S10000x79 .f32 := broadcastInDim S10000x79 ![0, 1] bcast_S10000x1_S10000x79_0_1 main_v252
  let main_v254 : IVec S10000x79 1 := cmpf .oeq main_v250 main_v253
  let main_cst_96 : FVec F S_ .f32 := constant S_ .f32 0x7EE1B1E6#32
  let main_v255 : FVec F S10000x79 .f32 := fn_where (F := F) main_v254 main_cst_96 main_v250
  let main_cst_97 : FVec F S_ .f32 := constant S_ .f32 0x7F800000#32
  let main_v256 : FVec F S10000 .f32 := (fun x v => Host.reduce FloatOps.minimumf x v reducesTo_S10000x79_S10000_d1 h_S_) main_v255 main_cst_97
  let main_v257 : FVec F S10000x1 .f32 := broadcastInDim S10000x1 ![0] bcast_S10000_S10000x1_0 main_v256
  let main_v258 : FVec F S10000x79 .f32 := broadcastInDim S10000x79 ![0, 1] bcast_S10000x1_S10000x79_0_1 main_v257
  let main_v259 : IVec S10000x79 1 := cmpf .oeq main_v255 main_v258
  fn_part15 (F := F) main_v22 main_v255 main_v259

def fn_part13 {F : FTy → Type} [FloatOps F] (main_v22 : FVec F S10000x10000 .f32) (main_v220 : FVec F S10000x79 .f32) (main_v224 : IVec S10000x79 1) (main_cst_84 : FVec F S_ .f32) : IVec S10000 1 :=
  let main_v225 : FVec F S10000x79 .f32 := fn_where (F := F) main_v224 main_cst_84 main_v220
  let main_cst_85 : FVec F S_ .f32 := constant S_ .f32 0x7F800000#32
  let main_v226 : FVec F S10000 .f32 := (fun x v => Host.reduce FloatOps.minimumf x v reducesTo_S10000x79_S10000_d1 h_S_) main_v225 main_cst_85
  let main_v227 : FVec F S10000x1 .f32 := broadcastInDim S10000x1 ![0] bcast_S10000_S10000x1_0 main_v226
  let main_v228 : FVec F S10000x79 .f32 := broadcastInDim S10000x79 ![0, 1] bcast_S10000x1_S10000x79_0_1 main_v227
  let main_v229 : IVec S10000x79 1 := cmpf .oeq main_v225 main_v228
  let main_cst_86 : FVec F S_ .f32 := constant S_ .f32 0x7EE1B1E6#32
  let main_v230 : FVec F S10000x79 .f32 := fn_where (F := F) main_v229 main_cst_86 main_v225
  let main_cst_87 : FVec F S_ .f32 := constant S_ .f32 0x7F800000#32
  let main_v231 : FVec F S10000 .f32 := (fun x v => Host.reduce FloatOps.minimumf x v reducesTo_S10000x79_S10000_d1 h_S_) main_v230 main_cst_87
  let main_v232 : FVec F S10000x1 .f32 := broadcastInDim S10000x1 ![0] bcast_S10000_S10000x1_0 main_v231
  let main_v233 : FVec F S10000x79 .f32 := broadcastInDim S10000x79 ![0, 1] bcast_S10000x1_S10000x79_0_1 main_v232
  let main_v234 : IVec S10000x79 1 := cmpf .oeq main_v230 main_v233
  let main_cst_88 : FVec F S_ .f32 := constant S_ .f32 0x7EE1B1E6#32
  let main_v235 : FVec F S10000x79 .f32 := fn_where (F := F) main_v234 main_cst_88 main_v230
  let main_cst_89 : FVec F S_ .f32 := constant S_ .f32 0x7F800000#32
  let main_v236 : FVec F S10000 .f32 := (fun x v => Host.reduce FloatOps.minimumf x v reducesTo_S10000x79_S10000_d1 h_S_) main_v235 main_cst_89
  let main_v237 : FVec F S10000x1 .f32 := broadcastInDim S10000x1 ![0] bcast_S10000_S10000x1_0 main_v236
  let main_v238 : FVec F S10000x79 .f32 := broadcastInDim S10000x79 ![0, 1] bcast_S10000x1_S10000x79_0_1 main_v237
  let main_v239 : IVec S10000x79 1 := cmpf .oeq main_v235 main_v238
  let main_cst_90 : FVec F S_ .f32 := constant S_ .f32 0x7EE1B1E6#32
  let main_v240 : FVec F S10000x79 .f32 := fn_where (F := F) main_v239 main_cst_90 main_v235
  let main_cst_91 : FVec F S_ .f32 := constant S_ .f32 0x7F800000#32
  let main_v241 : FVec F S10000 .f32 := (fun x v => Host.reduce FloatOps.minimumf x v reducesTo_S10000x79_S10000_d1 h_S_) main_v240 main_cst_91
  fn_part14 (F := F) main_v22 main_v240 main_v241

def fn_part12 {F : FTy → Type} [FloatOps F] (main_v22 : FVec F S10000x10000 .f32) (main_v205 : FVec F S10000x79 .f32) (main_v207 : FVec F S10000x1 .f32) : IVec S10000 1 :=
  let main_v208 : FVec F S10000x79 .f32 := broadcastInDim S10000x79 ![0, 1] bcast_S10000x1_S10000x79_0_1 main_v207
  let main_v209 : IVec S10000x79 1 := cmpf .oeq main_v205 main_v208
  let main_cst_78 : FVec F S_ .f32 := constant S_ .f32 0x7EE1B1E6#32
  let main_v210 : FVec F S10000x79 .f32 := fn_where (F := F) main_v209 main_cst_78 main_v205
  let main_cst_79 : FVec F S_ .f32 := constant S_ .f32 0x7F800000#32
  let main_v211 : FVec F S10000 .f32 := (fun x v => Host.reduce FloatOps.minimumf x v reducesTo_S10000x79_S10000_d1 h_S_) main_v210 main_cst_79
  let main_v212 : FVec F S10000x1 .f32 := broadcastInDim S10000x1 ![0] bcast_S10000_S10000x1_0 main_v211
  let main_v213 : FVec F S10000x79 .f32 := broadcastInDim S10000x79 ![0, 1] bcast_S10000x1_S10000x79_0_1 main_v212
  let main_v214 : IVec S10000x79 1 := cmpf .oeq main_v210 main_v213
  let main_cst_80 : FVec F S_ .f32 := constant S_ .f32 0x7EE1B1E6#32
  let main_v215 : FVec F S10000x79 .f32 := fn_where (F := F) main_v214 main_cst_80 main_v210
  let main_cst_81 : FVec F S_ .f32 := constant S_ .f32 0x7F800000#32
  let main_v216 : FVec F S10000 .f32 := (fun x v => Host.reduce FloatOps.minimumf x v reducesTo_S10000x79_S10000_d1 h_S_) main_v215 main_cst_81
  let main_v217 : FVec F S10000x1 .f32 := broadcastInDim S10000x1 ![0] bcast_S10000_S10000x1_0 main_v216
  let main_v218 : FVec F S10000x79 .f32 := broadcastInDim S10000x79 ![0, 1] bcast_S10000x1_S10000x79_0_1 main_v217
  let main_v219 : IVec S10000x79 1 := cmpf .oeq main_v215 main_v218
  let main_cst_82 : FVec F S_ .f32 := constant S_ .f32 0x7EE1B1E6#32
  let main_v220 : FVec F S10000x79 .f32 := fn_where (F := F) main_v219 main_cst_82 main_v215
  let main_cst_83 : FVec F S_ .f32 := constant S_ .f32 0x7F800000#32
  let main_v221 : FVec F S10000 .f32 := (fun x v => Host.reduce FloatOps.minimumf x v reducesTo_S10000x79_S10000_d1 h_S_) main_v220 main_cst_83
  let main_v222 : FVec F S10000x1 .f32 := broadcastInDim S10000x1 ![0] bcast_S10000_S10000x1_0 main_v221
  let main_v223 : FVec F S10000x79 .f32 := broadcastInDim S10000x79 ![0, 1] bcast_S10000x1_S10000x79_0_1 main_v222
  let main_v224 : IVec S10000x79 1 := cmpf .oeq main_v220 main_v223
  let main_cst_84 : FVec F S_ .f32 := constant S_ .f32 0x7EE1B1E6#32
  fn_part13 (F := F) main_v22 main_v220 main_v224 main_cst_84

def fn_part11 {F : FTy → Type} [FloatOps F] (main_v22 : FVec F S10000x10000 .f32) (main_v190 : FVec F S10000x79 .f32) : IVec S10000 1 :=
  let main_cst_71 : FVec F S_ .f32 := constant S_ .f32 0x7F800000#32
  let main_v191 : FVec F S10000 .f32 := (fun x v => Host.reduce FloatOps.minimumf x v reducesTo_S10000x79_S10000_d1 h_S_) main_v190 main_cst_71
  let main_v192 : FVec F S10000x1 .f32 := broadcastInDim S10000x1 ![0] bcast_S10000_S10000x1_0 main_v191
  let main_v193 : FVec F S10000x79 .f32 := broadcastInDim S10000x79 ![0, 1] bcast_S10000x1_S10000x79_0_1 main_v192
  let main_v194 : IVec S10000x79 1 := cmpf .oeq main_v190 main_v193
  let main_cst_72 : FVec F S_ .f32 := constant S_ .f32 0x7EE1B1E6#32
  let main_v195 : FVec F S10000x79 .f32 := fn_where (F := F) main_v194 main_cst_72 main_v190
  let main_cst_73 : FVec F S_ .f32 := constant S_ .f32 0x7F800000#32
  let main_v196 : FVec F S10000 .f32 := (fun x v => Host.reduce FloatOps.minimumf x v reducesTo_S10000x79_S10000_d1 h_S_) main_v195 main_cst_73
  let main_v197 : FVec F S10000x1 .f32 := broadcastInDim S10000x1 ![0] bcast_S10000_S10000x1_0 main_v196
  let main_v198 : FVec F S10000x79 .f32 := broadcastInDim S10000x79 ![0, 1] bcast_S10000x1_S10000x79_0_1 main_v197
  let main_v199 : IVec S10000x79 1 := cmpf .oeq main_v195 main_v198
  let main_cst_74 : FVec F S_ .f32 := constant S_ .f32 0x7EE1B1E6#32
  let main_v200 : FVec F S10000x79 .f32 := fn_where (F := F) main_v199 main_cst_74 main_v195
  let main_cst_75 : FVec F S_ .f32 := constant S_ .f32 0x7F800000#32
  let main_v201 : FVec F S10000 .f32 := (fun x v => Host.reduce FloatOps.minimumf x v reducesTo_S10000x79_S10000_d1 h_S_) main_v200 main_cst_75
  let main_v202 : FVec F S10000x1 .f32 := broadcastInDim S10000x1 ![0] bcast_S10000_S10000x1_0 main_v201
  let main_v203 : FVec F S10000x79 .f32 := broadcastInDim S10000x79 ![0, 1] bcast_S10000x1_S10000x79_0_1 main_v202
  let main_v204 : IVec S10000x79 1 := cmpf .oeq main_v200 main_v203
  let main_cst_76 : FVec F S_ .f32 := constant S_ .f32 0x7EE1B1E6#32
  let main_v205 : FVec F S10000x79 .f32 := fn_where (F := F) main_v204 main_cst_76 main_v200
  let main_cst_77 : FVec F S_ .f32 := constant S_ .f32 0x7F800000#32
  let main_v206 : FVec F S10000 .f32 := (fun x v => Host.reduce FloatOps.minimumf x v reducesTo_S10000x79_S10000_d1 h_S_) main_v205 main_cst_77
  let main_v207 : FVec F S10000x1 .f32 := broadcastInDim S10000x1 ![0] bcast_S10000_S10000x1_0 main_v206
  fn_part12 (F := F) main_v22 main_v205 main_v207

def fn_part10 {F : FTy → Type} [FloatOps F] (main_v22 : FVec F S10000x10000 .f32) (main_v170 : FVec F S10000x79 .f32) (main_v173 : FVec F S10000x79 .f32) : IVec S10000 1 :=
  let main_v174 : IVec S10000x79 1 := cmpf .oeq main_v170 main_v173
  let main_cst_64 : FVec F S_ .f32 := constant S_ .f32 0x7EE1B1E6#32
  let main_v175 : FVec F S10000x79 .f32 := fn_where (F := F) main_v174 main_cst_64 main_v170
  let main_cst_65 : FVec F S_ .f32 := constant S_ .f32 0x7F800000#32
  let main_v176 : FVec F S10000 .f32 := (fun x v => Host.reduce FloatOps.minimumf x v reducesTo_S10000x79_S10000_d1 h_S_) main_v175 main_cst_65
  let main_v177 : FVec F S10000x1 .f32 := broadcastInDim S10000x1 ![0] bcast_S10000_S10000x1_0 main_v176
  let main_v178 : FVec F S10000x79 .f32 := broadcastInDim S10000x79 ![0, 1] bcast_S10000x1_S10000x79_0_1 main_v177
  let main_v179 : IVec S10000x79 1 := cmpf .oeq main_v175 main_v178
  let main_cst_66 : FVec F S_ .f32 := constant S_ .f32 0x7EE1B1E6#32
  let main_v180 : FVec F S10000x79 .f32 := fn_where (F := F) main_v179 main_cst_66 main_v175
  let main_cst_67 : FVec F S_ .f32 := constant S_ .f32 0x7F800000#32
  let main_v181 : FVec F S10000 .f32 := (fun x v => Host.reduce FloatOps.minimumf x v reducesTo_S10000x79_S10000_d1 h_S_) main_v180 main_cst_67
  let main_v182 : FVec F S10000x1 .f32 := broadcastInDim S10000x1 ![0] bcast_S10000_S10000x1_0 main_v181
  let main_v183 : FVec F S10000x79 .f32 := broadcastInDim S10000x79 ![0, 1] bcast_S10000x1_S10000x79_0_1 main_v182
  let main_v184 : IVec S10000x79 1 := cmpf .oeq main_v180 main_v183
  let main_cst_68 : FVec F S_ .f32 := constant S_ .f32 0x7EE1B1E6#32
  let main_v185 : FVec F S10000x79 .f32 := fn_where (F := F) main_v184 main_cst_68 main_v180
  let main_cst_69 : FVec F S_ .f32 := constant S_ .f32 0x7F800000#32
  let main_v186 : FVec F S10000 .f32 := (fun x v => Host.reduce FloatOps.minimumf x v reducesTo_S10000x79_S10000_d1 h_S_) main_v185 main_cst_69
  let main_v187 : FVec F S10000x1 .f32 := broadcastInDim S10000x1 ![0] bcast_S10000_S10000x1_0 main_v186
  let main_v188 : FVec F S10000x79 .f32 := broadcastInDim S10000x79 ![0, 1] bcast_S10000x1_S10000x79_0_1 main_v187
  let main_v189 : IVec S10000x79 1 := cmpf .oeq main_v185 main_v188
  let main_cst_70 : FVec F S_ .f32 := constant S_ .f32 0x7EE1B1E6#32
  let main_v190 : FVec F S10000x79 .f32 := fn_where (F := F) main_v189 main_cst_70 main_v185
  fn_part11 (F := F) main_v22 main_v190

def fn_part9 {F : FTy → Type} [FloatOps F] (main_v22 : FVec F S10000x10000 .f32) (main_v155 : FVec F S10000x79 .f32) (main_cst_57 : FVec F S_ .f32) : IVec S10000 1 :=
  let main_v156 : FVec F S10000 .f32 := (fun x v => Host.reduce FloatOps.minimumf x v reducesTo_S10000x79_S10000_d1 h_S_) main_v155 main_cst_57
  let main_v157 : FVec F S10000x1 .f32 := broadcastInDim S10000x1 ![0] bcast_S10000_S10000x1_0 main_v156
  let main_v158 : FVec F S10000x79 .f32 := broadcastInDim S10000x79 ![0, 1] bcast_S10000x1_S10000x79_0_1 main_v157
  let main_v159 : IVec S10000x79 1 := cmpf .oeq main_v155 main_v158
  let main_cst_58 : FVec F S_ .f32 := constant S_ .f32 0x7EE1B1E6#32
  let main_v160 : FVec F S10000x79 .f32 := fn_where (F := F) main_v159 main_cst_58 main_v155
  let main_cst_59 : FVec F S_ .f32 := constant S_ .f32 0x7F800000#32
  let main_v161 : FVec F S10000 .f32 := (fun x v => Host.reduce FloatOps.minimumf x v reducesTo_S10000x79_S10000_d1 h_S_) main_v160 main_cst_59
  let main_v162 : FVec F S10000x1 .f32 := broadcastInDim S10000x1 ![0] bcast_S10000_S10000x1_0 main_v161
  let main_v163 : FVec F S10000x79 .f32 := broadcastInDim S10000x79 ![0, 1] bcast_S10000x1_S10000x79_0_1 main_v162
  let main_v164 : IVec S10000x79 1 := cmpf .oeq main_v160 main_v163
  let main_cst_60 : FVec F S_ .f32 := constant S_ .f32 0x7EE1B1E6#32
  let main_v165 : FVec F S10000x79 .f32 := fn_where (F := F) main_v164 main_cst_60 main_v160
  let main_cst_61 : FVec F S_ .f32 := constant S_ .f32 0x7F800000#32
  let main_v166 : FVec F S10000 .f32 := (fun x v => Host.reduce FloatOps.minimumf x v reducesTo_S10000x79_S10000_d1 h_S_) main_v165 main_cst_61
  let main_v167 : FVec F S10000x1 .f32 := broadcastInDim S10000x1 ![0] bcast_S10000_S10000x1_0 main_v166
  let main_v168 : FVec F S10000x79 .f32 := broadcastInDim S10000x79 ![0, 1] bcast_S10000x1_S10000x79_0_1 main_v167
  let main_v169 : IVec S10000x79 1 := cmpf .oeq main_v165 main_v168
  let main_cst_62 : FVec F S_ .f32 := constant S_ .f32 0x7EE1B1E6#32
  let main_v170 : FVec F S10000x79 .f32 := fn_where (F := F) main_v169 main_cst_62 main_v165
  let main_cst_63 : FVec F S_ .f32 := constant S_ .f32 0x7F800000#32
  let main_v171 : FVec F S10000 .f32 := (fun x v => Host.reduce FloatOps.minimumf x v reducesTo_S10000x79_S10000_d1 h_S_) main_v170 main_cst_63
  let main_v172 : FVec F S10000x1 .f32 := broadcastInDim S10000x1 ![0] bcast_S10000_S10000x1_0 main_v171
  let main_v173 : FVec F S10000x79 .f32 := broadcastInDim S10000x79 ![0, 1] bcast_S10000x1_S10000x79_0_1 main_v172
  fn_part10 (F := F) main_v22 main_v170 main_v173

def fn_part8 {F : FTy → Type} [FloatOps F] (main_v22 : FVec F S10000x10000 .f32) (main_v135 : FVec F S10000x79 .f32) (main_v139 : IVec S10000x79 1) : IVec S10000 1 :=
  let main_cst_50 : FVec F S_ .f32 := constant S_ .f32 0x7EE1B1E6#32
  let main_v140 : FVec F S10000x79 .f32 := fn_where (F := F) main_v139 main_cst_50 main_v135
  let main_cst_51 : FVec F S_ .f32 := constant S_ .f32 0x7F800000#32
  let main_v141 : FVec F S10000 .f32 := (fun x v => Host.reduce FloatOps.minimumf x v reducesTo_S10000x79_S10000_d1 h_S_) main_v140 main_cst_51
  let main_v142 : FVec F S10000x1 .f32 := broadcastInDim S10000x1 ![0] bcast_S10000_S10000x1_0 main_v141
  let main_v143 : FVec F S10000x79 .f32 := broadcastInDim S10000x79 ![0, 1] bcast_S10000x1_S10000x79_0_1 main_v142
  let main_v144 : IVec S10000x79 1 := cmpf .oeq main_v140 main_v143
  let main_cst_52 : FVec F S_ .f32 := constant S_ .f32 0x7EE1B1E6#32
  let main_v145 : FVec F S10000x79 .f32 := fn_where (F := F) main_v144 main_cst_52 main_v140
  let main_cst_53 : FVec F S_ .f32 := constant S_ .f32 0x7F800000#32
  let main_v146 : FVec F S10000 .f32 := (fun x v => Host.reduce FloatOps.minimumf x v reducesTo_S10000x79_S10000_d1 h_S_) main_v145 main_cst_53
  let main_v147 : FVec F S10000x1 .f32 := broadcastInDim S10000x1 ![0] bcast_S10000_S10000x1_0 main_v146
  let main_v148 : FVec F S10000x79 .f32 := broadcastInDim S10000x79 ![0, 1] bcast_S10000x1_S10000x79_0_1 main_v147
  let main_v149 : IVec S10000x79 1 := cmpf .oeq main_v145 main_v148
  let main_cst_54 : FVec F S_ .f32 := constant S_ .f32 0x7EE1B1E6#32
  let main_v150 : FVec F S10000x79 .f32 := fn_where (F := F) main_v149 main_cst_54 main_v145
  let main_cst_55 : FVec F S_ .f32 := constant S_ .f32 0x7F800000#32
  let main_v151 : FVec F S10000 .f32 := (fun x v => Host.reduce FloatOps.minimumf x v reducesTo_S10000x79_S10000_d1 h_S_) main_v150 main_cst_55
  let main_v152 : FVec F S10000x1 .f32 := broadcastInDim S10000x1 ![0] bcast_S10000_S10000x1_0 main_v151
  let main_v153 : FVec F S10000x79 .f32 := broadcastInDim S10000x79 ![0, 1] bcast_S10000x1_S10000x79_0_1 main_v152
  let main_v154 : IVec S10000x79 1 := cmpf .oeq main_v150 main_v153
  let main_cst_56 : FVec F S_ .f32 := constant S_ .f32 0x7EE1B1E6#32
  let main_v155 : FVec F S10000x79 .f32 := fn_where (F := F) main_v154 main_cst_56 main_v150
  let main_cst_57 : FVec F S_ .f32 := constant S_ .f32 0x7F800000#32
  fn_part9 (F := F) main_v22 main_v155 main_cst_57

def fn_part7 {F : FTy → Type} [FloatOps F] (main_v22 : FVec F S10000x10000 .f32) (main_v120 : FVec F S10000x79 .f32) (main_v121 : FVec F S10000 .f32) : IVec S10000 1 :=
  let main_v122 : FVec F S10000x1 .f32 := broadcastInDim S10000x1 ![0] bcast_S10000_S10000x1_0 main_v121
  let main_v123 : FVec F S10000x79 .f32 := broadcastInDim S10000x79 ![0, 1] bcast_S10000x1_S10000x79_0_1 main_v122
  let main_v124 : IVec S10000x79 1 := cmpf .oeq main_v120 main_v123
  let main_cst_44 : FVec F S_ .f32 := constant S_ .f32 0x7EE1B1E6#32
  let main_v125 : FVec F S10000x79 .f32 := fn_where (F := F) main_v124 main_cst_44 main_v120
  let main_cst_45 : FVec F S_ .f32 := constant S_ .f32 0x7F800000#32
  let main_v126 : FVec F S10000 .f32 := (fun x v => Host.reduce FloatOps.minimumf x v reducesTo_S10000x79_S10000_d1 h_S_) main_v125 main_cst_45
  let main_v127 : FVec F S10000x1 .f32 := broadcastInDim S10000x1 ![0] bcast_S10000_S10000x1_0 main_v126
  let main_v128 : FVec F S10000x79 .f32 := broadcastInDim S10000x79 ![0, 1] bcast_S10000x1_S10000x79_0_1 main_v127
  let main_v129 : IVec S10000x79 1 := cmpf .oeq main_v125 main_v128
  let main_cst_46 : FVec F S_ .f32 := constant S_ .f32 0x7EE1B1E6#32
  let main_v130 : FVec F S10000x79 .f32 := fn_where (F := F) main_v129 main_cst_46 main_v125
  let main_cst_47 : FVec F S_ .f32 := constant S_ .f32 0x7F800000#32
  let main_v131 : FVec F S10000 .f32 := (fun x v => Host.reduce FloatOps.minimumf x v reducesTo_S10000x79_S10000_d1 h_S_) main_v130 main_cst_47
  let main_v132 : FVec F S10000x1 .f32 := broadcastInDim S10000x1 ![0] bcast_S10000_S10000x1_0 main_v131
  let main_v133 : FVec F S10000x79 .f32 := broadcastInDim S10000x79 ![0, 1] bcast_S10000x1_S10000x79_0_1 main_v132
  let main_v134 : IVec S10000x79 1 := cmpf .oeq main_v130 main_v133
  let main_cst_48 : FVec F S_ .f32 := constant S_ .f32 0x7EE1B1E6#32
  let main_v135 : FVec F S10000x79 .f32 := fn_where (F := F) main_v134 main_cst_48 main_v130
  let main_cst_49 : FVec F S_ .f32 := constant S_ .f32 0x7F800000#32
  let main_v136 : FVec F S10000 .f32 := (fun x v => Host.reduce FloatOps.minimumf x v reducesTo_S10000x79_S10000_d1 h_S_) main_v135 main_cst_49
  let main_v137 : FVec F S10000x1 .f32 := broadcastInDim S10000x1 ![0] bcast_S10000_S10000x1_0 main_v136
  let main_v138 : FVec F S10000x79 .f32 := broadcastInDim S10000x79 ![0, 1] bcast_S10000x1_S10000x79_0_1 main_v137
  let main_v139 : IVec S10000x79 1 := cmpf .oeq main_v135 main_v138
  fn_part8 (F := F) main_v22 main_v135 main_v139

def fn_part6 {F : FTy → Type} [FloatOps F] (main_v22 : FVec F S10000x10000 .f32) (main_v100 : FVec F S10000x79 .f32) (main_v104 : IVec S10000x79 1) (main_cst_36 : FVec F S_ .f32) : IVec S10000 1 :=
  let main_v105 : FVec F S10000x79 .f32 := fn_where (F := F) main_v104 main_cst_36 main_v100
  let main_cst_37 : FVec F S_ .f32 := constant S_ .f32 0x7F800000#32
  let main_v106 : FVec F S10000 .f32 := (fun x v => Host.reduce FloatOps.minimumf x v reducesTo_S10000x79_S10000_d1 h_S_) main_v105 main_cst_37
  let main_v107 : FVec F S10000x1 .f32 := broadcastInDim S10000x1 ![0] bcast_S10000_S10000x1_0 main_v106
  let main_v108 : FVec F S10000x79 .f32 := broadcastInDim S10000x79 ![0, 1] bcast_S10000x1_S10000x79_0_1 main_v107
  let main_v109 : IVec S10000x79 1 := cmpf .oeq main_v105 main_v108
  let main_cst_38 : FVec F S_ .f32 := constant S_ .f32 0x7EE1B1E6#32
  let main_v110 : FVec F S10000x79 .f32 := fn_where (F := F) main_v109 main_cst_38 main_v105
  let main_cst_39 : FVec F S_ .f32 := constant S_ .f32 0x7F800000#32
  let main_v111 : FVec F S10000 .f32 := (fun x v => Host.reduce FloatOps.minimumf x v reducesTo_S10000x79_S10000_d1 h_S_) main_v110 main_cst_39
  let main_v112 : FVec F S10000x1 .f32 := broadcastInDim S10000x1 ![0] bcast_S10000_S10000x1_0 main_v111
  let main_v113 : FVec F S10000x79 .f32 := broadcastInDim S10000x79 ![0, 1] bcast_S10000x1_S10000x79_0_1 main_v112
  let main_v114 : IVec S10000x79 1 := cmpf .oeq main_v110 main_v113
  let main_cst_40 : FVec F S_ .f32 := constant S_ .f32 0x7EE1B1E6#32
  let main_v115 : FVec F S10000x79 .f32 := fn_where (F := F) main_v114 main_cst_40 main_v110
  let main_cst_41 : FVec F S_ .f32 := constant S_ .f32 0x7F800000#32
  let main_v116 : FVec F S10000 .f32 := (fun x v => Host.reduce FloatOps.minimumf x v reducesTo_S10000x79_S10000_d1 h_S_) main_v115 main_cst_41
  let main_v117 : FVec F S10000x1 .f32 := broadcastInDim S10000x1 ![0] bcast_S10000_S10000x1_0 main_v116
  let main_v118 : FVec F S10000x79 .f32 := broadcastInDim S10000x79 ![0, 1] bcast_S10000x1_S10000x79_0_1 main_v117
  let main_v119 : IVec S10000x79 1 := cmpf .oeq main_v115 main_v118
  let main_cst_42 : FVec F S_ .f32 := constant S_ .f32 0x7EE1B1E6#32
  let main_v120 : FVec F S10000x79 .f32 := fn_where (F := F) main_v119 main_cst_42 main_v115
  let main_cst_43 : FVec F S_ .f32 := constant S_ .f32 0x7F800000#32
  let main_v121 : FVec F S10000 .f32 := (fun x v => Host.reduce FloatOps.minimumf x v reducesTo_S10000x79_S10000_d1 h_S_) main_v120 main_cst_43
  fn_part7 (F := F) main_v22 main_v120 main_v121

def fn_part5 {F : FTy → Type} [FloatOps F] (main_v22 : FVec F S10000x10000 .f32) (main_v85 : FVec F S10000x79 .f32) (main_v87 : FVec F S10000x1 .f32) : IVec S10000 1 :=
  let main_v88 : FVec F S10000x79 .f32 := broadcastInDim S10000x79 ![0, 1] bcast_S10000x1_S10000x79_0_1 main_v87
  let main_v89 : IVec S10000x79 1 := cmpf .oeq main_v85 main_v88
  let main_cst_30 : FVec F S_ .f32 := constant S_ .f32 0x7EE1B1E6#32
  let main_v90 : FVec F S10000x79 .f32 := fn_where (F := F) main_v89 main_cst_30 main_v85
  let main_cst_31 : FVec F S_ .f32 := constant S_ .f32 0x7F800000#32
  let main_v91 : FVec F S10000 .f32 := (fun x v => Host.reduce FloatOps.minimumf x v reducesTo_S10000x79_S10000_d1 h_S_) main_v90 main_cst_31
  let main_v92 : FVec F S10000x1 .f32 := broadcastInDim S10000x1 ![0] bcast_S10000_S10000x1_0 main_v91
  let main_v93 : FVec F S10000x79 .f32 := broadcastInDim S10000x79 ![0, 1] bcast_S10000x1_S10000x79_0_1 main_v92
  let main_v94 : IVec S10000x79 1 := cmpf .oeq main_v90 main_v93
  let main_cst_32 : FVec F S_ .f32 := constant S_ .f32 0x7EE1B1E6#32
  let main_v95 : FVec F S10000x79 .f32 := fn_where (F := F) main_v94 main_cst_32 main_v90
  let main_cst_33 : FVec F S_ .f32 := constant S_ .f32 0x7F800000#32
  let main_v96 : FVec F S10000 .f32 := (fun x v => Host.reduce FloatOps.minimumf x v reducesTo_S10000x79_S10000_d1 h_S_) main_v95 main_cst_33
  let main_v97 : FVec F S10000x1 .f32 := broadcastInDim S10000x1 ![0] bcast_S10000_S10000x1_0 main_v96
  let main_v98 : FVec F S10000x79 .f32 := broadcastInDim S10000x79 ![0, 1] bcast_S10000x1_S10000x79_0_1 main_v97
  let main_v99 : IVec S10000x79 1 := cmpf .oeq main_v95 main_v98
  let main_cst_34 : FVec F S_ .f32 := constant S_ .f32 0x7EE1B1E6#32
  let main_v100 : FVec F S10000x79 .f32 := fn_where (F := F) main_v99 main_cst_34 main_v95
  let main_cst_35 : FVec F S_ .f32 := constant S_ .f32 0x7F800000#32
  let main_v101 : FVec F S10000 .f32 := (fun x v => Host.reduce FloatOps.minimumf x v reducesTo_S10000x79_S10000_d1 h_S_) main_v100 main_cst_35
  let main_v102 : FVec F S10000x1 .f32 := broadcastInDim S10000x1 ![0] bcast_S10000_S10000x1_0 main_v101
  let main_v103 : FVec F S10000x79 .f32 := broadcastInDim S10000x79 ![0, 1] bcast_S10000x1_S10000x79_0_1 main_v102
  let main_v104 : IVec S10000x79 1 := cmpf .oeq main_v100 main_v103
  let main_cst_36 : FVec F S_ .f32 := constant S_ .f32 0x7EE1B1E6#32
  fn_part6 (F := F) main_v22 main_v100 main_v104 main_cst_36

def fn_part4 {F : FTy → Type} [FloatOps F] (main_v22 : FVec F S10000x10000 .f32) (main_v70 : FVec F S10000x79 .f32) : IVec S10000 1 :=
  let main_cst_23 : FVec F S_ .f32 := constant S_ .f32 0x7F800000#32
  let main_v71 : FVec F S10000 .f32 := (fun x v => Host.reduce FloatOps.minimumf x v reducesTo_S10000x79_S10000_d1 h_S_) main_v70 main_cst_23
  let main_v72 : FVec F S10000x1 .f32 := broadcastInDim S10000x1 ![0] bcast_S10000_S10000x1_0 main_v71
  let main_v73 : FVec F S10000x79 .f32 := broadcastInDim S10000x79 ![0, 1] bcast_S10000x1_S10000x79_0_1 main_v72
  let main_v74 : IVec S10000x79 1 := cmpf .oeq main_v70 main_v73
  let main_cst_24 : FVec F S_ .f32 := constant S_ .f32 0x7EE1B1E6#32
  let main_v75 : FVec F S10000x79 .f32 := fn_where (F := F) main_v74 main_cst_24 main_v70
  let main_cst_25 : FVec F S_ .f32 := constant S_ .f32 0x7F800000#32
  let main_v76 : FVec F S10000 .f32 := (fun x v => Host.reduce FloatOps.minimumf x v reducesTo_S10000x79_S10000_d1 h_S_) main_v75 main_cst_25
  let main_v77 : FVec F S10000x1 .f32 := broadcastInDim S10000x1 ![0] bcast_S10000_S10000x1_0 main_v76
  let main_v78 : FVec F S10000x79 .f32 := broadcastInDim S10000x79 ![0, 1] bcast_S10000x1_S10000x79_0_1 main_v77
  let main_v79 : IVec S10000x79 1 := cmpf .oeq main_v75 main_v78
  let main_cst_26 : FVec F S_ .f32 := constant S_ .f32 0x7EE1B1E6#32
  let main_v80 : FVec F S10000x79 .f32 := fn_where (F := F) main_v79 main_cst_26 main_v75
  let main_cst_27 : FVec F S_ .f32 := constant S_ .f32 0x7F800000#32
  let main_v81 : FVec F S10000 .f32 := (fun x v => Host.reduce FloatOps.minimumf x v reducesTo_S10000x79_S10000_d1 h_S_) main_v80 main_cst_27
  let main_v82 : FVec F S10000x1 .f32 := broadcastInDim S10000x1 ![0] bcast_S10000_S10000x1_0 main_v81
  let main_v83 : FVec F S10000x79 .f32 := broadcastInDim S10000x79 ![0, 1] bcast_S10000x1_S10000x79_0_1 main_v82
  let main_v84 : IVec S10000x79 1 := cmpf .oeq main_v80 main_v83
  let main_cst_28 : FVec F S_ .f32 := constant S_ .f32 0x7EE1B1E6#32
  let main_v85 : FVec F S10000x79 .f32 := fn_where (F := F) main_v84 main_cst_28 main_v80
  let main_cst_29 : FVec F S_ .f32 := constant S_ .f32 0x7F800000#32
  let main_v86 : FVec F S10000 .f32 := (fun x v => Host.reduce FloatOps.minimumf x v reducesTo_S10000x79_S10000_d1 h_S_) main_v85 main_cst_29
  let main_v87 : FVec F S10000x1 .f32 := broadcastInDim S10000x1 ![0] bcast_S10000_S10000x1_0 main_v86
  fn_part5 (F := F) main_v22 main_v85 main_v87

def fn_part3 {F : FTy → Type} [FloatOps F] (main_v22 : FVec F S10000x10000 .f32) (main_v50 : FVec F S10000x79 .f32) (main_v53 : FVec F S10000x79 .f32) : IVec S10000 1 :=
  let main_v54 : IVec S10000x79 1 := cmpf .oeq main_v50 main_v53
  let main_cst_16 : FVec F S_ .f32 := constant S_ .f32 0x7EE1B1E6#32
  let main_v55 : FVec F S10000x79 .f32 := fn_where (F := F) main_v54 main_cst_16 main_v50
  let main_cst_17 : FVec F S_ .f32 := constant S_ .f32 0x7F800000#32
  let main_v56 : FVec F S10000 .f32 := (fun x v => Host.reduce FloatOps.minimumf x v reducesTo_S10000x79_S10000_d1 h_S_) main_v55 main_cst_17
  let main_v57 : FVec F S10000x1 .f32 := broadcastInDim S10000x1 ![0] bcast_S10000_S10000x1_0 main_v56
  let main_v58 : FVec F S10000x79 .f32 := broadcastInDim S10000x79 ![0, 1] bcast_S10000x1_S10000x79_0_1 main_v57
  let main_v59 : IVec S10000x79 1 := cmpf .oeq main_v55 main_v58
  let main_cst_18 : FVec F S_ .f32 := constant S_ .f32 0x7EE1B1E6#32
  let main_v60 : FVec F S10000x79 .f32 := fn_where (F := F) main_v59 main_cst_18 main_v55
  let main_cst_19 : FVec F S_ .f32 := constant S_ .f32 0x7F800000#32
  let main_v61 : FVec F S10000 .f32 := (fun x v => Host.reduce FloatOps.minimumf x v reducesTo_S10000x79_S10000_d1 h_S_) main_v60 main_cst_19
  let main_v62 : FVec F S10000x1 .f32 := broadcastInDim S10000x1 ![0] bcast_S10000_S10000x1_0 main_v61
  let main_v63 : FVec F S10000x79 .f32 := broadcastInDim S10000x79 ![0, 1] bcast_S10000x1_S10000x79_0_1 main_v62
  let main_v64 : IVec S10000x79 1 := cmpf .oeq main_v60 main_v63
  let main_cst_20 : FVec F S_ .f32 := constant S_ .f32 0x7EE1B1E6#32
  let main_v65 : FVec F S10000x79 .f32 := fn_where (F := F) main_v64 main_cst_20 main_v60
  let main_cst_21 : FVec F S_ .f32 := constant S_ .f32 0x7F800000#32
  let main_v66 : FVec F S10000 .f32 := (fun x v => Host.reduce FloatOps.minimumf x v reducesTo_S10000x79_S10000_d1 h_S_) main_v65 main_cst_21
  let main_v67 : FVec F S10000x1 .f32 := broadcastInDim S10000x1 ![0] bcast_S10000_S10000x1_0 main_v66
  let main_v68 : FVec F S10000x79 .f32 := broadcastInDim S10000x79 ![0, 1] bcast_S10000x1_S10000x79_0_1 main_v67
  let main_v69 : IVec S10000x79 1 := cmpf .oeq main_v65 main_v68
  let main_cst_22 : FVec F S_ .f32 := constant S_ .f32 0x7EE1B1E6#32
  let main_v70 : FVec F S10000x79 .f32 := fn_where (F := F) main_v69 main_cst_22 main_v65
  fn_part4 (F := F) main_v22 main_v70

def fn_part2 {F : FTy → Type} [FloatOps F] (main_v22 : FVec F S10000x10000 .f32) (main_v35 : FVec F S10000x79 .f32) (main_cst_9 : FVec F S_ .f32) : IVec S10000 1 :=
  let main_v36 : FVec F S10000 .f32 := (fun x v => Host.reduce FloatOps.minimumf x v reducesTo_S10000x79_S10000_d1 h_S_) main_v35 main_cst_9
  let main_v37 : FVec F S10000x1 .f32 := broadcastInDim S10000x1 ![0] bcast_S10000_S10000x1_0 main_v36
  let main_v38 : FVec F S10000x79 .f32 := broadcastInDim S10000x79 ![0, 1] bcast_S10000x1_S10000x79_0_1 main_v37
  let main_v39 : IVec S10000x79 1 := cmpf .oeq main_v35 main_v38
  let main_cst_10 : FVec F S_ .f32 := constant S_ .f32 0x7EE1B1E6#32
  let main_v40 : FVec F S10000x79 .f32 := fn_where (F := F) main_v39 main_cst_10 main_v35
  let main_cst_11 : FVec F S_ .f32 := constant S_ .f32 0x7F800000#32
  let main_v41 : FVec F S10000 .f32 := (fun x v => Host.reduce FloatOps.minimumf x v reducesTo_S10000x79_S10000_d1 h_S_) main_v40 main_cst_11
  let main_v42 : FVec F S10000x1 .f32 := broadcastInDim S10000x1 ![0] bcast_S10000_S10000x1_0 main_v41
  let main_v43 : FVec F S10000x79 .f32 := broadcastInDim S10000x79 ![0, 1] bcast_S10000x1_S10000x79_0_1 main_v42
  let main_v44 : IVec S10000x79 1 := cmpf .oeq main_v40 main_v43
  let main_cst_12 : FVec F S_ .f32 := constant S_ .f32 0x7EE1B1E6#32
  let main_v45 : FVec F S10000x79 .f32 := fn_where (F := F) main_v44 main_cst_12 main_v40
  let main_cst_13 : FVec F S_ .f32 := constant S_ .f32 0x7F800000#32
  let main_v46 : FVec F S10000 .f32 := (fun x v => Host.reduce FloatOps.minimumf x v reducesTo_S10000x79_S10000_d1 h_S_) main_v45 main_cst_13
  let main_v47 : FVec F S10000x1 .f32 := broadcastInDim S10000x1 ![0] bcast_S10000_S10000x1_0 main_v46
  let main_v48 : FVec F S10000x79 .f32 := broadcastInDim S10000x79 ![0, 1] bcast_S10000x1_S10000x79_0_1 main_v47
  let main_v49 : IVec S10000x79 1 := cmpf .oeq main_v45 main_v48
  let main_cst_14 : FVec F S_ .f32 := constant S_ .f32 0x7EE1B1E6#32
  let main_v50 : FVec F S10000x79 .f32 := fn_where (F := F) main_v49 main_cst_14 main_v45
  let main_cst_15 : FVec F S_ .f32 := constant S_ .f32 0x7F800000#32
  let main_v51 : FVec F S10000 .f32 := (fun x v => Host.reduce FloatOps.minimumf x v reducesTo_S10000x79_S10000_d1 h_S_) main_v50 main_cst_15
  let main_v52 : FVec F S10000x1 .f32 := broadcastInDim S10000x1 ![0] bcast_S10000_S10000x1_0 main_v51
  let main_v53 : FVec F S10000x79 .f32 := broadcastInDim S10000x79 ![0, 1] bcast_S10000x1_S10000x79_0_1 main_v52
  fn_part3 (F := F) main_v22 main_v50 main_v53

def fn_part1 {F : FTy → Type} [FloatOps F] (main_v13 : FVec F S10000x10000 .f32) (main_v19 : FVec F S10000x10000 .f32) : IVec S10000 1 :=
  let main_cst_2 : FVec F S_ .f32 := constant S_ .f32 0x501502F9#32
  let main_v20 : FVec F S10000x10000 .f32 := broadcastInDim S10000x10000 ![] bcast_S_S10000x10000 main_cst_2
  let main_v21 : FVec F S10000x10000 .f32 := mulf main_v19 main_v20
  let main_v22 : FVec F S10000x10000 .f32 := addf main_v13 main_v21
  let main_cst_3 : FVec F S_ .f32 := constant S_ .f32 0x7EE1B1E6#32
  let main_v23 : FVec F S10000x10112 .f32 := fn_pad (F := F) main_v22 main_cst_3
  let main_v24 : FVec F S10000x79x128 .f32 := shapeCast S10000x79x128 main_v23 shapeCasts_S10000x10112_S10000x79x128
  let main_cst_4 : FVec F S_ .f32 := constant S_ .f32 0x7F800000#32
  let main_v25 : FVec F S10000x79 .f32 := (fun x v => Host.reduce FloatOps.minimumf x v reducesTo_S10000x79x128_S10000x79_d2 h_S_) main_v24 main_cst_4
  let main_cst_5 : FVec F S_ .f32 := constant S_ .f32 0x7F800000#32
  let main_v26 : FVec F S10000 .f32 := (fun x v => Host.reduce FloatOps.minimumf x v reducesTo_S10000x79_S10000_d1 h_S_) main_v25 main_cst_5
  let main_v27 : FVec F S10000x1 .f32 := broadcastInDim S10000x1 ![0] bcast_S10000_S10000x1_0 main_v26
  let main_v28 : FVec F S10000x79 .f32 := broadcastInDim S10000x79 ![0, 1] bcast_S10000x1_S10000x79_0_1 main_v27
  let main_v29 : IVec S10000x79 1 := cmpf .oeq main_v25 main_v28
  let main_cst_6 : FVec F S_ .f32 := constant S_ .f32 0x7EE1B1E6#32
  let main_v30 : FVec F S10000x79 .f32 := fn_where (F := F) main_v29 main_cst_6 main_v25
  let main_cst_7 : FVec F S_ .f32 := constant S_ .f32 0x7F800000#32
  let main_v31 : FVec F S10000 .f32 := (fun x v => Host.reduce FloatOps.minimumf x v reducesTo_S10000x79_S10000_d1 h_S_) main_v30 main_cst_7
  let main_v32 : FVec F S10000x1 .f32 := broadcastInDim S10000x1 ![0] bcast_S10000_S10000x1_0 main_v31
  let main_v33 : FVec F S10000x79 .f32 := broadcastInDim S10000x79 ![0, 1] bcast_S10000x1_S10000x79_0_1 main_v32
  let main_v34 : IVec S10000x79 1 := cmpf .oeq main_v30 main_v33
  let main_cst_8 : FVec F S_ .f32 := constant S_ .f32 0x7EE1B1E6#32
  let main_v35 : FVec F S10000x79 .f32 := fn_where (F := F) main_v34 main_cst_8 main_v30
  let main_cst_9 : FVec F S_ .f32 := constant S_ .f32 0x7F800000#32
  fn_part2 (F := F) main_v22 main_v35 main_cst_9

def fn {F : FTy → Type} [FloatOps F] (main_arg0 : FVec F S10000x3 .f32) : IVec S10000 1 :=
  let main_v0 : FVec F S10000x3 .f32 := mulf main_arg0 main_arg0
  let main_cst : FVec F S_ .f32 := constant S_ .f32 0x00000000#32
  let main_v1 : FVec F S10000 .f32 := (fun x v => Host.reduceAdd x v reducesTo_S10000x3_S10000_d1 h_S_) main_v0 main_cst
  let main_v2 : FVec F S10000x1 .f32 := broadcastInDim S10000x1 ![0] bcast_S10000_S10000x1_0 main_v1
  let main_v3 : FVec F S1x10000 .f32 := broadcastInDim S1x10000 ![1] bcast_S10000_S1x10000_1 main_v1
  let main_v4 : FVec F S10000x10000 .f32 := broadcastInDim S10000x10000 ![0, 1] bcast_S10000x1_S10000x10000_0_1 main_v2
  let main_v5 : FVec F S10000x10000 .f32 := broadcastInDim S10000x10000 ![0, 1] bcast_S1x10000_S10000x10000_0_1 main_v3
  let main_v6 : FVec F S10000x10000 .f32 := addf main_v4 main_v5
  let main_v7 : FVec F S3x10000 .f32 := (transpose S3x10000 [1, 0] · transposes_S10000x3_S3x10000_1_0) main_arg0
  let main_v8 : FVec F S10000x10000 .f32 := (fun l r => Host.dotGeneral dot_S10000x3_S3x10000_S10000x10000_1_0_0_1_n_n none l r) main_arg0 main_v7
  let main_cst_0 : FVec F S_ .f32 := constant S_ .f32 0x40000000#32
  let main_v9 : FVec F S10000x10000 .f32 := broadcastInDim S10000x10000 ![] bcast_S_S10000x10000 main_cst_0
  let main_v10 : FVec F S10000x10000 .f32 := mulf main_v9 main_v8
  let main_v11 : FVec F S10000x10000 .f32 := subf main_v6 main_v10
  let main_cst_1 : FVec F S_ .f32 := constant S_ .f32 0x00000000#32
  let main_v12 : FVec F S10000x10000 .f32 := broadcastInDim S10000x10000 ![] bcast_S_S10000x10000 main_cst_1
  let main_v13 : FVec F S10000x10000 .f32 := maximumf main_v11 main_v12
  let main_v14 : IVec S10000x10000 32 := iotaInDim S10000x10000 32 0
  let main_v15 : IVec S10000x10000 32 := iotaInDim S10000x10000 32 1
  let main_c : IVec S_ 32 := constantI S_ 32 0#32
  let main_v16 : IVec S10000x10000 32 := broadcastInDim S10000x10000 ![] bcast_S_S10000x10000 main_c
  let main_v17 : IVec S10000x10000 32 := addi main_v14 main_v16
  let main_v18 : IVec S10000x10000 1 := cmpi .eq main_v17 main_v15
  let main_v19 : FVec F S10000x10000 .f32 := uitofp .f32 main_v18
  fn_part1 (F := F) main_v13 main_v19
-- ==== Kernel.lean ====
abbrev S10000x3 : Shape := ⟨2, ![10000, 3]⟩
abbrev S3x10000 : Shape := ⟨2, ![3, 10000]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S200x3 : Shape := ⟨2, ![200, 3]⟩
abbrev S200x1 : Shape := ⟨2, ![200, 1]⟩
abbrev S200x10000 : Shape := ⟨2, ![200, 10000]⟩
abbrev S200x112 : Shape := ⟨2, ![200, 112]⟩
abbrev S200x10112 : Shape := ⟨2, ![200, 10112]⟩
abbrev S200x79x128 : Shape := ⟨3, ![200, 79, 128]⟩
abbrev S200x79 : Shape := ⟨2, ![200, 79]⟩
abbrev S79x200 : Shape := ⟨2, ![79, 200]⟩
abbrev S1x200 : Shape := ⟨2, ![1, 200]⟩
abbrev S200 : Shape := ⟨1, ![200]⟩
abbrev S10336 : Shape := ⟨1, ![10336]⟩
abbrev S100000000 : Shape := ⟨1, ![100000000]⟩
abbrev S640000 : Shape := ⟨1, ![640000]⟩
abbrev S336 : Shape := ⟨1, ![336]⟩
abbrev S2064 : Shape := ⟨1, ![2064]⟩
abbrev S16 : Shape := ⟨1, ![16]⟩
abbrev S1 : Shape := ⟨1, ![1]⟩
abbrev S64 : Shape := ⟨1, ![64]⟩
abbrev S10000x64 : Shape := ⟨2, ![10000, 64]⟩
abbrev S10000x50 : Shape := ⟨2, ![10000, 50]⟩
abbrev S200x64 : Shape := ⟨2, ![200, 64]⟩
abbrev S200x50 : Shape := ⟨2, ![200, 50]⟩
abbrev S500000x1 : Shape := ⟨2, ![500000, 1]⟩
abbrev S500000x5 : Shape := ⟨2, ![500000, 5]⟩
abbrev S20000x1 : Shape := ⟨2, ![20000, 1]⟩
abbrev S20000x5 : Shape := ⟨2, ![20000, 5]⟩
abbrev S1x5 : Shape := ⟨2, ![1, 5]⟩
abbrev S500000 : Shape := ⟨1, ![500000]⟩
abbrev S1000000 : Shape := ⟨1, ![1000000]⟩
abbrev S1x1000000 : Shape := ⟨2, ![1, 1000000]⟩
abbrev S2x1000000 : Shape := ⟨2, ![2, 1000000]⟩
abbrev S1000000x5 : Shape := ⟨2, ![1000000, 5]⟩

abbrev nBuf : Table → Nat
  | .hbm => 43
  | .local .tc .vmem => 20
  | .local .tc .smem => 1
  | .local .scVector .vmem => 9
  | _ => 0

abbrev bufTy : (tb : Table) → Fin (nBuf tb) → BufTy
  | .hbm, ⟨0, _⟩ => ⟨S10000x3, .f32⟩
  | .hbm, ⟨1, _⟩ => ⟨S3x10000, .f32⟩
  | .hbm, ⟨2, _⟩ => ⟨S10000x3, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S1x10000, .f32⟩
  | .hbm, ⟨7, _⟩ => ⟨S10000x10000, .f32⟩
  | .hbm, ⟨8, _⟩ => ⟨S10000x1, .f32⟩
  | .hbm, ⟨9, _⟩ => ⟨S10000, .f32⟩
  | .hbm, ⟨10, _⟩ => ⟨S_, .i32⟩
  | .hbm, ⟨11, _⟩ => ⟨S_, .f32⟩
  | .hbm, ⟨12, _⟩ => ⟨S10336, .f32⟩
  | .hbm, ⟨13, _⟩ => ⟨S100000000, .f32⟩
  | .hbm, ⟨14, _⟩ => ⟨S10000x1, .f32⟩
  | .hbm, ⟨15, _⟩ => ⟨S10000, .f32⟩
  | .hbm, ⟨16, _⟩ => ⟨S10000x1, .f32⟩
  | .hbm, ⟨17, _⟩ => ⟨S10000, .f32⟩
  | .hbm, ⟨18, _⟩ => ⟨S10000x1, .f32⟩
  | .hbm, ⟨19, _⟩ => ⟨S10000, .f32⟩
  | .hbm, ⟨20, _⟩ => ⟨S640000, .i32⟩
  | .hbm, ⟨21, _⟩ => ⟨S640000, .f32⟩
  | .hbm, ⟨22, _⟩ => ⟨S10000x64, .i32⟩
  | .hbm, ⟨23, _⟩ => ⟨S10000x64, .f32⟩
  | .hbm, ⟨24, _⟩ => ⟨S10000x50, .f32⟩
  | .hbm, ⟨25, _⟩ => ⟨S10000x1, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S500000x1, .f32⟩
  | .hbm, ⟨30, _⟩ => ⟨S500000x5, .f32⟩
  | .hbm, ⟨31, _⟩ => ⟨S10000x50, .i32⟩
  | .hbm, ⟨32, _⟩ => ⟨S500000, .i32⟩
  | .hbm, ⟨33, _⟩ => ⟨S10000, .i32⟩
  | .hbm, ⟨34, _⟩ => ⟨S10000x1, .i32⟩
  | .hbm, ⟨35, _⟩ => ⟨S10000x50, .i32⟩
  | .hbm, ⟨36, _⟩ => ⟨S500000, .i32⟩
  | .hbm, ⟨37, _⟩ => ⟨S1000000, .i32⟩
  | .hbm, ⟨38, _⟩ => ⟨S1000000, .i32⟩
  | .hbm, ⟨39, _⟩ => ⟨S1x1000000, .i32⟩
  | .hbm, ⟨40, _⟩ => ⟨S1x1000000, .i32⟩
  | .hbm, ⟨41, _⟩ => ⟨S2x1000000, .i32⟩
  | .hbm, ⟨42, _⟩ => ⟨S1000000x5, .f32⟩
  | .local .tc .vmem, ⟨0, _⟩ => ⟨S200x3, .f32⟩
  | .local .tc .vmem, ⟨1, _⟩ => ⟨S200x3, .f32⟩
  | .local .tc .vmem, ⟨2, _⟩ => ⟨S3x10000, .f32⟩
  | .local .tc .vmem, ⟨3, _⟩ => ⟨S200x1, .f32⟩
  | .local .tc .vmem, ⟨4, _⟩ => ⟨S200x1, .f32⟩
  | .local .tc .vmem, ⟨5, _⟩ => ⟨S1x10000, .f32⟩
  | .local .tc .vmem, ⟨6, _⟩ => ⟨S200x10000, .f32⟩
  | .local .tc .vmem, ⟨7, _⟩ => ⟨S200x10000, .f32⟩
  | .local .tc .vmem, ⟨8, _⟩ => ⟨S200x1, .f32⟩
  | .local .tc .vmem, ⟨9, _⟩ => ⟨S200x1, .f32⟩
  | .local .tc .vmem, ⟨10, _⟩ => ⟨S200x64, .f32⟩
  | .local .tc .vmem, ⟨11, _⟩ => ⟨S200x64, .f32⟩
  | .local .tc .vmem, ⟨12, _⟩ => ⟨S200x50, .f32⟩
  | .local .tc .vmem, ⟨13, _⟩ => ⟨S200x50, .f32⟩
  | .local .tc .vmem, ⟨14, _⟩ => ⟨S200x1, .f32⟩
  | .local .tc .vmem, ⟨15, _⟩ => ⟨S200x1, .f32⟩
  | .local .tc .vmem, ⟨16, _⟩ => ⟨S20000x1, .f32⟩
  | .local .tc .vmem, ⟨17, _⟩ => ⟨S20000x1, .f32⟩
  | .local .tc .vmem, ⟨18, _⟩ => ⟨S20000x5, .f32⟩
  | .local .tc .vmem, ⟨19, _⟩ => ⟨S20000x5, .f32⟩
  | .local .tc .smem, ⟨0, _⟩ => ⟨S1, .f32⟩
  | .local .scVector .vmem, ⟨0, _⟩ => ⟨S10000, .f32⟩
  | .local .scVector .vmem, ⟨1, _⟩ => ⟨S10000, .f32⟩
  | .local .scVector .vmem, ⟨2, _⟩ => ⟨S10000, .f32⟩
  | .local .scVector .vmem, ⟨3, _⟩ => ⟨S10000, .f32⟩
  | .local .scVector .vmem, ⟨4, _⟩ => ⟨S336, .f32⟩
  | .local .scVector .vmem, ⟨5, _⟩ => ⟨S2064, .f32⟩
  | .local .scVector .vmem, ⟨6, _⟩ => ⟨S2064, .i32⟩
  | .local .scVector .vmem, ⟨7, _⟩ => ⟨S2064, .f32⟩
  | .local .scVector .vmem, ⟨8, _⟩ => ⟨S2064, .i32⟩
  | _, _ => ⟨S10000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v8_scv : Ref sig .scVector := ⟨.hbm, 13, rfl⟩
abbrev main_v7_scv : Ref sig .scVector := ⟨.hbm, 12, rfl⟩
abbrev main_v10_scv : Ref sig .scVector := ⟨.hbm, 15, rfl⟩
abbrev main_v12_scv : Ref sig .scVector := ⟨.hbm, 17, rfl⟩
abbrev main_v14_scv : Ref sig .scVector := ⟨.hbm, 19, rfl⟩
abbrev main_v15_0_scv : Ref sig .scVector := ⟨.hbm, 20, rfl⟩
abbrev main_v15_1_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c50_i32 : BitVec 32 := 50#32
  let v31 : BitVec 32 := Scalar.addi c0_i32 c50_i32
  let c1_i32 : BitVec 32 := 1#32
  ⟨c0_i32, v31, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let c313_i32 : BitVec 32 := 313#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c313_i32 v1
  let c16_i32 : BitVec 32 := 16#32
  let v3 : BitVec 32 := Scalar.subi v1 c16_i32
  let c0_i32 : BitVec 32 := 0#32
  let v4 : BitVec 32 := Scalar.maxsi v3 c0_i32
  let v5 : BitVec 32 := Scalar.subi v2 v4
  let c0_i32_2 : BitVec 32 := 0#32
  let v9 : BitVec 1 := Scalar.cmpi .sgt v5 c0_i32_2
  let v10 : BitVec 32 := Scalar.extui v9
  let c0_i32_3 : BitVec 32 := 0#32
  let v11 : BitVec 1 := Scalar.cmpi .slt v5 c0_i32_3
  let v12 : BitVec 32 := Scalar.extui v11
  let v13 : BitVec 32 := Scalar.subi v10 v12
  let c8_i32 : BitVec 32 := 8#32
  let c0_i32_4 : BitVec 32 := 0#32
  let v14 : BitVec 1 := Scalar.cmpi .sgt c8_i32 c0_i32_4
  let v15 : BitVec 32 := Scalar.extui v14
  let c0_i32_5 : BitVec 32 := 0#32
  let v16 : BitVec 1 := Scalar.cmpi .slt c8_i32 c0_i32_5
  let v17 : BitVec 32 := Scalar.extui v16
  let v18 : BitVec 32 := Scalar.subi v15 v17
  let v19 : BitVec 1 := Scalar.cmpi .ne v13 v18
  let v20 : BitVec 32 := Scalar.remsi v5 c8_i32
  let c0_i32_6 : BitVec 32 := 0#32
  let v21 : BitVec 1 := Scalar.cmpi .ne v20 c0_i32_6
  let v22 : BitVec 1 := Scalar.andi v19 v21
  let v8 : BitVec 32 := Scalar.divsi v5 c8_i32
  let c1_i32 : BitVec 32 := 1#32
  let v23 : BitVec 32 := Scalar.subi v8 c1_i32
  let v24 : BitVec 32 := Scalar.select v22 v23 v8
  let c8_i32_7 : BitVec 32 := 8#32
  let v25 : BitVec 32 := Scalar.muli v24 c8_i32_7
  ![v25.toNat]
@[reducible] def k1_t1_loop : Scf.Loop 32 :=
  let c0_i32_9 : BitVec 32 := 0#32
  let c313_i32_10 : BitVec 32 := 313#32
  let v28 : BitVec 32 := Scalar.addi c0_i32_9 c313_i32_10
  let c1_i32_11 : BitVec 32 := 1#32
  ⟨c0_i32_9, v28, c1_i32_11⟩
def k1_cond1 (i : grid1.Coords) (k1_t1 : Fin k1_t1_loop.trips) : BitVec 1 :=
  let c0_i32_9 : BitVec 32 := 0#32
  let c1_i32_11 : BitVec 32 := 1#32
  let arg18 : BitVec 32 := Scf.iv c0_i32_9 c1_i32_11 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_0 : BitVec 32 := 16#32
  let v6 : BitVec 1 := Scalar.cmpi .slt v1 c16_i32_0
  let c313_i32_1 : BitVec 32 := 313#32
  let c312_i32 : BitVec 32 := 312#32
  let v7 : BitVec 32 := Scalar.select v6 c313_i32_1 c312_i32
  let v30 : BitVec 1 := Scalar.cmpi .slt arg18 v7
  let v31 : BitVec 32 := Scalar.extui v30
  let c0_i32_13 : BitVec 32 := 0#32
  let v32 : BitVec 1 := Scalar.cmpi .ne v31 c0_i32_13
  v32

def k1_off2 (i : grid1.Coords) (k1_t1 : Fin k1_t1_loop.trips) : Fin 1 → Nat :=
  let c313_i32 : BitVec 32 := 313#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c313_i32 v1
  let c16_i32 : BitVec 32 := 16#32
  let v3 : BitVec 32 := Scalar.subi v1 c16_i32
  let c0_i32 : BitVec 32 := 0#32
  let v4 : BitVec 32 := Scalar.maxsi v3 c0_i32
  let v5 : BitVec 32 := Scalar.subi v2 v4
  let c0_i32_9 : BitVec 32 := 0#32
  let c1_i32_11 : BitVec 32 := 1#32
  let arg18 : BitVec 32 := Scf.iv c0_i32_9 c1_i32_11 k1_t1
  let v33 : BitVec 32 := Scalar.addi v5 arg18
  let c10000_i32 : BitVec 32 := 10000#32
  let v34 : BitVec 32 := Scalar.muli v33 c10000_i32
  ![v34.toNat]

def k1_chk1 (i : grid1.Coords) (k1_t1 : Fin k1_t1_loop.trips) (v36 : IVec S16 32) : Prop :=
  (∀ (k1_h1 : k1_cond1 i k1_t1 = 1#1), ∀ a x, ((![v36] : Fin 1 → IVec S16 32) a x).toNat < S336.size a)
theorem k1_idx1_inb : ∀ (i : grid1.Coords) (k1_t1 : Fin k1_t1_loop.trips) (v36 : IVec S16 32) (k1_hw1 : k1_chk1 i k1_t1 v36), ∀ (k1_h1 : k1_cond1 i k1_t1 = 1#1), ∀ a x, ((![v36] : Fin 1 → IVec S16 32) a x).toNat < S336.size a := fun i k1_t1 v36 k1_hw1 k1_h1 => k1_hw1 k1_h1
@[reducible] def k1_t2_loop : Scf.Loop 32 :=
  let c0_i32_16 : BitVec 32 := 0#32
  let c156_i32 : BitVec 32 := 156#32
  let v38 : BitVec 32 := Scalar.addi c0_i32_16 c156_i32
  let c1_i32_17 : BitVec 32 := 1#32
  ⟨c0_i32_16, v38, c1_i32_17⟩
def k1_off3 (k1_t2 : Fin k1_t2_loop.trips) (c0_i32_42 : BitVec 32) : Fin 1 → Nat :=
  let c0_i32_16 : BitVec 32 := 0#32
  let c1_i32_17 : BitVec 32 := 1#32
  let arg20 : BitVec 32 := Scf.iv c0_i32_16 c1_i32_17 k1_t2
  let c64_i32_41 : BitVec 32 := 64#32
  let v96 : BitVec 32 := Scalar.muli arg20 c64_i32_41
  let v97 : BitVec 32 := Scalar.addi v96 c0_i32_42
  let v98 : Index := Scalar.indexCast v97
  ![v98.toNat]
def k1_cond2 (v116 : BitVec 32) (v120 : BitVec 32) (v124 : BitVec 32) (v128 : BitVec 32) : BitVec 1 :=
  let v129 : BitVec 32 := Scalar.addi v116 v120
  let v130 : BitVec 32 := Scalar.addi v129 v124
  let v131 : BitVec 32 := Scalar.addi v130 v128
  let c0_i32_48 : BitVec 32 := 0#32
  let v132 : BitVec 1 := Scalar.cmpi .sgt v131 c0_i32_48
  let v133 : BitVec 32 := Scalar.extui v132
  let c0_i32_49 : BitVec 32 := 0#32
  let v134 : BitVec 1 := Scalar.cmpi .ne v133 c0_i32_49
  v134

def k1_chk2 (i : grid1.Coords) (k1_t1 : Fin k1_t1_loop.trips) (v116 : BitVec 32) (v120 : BitVec 32) (v124 : BitVec 32) (v128 : BitVec 32) (v144 : IVec S16 32) : Prop :=
  (∀ (k1_h1 : k1_cond1 i k1_t1 = 1#1), ∀ (k1_h2 : k1_cond2 v116 v120 v124 v128 = 1#1), ∀ a x, ((![v144] : Fin 1 → IVec S16 32) a x).toNat < S2064.size a)
theorem k1_idx2_inb : ∀ (i : grid1.Coords) (k1_t1 : Fin k1_t1_loop.trips) (v116 : BitVec 32) (v120 : BitVec 32) (v124 : BitVec 32) (v128 : BitVec 32) (v144 : IVec S16 32) (k1_hw2 : k1_chk2 i k1_t1 v116 v120 v124 v128 v144), ∀ (k1_h1 : k1_cond1 i k1_t1 = 1#1), ∀ (k1_h2 : k1_cond2 v116 v120 v124 v128 = 1#1), ∀ a x, ((![v144] : Fin 1 → IVec S16 32) a x).toNat < S2064.size a := fun i k1_t1 v116 v120 v124 v128 v144 k1_hw2 k1_h1 k1_h2 => k1_hw2 k1_h1 k1_h2

def k1_chk3 (i : grid1.Coords) (k1_t1 : Fin k1_t1_loop.trips) (v116 : BitVec 32) (v120 : BitVec 32) (v124 : BitVec 32) (v128 : BitVec 32) (v154 : IVec S16 32) : Prop :=
  (∀ (k1_h1 : k1_cond1 i k1_t1 = 1#1), ∀ (k1_h2 : k1_cond2 v116 v120 v124 v128 = 1#1), ∀ a x, ((![v154] : Fin 1 → IVec S16 32) a x).toNat < S2064.size a)
theorem k1_idx3_inb : ∀ (i : grid1.Coords) (k1_t1 : Fin k1_t1_loop.trips) (v116 : BitVec 32) (v120 : BitVec 32) (v124 : BitVec 32) (v128 : BitVec 32) (v154 : IVec S16 32) (k1_hw3 : k1_chk3 i k1_t1 v116 v120 v124 v128 v154), ∀ (k1_h1 : k1_cond1 i k1_t1 = 1#1), ∀ (k1_h2 : k1_cond2 v116 v120 v124 v128 = 1#1), ∀ a x, ((![v154] : Fin 1 → IVec S16 32) a x).toNat < S2064.size a := fun i k1_t1 v116 v120 v124 v128 v154 k1_hw3 k1_h1 k1_h2 => k1_hw3 k1_h1 k1_h2

def k1_chk4 (i : grid1.Coords) (k1_t1 : Fin k1_t1_loop.trips) (v116 : BitVec 32) (v120 : BitVec 32) (v124 : BitVec 32) (v128 : BitVec 32) (v163 : IVec S16 32) : Prop :=
  (∀ (k1_h1 : k1_cond1 i k1_t1 = 1#1), ∀ (k1_h2 : k1_cond2 v116 v120 v124 v128 = 1#1), ∀ a x, ((![v163] : Fin 1 → IVec S16 32) a x).toNat < S2064.size a)
theorem k1_idx4_inb : ∀ (i : grid1.Coords) (k1_t1 : Fin k1_t1_loop.trips) (v116 : BitVec 32) (v120 : BitVec 32) (v124 : BitVec 32) (v128 : BitVec 32) (v163 : IVec S16 32) (k1_hw4 : k1_chk4 i k1_t1 v116 v120 v124 v128 v163), ∀ (k1_h1 : k1_cond1 i k1_t1 = 1#1), ∀ (k1_h2 : k1_cond2 v116 v120 v124 v128 = 1#1), ∀ a x, ((![v163] : Fin 1 → IVec S16 32) a x).toNat < S2064.size a := fun i k1_t1 v116 v120 v124 v128 v163 k1_hw4 k1_h1 k1_h2 => k1_hw4 k1_h1 k1_h2

def k1_chk5 (i : grid1.Coords) (k1_t1 : Fin k1_t1_loop.trips) (v116 : BitVec 32) (v120 : BitVec 32) (v124 : BitVec 32) (v128 : BitVec 32) (v173 : IVec S16 32) : Prop :=
  (∀ (k1_h1 : k1_cond1 i k1_t1 = 1#1), ∀ (k1_h2 : k1_cond2 v116 v120 v124 v128 = 1#1), ∀ a x, ((![v173] : Fin 1 → IVec S16 32) a x).toNat < S2064.size a)
theorem k1_idx5_inb : ∀ (i : grid1.Coords) (k1_t1 : Fin k1_t1_loop.trips) (v116 : BitVec 32) (v120 : BitVec 32) (v124 : BitVec 32) (v128 : BitVec 32) (v173 : IVec S16 32) (k1_hw5 : k1_chk5 i k1_t1 v116 v120 v124 v128 v173), ∀ (k1_h1 : k1_cond1 i k1_t1 = 1#1), ∀ (k1_h2 : k1_cond2 v116 v120 v124 v128 = 1#1), ∀ a x, ((![v173] : Fin 1 → IVec S16 32) a x).toNat < S2064.size a := fun i k1_t1 v116 v120 v124 v128 v173 k1_hw5 k1_h1 k1_h2 => k1_hw5 k1_h1 k1_h2

def k1_chk6 (i : grid1.Coords) (k1_t1 : Fin k1_t1_loop.trips) (v116 : BitVec 32) (v120 : BitVec 32) (v124 : BitVec 32) (v128 : BitVec 32) (v182 : IVec S16 32) : Prop :=
  (∀ (k1_h1 : k1_cond1 i k1_t1 = 1#1), ∀ (k1_h2 : k1_cond2 v116 v120 v124 v128 = 1#1), ∀ a x, ((![v182] : Fin 1 → IVec S16 32) a x).toNat < S2064.size a)
theorem k1_idx6_inb : ∀ (i : grid1.Coords) (k1_t1 : Fin k1_t1_loop.trips) (v116 : BitVec 32) (v120 : BitVec 32) (v124 : BitVec 32) (v128 : BitVec 32) (v182 : IVec S16 32) (k1_hw6 : k1_chk6 i k1_t1 v116 v120 v124 v128 v182), ∀ (k1_h1 : k1_cond1 i k1_t1 = 1#1), ∀ (k1_h2 : k1_cond2 v116 v120 v124 v128 = 1#1), ∀ a x, ((![v182] : Fin 1 → IVec S16 32) a x).toNat < S2064.size a := fun i k1_t1 v116 v120 v124 v128 v182 k1_hw6 k1_h1 k1_h2 => k1_hw6 k1_h1 k1_h2

def k1_chk7 (i : grid1.Coords) (k1_t1 : Fin k1_t1_loop.trips) (v116 : BitVec 32) (v120 : BitVec 32) (v124 : BitVec 32) (v128 : BitVec 32) (v192 : IVec S16 32) : Prop :=
  (∀ (k1_h1 : k1_cond1 i k1_t1 = 1#1), ∀ (k1_h2 : k1_cond2 v116 v120 v124 v128 = 1#1), ∀ a x, ((![v192] : Fin 1 → IVec S16 32) a x).toNat < S2064.size a)
theorem k1_idx7_inb : ∀ (i : grid1.Coords) (k1_t1 : Fin k1_t1_loop.trips) (v116 : BitVec 32) (v120 : BitVec 32) (v124 : BitVec 32) (v128 : BitVec 32) (v192 : IVec S16 32) (k1_hw7 : k1_chk7 i k1_t1 v116 v120 v124 v128 v192), ∀ (k1_h1 : k1_cond1 i k1_t1 = 1#1), ∀ (k1_h2 : k1_cond2 v116 v120 v124 v128 = 1#1), ∀ a x, ((![v192] : Fin 1 → IVec S16 32) a x).toNat < S2064.size a := fun i k1_t1 v116 v120 v124 v128 v192 k1_hw7 k1_h1 k1_h2 => k1_hw7 k1_h1 k1_h2

def k1_chk8 (i : grid1.Coords) (k1_t1 : Fin k1_t1_loop.trips) (v116 : BitVec 32) (v120 : BitVec 32) (v124 : BitVec 32) (v128 : BitVec 32) (v201 : IVec S16 32) : Prop :=
  (∀ (k1_h1 : k1_cond1 i k1_t1 = 1#1), ∀ (k1_h2 : k1_cond2 v116 v120 v124 v128 = 1#1), ∀ a x, ((![v201] : Fin 1 → IVec S16 32) a x).toNat < S2064.size a)
theorem k1_idx8_inb : ∀ (i : grid1.Coords) (k1_t1 : Fin k1_t1_loop.trips) (v116 : BitVec 32) (v120 : BitVec 32) (v124 : BitVec 32) (v128 : BitVec 32) (v201 : IVec S16 32) (k1_hw8 : k1_chk8 i k1_t1 v116 v120 v124 v128 v201), ∀ (k1_h1 : k1_cond1 i k1_t1 = 1#1), ∀ (k1_h2 : k1_cond2 v116 v120 v124 v128 = 1#1), ∀ a x, ((![v201] : Fin 1 → IVec S16 32) a x).toNat < S2064.size a := fun i k1_t1 v116 v120 v124 v128 v201 k1_hw8 k1_h1 k1_h2 => k1_hw8 k1_h1 k1_h2

def k1_chk9 (i : grid1.Coords) (k1_t1 : Fin k1_t1_loop.trips) (v116 : BitVec 32) (v120 : BitVec 32) (v124 : BitVec 32) (v128 : BitVec 32) (v211 : IVec S16 32) : Prop :=
  (∀ (k1_h1 : k1_cond1 i k1_t1 = 1#1), ∀ (k1_h2 : k1_cond2 v116 v120 v124 v128 = 1#1), ∀ a x, ((![v211] : Fin 1 → IVec S16 32) a x).toNat < S2064.size a)
theorem k1_idx9_inb : ∀ (i : grid1.Coords) (k1_t1 : Fin k1_t1_loop.trips) (v116 : BitVec 32) (v120 : BitVec 32) (v124 : BitVec 32) (v128 : BitVec 32) (v211 : IVec S16 32) (k1_hw9 : k1_chk9 i k1_t1 v116 v120 v124 v128 v211), ∀ (k1_h1 : k1_cond1 i k1_t1 = 1#1), ∀ (k1_h2 : k1_cond2 v116 v120 v124 v128 = 1#1), ∀ a x, ((![v211] : Fin 1 → IVec S16 32) a x).toNat < S2064.size a := fun i k1_t1 v116 v120 v124 v128 v211 k1_hw9 k1_h1 k1_h2 => k1_hw9 k1_h1 k1_h2

def k1_chk10 (i : grid1.Coords) (k1_t1 : Fin k1_t1_loop.trips) (v49 : IVec S16 32) : Prop :=
  (∀ (k1_h1 : k1_cond1 i k1_t1 = 1#1), ∀ a x, ((![v49] : Fin 1 → IVec S16 32) a x).toNat < S2064.size a)
theorem k1_idx10_inb : ∀ (i : grid1.Coords) (k1_t1 : Fin k1_t1_loop.trips) (v49 : IVec S16 32) (k1_hw10 : k1_chk10 i k1_t1 v49), ∀ (k1_h1 : k1_cond1 i k1_t1 = 1#1), ∀ a x, ((![v49] : Fin 1 → IVec S16 32) a x).toNat < S2064.size a := fun i k1_t1 v49 k1_hw10 k1_h1 => k1_hw10 k1_h1

def k1_chk11 (i : grid1.Coords) (k1_t1 : Fin k1_t1_loop.trips) (v58 : IVec S16 32) : Prop :=
  (∀ (k1_h1 : k1_cond1 i k1_t1 = 1#1), ∀ a x, ((![v58] : Fin 1 → IVec S16 32) a x).toNat < S2064.size a)
theorem k1_idx11_inb : ∀ (i : grid1.Coords) (k1_t1 : Fin k1_t1_loop.trips) (v58 : IVec S16 32) (k1_hw11 : k1_chk11 i k1_t1 v58), ∀ (k1_h1 : k1_cond1 i k1_t1 = 1#1), ∀ a x, ((![v58] : Fin 1 → IVec S16 32) a x).toNat < S2064.size a := fun i k1_t1 v58 k1_hw11 k1_h1 => k1_hw11 k1_h1
def k1_off4 (v39 : BitVec 32) (v62 : BitVec 32) : Fin 1 → Nat :=
  let v63 : BitVec 32 := Scalar.addi v39 v62
  let c2048_i32_23 : BitVec 32 := 2048#32
  let v64 : BitVec 32 := Scalar.minsi v63 c2048_i32_23
  let v66 : Index := Scalar.indexCast v64
  ![v66.toNat]

def k1_chk12 (i : grid1.Coords) (k1_t1 : Fin k1_t1_loop.trips) (v39 : BitVec 32) (v62 : BitVec 32) : Prop :=
  (∀ (k1_h1 : k1_cond1 i k1_t1 = 1#1), ∀ a, (k1_off4 v39 v62) a + S16.size a ≤ S2064.size a)
theorem k1_off4_inb : ∀ (i : grid1.Coords) (k1_t1 : Fin k1_t1_loop.trips) (v39 : BitVec 32) (v62 : BitVec 32) (k1_hw12 : k1_chk12 i k1_t1 v39 v62), ∀ (k1_h1 : k1_cond1 i k1_t1 = 1#1), ∀ a, (k1_off4 v39 v62) a + S16.size a ≤ S2064.size a := fun i k1_t1 v39 v62 k1_hw12 k1_h1 => k1_hw12 k1_h1

@[reducible] def k1_t3_loop : Scf.Loop 32 :=
  let c0_i32_33 : BitVec 32 := 0#32
  let c50_i32 : BitVec 32 := 50#32
  let v86 : BitVec 32 := Scalar.addi c0_i32_33 c50_i32
  let c1_i32_34 : BitVec 32 := 1#32
  ⟨c0_i32_33, v86, c1_i32_34⟩
@[reducible] def k1_t4_loop (v39 : BitVec 32) (v62 : BitVec 32) : Scf.Loop 32 :=
  let c0_i32_44 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v101 : BitVec 32 := Scalar.subi v85 c0_i32_44
  let c1_i32_45 : BitVec 32 := 1#32
  let v103 : BitVec 32 := Scalar.divsi v101 c1_i32_45
  let v104 : BitVec 32 := Scalar.muli v103 c1_i32_45
  let v105 : BitVec 32 := Scalar.addi c0_i32_44 v104
  let c1_i32_46 : BitVec 32 := 1#32
  ⟨c0_i32_44, v105, c1_i32_46⟩
def k1_cond3 (arg21 : BitVec 32) : BitVec 1 :=
  let c50_i32_41 : BitVec 32 := 50#32
  let v96 : BitVec 1 := Scalar.cmpi .slt arg21 c50_i32_41
  let v97 : BitVec 32 := Scalar.extui v96
  let c0_i32_42 : BitVec 32 := 0#32
  let v98 : BitVec 1 := Scalar.cmpi .ne v97 c0_i32_42
  v98

def k1_off5 (v39 : BitVec 32) (v62 : BitVec 32) (k1_t4 : Fin (k1_t4_loop v39 v62).trips) : Fin 1 → Nat :=
  let c0_i32_44 : BitVec 32 := 0#32
  let c1_i32_46 : BitVec 32 := 1#32
  let arg22 : BitVec 32 := Scf.iv c0_i32_44 c1_i32_46 k1_t4
  let c16_i32_52 : BitVec 32 := 16#32
  let v178 : BitVec 32 := Scalar.muli arg22 c16_i32_52
  let v179 : Index := Scalar.indexCast v178
  ![v179.toNat]
@[reducible] def k1_t5_loop (v39 : BitVec 32) (v62 : BitVec 32) : Scf.Loop 32 :=
  let c0_i32_44 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v101 : BitVec 32 := Scalar.subi v85 c0_i32_44
  let c1_i32_45 : BitVec 32 := 1#32
  let v103 : BitVec 32 := Scalar.divsi v101 c1_i32_45
  let v104 : BitVec 32 := Scalar.muli v103 c1_i32_45
  let v105 : BitVec 32 := Scalar.addi c0_i32_44 v104
  let v102 : BitVec 32 := Scalar.addi c0_i32_44 v101
  let c1_i32_47 : BitVec 32 := 1#32
  ⟨v105, v102, c1_i32_47⟩
def k1_off6 (v39 : BitVec 32) (v62 : BitVec 32) (k1_t5 : Fin (k1_t5_loop v39 v62).trips) : Fin 1 → Nat :=
  let c0_i32_44 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v101 : BitVec 32 := Scalar.subi v85 c0_i32_44
  let c1_i32_45 : BitVec 32 := 1#32
  let v103 : BitVec 32 := Scalar.divsi v101 c1_i32_45
  let v104 : BitVec 32 := Scalar.muli v103 c1_i32_45
  let v105 : BitVec 32 := Scalar.addi c0_i32_44 v104
  let c1_i32_47 : BitVec 32 := 1#32
  let arg22 : BitVec 32 := Scf.iv v105 c1_i32_47 k1_t5
  let c16_i32_52 : BitVec 32 := 16#32
  let v178 : BitVec 32 := Scalar.muli arg22 c16_i32_52
  let v179 : Index := Scalar.indexCast v178
  ![v179.toNat]
@[reducible] def k1_t6_loop (v39 : BitVec 32) (v62 : BitVec 32) : Scf.Loop 32 :=
  let c0_i32_48 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v171 : BitVec 32 := Scalar.subi v85 c0_i32_48
  let c1_i32_49 : BitVec 32 := 1#32
  let v173 : BitVec 32 := Scalar.divsi v171 c1_i32_49
  let v174 : BitVec 32 := Scalar.muli v173 c1_i32_49
  let v175 : BitVec 32 := Scalar.addi c0_i32_48 v174
  let c1_i32_50 : BitVec 32 := 1#32
  ⟨c0_i32_48, v175, c1_i32_50⟩
def k1_off7 (v39 : BitVec 32) (v62 : BitVec 32) (k1_t6 : Fin (k1_t6_loop v39 v62).trips) : Fin 1 → Nat :=
  let c0_i32_48 : BitVec 32 := 0#32
  let c1_i32_50 : BitVec 32 := 1#32
  let arg22 : BitVec 32 := Scf.iv c0_i32_48 c1_i32_50 k1_t6
  let c16_i32_52 : BitVec 32 := 16#32
  let v178 : BitVec 32 := Scalar.muli arg22 c16_i32_52
  let v179 : Index := Scalar.indexCast v178
  ![v179.toNat]

def k1_chk14 (i : grid1.Coords) (k1_t1 : Fin k1_t1_loop.trips) (arg21 : BitVec 32) (v188 : IVec S16 32) : Prop :=
  (∀ (k1_h1 : k1_cond1 i k1_t1 = 1#1), ∀ (k1_h3 : k1_cond3 arg21 = 1#1), ∀ a x, ((![v188] : Fin 1 → IVec S16 32) a x).toNat < S2064.size a)
theorem k1_idx12_inb : ∀ (i : grid1.Coords) (k1_t1 : Fin k1_t1_loop.trips) (arg21 : BitVec 32) (v188 : IVec S16 32) (k1_hw14 : k1_chk14 i k1_t1 arg21 v188), ∀ (k1_h1 : k1_cond1 i k1_t1 = 1#1), ∀ (k1_h3 : k1_cond3 arg21 = 1#1), ∀ a x, ((![v188] : Fin 1 → IVec S16 32) a x).toNat < S2064.size a := fun i k1_t1 arg21 v188 k1_hw14 k1_h1 k1_h3 => k1_hw14 k1_h1 k1_h3
def k1_off8 (v39 : BitVec 32) (v62 : BitVec 32) (k1_t6 : Fin (k1_t6_loop v39 v62).trips) : Fin 1 → Nat :=
  let c0_i32_48 : BitVec 32 := 0#32
  let c1_i32_50 : BitVec 32 := 1#32
  let arg22 : BitVec 32 := Scf.iv c0_i32_48 c1_i32_50 k1_t6
  let c16_i32_55 : BitVec 32 := 16#32
  let v189 : BitVec 32 := Scalar.muli arg22 c16_i32_55
  let v190 : Index := Scalar.indexCast v189
  ![v190.toNat]

def k1_chk15 (i : grid1.Coords) (k1_t1 : Fin k1_t1_loop.trips) (arg21 : BitVec 32) (v198 : IVec S16 32) : Prop :=
  (∀ (k1_h1 : k1_cond1 i k1_t1 = 1#1), ∀ (k1_h3 : k1_cond3 arg21 = 1#1), ∀ a x, ((![v198] : Fin 1 → IVec S16 32) a x).toNat < S2064.size a)
theorem k1_idx13_inb : ∀ (i : grid1.Coords) (k1_t1 : Fin k1_t1_loop.trips) (arg21 : BitVec 32) (v198 : IVec S16 32) (k1_hw15 : k1_chk15 i k1_t1 arg21 v198), ∀ (k1_h1 : k1_cond1 i k1_t1 = 1#1), ∀ (k1_h3 : k1_cond3 arg21 = 1#1), ∀ a x, ((![v198] : Fin 1 → IVec S16 32) a x).toNat < S2064.size a := fun i k1_t1 arg21 v198 k1_hw15 k1_h1 k1_h3 => k1_hw15 k1_h1 k1_h3
def k1_off9 (v39 : BitVec 32) (v62 : BitVec 32) (k1_t6 : Fin (k1_t6_loop v39 v62).trips) : Fin 1 → Nat :=
  let c0_i32_48 : BitVec 32 := 0#32
  let c1_i32_50 : BitVec 32 := 1#32
  let arg22 : BitVec 32 := Scf.iv c0_i32_48 c1_i32_50 k1_t6
  let c16_i32_59 : BitVec 32 := 16#32
  let v201 : BitVec 32 := Scalar.muli arg22 c16_i32_59
  let v202 : Index := Scalar.indexCast v201
  ![v202.toNat]
@[reducible] def k1_t7_loop (v39 : BitVec 32) (v62 : BitVec 32) : Scf.Loop 32 :=
  let c0_i32_48 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v171 : BitVec 32 := Scalar.subi v85 c0_i32_48
  let c1_i32_49 : BitVec 32 := 1#32
  let v173 : BitVec 32 := Scalar.divsi v171 c1_i32_49
  let v174 : BitVec 32 := Scalar.muli v173 c1_i32_49
  let v175 : BitVec 32 := Scalar.addi c0_i32_48 v174
  let v172 : BitVec 32 := Scalar.addi c0_i32_48 v171
  let c1_i32_51 : BitVec 32 := 1#32
  ⟨v175, v172, c1_i32_51⟩
def k1_off10 (v39 : BitVec 32) (v62 : BitVec 32) (k1_t7 : Fin (k1_t7_loop v39 v62).trips) : Fin 1 → Nat :=
  let c0_i32_48 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v171 : BitVec 32 := Scalar.subi v85 c0_i32_48
  let c1_i32_49 : BitVec 32 := 1#32
  let v173 : BitVec 32 := Scalar.divsi v171 c1_i32_49
  let v174 : BitVec 32 := Scalar.muli v173 c1_i32_49
  let v175 : BitVec 32 := Scalar.addi c0_i32_48 v174
  let c1_i32_51 : BitVec 32 := 1#32
  let arg22 : BitVec 32 := Scf.iv v175 c1_i32_51 k1_t7
  let c16_i32_52 : BitVec 32 := 16#32
  let v178 : BitVec 32 := Scalar.muli arg22 c16_i32_52
  let v179 : Index := Scalar.indexCast v178
  ![v179.toNat]

def k1_chk16 (i : grid1.Coords) (k1_t1 : Fin k1_t1_loop.trips) (arg21 : BitVec 32) (v188 : IVec S16 32) : Prop :=
  (∀ (k1_h1 : k1_cond1 i k1_t1 = 1#1), ∀ (k1_h3 : k1_cond3 arg21 = 1#1), ∀ a x, ((![v188] : Fin 1 → IVec S16 32) a x).toNat < S2064.size a)
theorem k1_idx14_inb : ∀ (i : grid1.Coords) (k1_t1 : Fin k1_t1_loop.trips) (arg21 : BitVec 32) (v188 : IVec S16 32) (k1_hw16 : k1_chk16 i k1_t1 arg21 v188), ∀ (k1_h1 : k1_cond1 i k1_t1 = 1#1), ∀ (k1_h3 : k1_cond3 arg21 = 1#1), ∀ a x, ((![v188] : Fin 1 → IVec S16 32) a x).toNat < S2064.size a := fun i k1_t1 arg21 v188 k1_hw16 k1_h1 k1_h3 => k1_hw16 k1_h1 k1_h3
def k1_off11 (v39 : BitVec 32) (v62 : BitVec 32) (k1_t7 : Fin (k1_t7_loop v39 v62).trips) : Fin 1 → Nat :=
  let c0_i32_48 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v171 : BitVec 32 := Scalar.subi v85 c0_i32_48
  let c1_i32_49 : BitVec 32 := 1#32
  let v173 : BitVec 32 := Scalar.divsi v171 c1_i32_49
  let v174 : BitVec 32 := Scalar.muli v173 c1_i32_49
  let v175 : BitVec 32 := Scalar.addi c0_i32_48 v174
  let c1_i32_51 : BitVec 32 := 1#32
  let arg22 : BitVec 32 := Scf.iv v175 c1_i32_51 k1_t7
  let c16_i32_55 : BitVec 32 := 16#32
  let v189 : BitVec 32 := Scalar.muli arg22 c16_i32_55
  let v190 : Index := Scalar.indexCast v189
  ![v190.toNat]

def k1_chk17 (i : grid1.Coords) (k1_t1 : Fin k1_t1_loop.trips) (arg21 : BitVec 32) (v198 : IVec S16 32) : Prop :=
  (∀ (k1_h1 : k1_cond1 i k1_t1 = 1#1), ∀ (k1_h3 : k1_cond3 arg21 = 1#1), ∀ a x, ((![v198] : Fin 1 → IVec S16 32) a x).toNat < S2064.size a)
theorem k1_idx15_inb : ∀ (i : grid1.Coords) (k1_t1 : Fin k1_t1_loop.trips) (arg21 : BitVec 32) (v198 : IVec S16 32) (k1_hw17 : k1_chk17 i k1_t1 arg21 v198), ∀ (k1_h1 : k1_cond1 i k1_t1 = 1#1), ∀ (k1_h3 : k1_cond3 arg21 = 1#1), ∀ a x, ((![v198] : Fin 1 → IVec S16 32) a x).toNat < S2064.size a := fun i k1_t1 arg21 v198 k1_hw17 k1_h1 k1_h3 => k1_hw17 k1_h1 k1_h3
def k1_off12 (v39 : BitVec 32) (v62 : BitVec 32) (k1_t7 : Fin (k1_t7_loop v39 v62).trips) : Fin 1 → Nat :=
  let c0_i32_48 : BitVec 32 := 0#32
  let v63 : BitVec 32 := Scalar.addi v39 v62
  let c2048_i32_23 : BitVec 32 := 2048#32
  let v64 : BitVec 32 := Scalar.minsi v63 c2048_i32_23
  let c0_i32_25 : BitVec 32 := 0#32
  let v69 : BitVec 1 := Scalar.cmpi .sgt v64 c0_i32_25
  let v70 : BitVec 32 := Scalar.extui v69
  let c0_i32_26 : BitVec 32 := 0#32
  let v71 : BitVec 1 := Scalar.cmpi .slt v64 c0_i32_26
  let v72 : BitVec 32 := Scalar.extui v71
  let v73 : BitVec 32 := Scalar.subi v70 v72
  let c16_i32_24 : BitVec 32 := 16#32
  let c0_i32_27 : BitVec 32 := 0#32
  let v74 : BitVec 1 := Scalar.cmpi .sgt c16_i32_24 c0_i32_27
  let v75 : BitVec 32 := Scalar.extui v74
  let c0_i32_28 : BitVec 32 := 0#32
  let v76 : BitVec 1 := Scalar.cmpi .slt c16_i32_24 c0_i32_28
  let v77 : BitVec 32 := Scalar.extui v76
  let v78 : BitVec 32 := Scalar.subi v75 v77
  let v79 : BitVec 1 := Scalar.cmpi .ne v73 v78
  let v80 : BitVec 32 := Scalar.remsi v64 c16_i32_24
  let c0_i32_29 : BitVec 32 := 0#32
  let v81 : BitVec 1 := Scalar.cmpi .ne v80 c0_i32_29
  let v82 : BitVec 1 := Scalar.andi v79 v81
  let v68 : BitVec 32 := Scalar.divsi v64 c16_i32_24
  let c1_i32_30 : BitVec 32 := 1#32
  let v83 : BitVec 32 := Scalar.subi v68 c1_i32_30
  let v84 : BitVec 32 := Scalar.select v82 v83 v68
  let c1_i32_31 : BitVec 32 := 1#32
  let v85 : BitVec 32 := Scalar.addi v84 c1_i32_31
  let v171 : BitVec 32 := Scalar.subi v85 c0_i32_48
  let c1_i32_49 : BitVec 32 := 1#32
  let v173 : BitVec 32 := Scalar.divsi v171 c1_i32_49
  let v174 : BitVec 32 := Scalar.muli v173 c1_i32_49
  let v175 : BitVec 32 := Scalar.addi c0_i32_48 v174
  let c1_i32_51 : BitVec 32 := 1#32
  let arg22 : BitVec 32 := Scf.iv v175 c1_i32_51 k1_t7
  let c16_i32_59 : BitVec 32 := 16#32
  let v201 : BitVec 32 := Scalar.muli arg22 c16_i32_59
  let v202 : Index := Scalar.indexCast v201
  ![v202.toNat]

def k1_chk13 (i : grid1.Coords) (k1_t1 : Fin k1_t1_loop.trips) (v39 : BitVec 32) (v62 : BitVec 32) (arg21 : BitVec 32) : Prop :=
  (∀ (k1_h1 : k1_cond1 i k1_t1 = 1#1), ∀ (k1_h3 : k1_cond3 arg21 = 1#1), (k1_t4_loop v39 v62).OK) ∧
  (∀ k1_t4 : Fin (k1_t4_loop v39 v62).trips, ∀ (k1_h1 : k1_cond1 i k1_t1 = 1#1), ∀ (k1_h3 : k1_cond3 arg21 = 1#1), ∀ a, (k1_off5 v39 v62 k1_t4) a + S16.size a ≤ S2064.size a) ∧
  (∀ (k1_h1 : k1_cond1 i k1_t1 = 1#1), ∀ (k1_h3 : k1_cond3 arg21 = 1#1), (k1_t5_loop v39 v62).OK) ∧
  (∀ k1_t5 : Fin (k1_t5_loop v39 v62).trips, ∀ (k1_h1 : k1_cond1 i k1_t1 = 1#1), ∀ (k1_h3 : k1_cond3 arg21 = 1#1), ∀ a, (k1_off6 v39 v62 k1_t5) a + S16.size a ≤ S2064.size a) ∧
  (∀ (k1_h1 : k1_cond1 i k1_t1 = 1#1), ∀ (k1_h3 : k1_cond3 arg21 = 1#1), (k1_t6_loop v39 v62).OK) ∧
  (∀ k1_t6 : Fin (k1_t6_loop v39 v62).trips, ∀ (k1_h1 : k1_cond1 i k1_t1 = 1#1), ∀ (k1_h3 : k1_cond3 arg21 = 1#1), ∀ a, (k1_off7 v39 v62 k1_t6) a + S16.size a ≤ S2064.size a) ∧
  (∀ k1_t6 : Fin (k1_t6_loop v39 v62).trips, ∀ (k1_h1 : k1_cond1 i k1_t1 = 1#1), ∀ (k1_h3 : k1_cond3 arg21 = 1#1), ∀ a, (k1_off8 v39 v62 k1_t6) a + S16.size a ≤ S2064.size a) ∧
  (∀ k1_t6 : Fin (k1_t6_loop v39 v62).trips, ∀ (k1_h1 : k1_cond1 i k1_t1 = 1#1), ∀ (k1_h3 : k1_cond3 arg21 = 1#1), ∀ a, (k1_off9 v39 v62 k1_t6) a + S16.size a ≤ S2064.size a) ∧
  (∀ (k1_h1 : k1_cond1 i k1_t1 = 1#1), ∀ (k1_h3 : k1_cond3 arg21 = 1#1), (k1_t7_loop v39 v62).OK) ∧
  (∀ k1_t7 : Fin (k1_t7_loop v39 v62).trips, ∀ (k1_h1 : k1_cond1 i k1_t1 = 1#1), ∀ (k1_h3 : k1_cond3 arg21 = 1#1), ∀ a, (k1_off10 v39 v62 k1_t7) a + S16.size a ≤ S2064.size a) ∧
  (∀ k1_t7 : Fin (k1_t7_loop v39 v62).trips, ∀ (k1_h1 : k1_cond1 i k1_t1 = 1#1), ∀ (k1_h3 : k1_cond3 arg21 = 1#1), ∀ a, (k1_off11 v39 v62 k1_t7) a + S16.size a ≤ S2064.size a) ∧
  (∀ k1_t7 : Fin (k1_t7_loop v39 v62).trips, ∀ (k1_h1 : k1_cond1 i k1_t1 = 1#1), ∀ (k1_h3 : k1_cond3 arg21 = 1#1), ∀ a, (k1_off12 v39 v62 k1_t7) a + S16.size a ≤ S2064.size a)
theorem k1_t4_ok : ∀ (i : grid1.Coords) (k1_t1 : Fin k1_t1_loop.trips) (v39 : BitVec 32) (v62 : BitVec 32) (arg21 : BitVec 32) (k1_hw13 : k1_chk13 i k1_t1 v39 v62 arg21), ∀ (k1_h1 : k1_cond1 i k1_t1 = 1#1), ∀ (k1_h3 : k1_cond3 arg21 = 1#1), (k1_t4_loop v39 v62).OK := fun i k1_t1 v39 v62 arg21 k1_hw13 k1_h1 k1_h3 => k1_hw13.1 k1_h1 k1_h3
theorem k1_off5_inb : ∀ (i : grid1.Coords) (k1_t1 : Fin k1_t1_loop.trips) (v39 : BitVec 32) (v62 : BitVec 32) (arg21 : BitVec 32) (k1_hw13 : k1_chk13 i k1_t1 v39 v62 arg21) (k1_t4 : Fin (k1_t4_loop v39 v62).trips), ∀ (k1_h1 : k1_cond1 i k1_t1 = 1#1), ∀ (k1_h3 : k1_cond3 arg21 = 1#1), ∀ a, (k1_off5 v39 v62 k1_t4) a + S16.size a ≤ S2064.size a := fun i k1_t1 v39 v62 arg21 k1_hw13 k1_t4 k1_h1 k1_h3 => k1_hw13.2.1 k1_t4 k1_h1 k1_h3
theorem k1_t5_ok : ∀ (i : grid1.Coords) (k1_t1 : Fin k1_t1_loop.trips) (v39 : BitVec 32) (v62 : BitVec 32) (arg21 : BitVec 32) (k1_hw13 : k1_chk13 i k1_t1 v39 v62 arg21), ∀ (k1_h1 : k1_cond1 i k1_t1 = 1#1), ∀ (k1_h3 : k1_cond3 arg21 = 1#1), (k1_t5_loop v39 v62).OK := fun i k1_t1 v39 v62 arg21 k1_hw13 k1_h1 k1_h3 => k1_hw13.2.2.1 k1_h1 k1_h3
theorem k1_off6_inb : ∀ (i : grid1.Coords) (k1_t1 : Fin k1_t1_loop.trips) (v39 : BitVec 32) (v62 : BitVec 32) (arg21 : BitVec 32) (k1_hw13 : k1_chk13 i k1_t1 v39 v62 arg21) (k1_t5 : Fin (k1_t5_loop v39 v62).trips), ∀ (k1_h1 : k1_cond1 i k1_t1 = 1#1), ∀ (k1_h3 : k1_cond3 arg21 = 1#1), ∀ a, (k1_off6 v39 v62 k1_t5) a + S16.size a ≤ S2064.size a := fun i k1_t1 v39 v62 arg21 k1_hw13 k1_t5 k1_h1 k1_h3 => k1_hw13.2.2.2.1 k1_t5 k1_h1 k1_h3
theorem k1_t6_ok : ∀ (i : grid1.Coords) (k1_t1 : Fin k1_t1_loop.trips) (v39 : BitVec 32) (v62 : BitVec 32) (arg21 : BitVec 32) (k1_hw13 : k1_chk13 i k1_t1 v39 v62 arg21), ∀ (k1_h1 : k1_cond1 i k1_t1 = 1#1), ∀ (k1_h3 : k1_cond3 arg21 = 1#1), (k1_t6_loop v39 v62).OK := fun i k1_t1 v39 v62 arg21 k1_hw13 k1_h1 k1_h3 => k1_hw13.2.2.2.2.1 k1_h1 k1_h3
theorem k1_off7_inb : ∀ (i : grid1.Coords) (k1_t1 : Fin k1_t1_loop.trips) (v39 : BitVec 32) (v62 : BitVec 32) (arg21 : BitVec 32) (k1_hw13 : k1_chk13 i k1_t1 v39 v62 arg21) (k1_t6 : Fin (k1_t6_loop v39 v62).trips), ∀ (k1_h1 : k1_cond1 i k1_t1 = 1#1), ∀ (k1_h3 : k1_cond3 arg21 = 1#1), ∀ a, (k1_off7 v39 v62 k1_t6) a + S16.size a ≤ S2064.size a := fun i k1_t1 v39 v62 arg21 k1_hw13 k1_t6 k1_h1 k1_h3 => k1_hw13.2.2.2.2.2.1 k1_t6 k1_h1 k1_h3
theorem k1_off8_inb : ∀ (i : grid1.Coords) (k1_t1 : Fin k1_t1_loop.trips) (v39 : BitVec 32) (v62 : BitVec 32) (arg21 : BitVec 32) (k1_hw13 : k1_chk13 i k1_t1 v39 v62 arg21) (k1_t6 : Fin (k1_t6_loop v39 v62).trips), ∀ (k1_h1 : k1_cond1 i k1_t1 = 1#1), ∀ (k1_h3 : k1_cond3 arg21 = 1#1), ∀ a, (k1_off8 v39 v62 k1_t6) a + S16.size a ≤ S2064.size a := fun i k1_t1 v39 v62 arg21 k1_hw13 k1_t6 k1_h1 k1_h3 => k1_hw13.2.2.2.2.2.2.1 k1_t6 k1_h1 k1_h3
theorem k1_off9_inb : ∀ (i : grid1.Coords) (k1_t1 : Fin k1_t1_loop.trips) (v39 : BitVec 32) (v62 : BitVec 32) (arg21 : BitVec 32) (k1_hw13 : k1_chk13 i k1_t1 v39 v62 arg21) (k1_t6 : Fin (k1_t6_loop v39 v62).trips), ∀ (k1_h1 : k1_cond1 i k1_t1 = 1#1), ∀ (k1_h3 : k1_cond3 arg21 = 1#1), ∀ a, (k1_off9 v39 v62 k1_t6) a + S16.size a ≤ S2064.size a := fun i k1_t1 v39 v62 arg21 k1_hw13 k1_t6 k1_h1 k1_h3 => k1_hw13.2.2.2.2.2.2.2.1 k1_t6 k1_h1 k1_h3
theorem k1_t7_ok : ∀ (i : grid1.Coords) (k1_t1 : Fin k1_t1_loop.trips) (v39 : BitVec 32) (v62 : BitVec 32) (arg21 : BitVec 32) (k1_hw13 : k1_chk13 i k1_t1 v39 v62 arg21), ∀ (k1_h1 : k1_cond1 i k1_t1 = 1#1), ∀ (k1_h3 : k1_cond3 arg21 = 1#1), (k1_t7_loop v39 v62).OK := fun i k1_t1 v39 v62 arg21 k1_hw13 k1_h1 k1_h3 => k1_hw13.2.2.2.2.2.2.2.2.1 k1_h1 k1_h3
theorem k1_off10_inb : ∀ (i : grid1.Coords) (k1_t1 : Fin k1_t1_loop.trips) (v39 : BitVec 32) (v62 : BitVec 32) (arg21 : BitVec 32) (k1_hw13 : k1_chk13 i k1_t1 v39 v62 arg21) (k1_t7 : Fin (k1_t7_loop v39 v62).trips), ∀ (k1_h1 : k1_cond1 i k1_t1 = 1#1), ∀ (k1_h3 : k1_cond3 arg21 = 1#1), ∀ a, (k1_off10 v39 v62 k1_t7) a + S16.size a ≤ S2064.size a := fun i k1_t1 v39 v62 arg21 k1_hw13 k1_t7 k1_h1 k1_h3 => k1_hw13.2.2.2.2.2.2.2.2.2.1 k1_t7 k1_h1 k1_h3
theorem k1_off11_inb : ∀ (i : grid1.Coords) (k1_t1 : Fin k1_t1_loop.trips) (v39 : BitVec 32) (v62 : BitVec 32) (arg21 : BitVec 32) (k1_hw13 : k1_chk13 i k1_t1 v39 v62 arg21) (k1_t7 : Fin (k1_t7_loop v39 v62).trips), ∀ (k1_h1 : k1_cond1 i k1_t1 = 1#1), ∀ (k1_h3 : k1_cond3 arg21 = 1#1), ∀ a, (k1_off11 v39 v62 k1_t7) a + S16.size a ≤ S2064.size a := fun i k1_t1 v39 v62 arg21 k1_hw13 k1_t7 k1_h1 k1_h3 => k1_hw13.2.2.2.2.2.2.2.2.2.2.1 k1_t7 k1_h1 k1_h3
theorem k1_off12_inb : ∀ (i : grid1.Coords) (k1_t1 : Fin k1_t1_loop.trips) (v39 : BitVec 32) (v62 : BitVec 32) (arg21 : BitVec 32) (k1_hw13 : k1_chk13 i k1_t1 v39 v62 arg21) (k1_t7 : Fin (k1_t7_loop v39 v62).trips), ∀ (k1_h1 : k1_cond1 i k1_t1 = 1#1), ∀ (k1_h3 : k1_cond3 arg21 = 1#1), ∀ a, (k1_off12 v39 v62 k1_t7) a + S16.size a ≤ S2064.size a := fun i k1_t1 v39 v62 arg21 k1_hw13 k1_t7 k1_h1 k1_h3 => k1_hw13.2.2.2.2.2.2.2.2.2.2.2 k1_t7 k1_h1 k1_h3

def k1_chk18 (i : grid1.Coords) (k1_t1 : Fin k1_t1_loop.trips) (v88 : IVec S16 32) : Prop :=
  (∀ (k1_h1 : k1_cond1 i k1_t1 = 1#1), ∀ a x, ((![v88] : Fin 1 → IVec S16 32) a x).toNat < S10000.size a) ∧
  (∀ (k1_h1 : k1_cond1 i k1_t1 = 1#1), ∀ a x, ((![v88] : Fin 1 → IVec S16 32) a x).toNat < S10000.size a) ∧
  (∀ (k1_h1 : k1_cond1 i k1_t1 = 1#1), ∀ a x, ((![v88] : Fin 1 → IVec S16 32) a x).toNat < S10000.size a)
theorem k1_idx16_inb : ∀ (i : grid1.Coords) (k1_t1 : Fin k1_t1_loop.trips) (v88 : IVec S16 32) (k1_hw18 : k1_chk18 i k1_t1 v88), ∀ (k1_h1 : k1_cond1 i k1_t1 = 1#1), ∀ a x, ((![v88] : Fin 1 → IVec S16 32) a x).toNat < S10000.size a := fun i k1_t1 v88 k1_hw18 k1_h1 => k1_hw18.1 k1_h1
theorem k1_idx17_inb : ∀ (i : grid1.Coords) (k1_t1 : Fin k1_t1_loop.trips) (v88 : IVec S16 32) (k1_hw18 : k1_chk18 i k1_t1 v88), ∀ (k1_h1 : k1_cond1 i k1_t1 = 1#1), ∀ a x, ((![v88] : Fin 1 → IVec S16 32) a x).toNat < S10000.size a := fun i k1_t1 v88 k1_hw18 k1_h1 => k1_hw18.2.1 k1_h1
theorem k1_idx18_inb : ∀ (i : grid1.Coords) (k1_t1 : Fin k1_t1_loop.trips) (v88 : IVec S16 32) (k1_hw18 : k1_chk18 i k1_t1 v88), ∀ (k1_h1 : k1_cond1 i k1_t1 = 1#1), ∀ a x, ((![v88] : Fin 1 → IVec S16 32) a x).toNat < S10000.size a := fun i k1_t1 v88 k1_hw18 k1_h1 => k1_hw18.2.2 k1_h1
@[reducible] def k1_t8_loop : Scf.Loop 32 :=
  let c0_i32_37 : BitVec 32 := 0#32
  let c4_i32 : BitVec 32 := 4#32
  let v92 : BitVec 32 := Scalar.addi c0_i32_37 c4_i32
  let c1_i32_38 : BitVec 32 := 1#32
  ⟨c0_i32_37, v92, c1_i32_38⟩
def k1_off13 (k1_t8 : Fin k1_t8_loop.trips) : Fin 1 → Nat :=
  let c0_i32_37 : BitVec 32 := 0#32
  let c1_i32_38 : BitVec 32 := 1#32
  let arg20 : BitVec 32 := Scf.iv c0_i32_37 c1_i32_38 k1_t8
  let c16_i32_41 : BitVec 32 := 16#32
  let v96 : BitVec 32 := Scalar.muli arg20 c16_i32_41
  let v97 : Index := Scalar.indexCast v96
  ![v97.toNat]

def k1_chk19 (i : grid1.Coords) (k1_t1 : Fin k1_t1_loop.trips) (v102 : IVec S16 32) : Prop :=
  (∀ (k1_h1 : k1_cond1 i k1_t1 = 1#1), ∀ a x, ((![v102] : Fin 1 → IVec S16 32) a x).toNat < S10000.size a) ∧
  (∀ (k1_h1 : k1_cond1 i k1_t1 = 1#1), ∀ a x, ((![v102] : Fin 1 → IVec S16 32) a x).toNat < S10000.size a) ∧
  (∀ (k1_h1 : k1_cond1 i k1_t1 = 1#1), ∀ a x, ((![v102] : Fin 1 → IVec S16 32) a x).toNat < S10000.size a)
theorem k1_idx19_inb : ∀ (i : grid1.Coords) (k1_t1 : Fin k1_t1_loop.trips) (v102 : IVec S16 32) (k1_hw19 : k1_chk19 i k1_t1 v102), ∀ (k1_h1 : k1_cond1 i k1_t1 = 1#1), ∀ a x, ((![v102] : Fin 1 → IVec S16 32) a x).toNat < S10000.size a := fun i k1_t1 v102 k1_hw19 k1_h1 => k1_hw19.1 k1_h1
theorem k1_idx20_inb : ∀ (i : grid1.Coords) (k1_t1 : Fin k1_t1_loop.trips) (v102 : IVec S16 32) (k1_hw19 : k1_chk19 i k1_t1 v102), ∀ (k1_h1 : k1_cond1 i k1_t1 = 1#1), ∀ a x, ((![v102] : Fin 1 → IVec S16 32) a x).toNat < S10000.size a := fun i k1_t1 v102 k1_hw19 k1_h1 => k1_hw19.2.1 k1_h1
theorem k1_idx21_inb : ∀ (i : grid1.Coords) (k1_t1 : Fin k1_t1_loop.trips) (v102 : IVec S16 32) (k1_hw19 : k1_chk19 i k1_t1 v102), ∀ (k1_h1 : k1_cond1 i k1_t1 = 1#1), ∀ a x, ((![v102] : Fin 1 → IVec S16 32) a x).toNat < S10000.size a := fun i k1_t1 v102 k1_hw19 k1_h1 => k1_hw19.2.2 k1_h1
def k1_off14 (k1_t8 : Fin k1_t8_loop.trips) : Fin 1 → Nat :=
  let c0_i32_37 : BitVec 32 := 0#32
  let c1_i32_38 : BitVec 32 := 1#32
  let arg20 : BitVec 32 := Scf.iv c0_i32_37 c1_i32_38 k1_t8
  let c16_i32_43 : BitVec 32 := 16#32
  let v114 : BitVec 32 := Scalar.muli arg20 c16_i32_43
  let v115 : Index := Scalar.indexCast v114
  ![v115.toNat]
def k1_off15 (i : grid1.Coords) (k1_t1 : Fin k1_t1_loop.trips) : Fin 1 → Nat :=
  let c313_i32 : BitVec 32 := 313#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c313_i32 v1
  let c16_i32 : BitVec 32 := 16#32
  let v3 : BitVec 32 := Scalar.subi v1 c16_i32
  let c0_i32 : BitVec 32 := 0#32
  let v4 : BitVec 32 := Scalar.maxsi v3 c0_i32
  let v5 : BitVec 32 := Scalar.subi v2 v4
  let c0_i32_9 : BitVec 32 := 0#32
  let c1_i32_11 : BitVec 32 := 1#32
  let arg18 : BitVec 32 := Scf.iv c0_i32_9 c1_i32_11 k1_t1
  let v33 : BitVec 32 := Scalar.addi v5 arg18
  let c64_i32 : BitVec 32 := 64#32
  let v94 : BitVec 32 := Scalar.muli v33 c64_i32
  ![v94.toNat]
abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x50 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S200x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S20000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20000x5 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x50 : Shape := ⟨2, ![10000, 50]⟩
abbrev S500000 : Shape := ⟨1, ![500000]⟩
abbrev S1x500000 : Shape := ⟨2, ![1, 500000]⟩
abbrev S2x500000 : Shape := ⟨2, ![2, 500000]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x3 : Shape := ⟨2, ![1000000, 3]⟩
abbrev S4 : Shape := ⟨1, ![4]⟩
abbrev S1 : Shape := ⟨1, ![1]⟩
abbrev S5 : Shape := ⟨1, ![5]⟩
abbrev S1x5 : Shape := ⟨2, ![1, 5]⟩
abbrev S1000000x5 : Shape := ⟨2, ![1000000, 5]⟩

abbrev nBuf : Space → Nat
  | .hbm => 114
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S10000x3, .f32⟩
  | .hbm, ⟨2, _⟩ => ⟨S_, .f32⟩
  | .hbm, ⟨3, _⟩ => ⟨S10000, .f32⟩
  | .hbm, ⟨4, _⟩ => ⟨S10000x1, .f32⟩
  | .hbm, ⟨5, _⟩ => ⟨S1x10000, .f32⟩
  | .hbm, ⟨6, _⟩ => ⟨S10000x10000, .f32⟩
  | .hbm, ⟨7, _⟩ => ⟨S10000x10000, .f32⟩
  | .hbm, ⟨8, _⟩ => ⟨S10000x10000, .f32⟩
  | .hbm, ⟨9, _⟩ => ⟨S3x10000, .f32⟩
  | .hbm, ⟨10, _⟩ => ⟨S10000x10000, .f32⟩
  | .hbm, ⟨11, _⟩ => ⟨S_, .f32⟩
  | .hbm, ⟨12, _⟩ => ⟨S10000x10000, .f32⟩
  | .hbm, ⟨13, _⟩ => ⟨S10000x10000, .f32⟩
  | .hbm, ⟨14, _⟩ => ⟨S10000x10000, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S10000x10000, .i32⟩
  | .hbm, ⟨19, _⟩ => ⟨S10000x10000, .i32⟩
  | .hbm, ⟨20, _⟩ => ⟨S_, .i32⟩
  | .hbm, ⟨21, _⟩ => ⟨S10000x10000, .i32⟩
  | .hbm, ⟨22, _⟩ => ⟨S10000x10000, .i32⟩
  | .hbm, ⟨23, _⟩ => ⟨S10000x10000, .i1⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .f32⟩
  | .hbm, ⟨28, _⟩ => ⟨S10000x10000, .f32⟩
  | .hbm, ⟨29, _⟩ => ⟨S10000x10000, .f32⟩
  | .hbm, ⟨30, _⟩ => ⟨S10000x50, .f32⟩
  | .hbm, ⟨31, _⟩ => ⟨S10000x50, .i32⟩
  | .hbm, ⟨32, _⟩ => ⟨S10000, .i32⟩
  | .hbm, ⟨33, _⟩ => ⟨S10000x50, .i32⟩
  | .hbm, ⟨34, _⟩ => ⟨S500000, .i32⟩
  | .hbm, ⟨35, _⟩ => ⟨S500000, .i32⟩
  | .hbm, ⟨36, _⟩ => ⟨S1x500000, .i32⟩
  | .hbm, ⟨37, _⟩ => ⟨S1x500000, .i32⟩
  | .hbm, ⟨38, _⟩ => ⟨S2x500000, .i32⟩
  | .hbm, ⟨39, _⟩ => ⟨S2x500000, .i32⟩
  | .hbm, ⟨40, _⟩ => ⟨S2x1000000, .i32⟩
  | .hbm, ⟨41, _⟩ => ⟨S1x1000000, .i32⟩
  | .hbm, ⟨42, _⟩ => ⟨S1000000, .i32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x3, .f32⟩
  | .hbm, ⟨52, _⟩ => ⟨S1x1000000, .i32⟩
  | .hbm, ⟨53, _⟩ => ⟨S1000000, .i32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x3, .f32⟩
  | .hbm, ⟨63, _⟩ => ⟨S1000000x3, .f32⟩
  | .hbm, ⟨64, _⟩ => ⟨S1000000x3, .f32⟩
  | .hbm, ⟨65, _⟩ => ⟨S_, .f32⟩
  | .hbm, ⟨66, _⟩ => ⟨S1000000, .f32⟩
  | .hbm, ⟨67, _⟩ => ⟨S_, .f32⟩
  | .hbm, ⟨68, _⟩ => ⟨S1000000, .f32⟩
  | .hbm, ⟨69, _⟩ => ⟨S1000000, .f32⟩
  | .hbm, ⟨70, _⟩ => ⟨S1000000, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S1, .f32⟩
  | .hbm, ⟨83, _⟩ => ⟨S_, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S1, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S1, .f32⟩
  | .hbm, ⟨93, _⟩ => ⟨S5, .f32⟩
  | .hbm, ⟨94, _⟩ => ⟨S1, .f32⟩
  | .hbm, ⟨95, _⟩ => ⟨S_, .f32⟩
  | .hbm, ⟨96, _⟩ => ⟨S1, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S1000000x1, .f32⟩
  | .hbm, ⟨102, _⟩ => ⟨S1x5, .f32⟩
  | .hbm, ⟨103, _⟩ => ⟨S1000000x5, .f32⟩
  | .hbm, ⟨104, _⟩ => ⟨S1000000x5, .f32⟩
  | .hbm, ⟨105, _⟩ => ⟨S1000000x5, .f32⟩
  | .hbm, ⟨106, _⟩ => ⟨S1000000x5, .f32⟩
  | .hbm, ⟨107, _⟩ => ⟨S1000000x5, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S1000000x5, .f32⟩
  | .hbm, ⟨112, _⟩ => ⟨S1000000x5, .f32⟩
  | .hbm, ⟨113, _⟩ => ⟨S1000000x5, .f32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_values : Ref sig .tc := ⟨.hbm, 30, rfl⟩
abbrev main_indices : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_cst_10 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_cst_1 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_v12 : Ref sig .tc := ⟨.hbm, 89, rfl⟩
abbrev main_call0_v13 : Ref sig .tc := ⟨.hbm, 90, rfl⟩
abbrev main_call0_v14 : Ref sig .tc := ⟨.hbm, 91, rfl⟩
abbrev main_call0_v15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_12 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Proof.Own.lean ====
/-
  Contents of rank-one buffers as functions of a position. `own c m q g` says the thread `c` holds the elements of the
  memref `m` at share `q`, and that reading through `m` gives `g` at each position; the loads, the stores, the indexed
  loads and the indexed stores of a vector subcore are restated over it.
-/
module

public import Idealize.ShloMosaic.Lib.SparseCore
public import Idealize.ShloMosaic.Lib.SparseCore.Ops
public import Idealize.ShloMosaic.Lib.Transfers
public import Idealize.ShloMosaic.Lib.Tactic

@[expose] public section

noncomputable section

namespace Cert.Proof.Knn

open Idealize.ShloMosaic Idealize.ShloMosaic.SparseCore
open Idealize.SL Idealize.SL.RA
open Idealize.SL.BI (sProp)
open scoped Idealize.SL.BI
open Idealize.SL.BI.BIBase Idealize.SL.BI.Laws Idealize.SL.Sem Idealize.SL.ProofMode

/-- The rank-one shape of `n` elements. -/
abbrev Sh (n : ℕ) : Shape := ⟨1, ![n]⟩

/-- Contents after the list `l` is written from position `o` on. -/
def place {α : Type} (g : ℕ → α) (o : ℕ) (l : List α) : ℕ → α := fun p => if o ≤ p then (l[p - o]?).getD (g p) else g p

theorem place_nil {α : Type} (g : ℕ → α) (o : ℕ) : place g o [] = g := by
  funext p; simp [place]

theorem place_cons {α : Type} (g : ℕ → α) (o : ℕ) (a : α) (l : List α) :
    place g o (a :: l) = place (fun p => if p = o then a else g p) (o + 1) l := by
  funext p
  unfold place
  rcases Nat.lt_trichotomy p o with h | h | h
  · have h1 : ¬o ≤ p := by omega
    have h2 : ¬o + 1 ≤ p := by omega
    have h3 : ¬p = o := by omega
    simp only [h1, h2, h3, if_false]
  · subst h; simp
  · have h1 : o ≤ p := by omega
    have h2 : o + 1 ≤ p := by omega
    have h3 : ¬p = o := by omega
    simp only [h1, h2, h3, if_true, if_false]
    rw [show p - o = (p - (o + 1)) + 1 by omega]; simp

theorem place_place {α : Type} (g : ℕ → α) (o : ℕ) (l l' : List α) : place (place g o l) (o + l.length) l' = place g o (l ++ l') := by
  induction l generalizing g o with
  | nil => simp [place_nil]
  | cons a l ih => rw [place_cons, List.cons_append, place_cons, ← ih, List.length_cons, Nat.add_assoc, Nat.add_comm 1]

theorem place_lt {α : Type} (g : ℕ → α) (l : List α) (p : ℕ) (h : p < l.length) : place g 0 l p = l[p] := by
  simp [place, List.getElem?_eq_getElem h]

theorem place_ge {α : Type} (g : ℕ → α) (l : List α) (p : ℕ) (h : l.length ≤ p) : place g 0 l p = g p := by
  simp [place, List.getElem?_eq_none h]

/-- How many of the first `n` lanes are set. -/
def cnt (m : ℕ → Bool) : ℕ → ℕ
  | 0 => 0
  | n + 1 => cnt m n + if m n then 1 else 0

theorem cnt_eq (m : ℕ → Bool) (n : ℕ) : cnt m n = ((List.range n).filter m).length := by
  induction n with
  | zero => rfl
  | succ n ih => rw [List.range_succ, List.filter_append, List.length_append, ← ih, cnt]; by_cases h : m n <;> simp [h]

theorem cnt_le (m : ℕ → Bool) (n : ℕ) : cnt m n ≤ n := by
  induction n with
  | zero => exact le_refl _
  | succ n ih => rw [cnt]; split <;> omega

/-- Lanes stored at the running count of the set lanes write the set lanes' values one after another. -/
theorem foldl_place {α : Type} (g : ℕ → α) (o : ℕ) (m : ℕ → Bool) (v : ℕ → α) (n : ℕ) :
    (List.range n).foldl (fun g k => if m k then (fun p => if p = o + cnt m k then v k else g p) else g) g
      = place g o (((List.range n).filter m).map v) := by
  induction n with
  | zero => simp [place_nil]
  | succ n ih =>
    rw [List.range_succ, List.foldl_append, ih, List.filter_append, List.map_append, ← place_place, List.length_map, ← cnt_eq]
    by_cases h : m n <;> simp [h, place_cons, place_nil]

theorem foldl_rel {α β γ : Type} {R : α → β → Prop} (s : α → γ → α) (t : β → γ → β) (l : List γ)
    (h : ∀ k a b, R a b → R (s a k) (t b k)) {a : α} {b : β} (h0 : R a b) : R (l.foldl s a) (l.foldl t b) := by
  induction l generalizing a b with
  | nil => exact h0
  | cons k l ih => exact ih (h k a b h0)

/-- An indexed store of 16 lanes whose indices are the running counts of its mask. -/
theorem storeIdx_place {F : FTy → Type} [FloatOps F] {e : EltTy} {n : ℕ} (g : ℕ → Elt F e) (idxs : Fin 1 → IVec (Sh 16) 32) (v : Vec F (Sh 16) e)
    (mask : IVec (Sh 16) 1) (h : ∀ a x, (idxs a x).toNat < (Sh n).size a) (o : ℕ) (m : ℕ → Bool) (vN : ℕ → Elt F e)
    (hv : ∀ x, v x = vN (x 0).val) (hm : ∀ x, mask x = 1#1 ↔ m (x 0).val = true) (hi : ∀ x, (idxs 0 x).toNat = o + cnt m (x 0).val)
    (x : (Sh n).Idx) :
    storeIdx (s := Sh n) (fun x => g (x 0).val) idxs v mask false h x = place g o (((List.range 16).filter m).map vN) (x 0).val := by
  rw [← foldl_place]
  have hr : List.range 16 = (List.finRange 16).map Fin.val := by simp
  rw [hr, List.foldl_map]
  unfold storeIdx
  refine foldl_rel (R := fun (f : (Sh n).Idx → Elt F e) (g : ℕ → Elt F e) => ∀ x, f x = g (x 0).val) _ _ _ ?_ (fun _ => rfl) x
  intro k f g hf y
  have hk : ((Shape.ofLane (d := ![16]) k) 0).val = k.val := rfl
  by_cases hmk : m k.val = true
  · have h1 : mask (Shape.ofLane (d := ![16]) k) = 1 := (hm _).2 (by rw [hk]; exact hmk)
    have h2 : (∀ a, (y a).val = (idxAt idxs h (Shape.ofLane (d := ![16]) k) a).val) ↔ (y 0).val = o + cnt m k.val := by
      have := hi (Shape.ofLane (d := ![16]) k)
      rw [hk] at this
      rw [← this]
      constructor
      · intro H; exact H 0
      · intro H a; fin_cases a; exact H
    simp only [h1, hmk, if_true, h2]
    by_cases h3 : (y 0).val = o + cnt m k.val
    · simp only [h3, if_true, Bool.false_eq_true, if_false]; rw [hv, hk]
    · simp only [h3, if_false]; exact hf y
  · have h1 : ¬mask (Shape.ofLane (d := ![16]) k) = 1 := fun H => hmk (by have := (hm _).1 H; rwa [hk] at this)
    simp only [h1, hmk, if_false]; exact hf y

section

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {e : EltTy} {n : ℕ} {α : Type} {Q : α → sProp (MT nD τ sig Ix (Elt F) Name U Lvl)}

local notation "𝕄" => MT nD τ sig Ix (Elt F) Name U Lvl

/-- The thread holds the memref's elements at share `q`, and they read `g`. -/
def own {sp : Space} (m : Memref sig c.2.kind sp (Sh n) e) (q : PosShare TreeShare) (g : ℕ → Elt F e) : sProp 𝕄 :=
  iprop(∃ f, ⌜∀ x, m.view.read (Elt F) f x = g (x 0).val⌝ ∗ m.view.loc c ↦[m.view.set]{q} f)

theorem wp_load_own {cs : CoreSpace} {m : Memref sig c.2.kind cs (Sh n) e} {off sz : Fin 1 → ℕ} {inb : ∀ a, off a + sz a ≤ (Sh n).size a}
    {hl : m.view.LoadsAt (Rect.unit (s := Sh n) off sz inb).toLoadRect}
    {k : ((Rect.unit (s := Sh n) off sz inb).toLoadRect.shape.Idx → Elt F e) → Prog (TpuEff nD τ sig (Elt F) Λ c.2) α}
    {q : PosShare TreeShare} {g : ℕ → Elt F e} {o : ℕ} (ho : off 0 = o) :
    (own c m q g : sProp 𝕄)
      ⊢ iprop((own c m q g -∗ wp frame (wpE defs 𝒱 c bd) Set.univ (k (fun x => g (o + (x 0).val))) Q)
        -∗ wp frame (wpE defs 𝒱 c bd) Set.univ (.op (.load m (Rect.unit (s := Sh n) off sz inb).toLoadRect hl) k) Q) := by
  unfold own
  iintro ⟨%f, %hf, H⟩ Hk
  iapply (wp_load 𝒱 c bd Set.univ (m := m) (S := m.view.set) (View.setOn_subset_set _ _)) $$ H
  iintro H
  subst ho
  have hr : m.view.readAt (Elt F) (Rect.unit (s := Sh n) off sz inb).toLoadRect f = fun x => g (off 0 + (x 0).val) := by
    funext x
    rw [View.readAt_apply, hf]
    congr 1
    simp
  rw [hr]
  iapply Hk
  iexists f
  isplitr; · ipureintro; exact hf
  iexact H

/-- The same of sixteen lanes, the vector read named by what it reads. -/
theorem wp_load_lanes {cs : CoreSpace} {m : Memref sig c.2.kind cs (Sh n) e} {off : Fin 1 → ℕ} {inb : ∀ a, off a + (Sh 16).size a ≤ (Sh n).size a}
    {hl : m.view.LoadsAt (Rect.unit (s := Sh n) off (Sh 16).size inb).toLoadRect}
    {k : Vec F (Sh 16) e → Prog (TpuEff nD τ sig (Elt F) Λ c.2) α}
    {q : PosShare TreeShare} {g : ℕ → Elt F e} {o : ℕ} (ho : off 0 = o) :
    (own c m q g : sProp 𝕄)
      ⊢ iprop((∀ w : Vec F (Sh 16) e, ⌜∀ x, w x = g (o + (x 0).val)⌝ -∗ own c m q g -∗ wp frame (wpE defs 𝒱 c bd) Set.univ (k w) Q)
        -∗ wp frame (wpE defs 𝒱 c bd) Set.univ (.op (.load m (Rect.unit (s := Sh n) off (Sh 16).size inb).toLoadRect hl) k) Q) := by
  iintro H Hk
  iapply (wp_load_own 𝒱 c bd ho) $$ H
  iintro H
  iapply Hk $$ [] H
  ipureintro
  exact fun _ => rfl

theorem wp_store_own {cs : CoreSpace} {m : Memref sig c.2.kind cs (Sh n) e} {off sz : Fin 1 → ℕ} {inb : ∀ a, off a + sz a ≤ (Sh n).size a}
    {w : (Rect.unit (s := Sh n) off sz inb).shape.Idx → Elt F e} {hx : (m.access (Rect.unit (s := Sh n) off sz inb)).Stores Finset.univ}
    {hm : (Finset.univ : Finset (Rect.unit (s := Sh n) off sz inb).shape.Idx) = Finset.univ ∨ ∀ a, (Rect.unit (s := Sh n) off sz inb).stride a = 1}
    {k : PUnit → Prog (TpuEff nD τ sig (Elt F) Λ c.2) α} {g : ℕ → Elt F e} (g' : ℕ → Elt F e)
    (h1 : ∀ x : (Rect.unit (s := Sh n) off sz inb).shape.Idx, w x = g' (off 0 + (x 0).val))
    (h2 : ∀ p, p < off 0 ∨ off 0 + sz 0 ≤ p → g' p = g p) :
    (own c m fullShare g : sProp 𝕄)
      ⊢ iprop((own c m fullShare g' -∗ wp frame (wpE defs 𝒱 c bd) Set.univ (k ⟨⟩) Q)
        -∗ wp frame (wpE defs 𝒱 c bd) Set.univ (.op (.store m (Rect.unit (s := Sh n) off sz inb) w Finset.univ hx hm) k) Q) := by
  unfold own
  iintro ⟨%f, %hf, H⟩ Hk
  iapply (wp_store 𝒱 c bd Set.univ (m := m) (S := m.view.set) (r := Rect.unit (s := Sh n) off sz inb)
    (show (m.view.slice (Rect.unit (s := Sh n) off sz inb)).setOn Finset.univ ⊆ m.view.set from
      (View.setOn_subset_set _ _).trans (View.set_slice_subset _ _))) $$ H
  iintro H
  iapply Hk
  iexists (m.access (Rect.unit (s := Sh n) off sz inb)).write (Elt F) f w Finset.univ
  isplitr
  · ipureintro
    intro x
    by_cases hp : off 0 ≤ (x 0).val ∧ (x 0).val < off 0 + sz 0
    · let y : (Rect.unit (s := Sh n) off sz inb).shape.Idx := fun a => ⟨(x 0).val - off 0, by
        have : sz 0 = (Rect.unit (s := Sh n) off sz inb).shape.size a := by fin_cases a; rfl
        omega⟩
      have hy : (Rect.unit (s := Sh n) off sz inb).emb y = x := by
        funext a
        fin_cases a
        apply Fin.ext
        show off 0 + 1 * ((x 0).val - off 0) = (x 0).val
        omega
      have hr := View.read_slice_write_emb (Val := Elt F) (v := m.view) (Rect.unit (s := Sh n) off sz inb) f w (Finset.mem_univ y)
      rw [hy] at hr
      rw [hr, h1 y]
      congr 1
      show off 0 + ((x 0).val - off 0) = (x 0).val
      omega
    · rw [View.read_slice_write_of_not_mem, hf, h2 _ (by omega)]
      intro hx
      obtain ⟨y, -, hy⟩ := Finset.mem_map.1 hx
      have h0 : (y 0).val < sz 0 := (y 0).isLt
      have h1 : off 0 + 1 * (y 0).val = (x 0).val := congrArg (fun z : (Sh n).Idx => (z 0).val) hy
      omega
  iexact H

theorem wp_gather_own {m : Memref sig c.2.kind .vmem (Sh n) e} {t : Shape} {idxs : Fin 1 → IVec t 32}
    {h : ∀ a x, (idxs a x).toNat < (Sh n).size a} {hl : m.view.Loads}
    {k : Vec F t e → Prog (TpuEff nD τ sig (Elt F) Λ c.2) α} {q : PosShare TreeShare} {g : ℕ → Elt F e} :
    (own c m q g : sProp 𝕄)
      ⊢ iprop((own c m q g -∗ wp frame (wpE defs 𝒱 c bd) Set.univ (k (fun x => g (idxs 0 x).toNat)) Q)
        -∗ wp frame (wpE defs 𝒱 c bd) Set.univ (vectorLoadIdx m idxs h hl >>= k) Q) := by
  unfold own
  iintro ⟨%f, %hf, H⟩ Hk
  iapply (wp_vectorLoadIdx 𝒱 c bd Set.univ (base := m) (S := m.view.set) (View.set_slice_subset _ _)) $$ H
  iintro H
  have hr : loadIdx (((m.access (.whole (Sh n))).read (Elt F) f)) idxs h = fun x => g (idxs 0 x).toNat := by
    funext x
    show (m.view.slice (.whole (Sh n))).read (Elt F) f (idxAt idxs h x) = _
    have hw : (m.view.slice (.whole (Sh n))).read (Elt F) f (idxAt idxs h x) = m.view.read (Elt F) f ((Rect.whole (Sh n)).emb (idxAt idxs h x)) := rfl
    rw [hw, Rect.emb_whole_apply, hf]
    rfl
  rw [hr]
  iapply Hk
  iexists f
  isplitr; · ipureintro; exact hf
  iexact H

/-- An indexed store of 16 lanes at the running counts of its mask, from position `o`: the set lanes' values are written
    one after another. -/
theorem wp_scatter_own {m : Memref sig c.2.kind .vmem (Sh n) e} {idxs : Fin 1 → IVec (Sh 16) 32} {v : Vec F (Sh 16) e} {mask : IVec (Sh 16) 1}
    {h : ∀ a x, (idxs a x).toNat < (Sh n).size a} {hs : (m.access (.whole (Sh n))).Stores Finset.univ}
    {k : PUnit → Prog (TpuEff nD τ sig (Elt F) Λ c.2) α} {g : ℕ → Elt F e} (o : ℕ) (mN : ℕ → Bool) (vN : ℕ → Elt F e)
    (hv : ∀ x, v x = vN (x 0).val) (hm : ∀ x, mask x = 1#1 ↔ mN (x 0).val = true) (hi : ∀ x, (idxs 0 x).toNat = o + cnt mN (x 0).val) :
    (own c m fullShare g : sProp 𝕄)
      ⊢ iprop((own c m fullShare (place g o (((List.range 16).filter mN).map vN)) -∗ wp frame (wpE defs 𝒱 c bd) Set.univ (k ⟨⟩) Q)
        -∗ wp frame (wpE defs 𝒱 c bd) Set.univ (vectorStoreIdx m idxs v mask false h hs >>= k) Q) := by
  unfold own
  iintro ⟨%f, %hf, H⟩ Hk
  have hset : (m.access (.whole (Sh n))).set = m.view.set := by
    apply Finset.Subset.antisymm (View.set_slice_subset _ _)
    intro i hi
    obtain ⟨y, -, rfl⟩ := Finset.mem_map.1 hi
    refine Finset.mem_map.2 ⟨y, Finset.mem_univ _, ?_⟩
    show m.view.emb ((Rect.whole (Sh n)).emb y) = _
    rw [Rect.emb_whole_apply]
  rw [← hset]
  iapply (wp_vectorStoreIdx 𝒱 c bd Set.univ (base := m)) $$ H
  iintro H
  iapply Hk
  iexists _
  isplitr
  rotate_left
  · iexact H
  ipureintro
  intro x
  have hread : (m.access (.whole (Sh n))).read (Elt F) f = fun x : (Sh n).Idx => g (x 0).val := by
    funext x
    have hw : (m.view.slice (.whole (Sh n))).read (Elt F) f x = m.view.read (Elt F) f ((Rect.whole (Sh n)).emb x) := rfl
    rw [hw, Rect.emb_whole_apply, hf]
  have hr := View.read_slice_write_emb (Val := Elt F) (v := m.view) (Rect.whole (Sh n)) f
    (storeIdx ((m.access (.whole (Sh n))).read (Elt F) f) idxs v mask false h) (Finset.mem_univ x)
  rw [Rect.emb_whole_apply] at hr
  rw [hr, hread]
  exact storeIdx_place g idxs v mask h o mN vN hv hm hi x

/-! ## Copies waited for at once -/

/-- What the thread owes, and the evidence its waits read: it may wait at index `ι`, and the waits it has made beyond `W`
    are at that index. -/
def live (ι : Ix) (O : CellTallies nD τ sig Ix) (W : Waits sig Ix) : sProp 𝕄 :=
  iprop(Transfers.MayWaits c ι O ∗ ∃ W', ⌜∀ p ∈ W', p ∈ W ∨ p.2 = ι⌝ ∗ owes c O W')

/-- The positions `[lo, hi)` of a memref, held outright, and what they read. -/
def blk {sp : Space} (m : Memref sig c.2.kind sp (Sh n) e) (lo hi : ℕ) (g : ℕ → Elt F e) : sProp 𝕄 :=
  iprop(∃ f, ⌜∀ x, lo ≤ (x 0).val → (x 0).val < hi → m.view.read (Elt F) f x = g (x 0).val⌝
    ∗ m.view.loc c ↦[m.view.setOn (Finset.univ.filter fun x => lo ≤ (x 0).val ∧ (x 0).val < hi)]{fullShare} f)

variable [CountersIn U] [Infinite Name]

/-- A copy and its wait: the destination's elements hold what the source reads. -/
theorem wp_copy {sp sp' sp₁ sp₂ : Space} {s s₁ s₂ : Shape} {e₁ e₂ : EltTy} {κ' : Kind}
    {src : Memref sig c.2.kind sp s e} {dst : Memref sig c.2.kind sp' s e} {sem : DmaSem sig}
    {srcw : Memref sig c.2.kind sp₁ s₁ e₁} {dstw : Memref sig κ' sp₂ s₂ e₂}
    {h1 : src.view.WordExact} {h2 : dst.view.WordExact} {h3 : DmaTarget.Typed (nD := nD) sp (.dma sem) (.here dst)}
    {h4 : srcw.view.WordExact} {h5 : dstw.view.WordExact}
    {k : PUnit → Prog (TpuEff nD τ sig (Elt F) Λ c.2) α} {q : PosShare TreeShare} {fs : Buf (Elt F) (src.view.loc c)}
    {Sd : Finset (Idx (dst.view.loc c))} {fd : Buf (Elt F) (dst.view.loc c)}
    {ι : Ix} {O : CellTallies nD τ sig Ix} {W : Waits sig Ix}
    (hN0 : 0 < dst.view.amount (.dma sem)) (hN : dstw.view.dmaCredit = dst.view.amount (.dma sem)) (hSd : dst.view.set ⊆ Sd) :
    iprop((src.view.loc c ↦[src.view.set]{q} fs) ∗ (dst.view.loc c ↦[Sd]{fullShare} fd) ∗ semVal (c, .dma sem) 0 ∗ live c ι O W)
      ⊢ iprop((iprop((src.view.loc c ↦[src.view.set]{q} fs)
            ∗ (dst.view.loc c ↦[Sd]{fullShare} (dst.view.write (Elt F) fd (src.view.read (Elt F) fs) Finset.univ))
            ∗ semVal (c, .dma sem) 0 ∗ live c ι O W) -∗ wp frame (wpE defs 𝒱 c bd) Set.univ (k ⟨⟩) Q)
        -∗ wp frame (wpE defs 𝒱 c bd) Set.univ
          (.op (.enqueueDma src (.here dst) (.dma sem) h1 h2 h3) fun _ => .op (.waitDma2 sem srcw dstw h4 h5) k) Q) := by
  unfold live
  iintro ⟨Hs, Hd, Hv, #Hm, %W', %hW', Ho⟩ Hk
  iapply (Transfers.wp_dmaLocal countersEmb 𝒱 c bd ι _ rfl hN0 hSd) $$ [Hs Hd Hv]
  · isplitl [Hs]; · iexact Hs
    isplitl [Hd] <;> iassumption
  iintro Hf
  ihave Hw := (Transfers.MayWaits.elim (SemLoc.dma sem)) $$ Hm
  iapply (Transfers.wp_waitLocalO countersEmb 𝒱 c bd ι hN) $$ [Hf Ho Hw]
  · isplitl [Hf]; · iexact Hf
    isplitl [Ho] <;> iassumption
  iintro ⟨⟨Hd, Hs⟩, Hv, Ho⟩
  iapply Hk
  isplitl [Hs]; · iexact Hs
  isplitl [Hd]; · iexact Hd
  isplitl [Hv]; · iexact Hv
  isplitr; · iexact Hm
  iexists _
  isplitr
  rotate_left
  · iexact Ho
  ipureintro
  intro p hp
  rcases Finset.mem_insert.1 hp with h | h
  · right; rw [h]
  · exact hW' p h

section
variable {N : ℕ} {sp sp' sp₁ sp₂ : Space} {s₁ s₂ : Shape} {e₁ e₂ : EltTy} {κ' : Kind} {ι : Ix} {O : CellTallies nD τ sig Ix} {W : Waits sig Ix}
  {sem : DmaSem sig} {srcw : Memref sig c.2.kind sp₁ s₁ e₁} {dstw : Memref sig κ' sp₂ s₂ e₂} {h4 : srcw.view.WordExact} {h5 : dstw.view.WordExact}
  {k : PUnit → Prog (TpuEff nD τ sig (Elt F) Λ c.2) α} {q : PosShare TreeShare}

/-- A copy of one whole memref to another. -/
theorem wp_copy_own {src : Memref sig c.2.kind sp (Sh n) e} {dst : Memref sig c.2.kind sp' (Sh n) e}
    {h1 : src.view.WordExact} {h2 : dst.view.WordExact} {h3 : DmaTarget.Typed (nD := nD) sp (.dma sem) (.here dst)}
    {g g₀ : ℕ → Elt F e} (hN0 : 0 < dst.view.amount (.dma sem)) (hN : dstw.view.dmaCredit = dst.view.amount (.dma sem)) :
    (iprop(own c src q g ∗ own c dst fullShare g₀ ∗ semVal (c, .dma sem) 0 ∗ live c ι O W) : sProp 𝕄)
      ⊢ iprop((iprop(own c src q g ∗ own c dst fullShare g ∗ semVal (c, .dma sem) 0 ∗ live c ι O W)
            -∗ wp frame (wpE defs 𝒱 c bd) Set.univ (k ⟨⟩) Q)
        -∗ wp frame (wpE defs 𝒱 c bd) Set.univ
          (.op (.enqueueDma src (.here dst) (.dma sem) h1 h2 h3) fun _ => .op (.waitDma2 sem srcw dstw h4 h5) k) Q) := by
  unfold own
  iintro ⟨⟨%f, %hf, Hs⟩, ⟨%f', -, Hd⟩, Hv, Hl⟩ Hk
  iapply (wp_copy 𝒱 c bd hN0 hN (fun _ h => h)) $$ [Hs Hd Hv Hl]
  · isplitl [Hs]; · iexact Hs
    isplitl [Hd]; · iexact Hd
    isplitl [Hv] <;> iassumption
  iintro ⟨Hs, Hd, Hv, Hl⟩
  iapply Hk
  isplitl [Hs]
  · iexists f; isplitr; · ipureintro; exact hf
    iexact Hs
  isplitl [Hd]
  · iexists _
    isplitr
    rotate_left
    · iexact Hd
    ipureintro
    intro x
    rw [View.read_write_univ, hf]
  isplitl [Hv] <;> iassumption

/-- A copy of a run of `n` elements of a memref of `N` to a whole memref. -/
theorem wp_copy_from {M : Memref sig c.2.kind sp (Sh N) e} {off : Fin 1 → ℕ} {inb : ∀ a, off a + (Sh n).size a ≤ (Sh N).size a}
    {hr : ∀ a, (Rect.unit (s := Sh N) off (Sh n).size inb).stride a = 1} {dst : Memref sig c.2.kind sp' (Sh n) e}
    {h1 : (M.slice (Rect.unit (s := Sh N) off (Sh n).size inb) hr).view.WordExact} {h2 : dst.view.WordExact}
    {h3 : DmaTarget.Typed (nD := nD) sp (.dma sem) (.here dst)}
    {g g₀ : ℕ → Elt F e} (hN0 : 0 < dst.view.amount (.dma sem)) (hN : dstw.view.dmaCredit = dst.view.amount (.dma sem)) :
    (iprop(own c M q g ∗ own c dst fullShare g₀ ∗ semVal (c, .dma sem) 0 ∗ live c ι O W) : sProp 𝕄)
      ⊢ iprop((iprop(own c M q g ∗ own c dst fullShare (fun p => g (off 0 + p)) ∗ semVal (c, .dma sem) 0 ∗ live c ι O W)
            -∗ wp frame (wpE defs 𝒱 c bd) Set.univ (k ⟨⟩) Q)
        -∗ wp frame (wpE defs 𝒱 c bd) Set.univ
          (.op (.enqueueDma (M.slice (Rect.unit (s := Sh N) off (Sh n).size inb) hr) (.here dst) (.dma sem) h1 h2 h3)
            fun _ => .op (.waitDma2 sem srcw dstw h4 h5) k) Q) := by
  unfold own
  iintro ⟨⟨%f, %hf, Hs⟩, ⟨%f', -, Hd⟩, Hv, Hl⟩ Hk
  have hsub : (M.slice (Rect.unit (s := Sh N) off (Sh n).size inb) hr).view.set ⊆ M.view.set := View.set_slice_subset _ _
  icases (pointsTo_split_subset hsub).1 $$ Hs with ⟨Hs, Hr⟩
  iapply (wp_copy 𝒱 c bd (src := M.slice (Rect.unit (s := Sh N) off (Sh n).size inb) hr) (dst := dst) hN0 hN (fun _ h => h)) $$ [Hs Hd Hv Hl]
  · isplitl [Hs]; · iexact Hs
    isplitl [Hd]; · iexact Hd
    isplitl [Hv] <;> iassumption
  iintro ⟨Hs, Hd, Hv, Hl⟩
  iapply Hk
  isplitl [Hs Hr]
  · iexists f; isplitr; · ipureintro; exact hf
    iapply (pointsTo_split_subset hsub).2
    isplitl [Hs] <;> iassumption
  isplitl [Hd]
  · iexists _
    isplitr
    rotate_left
    · iexact Hd
    ipureintro
    intro x
    rw [View.read_write_univ]
    refine (hf ((Rect.unit (s := Sh N) off (Sh n).size inb).emb x)).trans ?_
    congr 1
    simp
  isplitl [Hv] <;> iassumption

/-- A copy of the first `n` elements of a memref to the run of `n` elements at `off` inside a held block. -/
theorem wp_copy_out {N' : ℕ} {M : Memref sig c.2.kind sp (Sh N) e} {D : Memref sig c.2.kind sp' (Sh N') e} {off₀ off : Fin 1 → ℕ}
    {inb₀ : ∀ a, off₀ a + (Sh n).size a ≤ (Sh N).size a} {inb : ∀ a, off a + (Sh n).size a ≤ (Sh N').size a}
    {hr₀ : ∀ a, (Rect.unit (s := Sh N) off₀ (Sh n).size inb₀).stride a = 1} {hr : ∀ a, (Rect.unit (s := Sh N') off (Sh n).size inb).stride a = 1}
    {h1 : (M.slice (Rect.unit (s := Sh N) off₀ (Sh n).size inb₀) hr₀).view.WordExact}
    {h2 : (D.slice (Rect.unit (s := Sh N') off (Sh n).size inb) hr).view.WordExact}
    {h3 : DmaTarget.Typed (nD := nD) sp (.dma sem) (.here (D.slice (Rect.unit (s := Sh N') off (Sh n).size inb) hr))}
    {g g₀ : ℕ → Elt F e} {lo hi : ℕ} (hz : off₀ 0 = 0) (hlo : lo ≤ off 0) (hhi : off 0 + n ≤ hi)
    (hN0 : 0 < (D.slice (Rect.unit (s := Sh N') off (Sh n).size inb) hr).view.amount (.dma sem))
    (hN : dstw.view.dmaCredit = (D.slice (Rect.unit (s := Sh N') off (Sh n).size inb) hr).view.amount (.dma sem)) :
    (iprop(own c M q g ∗ blk c D lo hi g₀ ∗ semVal (c, .dma sem) 0 ∗ live c ι O W) : sProp 𝕄)
      ⊢ iprop((iprop(own c M q g ∗ blk c D lo hi (fun p => if off 0 ≤ p ∧ p < off 0 + n then g (p - off 0) else g₀ p)
              ∗ semVal (c, .dma sem) 0 ∗ live c ι O W)
            -∗ wp frame (wpE defs 𝒱 c bd) Set.univ (k ⟨⟩) Q)
        -∗ wp frame (wpE defs 𝒱 c bd) Set.univ
          (.op (.enqueueDma (M.slice (Rect.unit (s := Sh N) off₀ (Sh n).size inb₀) hr₀)
            (.here (D.slice (Rect.unit (s := Sh N') off (Sh n).size inb) hr)) (.dma sem) h1 h2 h3)
            fun _ => .op (.waitDma2 sem srcw dstw h4 h5) k) Q) := by
  unfold own blk
  iintro ⟨⟨%f, %hf, Hs⟩, ⟨%f', %hf', Hd⟩, Hv, Hl⟩ Hk
  have hsub : (M.slice (Rect.unit (s := Sh N) off₀ (Sh n).size inb₀) hr₀).view.set ⊆ M.view.set := View.set_slice_subset _ _
  have hsubD : (D.slice (Rect.unit (s := Sh N') off (Sh n).size inb) hr).view.set
      ⊆ D.view.setOn (Finset.univ.filter fun x => lo ≤ (x 0).val ∧ (x 0).val < hi) := by
    intro i hi
    obtain ⟨y, -, rfl⟩ := Finset.mem_map.1 hi
    refine Finset.mem_map.2 ⟨(Rect.unit (s := Sh N') off (Sh n).size inb).emb y, ?_, rfl⟩
    have hy : (y 0).val < n := (y 0).isLt
    rw [Finset.mem_filter]
    have : (((Rect.unit (s := Sh N') off (Sh n).size inb).emb y) 0).val = off 0 + 1 * (y 0).val := rfl
    rw [this]
    exact ⟨Finset.mem_univ _, by omega, by omega⟩
  icases (pointsTo_split_subset hsub).1 $$ Hs with ⟨Hs, Hr⟩
  iapply (wp_copy 𝒱 c bd (src := M.slice (Rect.unit (s := Sh N) off₀ (Sh n).size inb₀) hr₀)
    (dst := D.slice (Rect.unit (s := Sh N') off (Sh n).size inb) hr) hN0 hN hsubD) $$ [Hs Hd Hv Hl]
  · isplitl [Hs]; · iexact Hs
    isplitl [Hd]; · iexact Hd
    isplitl [Hv] <;> iassumption
  iintro ⟨Hs, Hd, Hv, Hl⟩
  iapply Hk
  isplitl [Hs Hr]
  · iexists f; isplitr; · ipureintro; exact hf
    iapply (pointsTo_split_subset hsub).2
    isplitl [Hs] <;> iassumption
  isplitl [Hd]
  · iexists _
    isplitr
    rotate_left
    · iexact Hd
    ipureintro
    intro x hx1 hx2
    by_cases hp : off 0 ≤ (x 0).val ∧ (x 0).val < off 0 + n
    · let y : (Rect.unit (s := Sh N') off (Sh n).size inb).shape.Idx := fun a => ⟨(x 0).val - off 0, by
        have : n = (Rect.unit (s := Sh N') off (Sh n).size inb).shape.size a := by fin_cases a; rfl
        omega⟩
      have hy : (Rect.unit (s := Sh N') off (Sh n).size inb).emb y = x := by
        funext a
        fin_cases a
        apply Fin.ext
        show off 0 + 1 * ((x 0).val - off 0) = (x 0).val
        omega
      have hr := View.read_slice_write_emb (Val := Elt F) (v := D.view) (Rect.unit (s := Sh N') off (Sh n).size inb) f'
        ((M.slice (Rect.unit (s := Sh N) off₀ (Sh n).size inb₀) hr₀).view.read (Elt F) f) (Finset.mem_univ y)
      rw [hy] at hr
      refine hr.trans ?_
      simp only [if_pos hp]
      refine (hf ((Rect.unit (s := Sh N) off₀ (Sh n).size inb₀).emb y)).trans ?_
      congr 1
      show off₀ 0 + 1 * ((x 0).val - off 0) = (x 0).val - off 0
      omega
    · simp only [if_neg hp]
      rw [← hf' x hx1 hx2]
      refine View.read_slice_write_of_not_mem (v := D.view) _ _ _ _ ?_
      intro hx
      obtain ⟨y, -, hy⟩ := Finset.mem_map.1 hx
      have h0 : (y 0).val < n := (y 0).isLt
      have h1 : off 0 + 1 * (y 0).val = (x 0).val := congrArg (fun z : (Sh N').Idx => (z 0).val) hy
      omega
  isplitl [Hv] <;> iassumption

end

end

end Cert.Proof.Knn

end
-- ==== Proof.Words.lean ====
/-
  Words: the running counts a vector subcore computes of a mask, and the index and bound arithmetic made of them.
-/
module

public import proofs.«01_k».proof.Proof.Own
public import Idealize.ShloMosaic.Lib.Affine

@[expose] public section

noncomputable section

namespace Cert.Proof.Knn

open Idealize.ShloMosaic

/-- What a mask's lanes say, at each lane number. -/
abbrev Says (mask : IVec (Sh 16) 1) (m : ℕ → Bool) : Prop := ∀ x, mask x = 1#1 ↔ m (x 0).val = true

theorem setWidth_says {mask : IVec (Sh 16) 1} {m : ℕ → Bool} (hm : Says mask m) (x : (Sh 16).Idx) :
    (mask x).setWidth 32 = BitVec.ofNat 32 (if m (x 0).val then 1 else 0) := by
  by_cases h : m (x 0).val = true
  · rw [(hm x).2 h, h]; rfl
  · have h1 : ¬mask x = 1#1 := fun H => h ((hm x).1 H)
    have h0 : mask x = 0#1 := by
      generalize mask x = b at h1
      revert h1; revert b; decide
    rw [h0]; simp only [Bool.not_eq_true] at h; rw [h]; rfl

/-- The sum scan of a widened mask is the running count. -/
theorem scan_says {mask : IVec (Sh 16) 1} {m : ℕ → Bool} (hm : Says mask m) (h : 1 < 32) (x : (Sh 16).Idx) :
    scan .sum (extui 32 mask h) x = BitVec.ofNat 32 (cnt m ((x 0).val + 1)) := by
  let e : Fin 16 → BitVec 32 := fun k => (mask (Shape.ofLane (d := ![16]) k)).setWidth 32
  have key : ∀ k : Fin 16, e k = BitVec.ofNat 32 (if m k.val then 1 else 0) := fun k => setWidth_says hm _
  have hf : ∀ (j : ℕ) (hj : j < 16), ((List.finRange 16).filter fun k => decide (0 < k.val ∧ k.val ≤ j)).foldl
      (fun (r : BitVec 32) k => r + e k) (e 0) = BitVec.ofNat 32 (cnt m (j + 1)) := by
    intro j
    induction j with
    | zero =>
      intro _
      have : ((List.finRange 16).filter fun k => decide (0 < k.val ∧ k.val ≤ 0)) = [] := by decide
      rw [this, List.foldl_nil, key]
      simp [cnt]
    | succ j ih =>
      intro hj
      have h2 : ∀ j : Fin 15, ((List.finRange 16).filter fun k => decide (0 < k.val ∧ k.val ≤ j.val + 1))
          = ((List.finRange 16).filter fun k => decide (0 < k.val ∧ k.val ≤ j.val)) ++ [j.succ] := by decide
      have h3 := h2 ⟨j, by omega⟩
      simp only at h3
      rw [h3, List.foldl_append, ih (by omega), List.foldl_cons, List.foldl_nil, key]
      show _ + BitVec.ofNat 32 (if m (j + 1) = true then 1 else 0) = _
      rw [← BitVec.ofNat_add]
      rfl
  exact hf (x 0).val (x 0).isLt

theorem cnt_succ_le (m : ℕ → Bool) (k : ℕ) : (if m k then 1 else 0) ≤ cnt m (k + 1) := by
  rw [cnt]; omega

/-- The index word of a compacting store: its base plus the count of the set lanes before it. -/
theorem index_says {mask : IVec (Sh 16) 1} {m : ℕ → Bool} (hm : Says mask m) (h : 1 < 32) (w : BitVec 32) (hw : w.toNat ≤ 2048) (x : (Sh 16).Idx) :
    ((subi (addi (broadcast (Sh 16) w) (scan .sum (extui 32 mask h))) (extui 32 mask h)) x).toNat = w.toNat + cnt m (x 0).val := by
  show ((w + scan .sum (extui 32 mask h) x) - (mask x).setWidth 32).toNat = _
  rw [scan_says hm, setWidth_says hm]
  have hx : (x 0).val < 16 := (x 0).isLt
  have h1 := cnt_le m (x 0).val
  rw [cnt]
  split <;> simp only [BitVec.toNat_sub, BitVec.toNat_add, BitVec.toNat_ofNat] <;> omega

/-- The last lane of the running count: the whole count. -/
theorem last_says {mask : IVec (Sh 16) 1} {m : ℕ → Bool} (hm : Says mask m) (h : 1 < 32) (hp : ∀ a, (![15] : Fin 1 → ℕ) a < (Sh 16).size a) :
    extractAt ![15] (scan .sum (extui 32 mask h)) hp = BitVec.ofNat 32 (cnt m 16) := scan_says hm h _

theorem minsi_cap (n : ℕ) (h : n < 2 ^ 31) : Scalar.minsi (BitVec.ofNat 32 n) 2048#32 = BitVec.ofNat 32 (min n 2048) :=
  Affine.eq_of (Affine.minsi (Affine.ofNat n ⟨rfl, h⟩) (Affine.ofNat 2048 ⟨rfl, by omega⟩) rfl) _ (by omega)

theorem toNat_small (n : ℕ) (h : n < 2 ^ 32) : (BitVec.ofNat 32 n).toNat = n := by
  rw [BitVec.toNat_ofNat]; exact Nat.mod_eq_of_lt h

end Cert.Proof.Knn

end
-- ==== Proof.Bounds.lean ====
/-
  Bounds: what the kernel's loop bounds, offsets and conditions come to.
-/
module

public import proofs.«01_k».proof.Proof.Words
public import proofs.«01_k».proof.KernelIdeal

@[expose] public section

noncomputable section

namespace Cert.Proof.Knn

open Idealize.ShloMosaic Cert.KernelIdeal

/-- The chunks that hold `n` candidates and at least one slot of padding: the floor quotient by sixteen, plus one. -/
abbrev chunksW (n : BitVec 32) : BitVec 32 :=
  Scalar.addi
    (Scalar.select
      (Scalar.andi
        (Scalar.cmpi .ne (Scalar.subi (Scalar.extui (Scalar.cmpi .sgt n 0#32)) (Scalar.extui (Scalar.cmpi .slt n 0#32)))
          (Scalar.subi (Scalar.extui (Scalar.cmpi .sgt 16#32 0#32)) (Scalar.extui (Scalar.cmpi .slt 16#32 0#32))))
        (Scalar.cmpi .ne (Scalar.remsi n 16#32) 0#32))
      (Scalar.subi (Scalar.divsi n 16#32) 1#32) (Scalar.divsi n 16#32)) 1#32

theorem chunksW_eq (n : ℕ) (hn : n ≤ 2048) : chunksW (BitVec.ofNat 32 n) = BitVec.ofNat 32 (n / 16 + 1) := by
  have h : ∀ k : Fin 2049, chunksW (BitVec.ofNat 32 k.val) = BitVec.ofNat 32 (k.val / 16 + 1) := by decide +kernel
  exact h ⟨n, by omega⟩

theorem chunks_bound {n : ℕ} (hn : n ≤ 2048) :
    Scalar.addi 0#32 (Scalar.muli (Scalar.divsi (Scalar.subi (chunksW (BitVec.ofNat 32 n)) 0#32) 1#32) 1#32) = BitVec.ofNat 32 (n / 16 + 1) := by
  have h : ∀ k : Fin 2049, Scalar.addi 0#32 (Scalar.muli (Scalar.divsi (Scalar.subi (chunksW (BitVec.ofNat 32 k.val)) 0#32) 1#32) 1#32)
      = BitVec.ofNat 32 (k.val / 16 + 1) := by decide +kernel
  exact h ⟨n, by omega⟩

theorem chunks_bound' {n : ℕ} (hn : n ≤ 2048) : Scalar.addi 0#32 (Scalar.subi (chunksW (BitVec.ofNat 32 n)) 0#32) = BitVec.ofNat 32 (n / 16 + 1) := by
  have h : ∀ k : Fin 2049, Scalar.addi 0#32 (Scalar.subi (chunksW (BitVec.ofNat 32 k.val)) 0#32) = BitVec.ofNat 32 (k.val / 16 + 1) := by decide +kernel
  exact h ⟨n, by omega⟩

theorem isInt_of {a : BitVec 32} {n : ℕ} (h : a = BitVec.ofNat 32 n) (hn : n < 2 ^ 31) : Affine.IsInt a (n : ℤ) := by
  rw [h]; exact Affine.ofNat n ⟨rfl, hn⟩

theorem toInt_of {a : BitVec 32} {e : ℤ} (h : Affine.IsInt a e) : a.toInt = e := by unfold Affine.IsInt at h; exact h

/-- The sixteenfold of a counted variable. -/
theorem sixteen (t : ℕ) (hm : t ≤ 2 ^ 20) : (Scalar.indexCast (Scalar.muli (Scf.iv 0#32 1#32 t) 16#32)).toNat = 16 * t := by
  refine Affine.nat_eq (Affine.indexCast (Affine.muli (Affine.iv (Affine.ofNat 0 ⟨rfl, by omega⟩) (Affine.ofNat 1 ⟨rfl, by omega⟩) t ⟨rfl, ?_, ?_⟩) (Affine.ofNat 16 ⟨rfl, by omega⟩) ⟨rfl, ?_, ?_⟩)) _ ?_ <;> omega

section trips
variable {v39 v62 : BitVec 32} {n : ℕ} (hn : n ≤ 2048) (hv : Scalar.minsi (Scalar.addi v39 v62) 2048#32 = BitVec.ofNat 32 n)
include hn hv

theorem t4_ub : (k1_t4_loop v39 v62).ub = BitVec.ofNat 32 (n / 16 + 1) := by
  have h := chunks_bound hn
  rw [← hv] at h
  exact h

theorem t5_ub : (k1_t5_loop v39 v62).ub = BitVec.ofNat 32 (n / 16 + 1) := by
  have h := chunks_bound' hn
  rw [← hv] at h
  exact h

theorem t4_trips : (k1_t4_loop v39 v62).trips = n / 16 + 1 :=
  Affine.trips_eq (isInt_of (n := 0) rfl (by omega)) (isInt_of (t4_ub hn hv) (by omega)) (isInt_of (n := 1) rfl (by omega)) _ ⟨by omega, by omega⟩

theorem t6_trips : (k1_t6_loop v39 v62).trips = n / 16 + 1 := t4_trips hn hv

theorem t5_trips : (k1_t5_loop v39 v62).trips = 0 :=
  Affine.trips_eq (isInt_of (t4_ub hn hv) (by omega)) (isInt_of (t5_ub hn hv) (by omega)) (isInt_of (n := 1) rfl (by omega)) _ ⟨by omega, by omega⟩

theorem t7_trips : (k1_t7_loop v39 v62).trips = 0 := t5_trips hn hv

theorem t4_OK : (k1_t4_loop v39 v62).OK :=
  Affine.ok (isInt_of (n := 0) rfl (by omega)) (isInt_of (t4_ub hn hv) (by omega)) (isInt_of (n := 1) rfl (by omega)) (by omega)

theorem t5_OK : (k1_t5_loop v39 v62).OK :=
  Affine.ok (isInt_of (t4_ub hn hv) (by omega)) (isInt_of (t5_ub hn hv) (by omega)) (isInt_of (n := 1) rfl (by omega)) (by omega)

theorem off5_eq (t) : k1_off5 v39 v62 t 0 = 16 * t.val :=
  sixteen t.val (by have h1 := t.isLt; have h2 := t4_trips hn hv; omega)
theorem off7_eq (t) : k1_off7 v39 v62 t 0 = 16 * t.val :=
  sixteen t.val (by have h1 := t.isLt; have h2 := t6_trips hn hv; omega)
theorem off8_eq (t) : k1_off8 v39 v62 t 0 = 16 * t.val := off7_eq hn hv t
theorem off9_eq (t) : k1_off9 v39 v62 t 0 = 16 * t.val := off7_eq hn hv t

theorem off4_eq : k1_off4 v39 v62 0 = n := by
  show (Scalar.minsi (Scalar.addi v39 v62) 2048#32).toNat = n
  rw [hv]; exact toNat_small n (by omega)

/-- The bounds the extraction's loops are checked for hold. -/
theorem chk13_holds (i : grid1.Coords) (k : Fin k1_t1_loop.trips) (a : BitVec 32) : k1_chk13 i k v39 v62 a := by
  have h4 : ∀ t : Fin (k1_t4_loop v39 v62).trips, t.val ≤ 128 := fun t => by
    have h1 := t.isLt; have h2 := t4_trips hn hv; omega
  have one : ∀ {f : Fin 1 → ℕ} {t : ℕ}, f 0 = 16 * t → t ≤ 128 → ∀ a, f a + S16.size a ≤ S2064.size a := by
    intro f t hf ht a
    fin_cases a
    show f 0 + 16 ≤ 2064
    omega
  have no : ∀ t : Fin (k1_t5_loop v39 v62).trips, False := fun t => by
    have h1 := t.isLt; have h2 := t5_trips hn hv; omega
  exact ⟨fun _ _ => t4_OK hn hv, fun t _ _ => one (off5_eq hn hv t) (h4 t), fun _ _ => t5_OK hn hv, fun t => (no t).elim,
    fun _ _ => t4_OK hn hv, fun t _ _ => one (off7_eq hn hv t) (h4 t), fun t _ _ => one (off8_eq hn hv t) (h4 t),
    fun t _ _ => one (off9_eq hn hv t) (h4 t), fun _ _ => t5_OK hn hv, fun t => (no t).elim, fun t => (no t).elim, fun t => (no t).elim⟩

theorem chk12_holds (i : grid1.Coords) (k : Fin k1_t1_loop.trips) : k1_chk12 i k v39 v62 := by
  intro _ a
  fin_cases a
  show k1_off4 v39 v62 0 + 16 ≤ 2064
  have := off4_eq hn hv
  omega

end trips

theorem t1_trips : k1_t1_loop.trips = 313 := by decide
theorem t2_trips : k1_t2_loop.trips = 156 := by decide
theorem t3_trips : k1_t3_loop.trips = 50 := by decide
theorem t8_trips : k1_t8_loop.trips = 4 := by decide

theorem off13_eq (t : Fin k1_t8_loop.trips) : k1_off13 t 0 = 16 * t.val :=
  sixteen t.val (by have h1 := t.isLt; have h2 := t8_trips; omega)
theorem off14_eq (t : Fin k1_t8_loop.trips) : k1_off14 t 0 = 16 * t.val := off13_eq t

theorem off3_eq (t : Fin k1_t2_loop.trips) (c : ℕ) (hc : c ≤ 64) : k1_off3 t (BitVec.ofNat 32 c) 0 = 64 * t.val + c := by
  have h1 : t.val < 156 := lt_of_lt_of_eq t.isLt t2_trips
  show (Scalar.indexCast (Scalar.addi (Scalar.muli (Scf.iv 0#32 1#32 t) 64#32) (BitVec.ofNat 32 c))).toNat = _
  refine Affine.nat_eq (Affine.indexCast (Affine.addi (Affine.muli (Affine.iv (Affine.ofNat 0 ⟨rfl, by omega⟩) (Affine.ofNat 1 ⟨rfl, by omega⟩) t ⟨rfl, ?_, ?_⟩) (Affine.ofNat 64 ⟨rfl, by omega⟩) ⟨rfl, ?_, ?_⟩) (Affine.ofNat c ⟨rfl, by omega⟩) ⟨rfl, ?_, ?_⟩)) _ ?_ <;> omega

theorem cond3_iff (n : ℕ) (hn : n < 2 ^ 31) : k1_cond3 (BitVec.ofNat 32 n) = 1#1 ↔ n < 50 := by
  show Scalar.cmpi .ne (Scalar.extui (Scalar.cmpi .slt (BitVec.ofNat 32 n) 50#32)) 0#32 = 1#1 ↔ _
  rw [Scalar.guard_iff, Scalar.cmpi, IntOp.cmpi_slt]
  have h1 := isInt_of (n := n) rfl hn
  have h2 := isInt_of (n := 50) (a := 50#32) rfl (by omega)
  rw [toInt_of h1, toInt_of h2]; omega

theorem cond2_iff (a b c d : ℕ) (h : a + b + c + d < 2 ^ 31) :
    k1_cond2 (BitVec.ofNat 32 a) (BitVec.ofNat 32 b) (BitVec.ofNat 32 c) (BitVec.ofNat 32 d) = 1#1 ↔ 0 < a + b + c + d := by
  show Scalar.cmpi .ne (Scalar.extui (Scalar.cmpi .sgt (Scalar.addi (Scalar.addi (Scalar.addi (BitVec.ofNat 32 a) (BitVec.ofNat 32 b)) (BitVec.ofNat 32 c)) (BitVec.ofNat 32 d)) 0#32)) 0#32 = 1#1 ↔ _
  rw [Scalar.guard_iff, Scalar.cmpi, IntOp.cmpi_sgt]
  have h1 : Scalar.addi (Scalar.addi (Scalar.addi (BitVec.ofNat 32 a) (BitVec.ofNat 32 b)) (BitVec.ofNat 32 c)) (BitVec.ofNat 32 d) = BitVec.ofNat 32 (a + b + c + d) := by
    show BitVec.ofNat 32 a + BitVec.ofNat 32 b + BitVec.ofNat 32 c + BitVec.ofNat 32 d = _
    rw [← BitVec.ofNat_add, ← BitVec.ofNat_add, ← BitVec.ofNat_add]
  have h1 := isInt_of h1 (by omega)
  have h2 := isInt_of (n := 0) (a := 0#32) rfl (by omega)
  rw [toInt_of h1, toInt_of h2]; omega

/-! ### The rows of a tile -/

/-- A tile's number. -/
def tileNo (i : grid1.Coords) : ℕ := 2 * (i 1).val + (i 0).val
/-- A tile's first row, -/
def base (i : grid1.Coords) : ℕ := 313 * tileNo i - (tileNo i - 16)
/-- how many rows it takes, -/
def nrows (i : grid1.Coords) : ℕ := if tileNo i < 16 then 313 else 312

theorem tileNo_lt (i : grid1.Coords) : tileNo i < 32 := by
  have h0 : (i 0).val < 2 := (i 0).isLt
  have h1 : (i 1).val < 16 := (i 1).isLt
  unfold tileNo; omega

theorem base_le (i : grid1.Coords) : base i + nrows i ≤ 10000 := by
  have := tileNo_lt i
  unfold base nrows; split <;> omega

/-- the word of its number, -/
abbrev tileW (i : grid1.Coords) : BitVec 32 := Scalar.addi (Scalar.muli (BitVec.ofNat 32 (i 1).val) 2#32) (BitVec.ofNat 32 (i 0).val)
/-- and of its first row. -/
abbrev baseW (i : grid1.Coords) : BitVec 32 :=
  Scalar.subi (Scalar.muli 313#32 (tileW i)) (Scalar.maxsi (Scalar.subi (tileW i) 16#32) 0#32)

theorem tileW_int (i : grid1.Coords) : Affine.IsInt (tileW i) (tileNo i : ℤ) := by
  have h0 : (i 0).val < 2 := (i 0).isLt
  have h1 : (i 1).val < 16 := (i 1).isLt
  unfold tileNo
  refine Affine.addi (Affine.muli (Affine.ofNat _ ⟨rfl, ?_⟩) (Affine.ofNat 2 ⟨rfl, by omega⟩) ⟨rfl, ?_, ?_⟩) (Affine.ofNat _ ⟨rfl, ?_⟩) ⟨?_, ?_, ?_⟩ <;> push_cast <;> omega

theorem baseW_int (i : grid1.Coords) : Affine.IsInt (baseW i) (base i : ℤ) := by
  have h := tileW_int i
  have hl := tileNo_lt i
  unfold base
  refine Affine.subi (Affine.muli (Affine.ofNat 313 ⟨rfl, by omega⟩) h ⟨rfl, ?_, ?_⟩) (Affine.maxsi (Affine.subi h (Affine.ofNat 16 ⟨rfl, by omega⟩) ⟨rfl, ?_, ?_⟩) (Affine.ofNat 0 ⟨rfl, by omega⟩) rfl) ⟨?_, ?_, ?_⟩ <;> omega

/-- The word of a row. -/
abbrev rowW (i : grid1.Coords) (k : ℕ) : BitVec 32 := Scalar.addi (baseW i) (Scf.iv 0#32 1#32 k)

theorem ivW_int (k : ℕ) (hk : k < 313) : Affine.IsInt (Scf.iv 0#32 1#32 k) (k : ℤ) := by
  refine Affine.iv (Affine.ofNat 0 ⟨rfl, by omega⟩) (Affine.ofNat 1 ⟨rfl, by omega⟩) k ⟨?_, ?_, ?_⟩ <;> omega

theorem rowW_int (i : grid1.Coords) (k : ℕ) (hk : k < 313) : Affine.IsInt (rowW i k) ((base i + k : ℕ) : ℤ) := by
  have h : base i ≤ 10000 := by have := base_le i; omega
  refine Affine.addi (baseW_int i) (ivW_int k hk) ⟨?_, ?_, ?_⟩ <;> push_cast <;> omega

theorem cond1_iff (i : grid1.Coords) (k : Fin k1_t1_loop.trips) : k1_cond1 i k = 1#1 ↔ k.val < nrows i := by
  have hk : k.val < 313 := lt_of_lt_of_eq k.isLt t1_trips
  show Scalar.cmpi .ne (Scalar.extui (Scalar.cmpi .slt (Scf.iv 0#32 1#32 k) (Scalar.select (Scalar.cmpi .slt (tileW i) 16#32) 313#32 312#32))) 0#32 = 1#1 ↔ _
  rw [Scalar.guard_iff, Scalar.cmpi, IntOp.cmpi_slt]
  have h1 := ivW_int k.val hk
  have h2 : Affine.IsInt (Scalar.select (Scalar.cmpi .slt (tileW i) 16#32) 313#32 312#32) (nrows i : ℤ) := by
    have hw : Scalar.cmpi .slt (tileW i) 16#32 = 1#1 ↔ tileNo i < 16 := by
      rw [Scalar.cmpi, IntOp.cmpi_slt]
      have h1 := tileW_int i
      have h2 := isInt_of (n := 16) (a := 16#32) rfl (by omega)
      rw [toInt_of h1, toInt_of h2]; omega
    unfold nrows Scalar.select
    by_cases hlt : tileNo i < 16
    · rw [if_pos (show _ = (1 : BitVec 1) from hw.2 hlt), if_pos hlt]; exact isInt_of rfl (by omega)
    · rw [if_neg (show ¬_ = (1 : BitVec 1) from fun h => hlt (hw.1 h)), if_neg hlt]; exact isInt_of rfl (by omega)
  rw [toInt_of h1, toInt_of h2]; omega

theorem off2_eq (i : grid1.Coords) (k : Fin k1_t1_loop.trips) : k1_off2 i k 0 = 10000 * (base i + k.val) := by
  have hk : k.val < 313 := lt_of_lt_of_eq k.isLt t1_trips
  have h : base i ≤ 10000 := by have := base_le i; omega
  show (Scalar.muli (rowW i k) 10000#32).toNat = _
  refine Affine.nat_eq (Affine.muli (rowW_int i k hk) (Affine.ofNat 10000 ⟨rfl, by omega⟩) ⟨rfl, ?_, ?_⟩) _ ?_ <;> push_cast <;> omega

theorem off15_eq (i : grid1.Coords) (k : Fin k1_t1_loop.trips) : k1_off15 i k 0 = 64 * (base i + k.val) := by
  have hk : k.val < 313 := lt_of_lt_of_eq k.isLt t1_trips
  have h : base i ≤ 10000 := by have := base_le i; omega
  show (Scalar.muli (rowW i k) 64#32).toNat = _
  refine Affine.nat_eq (Affine.muli (rowW_int i k hk) (Affine.ofNat 64 ⟨rfl, by omega⟩) ⟨rfl, ?_, ?_⟩) _ ?_ <;> push_cast <;> omega

/-- The word of the first threshold copied: the first row rounded down to a multiple of eight. -/
abbrev tbaseW (b : BitVec 32) : BitVec 32 :=
  Scalar.muli
    (Scalar.select
      (Scalar.andi
        (Scalar.cmpi .ne (Scalar.subi (Scalar.extui (Scalar.cmpi .sgt b 0#32)) (Scalar.extui (Scalar.cmpi .slt b 0#32)))
          (Scalar.subi (Scalar.extui (Scalar.cmpi .sgt 8#32 0#32)) (Scalar.extui (Scalar.cmpi .slt 8#32 0#32))))
        (Scalar.cmpi .ne (Scalar.remsi b 8#32) 0#32))
      (Scalar.subi (Scalar.divsi b 8#32) 1#32) (Scalar.divsi b 8#32)) 8#32

theorem baseW_eq (i : grid1.Coords) : baseW i = BitVec.ofNat 32 (base i) := Affine.eq_of (baseW_int i) _ rfl

theorem tbaseW_eq (i : grid1.Coords) : tbaseW (baseW i) = BitVec.ofNat 32 (base i / 8 * 8) := by
  have h : ∀ k : Fin 32, tbaseW (BitVec.ofNat 32 (313 * k.val - (k.val - 16))) = BitVec.ofNat 32 ((313 * k.val - (k.val - 16)) / 8 * 8) := by decide +kernel
  rw [baseW_eq]
  exact h ⟨tileNo i, tileNo_lt i⟩

theorem off1_eq (i : grid1.Coords) : k1_off1 i 0 = base i / 8 * 8 := by
  have h : base i ≤ 10000 := by have := base_le i; omega
  show (tbaseW (baseW i)).toNat = _
  rw [tbaseW_eq]
  exact toNat_small _ (by omega)

/-- Where a row's threshold lies in the copy. -/
theorem toff_int (i : grid1.Coords) (k : ℕ) (hk : k < 313) :
    Affine.IsInt (Scalar.addi (Scf.iv 0#32 1#32 k) (Scalar.subi (baseW i) (tbaseW (baseW i)))) ((k + base i % 8 : ℕ) : ℤ) := by
  have h : base i ≤ 10000 := by have := base_le i; omega
  have h2 := baseW_int i
  have h3 : Affine.IsInt (tbaseW (baseW i)) ((base i / 8 * 8 : ℕ) : ℤ) := isInt_of (tbaseW_eq i) (by omega)
  refine Affine.addi (ivW_int k hk) (Affine.subi h2 h3 ⟨rfl, ?_, ?_⟩) ⟨?_, ?_, ?_⟩ <;> push_cast <;> omega

end Cert.Proof.Knn

end
-- ==== Proof.Filter.lean ====
/-
  Filter: one row's scan. The lanes at or below the row's threshold are appended, in order, to the value and the index
  buffer, sixteen columns at a time.
-/
module

public import proofs.«01_k».proof.Proof.Bounds
public import proofs.«01_k».proof.Proof.Gen.KernelIdeal.Skeleton

@[expose] public section

noncomputable section

namespace Cert.Proof.Knn

open Idealize.ShloMosaic Idealize.ShloMosaic.SparseCore Cert.KernelIdeal Cert.KernelIdeal.Gen
open Idealize.SL Idealize.SL.RA
open Idealize.SL.BI (sProp)
open scoped Idealize.SL.BI
open Idealize.SL.BI.BIBase Idealize.SL.BI.Laws Idealize.SL.Sem Idealize.SL.ProofMode

variable {F : FTy → Type} [FloatOps F]

/-- The comparison a row's scan makes. -/
def le (a b : F .f32) : Bool := decide (FloatOps.cmpf .ole a b = 1#1)

/-- The columns below `p` whose entry is at or below `t`, in order. -/
def cands (row : ℕ → F .f32) (t : F .f32) (p : ℕ) : List ℕ := (List.range p).filter fun j => le (row j) t

theorem cands_add (row : ℕ → F .f32) (t : F .f32) (p n : ℕ) :
    cands row t (p + n) = cands row t p ++ ((List.range n).filter fun k => le (row (p + k)) t).map (p + ·) := by
  unfold cands
  rw [List.range_add, List.filter_append, List.filter_map]
  rfl

theorem cands_add_length (row : ℕ → F .f32) (t : F .f32) (p n : ℕ) :
    (cands row t (p + n)).length = (cands row t p).length + cnt (fun k => le (row (p + k)) t) n := by
  rw [cands_add, List.length_append, List.length_map, cnt_eq]

theorem cands_le (row : ℕ → F .f32) (t : F .f32) (p : ℕ) : (cands row t p).length ≤ p := by
  unfold cands
  exact (List.length_filter_le _ _).trans (by simp)

theorem says_le {v w : FVec F (Sh 16) .f32} {row : ℕ → F .f32} {t : F .f32} {p : ℕ} (hv : ∀ x, v x = row (p + (x 0).val)) (hw : ∀ x, w x = t) :
    Says (cmpf .ole v w) fun k => le (row (p + k)) t := by
  intro x
  show FloatOps.cmpf .ole (v x) (w x) = 1#1 ↔ _
  rw [hv, hw]
  simp [le]

theorem addi_ofNat (a b : ℕ) : Scalar.addi (BitVec.ofNat 32 a) (BitVec.ofNat 32 b) = BitVec.ofNat 32 (a + b) := (BitVec.ofNat_add a b).symm

theorem cap_cap (n : ℕ) (h : n < 2 ^ 31) : Scalar.minsi (Scalar.minsi (BitVec.ofNat 32 n) 2048#32) 2048#32 = BitVec.ofNat 32 (min n 2048) := by
  rw [minsi_cap n h, minsi_cap _ (by omega), min_assoc, min_self]

theorem index_at {mask : IVec (Sh 16) 1} {m : ℕ → Bool} (hm : Says mask m) (h : 1 < 32) {w : BitVec 32} {o : ℕ} (hw : w = BitVec.ofNat 32 o)
    (ho : o ≤ 2048) (x : (Sh 16).Idx) :
    ((subi (addi (broadcast (Sh 16) w) (scan .sum (extui 32 mask h))) (extui 32 mask h)) x).toNat = o + cnt m (x 0).val := by
  have h2 : w.toNat = o := by rw [hw]; exact toNat_small o (by omega)
  rw [index_says hm h w (by omega), h2]

theorem idx_ok {idx : IVec (Sh 16) 32} {o : ℕ} {m : ℕ → Bool} (hi : ∀ x, (idx x).toNat = o + cnt m (x 0).val) (ho : o ≤ 2048) :
    ∀ a x, ((![idx] : Fin 1 → IVec (Sh 16) 32) a x).toNat < (Sh 2064).size a := by
  intro a x
  fin_cases a
  show (idx x).toNat < 2064
  have h1 : (x 0).val < 16 := (x 0).isLt
  have h2 := cnt_le m (x 0).val
  rw [hi]; omega

variable {Ix : Type} [DecidableEq Ix] {Name : Type} [DecidableEq Name] {U : Type} [URA U] {Lvl : Type} [Preorder Lvl]

section filt
variable {nD : Nat} {τ : Topo} {sig : RefSig} {Λ : Labels}
variable {defs : Defs nD τ sig (Elt F) Λ} (𝒱 : Variants) (c : Thread nD τ) (bd : Option 𝒱.V)
variable {e : EltTy} {α : Type} {Q : α → sProp (MT nD τ sig Ix (Elt F) Name U Lvl)}

local notation "𝕄" => MT nD τ sig Ix (Elt F) Name U Lvl

/-- A buffer of 2064 elements begins with `f` of the entries of `L`, when they are at most 2048. -/
def filt (m : Memref sig c.2.kind .vmem (Sh 2064) e) (f : ℕ → Elt F e) (L : List ℕ) : sProp 𝕄 :=
  iprop(∃ g, ⌜L.length ≤ 2048 → ∃ g0, g = place g0 0 (L.map f)⌝ ∗ own c m fullShare g)

theorem wp_filt {m : Memref sig c.2.kind .vmem (Sh 2064) e} {idx : IVec (Sh 16) 32} {v : Vec F (Sh 16) e} {mask : IVec (Sh 16) 1}
    {h : ∀ a x, ((![idx] : Fin 1 → IVec (Sh 16) 32) a x).toNat < (Sh 2064).size a} {hs : (m.access (.whole (Sh 2064))).Stores Finset.univ}
    {k : PUnit → Prog (TpuEff nD τ sig (Elt F) Λ c.2) α} {f : ℕ → Elt F e} (L : List ℕ) (p : ℕ) (mN : ℕ → Bool)
    (hv : ∀ x, v x = f (p + (x 0).val)) (hm : Says mask mN) (hi : ∀ x, (idx x).toNat = min L.length 2048 + cnt mN (x 0).val) :
    (filt c m f L : sProp 𝕄)
      ⊢ iprop((filt c m f (L ++ ((List.range 16).filter mN).map (p + ·)) -∗ wp frame (wpE defs 𝒱 c bd) Set.univ (k ⟨⟩) Q)
        -∗ wp frame (wpE defs 𝒱 c bd) Set.univ (vectorStoreIdx m ![idx] v mask false h hs >>= k) Q) := by
  unfold filt
  iintro ⟨%g, %hg, H⟩ Hk
  iapply (wp_scatter_own 𝒱 c bd (min L.length 2048) mN (fun k => f (p + k)) hv hm hi) $$ H
  iintro H
  iapply Hk
  iexists _
  isplitr
  rotate_left
  · iexact H
  ipureintro
  intro hl
  rw [List.length_append] at hl
  obtain ⟨g0, rfl⟩ := hg (by omega)
  refine ⟨g0, ?_⟩
  rw [Nat.min_eq_left (by omega), List.map_append, List.map_map]
  have h1 := place_place g0 0 (L.map f) (((List.range 16).filter mN).map (f ∘ (p + ·)))
  rw [List.length_map, Nat.zero_add] at h1
  exact h1

end filt

section body
variable (d : Fin nD)
variable (i : grid1.Coords) (arg2 : Memref sig .scVector .hbm S100000000 .f32) (harg2 : arg2.IsWhole) (arg3 : Memref sig .scVector .hbm S10336 .f32)
  (harg3 : arg3.IsWhole) (arg4 : Memref sig .scVector .hbm S10000 .f32) (harg4 : arg4.IsWhole) (arg5 : Memref sig .scVector .hbm S10000 .f32)
  (harg5 : arg5.IsWhole) (arg6 : Memref sig .scVector .hbm S10000 .f32) (harg6 : arg6.IsWhole) (arg7 : Memref sig .scVector .hbm S640000 .i32)
  (harg7 : arg7.IsWhole) (arg8 : Memref sig .scVector .hbm S640000 .f32) (harg8 : arg8.IsWhole) (arg9 : Memref sig .scVector .vmem S10000 .f32)
  (harg9 : arg9.IsWhole) (arg10 : Memref sig .scVector .vmem S10000 .f32) (harg10 : arg10.IsWhole) (arg11 : Memref sig .scVector .vmem S10000 .f32)
  (harg11 : arg11.IsWhole) (arg12 : Memref sig .scVector .vmem S10000 .f32) (harg12 : arg12.IsWhole) (arg13 : Memref sig .scVector .vmem S336 .f32)
  (harg13 : arg13.IsWhole) (arg14 : Memref sig .scVector .vmem S2064 .f32) (harg14 : arg14.IsWhole) (arg15 : Memref sig .scVector .vmem S2064 .i32)
  (harg15 : arg15.IsWhole) (arg16 : Memref sig .scVector .vmem S2064 .f32) (harg16 : arg16.IsWhole) (arg17 : Memref sig .scVector .vmem S2064 .i32)
  (harg17 : arg17.IsWhole) (v30_r0 : DmaSems sig S_) (v30_r1 : DmaSems sig S_) (v30_r2 : DmaSems sig S_) (v30_r3 : DmaSems sig S_)
  (v96_r4 : DmaSems sig S_) (v96_r5 : DmaSems sig S_) (v96_r6 : DmaSems sig S_)

/-- The thread of a tile. -/
abbrev thr : Thread nD τ := (d, .scVector ((i 0).castLE hcore1) ((i 1).castLE hsub1))

variable {defs : Defs nD τ sig (Elt F) Λ₀} (𝒱 : Variants) (bd : Option 𝒱.V)

local notation "𝕄" => MT nD τ sig Ix (Elt F) Name U Lvl

/-- What the scan holds after `p` columns: the row, and the two buffers. -/
def scanned (row : ℕ → F .f32) (t : F .f32) (p : ℕ) : sProp 𝕄 :=
  iprop(own (thr d i) arg9 fullShare row ∗ filt (thr d i) arg14 (e := .f32) row (cands row t p)
    ∗ filt (thr d i) arg15 (e := .i32) (fun j => BitVec.ofNat 32 j) (cands row t p))

theorem wp_t2_body (v5 v26 : BitVec 32) (v27 : IVec S16 32) (k : Fin k1_t1_loop.trips) (arg18 : BitVec 32) (h1 : k1_cond1 i k = 1#1)
    (v37 : Vec F S16 .f32) (row : ℕ → F .f32) (t : F .f32) (hv37 : ∀ x, v37 x = t) (hv27 : ∀ x, v27 x = BitVec.ofNat 32 (x 0).val)
    (k2 : Fin k1_t2_loop.trips) :
    (scanned d i arg9 arg14 arg15 row t (64 * k2.val) : sProp 𝕄)
      ⊢ wp frame (wpE defs 𝒱 (thr d i) bd) Set.univ
        (k1_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 v5 v26 v27 k arg18 h1 v37 k2 (BitVec.ofNat 32 (min (cands row t (64 * k2.val)).length 2048)))
        fun acc => iprop(⌜acc = BitVec.ofNat 32 (min (cands row t (64 * (k2.val + 1))).length 2048)⌝
          ∗ scanned d i arg9 arg14 arg15 row t (64 * (k2.val + 1))) := by
  have hk2 : k2.val < 156 := lt_of_lt_of_eq k2.isLt t2_trips
  unfold k1_t2_body
  simp only [k1_part1_eq_skeleton]
  unfold k1_part1_skel
  simp only [Prog.lift, Prog.bind_op, Prog.bind_ret, Prog.pure_eq_ret, Prog.bind_assoc]
  unfold scanned
  iintro ⟨Hr, Hv, Hi⟩
  iapply (wp_load_lanes 𝒱 (thr d i) bd (o := 64 * k2.val + 0) (off3_eq k2 0 (by omega))) $$ Hr
  iintro %w0 %hw0 Hr
  iapply (wp_load_lanes 𝒱 (thr d i) bd (o := 64 * k2.val + 16) (off3_eq k2 16 (by omega))) $$ Hr
  iintro %w1 %hw1 Hr
  iapply (wp_load_lanes 𝒱 (thr d i) bd (o := 64 * k2.val + 32) (off3_eq k2 32 (by omega))) $$ Hr
  iintro %w2 %hw2 Hr
  iapply (wp_load_lanes 𝒱 (thr d i) bd (o := 64 * k2.val + 48) (off3_eq k2 48 (by omega))) $$ Hr
  iintro %w3 %hw3 Hr
  have hm0 : Says (k1_pay26 v37 w0) _ := says_le hw0 hv37
  have hm1 : Says (k1_pay27 v37 w1) _ := says_le hw1 hv37
  have hm2 : Says (k1_pay28 v37 w2) _ := says_le hw2 hv37
  have hm3 : Says (k1_pay29 v37 w3) _ := says_le hw3 hv37
  have e1 := cands_add_length row t (64 * k2.val + 0) 16
  have e2 := cands_add_length row t (64 * k2.val + 16) 16
  have e3 := cands_add_length row t (64 * k2.val + 32) 16
  have e4 := cands_add_length row t (64 * k2.val + 48) 16
  have hl := cands_le row t (64 * k2.val + 48 + 16)
  have hn0 := last_says hm0 natLt_1_32 inpos_S16_p15
  have hn1 := last_says hm1 natLt_1_32 inpos_S16_p15
  have hn2 := last_says hm2 natLt_1_32 inpos_S16_p15
  have hn3 := last_says hm3 natLt_1_32 inpos_S16_p15
  generalize cnt (fun j => le (row (64 * k2.val + 0 + j)) t) 16 = n0 at e1 hn0
  generalize cnt (fun j => le (row (64 * k2.val + 16 + j)) t) 16 = n1 at e2 hn1
  generalize cnt (fun j => le (row (64 * k2.val + 32 + j)) t) 16 = n2 at e3 hn2
  generalize cnt (fun j => le (row (64 * k2.val + 48 + j)) t) 16 = n3 at e4 hn3
  change extractAt ![15] (k1_pay30 v37 w0) inpos_S16_p15 = _ at hn0
  change extractAt ![15] (k1_pay31 v37 w1) inpos_S16_p15 = _ at hn1
  change extractAt ![15] (k1_pay32 v37 w2) inpos_S16_p15 = _ at hn2
  change extractAt ![15] (k1_pay33 v37 w3) inpos_S16_p15 = _ at hn3
  change (cands row t (64 * k2.val + 16)).length = (cands row t (64 * k2.val)).length + n0 at e1
  change (cands row t (64 * k2.val + 32)).length = _ at e2
  change (cands row t (64 * k2.val + 48)).length = _ at e3
  change (cands row t (64 * k2.val + 64)).length = _ at e4
  change (cands row t (64 * k2.val + 64)).length ≤ _ at hl
  have hfin : Scalar.minsi (Scalar.addi (BitVec.ofNat 32 (min (cands row t (64 * k2.val)).length 2048))
      (Scalar.addi (Scalar.addi (Scalar.addi (BitVec.ofNat 32 n0) (BitVec.ofNat 32 n1)) (BitVec.ofNat 32 n2)) (BitVec.ofNat 32 n3))) 2048#32
      = BitVec.ofNat 32 (min (cands row t (64 * k2.val + 64)).length 2048) := by
    rw [addi_ofNat, addi_ofNat, addi_ofNat, addi_ofNat, minsi_cap _ (by omega)]
    congr 1; omega
  have e64 : 64 * (k2.val + 1) = 64 * k2.val + 64 := by omega
  rw [e64]
  by_cases h2 : k1_cond2 (extractAt ![15] (k1_pay30 v37 w0) inpos_S16_p15) (extractAt ![15] (k1_pay31 v37 w1) inpos_S16_p15)
      (extractAt ![15] (k1_pay32 v37 w2) inpos_S16_p15) (extractAt ![15] (k1_pay33 v37 w3) inpos_S16_p15) = 1#1
  · rw [dif_pos h2]
    have i0 : ∀ x, (k1_pay1 (BitVec.ofNat 32 (min (cands row t (64 * k2.val)).length 2048)) (k1_pay26 v37 w0) x).toNat = _ :=
      index_at hm0 natLt_1_32 (o := min (cands row t (64 * k2.val + 0)).length 2048) (by rw [cap_cap _ (by omega), min_assoc, min_self]; rfl) (by omega)
    have i1 : ∀ x, (k1_pay4 (BitVec.ofNat 32 (min (cands row t (64 * k2.val)).length 2048)) (k1_pay27 v37 w1)
        (extractAt ![15] (k1_pay30 v37 w0) inpos_S16_p15) x).toNat = _ :=
      index_at hm1 natLt_1_32 (o := min (cands row t (64 * k2.val + 16)).length 2048)
        (by rw [hn0, addi_ofNat, cap_cap _ (by omega)]; congr 1; omega) (by omega)
    have i2 : ∀ x, (k1_pay34 v37 w2 (Scalar.minsi (Scalar.addi (Scalar.addi (BitVec.ofNat 32 (min (cands row t (64 * k2.val)).length 2048))
        (extractAt ![15] (k1_pay30 v37 w0) inpos_S16_p15)) (extractAt ![15] (k1_pay31 v37 w1) inpos_S16_p15)) 2048#32) x).toNat = _ :=
      index_at hm2 natLt_1_32 (o := min (cands row t (64 * k2.val + 32)).length 2048)
        (by rw [hn0, hn1, addi_ofNat, addi_ofNat, cap_cap _ (by omega)]; congr 1; omega) (by omega)
    have i3 : ∀ x, (k1_pay37 v37 w2 w3 (Scalar.addi (Scalar.addi (BitVec.ofNat 32 (min (cands row t (64 * k2.val)).length 2048))
        (extractAt ![15] (k1_pay30 v37 w0) inpos_S16_p15)) (extractAt ![15] (k1_pay31 v37 w1) inpos_S16_p15)) x).toNat = _ :=
      index_at hm3 natLt_1_32 (o := min (cands row t (64 * k2.val + 48)).length 2048)
        (by rw [hn0, hn1, hn2, addi_ofNat, addi_ofNat, addi_ofNat, cap_cap _ (by omega)]; congr 1; omega) (by omega)
    have col : ∀ (c : ℕ) (hc : c ≤ 64) (x : S16.Idx), (addi v27 (broadcast S16 (Scalar.addi (Scalar.muli (Scf.iv 0#32 1#32 k2) 64#32) (BitVec.ofNat 32 c)))) x
        = BitVec.ofNat 32 (64 * k2.val + c + (x 0).val) := by
      intro c hc x
      show v27 x + Scalar.addi (Scalar.muli (Scf.iv 0#32 1#32 k2) 64#32) (BitVec.ofNat 32 c) = _
      have h := off3_eq k2 c hc
      change (Scalar.addi (Scalar.muli (Scf.iv 0#32 1#32 k2) 64#32) (BitVec.ofNat 32 c)).toNat = _ at h
      have h' : Scalar.addi (Scalar.muli (Scf.iv 0#32 1#32 k2) 64#32) (BitVec.ofNat 32 c) = BitVec.ofNat 32 (64 * k2.val + c) := by
        rw [← h, BitVec.ofNat_toNat, BitVec.setWidth_eq]
      rw [hv27, h', ← BitVec.ofNat_add, Nat.add_comm]
    iapply (wp_assume 𝒱 (thr d i) bd Set.univ (show k1_chk2 _ _ _ _ _ _ _ from fun _ _ => idx_ok i0 (by omega)))
    iapply (wp_filt 𝒱 (thr d i) bd (cands row t (64 * k2.val + 0)) (64 * k2.val + 0) _ hw0 hm0 i0) $$ Hv
    iintro Hv
    iapply (wp_assume 𝒱 (thr d i) bd Set.univ (show k1_chk3 _ _ _ _ _ _ _ from fun _ _ => idx_ok i0 (by omega)))
    iapply (wp_filt 𝒱 (thr d i) bd (cands row t (64 * k2.val + 0)) (64 * k2.val + 0) _ (col 0 (by omega)) hm0 i0) $$ Hi
    iintro Hi
    rw [← cands_add row t (64 * k2.val + 0) 16]
    iapply (wp_assume 𝒱 (thr d i) bd Set.univ (show k1_chk4 _ _ _ _ _ _ _ from fun _ _ => idx_ok i1 (by omega)))
    iapply (wp_filt 𝒱 (thr d i) bd (cands row t (64 * k2.val + 16)) (64 * k2.val + 16) _ hw1 hm1 i1) $$ Hv
    iintro Hv
    iapply (wp_assume 𝒱 (thr d i) bd Set.univ (show k1_chk5 _ _ _ _ _ _ _ from fun _ _ => idx_ok i1 (by omega)))
    iapply (wp_filt 𝒱 (thr d i) bd (cands row t (64 * k2.val + 16)) (64 * k2.val + 16) _ (col 16 (by omega)) hm1 i1) $$ Hi
    iintro Hi
    rw [← cands_add row t (64 * k2.val + 16) 16]
    iapply (wp_assume 𝒱 (thr d i) bd Set.univ (show k1_chk6 _ _ _ _ _ _ _ from fun _ _ => idx_ok i2 (by omega)))
    iapply (wp_filt 𝒱 (thr d i) bd (cands row t (64 * k2.val + 32)) (64 * k2.val + 32) _ hw2 hm2 i2) $$ Hv
    iintro Hv
    iapply (wp_assume 𝒱 (thr d i) bd Set.univ (show k1_chk7 _ _ _ _ _ _ _ from fun _ _ => idx_ok i2 (by omega)))
    iapply (wp_filt 𝒱 (thr d i) bd (cands row t (64 * k2.val + 32)) (64 * k2.val + 32) _ (col 32 (by omega)) hm2 i2) $$ Hi
    iintro Hi
    rw [← cands_add row t (64 * k2.val + 32) 16]
    iapply (wp_assume 𝒱 (thr d i) bd Set.univ (show k1_chk8 _ _ _ _ _ _ _ from fun _ _ => idx_ok i3 (by omega)))
    iapply (wp_filt 𝒱 (thr d i) bd (cands row t (64 * k2.val + 48)) (64 * k2.val + 48) _ hw3 hm3 i3) $$ Hv
    iintro Hv
    iapply (wp_assume 𝒱 (thr d i) bd Set.univ (show k1_chk9 _ _ _ _ _ _ _ from fun _ _ => idx_ok i3 (by omega)))
    iapply (wp_filt 𝒱 (thr d i) bd (cands row t (64 * k2.val + 48)) (64 * k2.val + 48) _ (col 48 (by omega)) hm3 i3) $$ Hi
    iintro Hi
    rw [← cands_add row t (64 * k2.val + 48) 16]
    rw [hn0, hn1, hn2, hn3, hfin]
    rw [wp_ret]
    imodintro
    isplitr; · ipureintro; rfl
    isplitl [Hr]; · iexact Hr
    isplitl [Hv] <;> iassumption
  · rw [dif_neg h2, hn0, hn1, hn2, hn3, hfin]
    have h3 : cands row t (64 * k2.val + 64) = cands row t (64 * k2.val) := by
      rw [hn0, hn1, hn2, hn3] at h2
      have h4 : ¬0 < n0 + n1 + n2 + n3 := fun h => h2 ((cond2_iff n0 n1 n2 n3 (by omega)).2 h)
      have h5 := cands_add row t (64 * k2.val) 64
      have h6 := congrArg List.length h5
      rw [List.length_append] at h6
      generalize ((List.range 64).filter fun k => le (row (64 * k2.val + k)) t).map (64 * k2.val + ·) = l at h5 h6
      rw [h5, List.length_eq_zero_iff.1 (show l.length = 0 by omega), List.append_nil]
    rw [h3]
    rw [wp_ret]
    imodintro
    isplitr; · ipureintro; rfl
    isplitl [Hr]; · iexact Hr
    isplitl [Hv] <;> iassumption

/-- The whole scan of a row's first 9984 columns. -/
theorem wp_t2_loop {α : Type} {Q : α → sProp 𝕄} (v5 v26 : BitVec 32) (v27 : IVec S16 32) (k : Fin k1_t1_loop.trips) (arg18 : BitVec 32)
    (h1 : k1_cond1 i k = 1#1) (v37 : Vec F S16 .f32) (row : ℕ → F .f32) (t : F .f32) (hv37 : ∀ x, v37 x = t)
    (hv27 : ∀ x, v27 x = BitVec.ofNat 32 (x 0).val) {kk : BitVec 32 → Prog (TpuEff nD τ sig (Elt F) Λ₀ (thr d i).2) α} {init : BitVec 32}
    (hinit : init = 0#32) :
    (scanned d i arg9 arg14 arg15 row t 0 : sProp 𝕄)
      ⊢ iprop((scanned d i arg9 arg14 arg15 row t 9984
          -∗ wp frame (wpE defs 𝒱 (thr d i) bd) Set.univ (kk (BitVec.ofNat 32 (min (cands row t 9984).length 2048))) Q)
        -∗ wp frame (wpE defs 𝒱 (thr d i) bd) Set.univ
          (Scf.Loop.for k1_t2_loop (k1_t2_ok i k h1) init (k1_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 v5 v26 v27 k arg18 h1 v37) >>= kk) Q) := by
  subst hinit
  iintro H Hk
  iapply (Scf.wp_for_bind frame (wpE defs 𝒱 (thr d i) bd) Set.univ _ _ _ (k1_t2_ok i k h1) (0#32)
    (k1_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 v5 v26 v27 k arg18 h1 v37)
    (fun k2 acc => iprop(⌜acc = BitVec.ofNat 32 (min (cands row t (64 * k2)).length 2048)⌝ ∗ scanned d i arg9 arg14 arg15 row t (64 * k2)))
    (fun k2 acc => by
      iintro ⟨%ha, H⟩
      subst ha
      iapply (wp_t2_body d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd v5 v26 v27 k arg18 h1 v37 row t hv37 hv27 k2)
      iexact H)) $$ [H] [Hk]
  · isplitr; · ipureintro; rfl
    iexact H
  · iintro %acc ⟨%ha, H⟩
    have ht : Scf.trips k1_t2_loop.lb k1_t2_loop.ub k1_t2_loop.st = 156 := t2_trips
    rw [ht] at ha
    subst ha
    iapply Hk
    rw [ht]
    iexact H

end body

end Cert.Proof.Knn

end
-- ==== Proof.Extract.lean ====
/-
  Extract: the rounds that move a row's smallest candidates out. A round takes the least value left in the candidate
  buffer, appends the entries equal to it to the outputs, and replaces them by a large constant.
-/
module

public import proofs.«01_k».proof.Proof.Filter

@[expose] public section

noncomputable section

namespace Cert.Proof.Knn

open Idealize.ShloMosaic Idealize.ShloMosaic.SparseCore Cert.KernelIdeal Cert.KernelIdeal.Gen
open Idealize.SL Idealize.SL.RA
open Idealize.SL.BI (sProp)
open scoped Idealize.SL.BI
open Idealize.SL.BI.BIBase Idealize.SL.BI.Laws Idealize.SL.Sem Idealize.SL.ProofMode

variable {F : FTy → Type} [FloatOps F]

/-- The constant that stands for "no candidate". -/
def big : F .f32 := Scalar.ofBits .f32 0x7EE1B1E6#32

/-- The least of one lane's entries in the first `q` chunks. -/
def lane (V : ℕ → F .f32) (l : ℕ) : ℕ → F .f32
  | 0 => big
  | q + 1 => FloatOps.minimumf (lane V l q) (V (16 * q + l))

/-- The least entry of the first `T` chunks. -/
def least (V : ℕ → F .f32) (T : ℕ) : F .f32 :=
  (List.range 15).foldl (fun a l => FloatOps.minimumf a (lane V (l + 1) T)) (lane V 0 T)

/-- An entry equal to `m`. -/
def hit (V : ℕ → F .f32) (m : F .f32) (p : ℕ) : Bool := decide (FloatOps.cmpf .oeq (V p) m = 1#1)

/-- The first `n` entries' hits, in order. -/
def hits (V : ℕ → F .f32) (m : F .f32) (n : ℕ) : List ℕ := (List.range n).filter (hit V m)

/-- The entries after the hits among the first `n` are replaced. -/
def clear (V : ℕ → F .f32) (m : F .f32) (n : ℕ) (p : ℕ) : F .f32 := if p < n ∧ hit V m p = true then big else V p

/-- One round on the buffer and the list of extracted positions. -/
def round (T : ℕ) (s : (ℕ → F .f32) × List ℕ) : (ℕ → F .f32) × List ℕ :=
  if s.2.length < 50 then (clear s.1 (least s.1 T) (16 * T), s.2 ++ hits s.1 (least s.1 T) (16 * T)) else s

/-- `k` rounds. -/
def rounds (T : ℕ) (s : (ℕ → F .f32) × List ℕ) : ℕ → (ℕ → F .f32) × List ℕ
  | 0 => s
  | k + 1 => round T (rounds T s k)

theorem hits_add (V : ℕ → F .f32) (m : F .f32) (p n : ℕ) :
    hits V m (p + n) = hits V m p ++ ((List.range n).filter fun k => hit V m (p + k)).map (p + ·) := by
  unfold hits
  rw [List.range_add, List.filter_append, List.filter_map]
  rfl

theorem hits_le (V : ℕ → F .f32) (m : F .f32) (n : ℕ) : (hits V m n).length ≤ n := by
  unfold hits
  exact (List.length_filter_le _ _).trans (by simp)

theorem round_le (T : ℕ) (s : (ℕ → F .f32) × List ℕ) (h : s.2.length ≤ 50 + 16 * T) : (round T s).2.length ≤ 50 + 16 * T := by
  unfold round
  split
  · have := hits_le s.1 (least s.1 T) (16 * T)
    simp only [List.length_append]; omega
  · exact h

theorem says_eq {v w : FVec F (Sh 16) .f32} {V : ℕ → F .f32} {m : F .f32} {p : ℕ} (hv : ∀ x, v x = V (p + (x 0).val)) (hw : ∀ x, w x = m) :
    Says (cmpf .oeq v w) fun k => hit V m (p + k) := by
  intro x
  show FloatOps.cmpf .oeq (v x) (w x) = 1#1 ↔ _
  rw [hv, hw]
  simp [hit]

/-- The chain of lane minima is the fold. -/
theorem chain_eq (a : FVec F S16 .f32) (V : ℕ → F .f32) (T : ℕ) (ha : ∀ x, a x = lane V (x 0).val T) (x : S16.Idx) :
    (k1_pay46 (k1_pay10 a) (k1_pay11 a) (k1_pay12 a) (k1_pay13 a) (k1_pay14 a) (k1_pay15 a) (k1_pay16 a) (k1_pay17 a) (k1_pay18 a)
      (k1_pay19 a) (k1_pay20 a) (k1_pay21 a) (k1_pay22 a) (k1_pay23 a) (k1_pay24 a) (k1_pay25 a)) x = least V T := by
  have e : a = fun x => lane V (x 0).val T := funext ha
  subst e
  rfl

variable {Ix : Type} [DecidableEq Ix] {Name : Type} [DecidableEq Name] {U : Type} [URA U] {Lvl : Type} [Preorder Lvl]

section body
variable (d : Fin nD)
variable (i : grid1.Coords) (arg2 : Memref sig .scVector .hbm S100000000 .f32) (harg2 : arg2.IsWhole) (arg3 : Memref sig .scVector .hbm S10336 .f32)
  (harg3 : arg3.IsWhole) (arg4 : Memref sig .scVector .hbm S10000 .f32) (harg4 : arg4.IsWhole) (arg5 : Memref sig .scVector .hbm S10000 .f32)
  (harg5 : arg5.IsWhole) (arg6 : Memref sig .scVector .hbm S10000 .f32) (harg6 : arg6.IsWhole) (arg7 : Memref sig .scVector .hbm S640000 .i32)
  (harg7 : arg7.IsWhole) (arg8 : Memref sig .scVector .hbm S640000 .f32) (harg8 : arg8.IsWhole) (arg9 : Memref sig .scVector .vmem S10000 .f32)
  (harg9 : arg9.IsWhole) (arg10 : Memref sig .scVector .vmem S10000 .f32) (harg10 : arg10.IsWhole) (arg11 : Memref sig .scVector .vmem S10000 .f32)
  (harg11 : arg11.IsWhole) (arg12 : Memref sig .scVector .vmem S10000 .f32) (harg12 : arg12.IsWhole) (arg13 : Memref sig .scVector .vmem S336 .f32)
  (harg13 : arg13.IsWhole) (arg14 : Memref sig .scVector .vmem S2064 .f32) (harg14 : arg14.IsWhole) (arg15 : Memref sig .scVector .vmem S2064 .i32)
  (harg15 : arg15.IsWhole) (arg16 : Memref sig .scVector .vmem S2064 .f32) (harg16 : arg16.IsWhole) (arg17 : Memref sig .scVector .vmem S2064 .i32)
  (harg17 : arg17.IsWhole) (v30_r0 : DmaSems sig S_) (v30_r1 : DmaSems sig S_) (v30_r2 : DmaSems sig S_) (v30_r3 : DmaSems sig S_)
  (v96_r4 : DmaSems sig S_) (v96_r5 : DmaSems sig S_) (v96_r6 : DmaSems sig S_)

variable {defs : Defs nD τ sig (Elt F) Λ₀} (𝒱 : Variants) (bd : Option 𝒱.V)

local notation "𝕄" => MT nD τ sig Ix (Elt F) Name U Lvl

/-- What the rounds hold: the candidates, their columns, and the two outputs. -/
def drawn (ci : ℕ → BitVec 32) (s : (ℕ → F .f32) × List ℕ) : sProp 𝕄 :=
  iprop(own (thr d i) arg14 (e := .f32) fullShare s.1 ∗ own (thr d i) arg15 (e := .i32) fullShare ci
    ∗ (∃ g, own (thr d i) arg16 (e := .f32) fullShare g) ∗ filt (thr d i) arg17 (e := .i32) ci s.2)

variable {v39 v62 : BitVec 32} {n : ℕ} (hn : n ≤ 2048) (hv : Scalar.minsi (Scalar.addi v39 v62) 2048#32 = BitVec.ofNat 32 n)
include hn hv

/-- The least candidate: a fold over the chunks, then over the lanes. -/
theorem wp_part2 {α : Type} {Q : α → sProp 𝕄} (k : Fin k1_t1_loop.trips) (h1 : k1_cond1 i k = 1#1) (v85 a : BitVec 32)
    (hw13 : k1_chk13 i k v39 v62 a) (h3 : k1_cond3 a = 1#1) (V : ℕ → F .f32) {kk : _ → Prog (TpuEff nD τ sig (Elt F) Λ₀ (thr d i).2) α} :
    (own (thr d i) arg14 (e := .f32) fullShare V : sProp 𝕄)
      ⊢ iprop((∀ w : FVec F S16 .f32, ⌜∀ x, w x = lane V (x 0).val (n / 16 + 1)⌝ -∗ own (thr d i) arg14 (e := .f32) fullShare V
          -∗ wp frame (wpE defs 𝒱 (thr d i) bd) Set.univ (kk ⟨k1_pay10 w, k1_pay11 w, k1_pay12 w, k1_pay13 w, k1_pay14 w, k1_pay15 w,
            k1_pay16 w, k1_pay17 w, k1_pay18 w, k1_pay19 w, k1_pay20 w, k1_pay21 w, k1_pay22 w, k1_pay23 w, k1_pay24 w, k1_pay25 w⟩) Q)
        -∗ wp frame (wpE defs 𝒱 (thr d i) bd) Set.univ (k1_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v39 v62 v85 a hw13 h3 >>= kk) Q) := by
  rw [k1_part2_eq_skeleton]
  unfold k1_part2_skel
  simp only [Prog.lift, Prog.bind_op, Prog.bind_ret, Prog.pure_eq_ret, Prog.bind_assoc]
  iintro H Hk
  have htr : Scf.trips (k1_t4_loop v39 v62).lb (k1_t4_loop v39 v62).ub (k1_t4_loop v39 v62).st = n / 16 + 1 := t4_trips hn hv
  iapply (Scf.wp_for_bind frame (wpE defs 𝒱 (thr d i) bd) Set.univ _ _ _ (k1_t4_ok i k v39 v62 a hw13 h1 h3) (k1_pay7 (F := F))
    (k1_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v39 v62 v85 a hw13 h3)
    (fun q acc => iprop(⌜∀ x, acc x = lane V (x 0).val q⌝ ∗ own (thr d i) arg14 (e := .f32) fullShare V))
    (fun q acc => by
      unfold k1_t4_body
      simp only [Prog.lift, Prog.bind_op, Prog.bind_ret, Prog.pure_eq_ret, Prog.bind_assoc]
      iintro ⟨%ha, H⟩
      iapply (wp_load_lanes 𝒱 (thr d i) bd (o := 16 * q.val) (off5_eq hn hv q)) $$ H
      iintro %w %hw H
      rw [wp_ret]
      imodintro
      isplitr
      · ipureintro
        intro x
        show FloatOps.minimumf (acc x) (w x) = _
        rw [ha, hw]; rfl
      · iexact H)) $$ [H] [Hk]
  · isplitr; · ipureintro; exact fun _ => rfl
    iexact H
  · rw [htr]
    iintro %acc ⟨%ha, H⟩
    iapply (Scf.wp_for0_bind' frame (wpE defs 𝒱 (thr d i) bd) Set.univ _ _ _ (k1_t5_ok i k v39 v62 a hw13 h1 h3) acc
      (k1_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v39 v62 v85 a hw13 h3) (t5_trips hn hv) _ _ _ (Entails.rfl))
    iapply Hk $$ [] [H]
    · ipureintro; exact ha
    · iexact H

/-- One chunk's entries equal to the least one are moved out. -/
theorem wp_t6_body (k : Fin k1_t1_loop.trips) (h1 : k1_cond1 i k = 1#1) (v33 : BitVec 32) (hw12 : k1_chk12 i k v39 v62) (v64 : BitVec 32)
    (cst : F .f32) (a : BitVec 32) (hw13 : k1_chk13 i k v39 v62 a) (h3 : k1_cond3 a = 1#1) (v170 : FVec F S16 .f32) (V : ℕ → F .f32) (m : F .f32)
    (hm : ∀ x, v170 x = m) (ci : ℕ → BitVec 32) (l : List ℕ) (hl : l.length < 50) (q : Fin (k1_t6_loop v39 v62).trips) :
    (drawn d i arg14 arg15 arg16 arg17 ci (clear V m (16 * q.val), l ++ hits V m (16 * q.val)) : sProp 𝕄)
      ⊢ wp frame (wpE defs 𝒱 (thr d i) bd) Set.univ
        (k1_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst a hw13 h3 v170 q (BitVec.ofNat 32 (l ++ hits V m (16 * q.val)).length))
        fun acc => iprop(⌜acc = BitVec.ofNat 32 (l ++ hits V m (16 * (q.val + 1))).length⌝
          ∗ drawn d i arg14 arg15 arg16 arg17 ci (clear V m (16 * (q.val + 1)), l ++ hits V m (16 * (q.val + 1)))) := by
  have hq : q.val < n / 16 + 1 := lt_of_lt_of_eq q.isLt (t6_trips hn hv)
  have hh := hits_le V m (16 * q.val)
  unfold k1_t6_body
  simp only [Prog.lift, Prog.bind_op, Prog.bind_ret, Prog.pure_eq_ret, Prog.bind_assoc]
  unfold drawn
  dsimp only
  have hln : (l ++ hits V m (16 * q.val)).length ≤ 3000 := by rw [List.length_append]; omega
  have e2 : l ++ hits V m (16 * q.val + 16)
      = (l ++ hits V m (16 * q.val)) ++ ((List.range 16).filter fun k => hit V m (16 * q.val + k)).map (16 * q.val + ·) := by
    rw [hits_add, List.append_assoc]
  have e3 : (l ++ hits V m (16 * q.val + 16)).length = (l ++ hits V m (16 * q.val)).length + cnt (fun k => hit V m (16 * q.val + k)) 16 := by
    rw [e2, List.length_append, List.length_map, cnt_eq]
  have e64 : 16 * (q.val + 1) = 16 * q.val + 16 := by omega
  rw [e64]
  iintro ⟨Hv, Hi, ⟨%g, Ho⟩, Hf⟩
  iapply (wp_load_lanes 𝒱 (thr d i) bd (o := 16 * q.val) (off7_eq hn hv q)) $$ Hv
  iintro %w %hw Hv
  have hw' : ∀ x, w x = V (16 * q.val + (x 0).val) := by
    intro x
    rw [hw]
    unfold clear
    rw [if_neg (by omega)]
  have hs : Says (k1_pay47 v170 w) _ := says_eq hw' hm
  have hi : ∀ x, (k1_pay48 v170 (BitVec.ofNat 32 (l ++ hits V m (16 * q.val)).length) w x).toNat = _ :=
    index_at hs natLt_1_32 (o := min (l ++ hits V m (16 * q.val)).length 2048) (by rw [minsi_cap _ (by omega)]) (by omega)
  have hlast := last_says hs natLt_1_32 inpos_S16_p15
  iapply (wp_assume 𝒱 (thr d i) bd Set.univ (show k1_chk14 _ _ _ _ from fun _ _ => idx_ok hi (by omega)))
  iapply (wp_scatter_own 𝒱 (thr d i) bd _ _ (fun k => V (16 * q.val + k)) hw' hs hi) $$ Ho
  iintro Ho
  iapply (wp_load_lanes 𝒱 (thr d i) bd (o := 16 * q.val) (off8_eq hn hv q)) $$ Hi
  iintro %u %hu Hi
  iapply (wp_assume 𝒱 (thr d i) bd Set.univ (show k1_chk15 _ _ _ _ from fun _ _ => idx_ok hi (by omega)))
  iapply (wp_filt 𝒱 (thr d i) bd (l ++ hits V m (16 * q.val)) (16 * q.val) _ hu hs hi) $$ Hf
  iintro Hf
  rw [← e2]
  iapply (wp_load_lanes 𝒱 (thr d i) bd (o := 16 * q.val) (off9_eq hn hv q)) $$ Hv
  iintro %u' - Hv
  iapply (wp_store_own 𝒱 (thr d i) bd (clear V m (16 * q.val + 16)) ?hst1 ?hst2) $$ Hv
  case hst1 =>
    intro x
    have hx : (x 0).val < 16 := (x 0).isLt
    rw [off9_eq hn hv q]
    show (if k1_pay47 v170 w x = 1#1 then big else w x) = _
    unfold clear
    by_cases h : hit V m (16 * q.val + (x 0).val) = true
    · rw [if_pos ((hs x).2 h), if_pos ⟨by omega, h⟩]
    · rw [if_neg (fun h' => h ((hs x).1 h')), if_neg (fun h' => h h'.2), hw']
  case hst2 =>
    intro p hp
    rw [off9_eq hn hv q] at hp
    change p < 16 * q.val ∨ 16 * q.val + 16 ≤ p at hp
    unfold clear
    by_cases h : hit V m p = true
    · simp only [h, and_true]
      split <;> split <;> first | rfl | (exfalso; omega)
    · rw [if_neg (fun h' => h h'.2), if_neg (fun h' => h h'.2)]
  iintro Hv
  rw [wp_ret]
  imodintro
  isplitr
  · ipureintro
    rw [e3, ← addi_ofNat, ← hlast]; rfl
  isplitl [Hv]; · iexact Hv
  isplitl [Hi]; · iexact Hi
  isplitl [Ho]; · iexists _; iexact Ho
  iexact Hf

/-- One round. -/
theorem wp_t3_body (k : Fin k1_t1_loop.trips) (h1 : k1_cond1 i k = 1#1) (v33 : BitVec 32) (hw12 : k1_chk12 i k v39 v62) (v64 : BitVec 32)
    (cst : F .f32) (v85 : BitVec 32) (ci : ℕ → BitVec 32) (s : (ℕ → F .f32) × List ℕ) (hs : s.2.length ≤ 50 + 16 * (n / 16 + 1))
    (q : Fin k1_t3_loop.trips) :
    (drawn d i arg14 arg15 arg16 arg17 ci s : sProp 𝕄)
      ⊢ wp frame (wpE defs 𝒱 (thr d i) bd) Set.univ
        (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst v85 q (BitVec.ofNat 32 s.2.length))
        fun acc => iprop(⌜acc = BitVec.ofNat 32 (round (n / 16 + 1) s).2.length⌝
          ∗ drawn d i arg14 arg15 arg16 arg17 ci (round (n / 16 + 1) s)) := by
  unfold k1_t3_body
  simp only [Prog.lift, Prog.bind_op, Prog.bind_ret, Prog.pure_eq_ret, Prog.bind_assoc]
  iintro H
  have hw13 := chk13_holds hn hv i k (BitVec.ofNat 32 s.2.length)
  iapply (wp_assume 𝒱 (thr d i) bd Set.univ hw13)
  by_cases h3 : k1_cond3 (BitVec.ofNat 32 s.2.length) = 1#1
  · rw [dif_pos h3]
    have hl : s.2.length < 50 := (cond3_iff _ (by omega)).1 h3
    have er : round (n / 16 + 1) s = (clear s.1 (least s.1 (n / 16 + 1)) (16 * (n / 16 + 1)), s.2 ++ hits s.1 (least s.1 (n / 16 + 1)) (16 * (n / 16 + 1))) := by
      unfold round; rw [if_pos hl]
    unfold drawn
    icases H with ⟨Hv, Hi, Ho, Hf⟩
    simp only [Prog.lift, Prog.bind_op, Prog.bind_ret, Prog.pure_eq_ret, Prog.bind_assoc]
    iapply (wp_part2 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd hn hv k h1 v85 _ hw13 h3 s.1) $$ Hv
    iintro %w %hw Hv
    have hm := chain_eq w s.1 (n / 16 + 1) hw
    generalize least s.1 (n / 16 + 1) = m at hm er
    dsimp only
    generalize k1_pay46 (k1_pay10 w) (k1_pay11 w) (k1_pay12 w) (k1_pay13 w) (k1_pay14 w) (k1_pay15 w) (k1_pay16 w) (k1_pay17 w) (k1_pay18 w)
      (k1_pay19 w) (k1_pay20 w) (k1_pay21 w) (k1_pay22 w) (k1_pay23 w) (k1_pay24 w) (k1_pay25 w) = v170 at hm
    have htr : Scf.trips (k1_t6_loop v39 v62).lb (k1_t6_loop v39 v62).ub (k1_t6_loop v39 v62).st = n / 16 + 1 := t6_trips hn hv
    have h0 : (clear s.1 m (16 * 0), s.2 ++ hits s.1 m (16 * 0)) = s := by
      have e1 : clear s.1 m 0 = s.1 := by funext p; unfold clear; rw [if_neg (by omega)]
      have e2 : hits s.1 m 0 = [] := rfl
      rw [Nat.mul_zero, e1, e2, List.append_nil]
    iapply (Scf.wp_for_bind frame (wpE defs 𝒱 (thr d i) bd) Set.univ _ _ _ (k1_t6_ok i k v39 v62 _ hw13 h1 h3) _
      (k1_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst _ hw13 h3 v170)
      (fun q acc => iprop(⌜acc = BitVec.ofNat 32 (s.2 ++ hits s.1 m (16 * q)).length⌝
        ∗ drawn d i arg14 arg15 arg16 arg17 ci (clear s.1 m (16 * q), s.2 ++ hits s.1 m (16 * q))))
      (fun q acc => by
        iintro ⟨%ha, H⟩
        subst ha
        iapply (wp_t6_body d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd hn hv k h1 v33 hw12 v64 cst _ hw13 h3 v170 s.1 m hm ci s.2 hl q)
        iexact H)) $$ [Hv Hi Ho Hf] []
    · rw [h0]
      isplitr
      · ipureintro; rw [show s.2 ++ hits s.1 m (16 * 0) = s.2 from congrArg Prod.snd h0]
      unfold drawn
      isplitl [Hv]; · iexact Hv
      isplitl [Hi]; · iexact Hi
      isplitl [Ho]; · iexact Ho
      iexact Hf
    · rw [htr, er]
      iintro %acc ⟨%ha, H⟩
      iapply (Scf.wp_for0_bind' frame (wpE defs 𝒱 (thr d i) bd) Set.univ _ _ _ (k1_t7_ok i k v39 v62 _ hw13 h1 h3) acc
        (k1_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst _ hw13 h3 v170) (t7_trips hn hv) _ _ _ (Entails.rfl))
      rw [wp_ret]
      imodintro
      isplitr; · ipureintro; exact ha
      unfold drawn
      iexact H
  · rw [dif_neg h3]
    have hl : ¬s.2.length < 50 := fun h => h3 ((cond3_iff _ (by omega)).2 h)
    have er : round (n / 16 + 1) s = s := by unfold round; rw [if_neg hl]
    rw [er, wp_ret]
    imodintro
    isplitr; · ipureintro; rfl
    iexact H

/-- All fifty rounds. -/
theorem wp_t3_loop {α : Type} {Q : α → sProp 𝕄} (k : Fin k1_t1_loop.trips) (h1 : k1_cond1 i k = 1#1) (v33 : BitVec 32)
    (hw12 : k1_chk12 i k v39 v62) (v64 : BitVec 32) (cst : F .f32) (v85 : BitVec 32) (ci : ℕ → BitVec 32) (V : ℕ → F .f32)
    {kk : BitVec 32 → Prog (TpuEff nD τ sig (Elt F) Λ₀ (thr d i).2) α} :
    (drawn d i arg14 arg15 arg16 arg17 ci (V, []) : sProp 𝕄)
      ⊢ iprop((∀ a, drawn d i arg14 arg15 arg16 arg17 ci (rounds (n / 16 + 1) (V, []) 50) -∗ wp frame (wpE defs 𝒱 (thr d i) bd) Set.univ (kk a) Q)
        -∗ wp frame (wpE defs 𝒱 (thr d i) bd) Set.univ
          (Scf.Loop.for k1_t3_loop (k1_t3_ok i k h1) 0#32 (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst v85) >>= kk) Q) := by
  iintro H Hk
  have hlen : ∀ q, (rounds (n / 16 + 1) (V, []) q).2.length ≤ 50 + 16 * (n / 16 + 1) := by
    intro q
    induction q with
    | zero => exact Nat.zero_le _
    | succ q ih => exact round_le _ _ ih
  iapply (Scf.wp_for_bind frame (wpE defs 𝒱 (thr d i) bd) Set.univ _ _ _ (k1_t3_ok i k h1) (0#32)
    (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst v85)
    (fun q acc => iprop(⌜acc = BitVec.ofNat 32 (rounds (n / 16 + 1) (V, []) q).2.length⌝
      ∗ drawn d i arg14 arg15 arg16 arg17 ci (rounds (n / 16 + 1) (V, []) q)))
    (fun q acc => by
      iintro ⟨%ha, H⟩
      subst ha
      iapply (wp_t3_body d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd hn hv k h1 v33 hw12 v64 cst v85 ci _ (hlen q.val) q)
      iexact H)) $$ [H] [Hk]
  · isplitr; · ipureintro; rfl
    iexact H
  · have ht : Scf.trips k1_t3_loop.lb k1_t3_loop.ub k1_t3_loop.st = 50 := t3_trips
    rw [ht]
    iintro %acc ⟨-, H⟩
    iapply Hk
    iexact H

end body

end Cert.Proof.Knn

end
-- ==== Proof.Row.lean ====
/-
  Row: one row of the neighbour search. The row's distances are copied in and scanned, the smallest candidates are moved
  out in rounds, the squared distances of the chosen points are computed, and both are copied out.
-/
module

public import proofs.«01_k».proof.Proof.Extract

@[expose] public section

noncomputable section

namespace Cert.Proof.Knn

open Idealize.ShloMosaic Idealize.ShloMosaic.SparseCore Cert.KernelIdeal Cert.KernelIdeal.Gen
open Idealize.SL Idealize.SL.RA
open Idealize.SL.BI (sProp)
open scoped Idealize.SL.BI
open Idealize.SL.BI.BIBase Idealize.SL.BI.Laws Idealize.SL.Sem Idealize.SL.ProofMode

variable {F : FTy → Type} [FloatOps F]

/-- The point a neighbour word names: the word brought into range. -/
def clampW (w : BitVec 32) : ℕ := (IntOp.minsi 9999#32 (IntOp.maxsi 0#32 w)).toNat

theorem clampW_lt (w : BitVec 32) : clampW w < 10000 := by
  obtain ⟨e, he⟩ : ∃ e : ℤ, Affine.IsInt w e := ⟨w.toInt, by unfold Affine.IsInt; rfl⟩
  have h : Affine.IsInt (IntOp.minsi 9999#32 (IntOp.maxsi 0#32 w)) (min 9999 (max 0 e)) :=
    Affine.minsi (Affine.ofNat 9999 ⟨rfl, by omega⟩) (Affine.maxsi (Affine.ofNat 0 ⟨rfl, by omega⟩) he rfl) rfl
  have h2 := Affine.nat_eq h (min 9999 (max 0 e)).toNat (by omega)
  unfold clampW
  rw [h2]; omega

theorem sh_pos {n : ℕ} (h : 0 < n) : 0 < (Sh n).numel := by
  simpa [Shape.numel] using h

/-- The squared distance of points `r` and `j`. -/
def sqd (X Y Z : ℕ → F .f32) (r j : ℕ) : F .f32 :=
  FloatOps.addf (FloatOps.addf (FloatOps.mulf (FloatOps.subf (X j) (X r)) (FloatOps.subf (X j) (X r)))
    (FloatOps.mulf (FloatOps.subf (Y j) (Y r)) (FloatOps.subf (Y j) (Y r))))
    (FloatOps.mulf (FloatOps.subf (Z j) (Z r)) (FloatOps.subf (Z j) (Z r)))

/-- What a finished row says: the neighbour words `nb` are the columns of the candidates extracted by the rounds, and
    `val` are the squared distances to the points they name. -/
def RowOk (row : ℕ → F .f32) (t : F .f32) (X Y Z : ℕ → F .f32) (r : ℕ) (nb : ℕ → BitVec 32) (val : ℕ → F .f32) : Prop :=
  (∀ c < 64, val c = sqd X Y Z r (clampW (nb c)))
  ∧ ((cands row t 10000).length ≤ 2048 → ∃ (V : ℕ → F .f32) (ci : ℕ → BitVec 32),
      (∀ (p : ℕ) (h : p < (cands row t 10000).length), V p = row (cands row t 10000)[p] ∧ ci p = BitVec.ofNat 32 (cands row t 10000)[p])
      ∧ (∀ p, (cands row t 10000).length ≤ p → p < 16 * ((cands row t 10000).length / 16 + 1) → V p = big)
      ∧ ((rounds ((cands row t 10000).length / 16 + 1) (V, []) 50).2.length ≤ 2048 →
        ∀ c < 64, ∀ (h : c < (rounds ((cands row t 10000).length / 16 + 1) (V, []) 50).2.length),
          nb c = ci (rounds ((cands row t 10000).length / 16 + 1) (V, []) 50).2[c]))

theorem RowOk.congr {row : ℕ → F .f32} {t : F .f32} {X Y Z : ℕ → F .f32} {r : ℕ} {nb nb' : ℕ → BitVec 32} {val val' : ℕ → F .f32}
    (h : RowOk row t X Y Z r nb val) (h1 : ∀ c < 64, nb' c = nb c) (h2 : ∀ c < 64, val' c = val c) : RowOk row t X Y Z r nb' val' := by
  refine ⟨fun c hc => by rw [h1 c hc, h2 c hc]; exact h.1 c hc, fun hl => ?_⟩
  obtain ⟨V, ci, a, b, c⟩ := h.2 hl
  exact ⟨V, ci, a, b, fun hl c' hc' h' => by rw [h1 c' hc']; exact c hl c' hc' h'⟩

variable {Ix : Type} [DecidableEq Ix] {Name : Type} [DecidableEq Name] {U : Type} [URA U] {Lvl : Type} [Preorder Lvl]
variable [CountersIn U] [Infinite Name]

section body
variable (d : Fin nD)
variable (i : grid1.Coords) (arg2 : Memref sig .scVector .hbm S100000000 .f32) (harg2 : arg2.IsWhole) (arg3 : Memref sig .scVector .hbm S10336 .f32)
  (harg3 : arg3.IsWhole) (arg4 : Memref sig .scVector .hbm S10000 .f32) (harg4 : arg4.IsWhole) (arg5 : Memref sig .scVector .hbm S10000 .f32)
  (harg5 : arg5.IsWhole) (arg6 : Memref sig .scVector .hbm S10000 .f32) (harg6 : arg6.IsWhole) (arg7 : Memref sig .scVector .hbm S640000 .i32)
  (harg7 : arg7.IsWhole) (arg8 : Memref sig .scVector .hbm S640000 .f32) (harg8 : arg8.IsWhole) (arg9 : Memref sig .scVector .vmem S10000 .f32)
  (harg9 : arg9.IsWhole) (arg10 : Memref sig .scVector .vmem S10000 .f32) (harg10 : arg10.IsWhole) (arg11 : Memref sig .scVector .vmem S10000 .f32)
  (harg11 : arg11.IsWhole) (arg12 : Memref sig .scVector .vmem S10000 .f32) (harg12 : arg12.IsWhole) (arg13 : Memref sig .scVector .vmem S336 .f32)
  (harg13 : arg13.IsWhole) (arg14 : Memref sig .scVector .vmem S2064 .f32) (harg14 : arg14.IsWhole) (arg15 : Memref sig .scVector .vmem S2064 .i32)
  (harg15 : arg15.IsWhole) (arg16 : Memref sig .scVector .vmem S2064 .f32) (harg16 : arg16.IsWhole) (arg17 : Memref sig .scVector .vmem S2064 .i32)
  (harg17 : arg17.IsWhole) (v30_r0 : DmaSems sig S_) (v30_r1 : DmaSems sig S_) (v30_r2 : DmaSems sig S_) (v30_r3 : DmaSems sig S_)
  (v96_r4 : DmaSems sig S_) (v96_r5 : DmaSems sig S_) (v96_r6 : DmaSems sig S_)

variable {defs : Defs nD τ sig (Elt F) Λ₀} (𝒱 : Variants) (bd : Option 𝒱.V)
variable {ι : Ix} {O : CellTallies nD τ sig Ix} {W : Waits sig Ix}

local notation "𝕄" => MT nD τ sig Ix (Elt F) Name U Lvl

/-- A buffer of the tile whose contents do not matter. -/
def junk {sp : Space} {n : ℕ} {e : EltTy} (m : Memref sig Kind.scVector sp (Sh n) e) : sProp 𝕄 := iprop(∃ g, own (thr d i) m fullShare g)

/-- The scan of a row: its distances copied in, the candidates appended to the two buffers. -/
theorem wp_part3 {α : Type} {Q : α → sProp 𝕄} (k : Fin k1_t1_loop.trips) (h1 : k1_cond1 i k = 1#1) (v27 : IVec S16 32)
    (hv27 : ∀ x, v27 x = BitVec.ofNat 32 (x 0).val) (D T : ℕ → F .f32) (q : PosShare TreeShare)
    {kk : _ → Prog (TpuEff nD τ sig (Elt F) Λ₀ (thr d i).2) α} {t : F .f32} {row : ℕ → F .f32}
    (ht : T (k.val + base i % 8) = t) (hrow : (fun p => D (10000 * (base i + k.val) + p)) = row) :
    (iprop(own (thr d i) arg2 (e := .f32) q D ∗ junk d i arg9 (e := .f32) ∗ own (thr d i) arg13 (e := .f32) fullShare T
        ∗ junk d i arg14 (e := .f32) ∗ junk d i arg15 (e := .i32) ∗ semVal (thr d i, .dma v96_r4.sem) 0 ∗ live (thr d i) ι O W) : sProp 𝕄)
      ⊢ iprop((∀ v39 v62 hw12, ⌜Scalar.minsi (Scalar.addi v39 v62) 2048#32 = BitVec.ofNat 32 (min (cands row t 10000).length 2048)⌝
          -∗ iprop(own (thr d i) arg2 (e := .f32) q D ∗ own (thr d i) arg13 (e := .f32) fullShare T ∗ scanned d i arg9 arg14 arg15 row t 10000
            ∗ semVal (thr d i, .dma v96_r4.sem) 0 ∗ live (thr d i) ι O W)
          -∗ wp frame (wpE defs 𝒱 (thr d i) bd) Set.univ (kk ⟨rowW i k, v39, v62, hw12, Scalar.minsi (Scalar.addi v39 v62) 2048#32, big⟩) Q)
        -∗ wp frame (wpE defs 𝒱 (thr d i) bd) Set.univ (k1_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 (baseW i) (Scalar.subi (baseW i) (tbaseW (baseW i))) v27 k
          (Scf.iv 0#32 1#32 k) h1 >>= kk) Q) := by
  have hk : k.val < 313 := lt_of_lt_of_eq k.isLt t1_trips
  rw [k1_part3_eq_skeleton]
  unfold k1_part3_skel
  simp only [Prog.lift, Prog.bind_op, Prog.bind_ret, Prog.pure_eq_ret, Prog.bind_assoc]
  unfold junk
  iintro ⟨Hd, ⟨%g9, H9⟩, Ht, ⟨%g14, H14⟩, ⟨%g15, H15⟩, Hs, Hl⟩ Hk
  iapply (wp_copy_from 𝒱 (thr d i) bd (View.amount_pos _ _ (sh_pos (by omega))) rfl) $$ [Hd H9 Hs Hl]
  · isplitl [Hd]; · iexact Hd
    isplitl [H9]; · iexact H9
    isplitl [Hs] <;> iassumption
  iintro ⟨Hd, H9, Hs, Hl⟩
  rw [off2_eq, hrow]
  have hto : (Scalar.addi (Scf.iv 0#32 1#32 k) (Scalar.subi (baseW i) (tbaseW (baseW i)))).toNat = k.val + base i % 8 :=
    Affine.nat_eq (toff_int i k hk) _ rfl
  iapply (wp_assume 𝒱 (thr d i) bd Set.univ (show k1_chk1 _ _ _ from fun _ a x => by
    fin_cases a
    show (Scalar.addi (Scf.iv 0#32 1#32 k) (Scalar.subi (baseW i) (tbaseW (baseW i)))).toNat < 336
    rw [hto]; omega))
  iapply (wp_gather_own 𝒱 (thr d i) bd) $$ Ht
  iintro Ht
  have hv37 : ∀ x : S16.Idx, (fun x : S16.Idx => T ((![broadcast S16 (Scalar.addi (Scf.iv 0#32 1#32 k) (Scalar.subi (baseW i) (tbaseW (baseW i))))] : Fin 1 → IVec S16 32) 0 x).toNat) x = t := by
    intro x
    show T (Scalar.addi (Scf.iv 0#32 1#32 k) (Scalar.subi (baseW i) (tbaseW (baseW i)))).toNat = t
    rw [hto, ht]
  generalize (fun x : S16.Idx => T ((![broadcast S16 (Scalar.addi (Scf.iv 0#32 1#32 k) (Scalar.subi (baseW i) (tbaseW (baseW i))))] : Fin 1 → IVec S16 32) 0 x).toNat) = v37 at hv37
  have hnil : cands row t 0 = [] := rfl
  iapply (wp_t2_loop d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd (baseW i) (Scalar.subi (baseW i) (tbaseW (baseW i))) v27 k (Scf.iv 0#32 1#32 k) h1 v37 row t hv37 hv27 rfl) $$ [H9 H14 H15]
  · unfold scanned filt
    isplitl [H9]; · iexact H9
    isplitl [H14]
    · iexists g14
      isplitr; · ipureintro; intro _; exact ⟨g14, by rw [hnil, List.map_nil, place_nil]⟩
      iexact H14
    · iexists g15
      isplitr; · ipureintro; intro _; exact ⟨g15, by rw [hnil, List.map_nil, place_nil]⟩
      iexact H15
  unfold scanned
  iintro ⟨H9, Hv, Hi⟩
  iapply (wp_load_lanes 𝒱 (thr d i) bd (o := 9984) rfl) $$ H9
  iintro %w %hw H9
  have hm : Says (k1_pay40 v37 w) _ := says_le hw hv37
  have hl := cands_le row t 9984
  have e1 := cands_add_length row t 9984 16
  have hlast := last_says hm natLt_1_32 inpos_S16_p15
  have i0 : ∀ x, (k1_pay41 v37 (BitVec.ofNat 32 (min (cands row t 9984).length 2048)) w x).toNat = _ :=
    index_at hm natLt_1_32 (o := min (cands row t 9984).length 2048) (by rw [cap_cap _ (by omega), min_assoc, min_self]) (by omega)
  have col : ∀ x : S16.Idx, k1_pay42 v27 x = BitVec.ofNat 32 (9984 + (x 0).val) := by
    intro x
    show v27 x + 9984#32 = _
    rw [hv27, ← BitVec.ofNat_add, Nat.add_comm]
  iapply (wp_assume 𝒱 (thr d i) bd Set.univ (show k1_chk10 _ _ _ from fun _ => idx_ok i0 (by omega)))
  iapply (wp_filt 𝒱 (thr d i) bd (cands row t 9984) 9984 _ hw hm i0) $$ Hv
  iintro Hv
  iapply (wp_assume 𝒱 (thr d i) bd Set.univ (show k1_chk11 _ _ _ from fun _ => idx_ok i0 (by omega)))
  iapply (wp_filt 𝒱 (thr d i) bd (cands row t 9984) 9984 _ col hm i0) $$ Hi
  iintro Hi
  rw [← cands_add row t 9984 16]
  change (cands row t 10000).length = _ at e1
  have hc := cnt_le (fun k => le (row (9984 + k)) t) 16
  have hfin : Scalar.minsi (Scalar.addi (BitVec.ofNat 32 (min (cands row t 9984).length 2048)) (extractAt ![15] (k1_pay44 v37 w) inpos_S16_p15)) 2048#32
      = BitVec.ofNat 32 (min (cands row t 10000).length 2048) := by
    rw [show extractAt ![15] (k1_pay44 v37 w) inpos_S16_p15 = _ from hlast, addi_ofNat, minsi_cap _ (by omega)]
    exact congrArg (BitVec.ofNat 32) (by omega)
  iapply (wp_assume 𝒱 (thr d i) bd Set.univ (chk12_holds (by omega) hfin i k))
  iapply Hk $$ [] [Hd Ht H9 Hv Hi Hs Hl]
  · ipureintro; exact hfin
  isplitl [Hd]; · iexact Hd
  isplitl [Ht]; · iexact Ht
  isplitl [H9 Hv Hi]
  · isplitl [H9]; · iexact H9
    isplitl [Hv] <;> iassumption
  isplitl [Hs] <;> iassumption

omit [CountersIn U] [Infinite Name] in
/-- The squared distances of a row's first 64 entries. -/
theorem wp_t8_loop {α : Type} {Q : α → sProp 𝕄} (k : Fin k1_t1_loop.trips) (h1 : k1_cond1 i k = 1#1) {v33 v39 v62 : BitVec 32}
    {hw12 : k1_chk12 i k v39 v62} {v64 : BitVec 32} {cst : F .f32} {v89 v90 v91 : Vec F S16 .f32} {X Y Z : ℕ → F .f32} {r : ℕ}
    (h89 : ∀ x, v89 x = X r) (h90 : ∀ x, v90 x = Y r) (h91 : ∀ x, v91 x = Z r) (nb : ℕ → BitVec 32)
    {kk : BitVec 32 → Prog (TpuEff nD τ sig (Elt F) Λ₀ (thr d i).2) α} :
    (iprop(own (thr d i) arg10 (e := .f32) fullShare X ∗ own (thr d i) arg11 (e := .f32) fullShare Y ∗ own (thr d i) arg12 (e := .f32) fullShare Z
        ∗ junk d i arg16 (e := .f32) ∗ own (thr d i) arg17 (e := .i32) fullShare nb) : sProp 𝕄)
      ⊢ iprop((∀ a g, ⌜∀ c < 64, g c = sqd X Y Z r (clampW (nb c))⌝
          -∗ iprop(own (thr d i) arg10 (e := .f32) fullShare X ∗ own (thr d i) arg11 (e := .f32) fullShare Y
            ∗ own (thr d i) arg12 (e := .f32) fullShare Z ∗ own (thr d i) arg16 (e := .f32) fullShare g ∗ own (thr d i) arg17 (e := .i32) fullShare nb)
          -∗ wp frame (wpE defs 𝒱 (thr d i) bd) Set.univ (kk a) Q)
        -∗ wp frame (wpE defs 𝒱 (thr d i) bd) Set.univ
          (Scf.Loop.for k1_t8_loop (k1_t8_ok i k h1) 0#32 (k1_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst v89 v90 v91) >>= kk) Q) := by
  unfold junk
  iintro ⟨Hx, Hy, Hz, ⟨%g0, Ho⟩, Hn⟩ Hk
  iapply (Scf.wp_for_bind frame (wpE defs 𝒱 (thr d i) bd) Set.univ _ _ _ (k1_t8_ok i k h1) (0#32)
    (k1_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 k h1 v33 v39 v62 hw12 v64 cst v89 v90 v91)
    (fun q _ => iprop(∃ g, ⌜∀ c < 16 * q, g c = sqd X Y Z r (clampW (nb c))⌝
      ∗ iprop(own (thr d i) arg10 (e := .f32) fullShare X ∗ own (thr d i) arg11 (e := .f32) fullShare Y
            ∗ own (thr d i) arg12 (e := .f32) fullShare Z ∗ own (thr d i) arg16 (e := .f32) fullShare g ∗ own (thr d i) arg17 (e := .i32) fullShare nb)))
    (fun q acc => by
      have hq : q.val < 4 := lt_of_lt_of_eq q.isLt t8_trips
      unfold k1_t8_body
      simp only [Prog.lift, Prog.bind_op, Prog.bind_ret, Prog.pure_eq_ret, Prog.bind_assoc]
      iintro ⟨%g, %hg, Hx, Hy, Hz, Ho, Hn⟩
      iapply (wp_load_lanes 𝒱 (thr d i) bd (o := 16 * q.val) (off13_eq q)) $$ Hn
      iintro %w %hw Hn
      have hc : ∀ a x, ((![k1_pay56 w] : Fin 1 → IVec S16 32) a x).toNat < S10000.size a := by
        intro a x
        fin_cases a
        exact clampW_lt (w x)
      iapply (wp_assume 𝒱 (thr d i) bd Set.univ (show k1_chk19 i k (k1_pay56 w) from ⟨fun _ => hc, fun _ => hc, fun _ => hc⟩))
      iapply (wp_gather_own 𝒱 (thr d i) bd) $$ Hx
      iintro Hx
      iapply (wp_gather_own 𝒱 (thr d i) bd) $$ Hy
      iintro Hy
      iapply (wp_gather_own 𝒱 (thr d i) bd) $$ Hz
      iintro Hz
      iapply (wp_load_lanes 𝒱 (thr d i) bd (o := 16 * q.val) (off14_eq q)) $$ Ho
      iintro %w' - Ho
      iapply (wp_store_own 𝒱 (thr d i) bd (fun c => if 16 * q.val ≤ c ∧ c < 16 * q.val + 16 then sqd X Y Z r (clampW (nb c)) else g c)
        ?hst1 ?hst2) $$ Ho
      case hst1 =>
        intro x
        have hx : (x 0).val < 16 := (x 0).isLt
        rw [off14_eq q, if_pos ⟨by omega, by omega⟩, ← hw x]
        unfold sqd
        rw [← h89 x, ← h90 x, ← h91 x]
        rfl
      case hst2 =>
        intro p hp
        rw [off14_eq q] at hp
        change p < 16 * q.val ∨ 16 * q.val + 16 ≤ p at hp
        rw [if_neg (by omega)]
      iintro Ho
      rw [wp_ret]
      imodintro
      iexists _
      isplitr
      rotate_left
      · isplitl [Hx]; · iexact Hx
        isplitl [Hy]; · iexact Hy
        isplitl [Hz]; · iexact Hz
        isplitl [Ho] <;> iassumption
      ipureintro
      intro c hc
      by_cases h : 16 * q.val ≤ c ∧ c < 16 * q.val + 16
      · rw [if_pos h]
      · rw [if_neg h]; exact hg c (by omega))) $$ [Hx Hy Hz Ho Hn] [Hk]
  · iexists g0
    isplitr; · ipureintro; intro c hc; omega
    isplitl [Hx]; · iexact Hx
    isplitl [Hy]; · iexact Hy
    isplitl [Hz]; · iexact Hz
    isplitl [Ho] <;> iassumption
  · have ht : Scf.trips k1_t8_loop.lb k1_t8_loop.ub k1_t8_loop.st = 4 := t8_trips
    rw [ht]
    iintro %acc ⟨%g, %hg, H⟩
    iapply Hk $$ [] [H]
    · ipureintro; exact hg
    · iexact H

/-- What a tile holds between rows: its tables, its working buffers, its part of the outputs. -/
def tile (D T X Y Z : ℕ → F .f32) (q : PosShare TreeShare) (n7 : ℕ → BitVec 32) (n8 : ℕ → F .f32) (ι : Ix) (O : CellTallies nD τ sig Ix)
    (W : Waits sig Ix) : sProp 𝕄 :=
  iprop(own (thr d i) arg2 (e := .f32) q D ∗ own (thr d i) arg10 (e := .f32) fullShare X ∗ own (thr d i) arg11 (e := .f32) fullShare Y
    ∗ own (thr d i) arg12 (e := .f32) fullShare Z ∗ own (thr d i) arg13 (e := .f32) fullShare T
    ∗ blk (thr d i) arg7 (e := .i32) (64 * base i) (64 * (base i + nrows i)) n7 ∗ blk (thr d i) arg8 (e := .f32) (64 * base i) (64 * (base i + nrows i)) n8
    ∗ junk d i arg9 (e := .f32) ∗ junk d i arg14 (e := .f32) ∗ junk d i arg15 (e := .i32) ∗ junk d i arg16 (e := .f32) ∗ junk d i arg17 (e := .i32)
    ∗ semVal (thr d i, .dma v96_r4.sem) 0 ∗ semVal (thr d i, .dma v96_r5.sem) 0 ∗ semVal (thr d i, .dma v96_r6.sem) 0 ∗ live (thr d i) ι O W)

/-- The outputs after one more row. -/
def put {α : Type} (r : ℕ) (v : ℕ → α) (g : ℕ → α) (p : ℕ) : α := if 64 * r ≤ p ∧ p < 64 * r + 64 then v (p - 64 * r) else g p

theorem put_at {α : Type} (r : ℕ) (v : ℕ → α) (g : ℕ → α) (c : ℕ) (hc : c < 64) : put r v g (64 * r + c) = v c := by
  unfold put; rw [if_pos (by omega), Nat.add_sub_cancel_left]

theorem put_other {α : Type} (r r' : ℕ) (v : ℕ → α) (g : ℕ → α) (c : ℕ) (hc : c < 64) (h : r' ≠ r) : put r v g (64 * r' + c) = g (64 * r' + c) := by
  unfold put; rw [if_neg (by omega)]

/-- One trip of the row loop. -/
theorem wp_t1_body (k : Fin k1_t1_loop.trips) (v27 : IVec S16 32) (hv27 : ∀ x, v27 x = BitVec.ofNat 32 (x 0).val) (D T X Y Z : ℕ → F .f32)
    (q : PosShare TreeShare) (n7 : ℕ → BitVec 32) (n8 : ℕ → F .f32) (acc : BitVec 32) :
    (tile d i arg2 arg7 arg8 arg9 arg10 arg11 arg12 arg13 arg14 arg15 arg16 arg17 v96_r4 v96_r5 v96_r6 D T X Y Z q n7 n8 ι O W : sProp 𝕄)
      ⊢ wp frame (wpE defs 𝒱 (thr d i) bd) Set.univ
        (k1_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 (baseW i) (Scalar.subi (baseW i) (tbaseW (baseW i))) v27 0#32 k acc)
        fun _ => iprop(∃ n7' n8', ⌜∀ j < nrows i, j ≠ k.val → (∀ c < 64, n7' (64 * (base i + j) + c) = n7 (64 * (base i + j) + c)
              ∧ n8' (64 * (base i + j) + c) = n8 (64 * (base i + j) + c))⌝
          ∗ ⌜k.val < nrows i → RowOk (fun p => D (10000 * (base i + k.val) + p)) (T (k.val + base i % 8)) X Y Z (base i + k.val)
              (fun c => n7' (64 * (base i + k.val) + c)) (fun c => n8' (64 * (base i + k.val) + c))⌝
          ∗ tile d i arg2 arg7 arg8 arg9 arg10 arg11 arg12 arg13 arg14 arg15 arg16 arg17 v96_r4 v96_r5 v96_r6 D T X Y Z q n7' n8' ι O W) := by
  have hk : k.val < 313 := lt_of_lt_of_eq k.isLt t1_trips
  have hb := base_le i
  unfold k1_t1_body
  dsimp only
  by_cases h1 : k1_cond1 i k = 1#1
  · rw [dif_pos h1]
    have hkn := (cond1_iff i k).1 h1
    simp only [Prog.lift, Prog.bind_op, Prog.bind_ret, Prog.pure_eq_ret, Prog.bind_assoc]
    unfold tile
    iintro ⟨H2, Hx, Hy, Hz, Ht, H7, H8, H9, H14, H15, H16, H17, S4, S5, S6, Hl⟩
    iapply (wp_part3 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd k h1 v27 hv27 D T q rfl rfl) $$ [H2 H9 Ht H14 H15 S4 Hl]
    · isplitl [H2]; · iexact H2
      isplitl [H9]; · iexact H9
      isplitl [Ht]; · iexact Ht
      isplitl [H14]; · iexact H14
      isplitl [H15]; · iexact H15
      isplitl [S4] <;> iassumption
    iintro %v39 %v62 %hw12 %hv ⟨H2, Ht, Hsc, S4, Hl⟩
    generalize hrow : (fun p => D (10000 * (base i + k.val) + p)) = row at *
    generalize T (k.val + base i % 8) = t at *
    dsimp only
    rw [k1_part4_eq_skeleton]
    unfold k1_part4_skel scanned filt
    simp only [Prog.lift, Prog.bind_op, Prog.bind_ret, Prog.pure_eq_ret, Prog.bind_assoc]
    unfold junk
    icases H17 with ⟨%g17, H17⟩
    icases Hsc with ⟨H9, ⟨%gv, %hgv, Hv⟩, ⟨%gi, %hgi, Hi⟩⟩
    have hn : min (cands row t 10000).length 2048 ≤ 2048 := by omega
    generalize hnn : min (cands row t 10000).length 2048 = n at hv hn
    iapply (wp_load_lanes 𝒱 (thr d i) bd (o := n) (off4_eq hn hv)) $$ Hv
    iintro %u - Hv
    iapply (wp_store_own 𝒱 (thr d i) bd (fun p => if n ≤ p ∧ p < n + 16 then big else gv p) ?hst1 ?hst2) $$ Hv
    case hst1 =>
      intro x
      have hx : (x 0).val < 16 := (x 0).isLt
      rw [off4_eq hn hv, if_pos ⟨by omega, by omega⟩]
      rfl
    case hst2 =>
      intro p hp
      rw [off4_eq hn hv] at hp
      change p < n ∨ n + 16 ≤ p at hp
      rw [if_neg (by omega)]
    iintro Hv
    generalize hV : (fun p => if n ≤ p ∧ p < n + 16 then big else gv p) = V
    iapply (wp_t3_loop d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd hn hv k h1 (rowW i k) hw12 _ big _ gi V) $$ [Hv Hi H16 H17]
    · unfold drawn filt
      isplitl [Hv]; · iexact Hv
      isplitl [Hi]; · iexact Hi
      isplitl [H16]; · iexact H16
      iexists g17
      isplitr; · ipureintro; intro _; exact ⟨g17, by rw [List.map_nil, place_nil]⟩
      iexact H17
    unfold drawn filt
    iintro %a ⟨Hv, Hi, H16, ⟨%nb, %hnb, Hn⟩⟩
    have hr : (rowW i k).toNat = base i + k.val := Affine.nat_eq (rowW_int i k hk) _ rfl
    have h18 : ∀ a x, ((![broadcast S16 (rowW i k)] : Fin 1 → IVec S16 32) a x).toNat < S10000.size a := by
      intro a x
      fin_cases a
      show (rowW i k).toNat < 10000
      omega
    iapply (wp_assume 𝒱 (thr d i) bd Set.univ (show k1_chk18 i k (broadcast S16 (rowW i k)) from ⟨fun _ => h18, fun _ => h18, fun _ => h18⟩))
    iapply (wp_gather_own 𝒱 (thr d i) bd) $$ Hx
    iintro Hx
    iapply (wp_gather_own 𝒱 (thr d i) bd) $$ Hy
    iintro Hy
    iapply (wp_gather_own 𝒱 (thr d i) bd) $$ Hz
    iintro Hz
    iapply (wp_t8_loop d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd k h1 (X := X) (Y := Y) (Z := Z) (r := base i + k.val) (fun x => congrArg X hr) (fun x => congrArg Y hr)
      (fun x => congrArg Z hr) nb) $$ [Hx Hy Hz H16 Hn]
    · unfold junk
      isplitl [Hx]; · iexact Hx
      isplitl [Hy]; · iexact Hy
      isplitl [Hz]; · iexact Hz
      isplitl [H16] <;> iassumption
    iintro %a' %g %hg ⟨Hx, Hy, Hz, Ho, Hn⟩
    iapply (wp_copy_out 𝒱 (thr d i) bd (lo := 64 * base i) (hi := 64 * (base i + nrows i)) rfl (by rw [off15_eq]; omega) (by rw [off15_eq]; omega)
      (View.amount_pos _ _ (sh_pos (by omega))) rfl) $$ [Hn H7 S5 Hl]
    · isplitl [Hn]; · iexact Hn
      isplitl [H7]; · iexact H7
      isplitl [S5] <;> iassumption
    iintro ⟨Hn, H7, S5, Hl⟩
    iapply (wp_copy_out 𝒱 (thr d i) bd (lo := 64 * base i) (hi := 64 * (base i + nrows i)) rfl (by rw [off15_eq]; omega) (by rw [off15_eq]; omega)
      (View.amount_pos _ _ (sh_pos (by omega))) rfl) $$ [Ho H8 S6 Hl]
    · isplitl [Ho]; · iexact Ho
      isplitl [H8]; · iexact H8
      isplitl [S6] <;> iassumption
    iintro ⟨Ho, H8, S6, Hl⟩
    rw [off15_eq]
    rw [wp_ret]
    imodintro
    iexists (put (base i + k.val) nb n7)
    iexists (put (base i + k.val) g n8)
    isplitr
    · ipureintro
      intro j _ hj c hc
      exact ⟨put_other _ _ _ _ c hc (by omega), put_other _ _ _ _ c hc (by omega)⟩
    isplitr
    · ipureintro
      intro _
      refine RowOk.congr (nb := nb) (val := g) ⟨hg, fun hl => ?_⟩ (fun c hc => put_at _ _ _ c hc) (fun c hc => put_at _ _ _ c hc)
      obtain ⟨gv0, rfl⟩ := hgv hl
      obtain ⟨gi0, rfl⟩ := hgi hl
      have hnl : n = (cands row t 10000).length := by omega
      generalize cands row t 10000 = L at hl hnl hV hnb ⊢
      subst hnl
      refine ⟨V, place gi0 0 (L.map fun j => BitVec.ofNat 32 j), fun p h => ⟨?_, ?_⟩, fun p h h' => ?_, fun hle c _ h => ?_⟩
      · subst hV
        dsimp only
        rw [if_neg (by omega), place_lt _ _ _ (by rw [List.length_map]; exact h), List.getElem_map]
      · rw [place_lt _ _ _ (by rw [List.length_map]; exact h), List.getElem_map]
      · subst hV
        dsimp only
        rw [if_pos (by omega)]
      · obtain ⟨nb0, hnb0⟩ := hnb hle
        rw [hnb0, place_lt _ _ _ (by rw [List.length_map]; exact h), List.getElem_map]
    isplitl [H2]; · iexact H2
    isplitl [Hx]; · iexact Hx
    isplitl [Hy]; · iexact Hy
    isplitl [Hz]; · iexact Hz
    isplitl [Ht]; · iexact Ht
    isplitl [H7]; · iexact H7
    isplitl [H8]; · iexact H8
    isplitl [H9]; · iexists _; iexact H9
    isplitl [Hv]; · iexists _; iexact Hv
    isplitl [Hi]; · iexists _; iexact Hi
    isplitl [Ho]; · iexists _; iexact Ho
    isplitl [Hn]; · iexists _; iexact Hn
    isplitl [S4]; · iexact S4
    isplitl [S5]; · iexact S5
    isplitl [S6]; · iexact S6
    iexact Hl
  · rw [dif_neg h1]
    have hkn : ¬k.val < nrows i := fun h => h1 ((cond1_iff i k).2 h)
    simp only [Prog.lift, Prog.bind_op, Prog.bind_ret, Prog.pure_eq_ret, Prog.bind_assoc]
    iintro H
    rw [wp_ret]
    imodintro
    iexists n7
    iexists n8
    isplitr; · ipureintro; exact fun _ _ _ _ _ => ⟨rfl, rfl⟩
    isplitr; · ipureintro; exact fun h => absurd h hkn
    iexact H

end body

end Cert.Proof.Knn

end
-- ==== Proof.Tile.lean ====
/-
  Tile: a tile's whole run. The three coordinate tables and the tile's thresholds are copied in, then its rows follow.
-/
module

public import proofs.«01_k».proof.Proof.Row

@[expose] public section

noncomputable section

namespace Cert.Proof.Knn

open Idealize.ShloMosaic Idealize.ShloMosaic.SparseCore Cert.KernelIdeal Cert.KernelIdeal.Gen
open Idealize.SL Idealize.SL.RA
open Idealize.SL.BI (sProp)
open scoped Idealize.SL.BI
open Idealize.SL.BI.BIBase Idealize.SL.BI.Laws Idealize.SL.Sem Idealize.SL.ProofMode

variable {F : FTy → Type} [FloatOps F]
variable {Ix : Type} [DecidableEq Ix] {Name : Type} [DecidableEq Name] {U : Type} [URA U] {Lvl : Type} [Preorder Lvl]
variable [CountersIn U] [Infinite Name]

/-- A row of the outputs, as the kernel's inputs determine it. -/
abbrev RowDone (D T X Y Z : ℕ → F .f32) (r : ℕ) (n7 : ℕ → BitVec 32) (n8 : ℕ → F .f32) : Prop :=
  RowOk (fun p => D (10000 * r + p)) (T r) X Y Z r (fun c => n7 (64 * r + c)) (fun c => n8 (64 * r + c))

section body
variable (d : Fin nD)
variable (i : grid1.Coords) (arg2 : Memref sig .scVector .hbm S100000000 .f32) (harg2 : arg2.IsWhole) (arg3 : Memref sig .scVector .hbm S10336 .f32)
  (harg3 : arg3.IsWhole) (arg4 : Memref sig .scVector .hbm S10000 .f32) (harg4 : arg4.IsWhole) (arg5 : Memref sig .scVector .hbm S10000 .f32)
  (harg5 : arg5.IsWhole) (arg6 : Memref sig .scVector .hbm S10000 .f32) (harg6 : arg6.IsWhole) (arg7 : Memref sig .scVector .hbm S640000 .i32)
  (harg7 : arg7.IsWhole) (arg8 : Memref sig .scVector .hbm S640000 .f32) (harg8 : arg8.IsWhole) (arg9 : Memref sig .scVector .vmem S10000 .f32)
  (harg9 : arg9.IsWhole) (arg10 : Memref sig .scVector .vmem S10000 .f32) (harg10 : arg10.IsWhole) (arg11 : Memref sig .scVector .vmem S10000 .f32)
  (harg11 : arg11.IsWhole) (arg12 : Memref sig .scVector .vmem S10000 .f32) (harg12 : arg12.IsWhole) (arg13 : Memref sig .scVector .vmem S336 .f32)
  (harg13 : arg13.IsWhole) (arg14 : Memref sig .scVector .vmem S2064 .f32) (harg14 : arg14.IsWhole) (arg15 : Memref sig .scVector .vmem S2064 .i32)
  (harg15 : arg15.IsWhole) (arg16 : Memref sig .scVector .vmem S2064 .f32) (harg16 : arg16.IsWhole) (arg17 : Memref sig .scVector .vmem S2064 .i32)
  (harg17 : arg17.IsWhole) (v30_r0 : DmaSems sig S_) (v30_r1 : DmaSems sig S_) (v30_r2 : DmaSems sig S_) (v30_r3 : DmaSems sig S_)
  (v96_r4 : DmaSems sig S_) (v96_r5 : DmaSems sig S_) (v96_r6 : DmaSems sig S_)

variable {defs : Defs nD τ sig (Elt F) Λ₀} (𝒱 : Variants) (bd : Option 𝒱.V)
variable {ι : Ix} {O : CellTallies nD τ sig Ix} {W : Waits sig Ix}

local notation "𝕄" => MT nD τ sig Ix (Elt F) Name U Lvl

/-- What a tile holds from the start to the end of its run. -/
def whole (D T X Y Z : ℕ → F .f32) (q : PosShare TreeShare) (n7 : ℕ → BitVec 32) (n8 : ℕ → F .f32) (ι : Ix) (O : CellTallies nD τ sig Ix)
    (W : Waits sig Ix) : sProp 𝕄 :=
  iprop(own (thr d i) arg2 (e := .f32) q D ∗ own (thr d i) arg3 (e := .f32) q T ∗ own (thr d i) arg4 (e := .f32) q X
    ∗ own (thr d i) arg5 (e := .f32) q Y ∗ own (thr d i) arg6 (e := .f32) q Z
    ∗ blk (thr d i) arg7 (e := .i32) (64 * base i) (64 * (base i + nrows i)) n7 ∗ blk (thr d i) arg8 (e := .f32) (64 * base i) (64 * (base i + nrows i)) n8
    ∗ junk d i arg9 (e := .f32) ∗ junk d i arg10 (e := .f32) ∗ junk d i arg11 (e := .f32) ∗ junk d i arg12 (e := .f32) ∗ junk d i arg13 (e := .f32)
    ∗ junk d i arg14 (e := .f32) ∗ junk d i arg15 (e := .i32) ∗ junk d i arg16 (e := .f32) ∗ junk d i arg17 (e := .i32)
    ∗ semVal (thr d i, .dma v30_r0.sem) 0 ∗ semVal (thr d i, .dma v30_r1.sem) 0 ∗ semVal (thr d i, .dma v30_r2.sem) 0
    ∗ semVal (thr d i, .dma v30_r3.sem) 0 ∗ semVal (thr d i, .dma v96_r4.sem) 0 ∗ semVal (thr d i, .dma v96_r5.sem) 0
    ∗ semVal (thr d i, .dma v96_r6.sem) 0 ∗ live (thr d i) ι O W)

/-- The run of a tile: every row of its part of the outputs is done. -/
theorem wp_sc (D T X Y Z : ℕ → F .f32) (q : PosShare TreeShare) (n7 : ℕ → BitVec 32) (n8 : ℕ → F .f32) :
    (whole d i arg2 arg3 arg4 arg5 arg6 arg7 arg8 arg9 arg10 arg11 arg12 arg13 arg14 arg15 arg16 arg17 v30_r0 v30_r1 v30_r2 v30_r3 v96_r4 v96_r5 v96_r6 D T X Y Z q n7 n8 ι O W : sProp 𝕄)
      ⊢ wp frame (wpE defs 𝒱 (thr d i) bd) Set.univ (cc1_sc i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6)
        fun _ => iprop(∃ n7' n8', ⌜∀ j < nrows i, RowDone D T X Y Z (base i + j) n7' n8'⌝ ∗ whole d i arg2 arg3 arg4 arg5 arg6 arg7 arg8 arg9 arg10 arg11 arg12 arg13 arg14 arg15 arg16 arg17 v30_r0 v30_r1 v30_r2 v30_r3 v96_r4 v96_r5 v96_r6 D T X Y Z q n7' n8' ι O W) := by
  rw [cc1_sc_eq_skeleton]
  unfold cc1_sc_skel
  rw [k1_part5_eq_skeleton]
  unfold k1_part5_skel whole junk
  simp only [Prog.lift, Prog.bind_op, Prog.bind_ret, Prog.pure_eq_ret, Prog.bind_assoc]
  iintro ⟨H2, H3, H4, H5, H6, H7, H8, H9, ⟨%g10, H10⟩, ⟨%g11, H11⟩, ⟨%g12, H12⟩, ⟨%g13, H13⟩, H14, H15, H16, H17, S0, S1, S2, S3, S4, S5, S6, Hl⟩
  iapply (wp_copy_own 𝒱 (thr d i) bd (View.amount_pos _ _ (sh_pos (by omega))) rfl) $$ [H4 H10 S0 Hl]
  · isplitl [H4]; · iexact H4
    isplitl [H10]; · iexact H10
    isplitl [S0] <;> iassumption
  iintro ⟨H4, H10, S0, Hl⟩
  iapply (wp_copy_own 𝒱 (thr d i) bd (View.amount_pos _ _ (sh_pos (by omega))) rfl) $$ [H5 H11 S1 Hl]
  · isplitl [H5]; · iexact H5
    isplitl [H11]; · iexact H11
    isplitl [S1] <;> iassumption
  iintro ⟨H5, H11, S1, Hl⟩
  iapply (wp_copy_own 𝒱 (thr d i) bd (View.amount_pos _ _ (sh_pos (by omega))) rfl) $$ [H6 H12 S2 Hl]
  · isplitl [H6]; · iexact H6
    isplitl [H12]; · iexact H12
    isplitl [S2] <;> iassumption
  iintro ⟨H6, H12, S2, Hl⟩
  iapply (wp_copy_from 𝒱 (thr d i) bd (View.amount_pos _ _ (sh_pos (by omega))) rfl) $$ [H3 H13 S3 Hl]
  · isplitl [H3]; · iexact H3
    isplitl [H13]; · iexact H13
    isplitl [S3] <;> iassumption
  iintro ⟨H3, H13, S3, Hl⟩
  rw [off1_eq]
  generalize hT : (fun p => T (base i / 8 * 8 + p)) = T'
  have hTk : ∀ k, T' (k + base i % 8) = T (base i + k) := by
    intro k; subst hT
    exact congrArg T (by omega)
  have hv27 : ∀ x : S16.Idx, iota .scVector S16 32 [0] iota_S16_d0_w32_scVector x = BitVec.ofNat 32 (x 0).val := by
    intro x
    show BitVec.ofNat 32 (0 * 16 + (x 0).val) = _
    rw [Nat.zero_mul, Nat.zero_add]
  generalize iota .scVector S16 32 [0] iota_S16_d0_w32_scVector = v27 at hv27
  dsimp only
  iapply (Scf.wp_for_bind frame (wpE defs 𝒱 (thr d i) bd) Set.univ _ _ _ k1_t1_ok (0#32)
    (k1_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 (baseW i) (Scalar.subi (baseW i) (tbaseW (baseW i))) v27 0#32)
    (fun k _ => iprop(∃ n7' n8', ⌜∀ j < nrows i, j < k → RowDone D T X Y Z (base i + j) n7' n8'⌝ ∗ tile d i arg2 arg7 arg8 arg9 arg10 arg11 arg12 arg13 arg14 arg15 arg16 arg17 v96_r4 v96_r5 v96_r6 D T' X Y Z q n7' n8' ι O W))
    (fun k acc => by
      iintro ⟨%m7, %m8, %hj, H⟩
      iapply (wp_wand frame (wpE defs 𝒱 (thr d i) bd) Set.univ) $$ [H]
      · iapply (wp_t1_body d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30_r0 v30_r1 v30_r2 v30_r3 v96_r4 v96_r5 v96_r6 𝒱 bd k v27 hv27 D T' X Y Z q m7 m8 acc)
        iexact H
      iintro %a ⟨%m7', %m8', %hsame, %hnew, H⟩
      iexists m7'
      iexists m8'
      isplitr
      rotate_left
      · iexact H
      ipureintro
      intro j hjn hjk
      by_cases h : j = k.val
      · subst h
        have := hnew hjn
        rw [hTk] at this
        exact this
      · exact (hj j hjn (by omega)).congr (fun c hc => (hsame j hjn h c hc).1) (fun c hc => (hsame j hjn h c hc).2)))
    $$ [H2 H7 H8 H9 H10 H11 H12 H13 H14 H15 H16 H17 S4 S5 S6 Hl] [H3 H4 H5 H6 S0 S1 S2 S3]
  · iexists n7
    iexists n8
    isplitr; · ipureintro; intro j _ hj; omega
    unfold tile junk
    isplitl [H2]; · iexact H2
    isplitl [H10]; · iexact H10
    isplitl [H11]; · iexact H11
    isplitl [H12]; · iexact H12
    isplitl [H13]; · iexact H13
    isplitl [H7]; · iexact H7
    isplitl [H8]; · iexact H8
    isplitl [H9]; · iexact H9
    isplitl [H14]; · iexact H14
    isplitl [H15]; · iexact H15
    isplitl [H16]; · iexact H16
    isplitl [H17]; · iexact H17
    isplitl [S4]; · iexact S4
    isplitl [S5]; · iexact S5
    isplitl [S6]; · iexact S6
    iexact Hl
  · have ht : Scf.trips k1_t1_loop.lb k1_t1_loop.ub k1_t1_loop.st = 313 := t1_trips
    rw [ht]
    unfold tile junk
    iintro %acc ⟨%m7, %m8, %hj, H2, H10, H11, H12, H13, H7, H8, H9, H14, H15, H16, H17, S4, S5, S6, Hl⟩
    have hnr : nrows i ≤ 313 := by unfold nrows; split <;> omega
    rw [wp_ret]
    imodintro
    iexists m7
    iexists m8
    isplitr; · ipureintro; exact fun j h => hj j h (by omega)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    isplitl [H15]; · iexact H15
    isplitl [H16]; · iexact H16
    isplitl [H17]; · iexact H17
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hl

end body

end Cert.Proof.Knn

end
-- ==== Proof.Base.lean ====
/-
  Base: the program as the launch theorem sees it, and the ghost state the proof keeps beside its memory.
-/
module

public import proofs.«01_k».proof.KernelIdeal
public import proofs.«01_k».proof.Proof.Gen.KernelIdeal
public import Idealize.ShloMosaic.Lib.SparseCore.Quiescent
public import Idealize.ShloMosaic.Lib.Transfers
public import Idealize.ShloMosaic.Lib.Pipeline.Kit
public import Idealize.ShloMosaic.Lib.Tactic

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes of the SparseCore call count rounds, each windowed call's staging cells do too, and each tile's copies are counted. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) :=
  (Emb.inl : Emb UP (UP × Counters)).trans embR

instance : (EP (F := F)).LandsIn (upEmb : UEmb _ (MT nD τ sig (HIx 1) (Elt F) ℕ UU ℕ)) := by
  unfold EP; infer_instance

/-- The pairs a windowed call may find recorded when `n` SparseCore calls are behind it: those at or below that point's level. -/
abbrev below (c : Dev nD) (n : ℕ) : Set (SemLoc sig × HIx 1) :=
  {p | (K (F := F)).lev (T c, p.1) p.2 ≤ 8 * n}

end Cert.Proof.Knn
-- ==== Proof.Windows.lean ====
/-
  Windows: the three calls that are cut into windows — their staging buffers and semaphores, their grids, and which window is
  fetched or written back at which point.
-/
module

public import proofs.«01_k».proof.Proof.Base
public import proofs.«01_k».proof.Proof.Gen.KernelIdeal
public import Idealize.ShloMosaic.Lib.Pipeline.Kit
public import Idealize.ShloMosaic.Lib.Pipeline.Regions

@[expose] public section

noncomputable section

namespace Cert.Proof.Knn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The staging semaphores of the three windowed calls -/

/-- Each windowed call's staging semaphores. -/
abbrev semTab : Fin 3 → List (DmaSem sig) :=
  fun | 0 => Pipeline.specSems spec0 | 1 => Pipeline.specSems spec2 | 2 => Pipeline.specSems spec3 | ⟨_ + 3, h⟩ => absurd h (Nat.not_lt.2 (Nat.le_add_left _ _))

/-- Within a call the staging semaphores are distinct. -/
theorem semsDistinct : ∀ p : Fin 3, (semTab p).Nodup := by decide

/-- Two calls share no staging semaphore. -/
theorem semsDisjoint : ∀ p p' : Fin 3, p ≠ p' → (semTab p).Forall (· ∉ semTab p') := by decide

/-- Distinct staging buffers have distinct cells. -/
theorem cellOf_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semsDistinct semsDisjoint

/-! ## The call computing the distance matrix and the thresholds -/

theorem winFacts0 : Pipeline.WinFacts spec0 := by decide

theorem block_pos0 : ∀ w : Fin 6, 0 < (spec0 w).block.numel := by decide

theorem arr_whole0 : ∀ w : Fin 6, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | ⟨_ + 6, h⟩ => absurd h (Nat.not_lt.2 (Nat.le_add_left _ _))

theorem stage_whole0 : ∀ (w : Fin 6) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | ⟨_ + 6, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem N_0 : grid0.N = 50 := by decide

theorem bigSep_W0 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

theorem fetch0_0 : ∀ t : Fin cfg0.N, (cfg0.win 0).fetch t = true :=
  (fun t => (Pipeline.Window.fetch_reads win0_0 rfl 0 (by decide) (by decide) (Pipeline.Window.sep_of_coord cc0_transform_0 0 0 (fun _ => rfl) (by decide)) (P := 1) (by decide) t).mpr (Nat.mod_one _) : ∀ t : Fin grid0.N, win0_0.fetch t = true)

theorem fetch0_1 : ∀ t : Fin cfg0.N, (cfg0.win 1).fetch t = true ↔ t.val % 50 = 0 :=
  (fun t => Pipeline.Window.fetch_const win0_1 rfl (fun _ _ => rfl) (n := 50) (by decide) t : ∀ t : Fin grid0.N, win0_1.fetch t = true ↔ t.val % 50 = 0)

theorem fetch0_2 : ∀ t : Fin cfg0.N, (cfg0.win 2).fetch t = true :=
  (fun t => (Pipeline.Window.fetch_reads win0_2 rfl 0 (by decide) (by decide) (Pipeline.Window.sep_of_coord cc0_transform_2 0 0 (fun _ => rfl) (by decide)) (P := 1) (by decide) t).mpr (Nat.mod_one _) : ∀ t : Fin grid0.N, win0_2.fetch t = true)

theorem fetch0_3 : ∀ t : Fin cfg0.N, (cfg0.win 3).fetch t = true ↔ t.val % 50 = 0 :=
  (fun t => Pipeline.Window.fetch_const win0_3 rfl (fun _ _ => rfl) (n := 50) (by decide) t : ∀ t : Fin grid0.N, win0_3.fetch t = true ↔ t.val % 50 = 0)

theorem flush0_4 : ∀ t : Fin cfg0.N, (cfg0.win 4).flush t = true :=
  (fun t => (Pipeline.Window.flush_reads win0_4 rfl 0 (by decide) (by decide) (Pipeline.Window.sep_of_coord cc0_transform_4 0 0 (fun _ => rfl) (by decide)) (P := 1) (m := 0) (by decide) rfl t).mpr (Nat.mod_one _) : ∀ t : Fin grid0.N, win0_4.flush t = true)

theorem flush0_5 : ∀ t : Fin cfg0.N, (cfg0.win 5).flush t = true :=
  (fun t => (Pipeline.Window.flush_reads win0_5 rfl 0 (by decide) (by decide) (Pipeline.Window.sep_of_coord cc0_transform_5 0 0 (fun _ => rfl) (by decide)) (P := 1) (m := 0) (by decide) rfl t).mpr (Nat.mod_one _) : ∀ t : Fin grid0.N, win0_5.flush t = true)

abbrev st0_0 (t : Fin cfg0.N) := (cfg0.win 0).stage (cfg0.slots t 0)

abbrev st0_1 (t : Fin cfg0.N) := (cfg0.win 1).stage (cfg0.slots t 1)

abbrev st0_2 (t : Fin cfg0.N) := (cfg0.win 2).stage (cfg0.slots t 2)

abbrev st0_3 (t : Fin cfg0.N) := (cfg0.win 3).stage (cfg0.slots t 3)

abbrev st0_4 (t : Fin cfg0.N) := (cfg0.win 4).stage (cfg0.slots t 4)

abbrev st0_5 (t : Fin cfg0.N) := (cfg0.win 5).stage (cfg0.slots t 5)

abbrev bodyAt0 (t : Fin cfg0.N) : Prog (TpuEff nD τ sig (Elt F) Λ₀ .tc) PUnit :=
  cc0__lambda_ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))

/-! ## The call computing the distances of the edges -/

theorem winFacts2 : Pipeline.WinFacts spec2 := by decide

theorem block_pos2 : ∀ w : Fin 3, 0 < (spec2 w).block.numel := by decide

theorem arr_whole2 : ∀ w : Fin 3, (spec2 w).arr.IsWhole := fun | 0 => Memref.isWhole_whole _ | 1 => Memref.isWhole_whole _ | 2 => Memref.isWhole_whole _ | ⟨_ + 3, h⟩ => absurd h (Nat.not_lt.2 (Nat.le_add_left _ _))

theorem stage_whole2 : ∀ (w : Fin 3) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | ⟨_ + 3, h⟩ => absurd h (Nat.not_lt.2 (Nat.le_add_left _ _))

theorem launch2 : Pipeline.LaunchFacts (nD := nD) (τ := τ) cfgs 1 := ⟨cellOf_inj, winFacts2, block_pos2, arr_whole2, stage_whole2⟩

theorem N_2 : grid2.N = 50 := by decide

theorem bigSep_W2 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

theorem fetch2_0 : ∀ t : Fin cfg2.N, (cfg2.win 0).fetch t = true :=
  (fun t => (Pipeline.Window.fetch_reads win2_0 rfl 0 (by decide) (by decide) (Pipeline.Window.sep_of_coord cc2_transform_0 0 0 (fun _ => rfl) (by decide)) (P := 1) (by decide) t).mpr (Nat.mod_one _) : ∀ t : Fin grid2.N, win2_0.fetch t = true)

theorem flush2_1 : ∀ t : Fin cfg2.N, (cfg2.win 1).flush t = true :=
  (fun t => (Pipeline.Window.flush_reads win2_1 rfl 0 (by decide) (by decide) (Pipeline.Window.sep_of_coord cc2_transform_1 0 0 (fun _ => rfl) (by decide)) (P := 1) (m := 0) (by decide) rfl t).mpr (Nat.mod_one _) : ∀ t : Fin grid2.N, win2_1.flush t = true)

theorem flush2_2 : ∀ t : Fin cfg2.N, (cfg2.win 2).flush t = true :=
  (fun t => (Pipeline.Window.flush_reads win2_2 rfl 0 (by decide) (by decide) (Pipeline.Window.sep_of_coord cc2_transform_2 0 0 (fun _ => rfl) (by decide)) (P := 1) (m := 0) (by decide) rfl t).mpr (Nat.mod_one _) : ∀ t : Fin grid2.N, win2_2.flush t = true)

abbrev st2_0 (t : Fin cfg2.N) := (cfg2.win 0).stage (cfg2.slots t 0)

abbrev st2_1 (t : Fin cfg2.N) := (cfg2.win 1).stage (cfg2.slots t 1)

abbrev st2_2 (t : Fin cfg2.N) := (cfg2.win 2).stage (cfg2.slots t 2)

abbrev bodyAt2 (t : Fin cfg2.N) : Prog (TpuEff nD τ sig (Elt F) Λ₀ .tc) PUnit :=
  cc2__dist_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2))

/-! ## The call computing the radial basis -/

theorem winFacts3 : Pipeline.WinFacts spec3 := by decide

theorem block_pos3 : ∀ w : Fin 3, 0 < (spec3 w).block.numel := by decide

theorem arr_whole3 : ∀ w : Fin 3, (spec3 w).arr.IsWhole := fun | 0 => Memref.isWhole_whole _ | 1 => Memref.isWhole_whole _ | 2 => Memref.isWhole_whole _ | ⟨_ + 3, h⟩ => absurd h (Nat.not_lt.2 (Nat.le_add_left _ _))

theorem stage_whole3 : ∀ (w : Fin 3) (s : Fin (spec3 w).nbuf), ((spec3 w).stage s).IsWhole := fun | 0 => fun s => hstage3_0 (s.cast nbuf3_0) | 1 => fun s => hstage3_1 (s.cast nbuf3_1) | 2 => fun s => hstage3_2 (s.cast nbuf3_2) | ⟨_ + 3, h⟩ => absurd h (Nat.not_lt.2 (Nat.le_add_left _ _))

theorem launch3 : Pipeline.LaunchFacts (nD := nD) (τ := τ) cfgs 2 := ⟨cellOf_inj, winFacts3, block_pos3, arr_whole3, stage_whole3⟩

theorem N_3 : grid3.N = 25 := by decide

theorem bigSep_W3 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

theorem fetch3_0 : ∀ t : Fin cfg3.N, (cfg3.win 0).fetch t = true ↔ t.val % 25 = 0 :=
  (fun t => Pipeline.Window.fetch_const win3_0 rfl (fun _ _ => rfl) (n := 25) (by decide) t : ∀ t : Fin grid3.N, win3_0.fetch t = true ↔ t.val % 25 = 0)

theorem fetch3_1 : ∀ t : Fin cfg3.N, (cfg3.win 1).fetch t = true :=
  (fun t => (Pipeline.Window.fetch_reads win3_1 rfl 0 (by decide) (by decide) (Pipeline.Window.sep_of_coord cc3_transform_1 0 0 (fun _ => rfl) (by decide)) (P := 1) (by decide) t).mpr (Nat.mod_one _) : ∀ t : Fin grid3.N, win3_1.fetch t = true)

theorem flush3_2 : ∀ t : Fin cfg3.N, (cfg3.win 2).flush t = true :=
  (fun t => (Pipeline.Window.flush_reads win3_2 rfl 0 (by decide) (by decide) (Pipeline.Window.sep_of_coord cc3_transform_2 0 0 (fun _ => rfl) (by decide)) (P := 1) (m := 0) (by decide) rfl t).mpr (Nat.mod_one _) : ∀ t : Fin grid3.N, win3_2.flush t = true)

abbrev st3_0 (t : Fin cfg3.N) := (cfg3.win 0).stage (cfg3.slots t 0)

abbrev st3_1 (t : Fin cfg3.N) := (cfg3.win 1).stage (cfg3.slots t 1)

abbrev st3_2 (t : Fin cfg3.N) := (cfg3.win 2).stage (cfg3.slots t 2)

abbrev bodyAt3 (t : Fin cfg3.N) : Prog (TpuEff nD τ sig (Elt F) Λ₀ .tc) PUnit :=
  cc3__rbf_body (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))

end Cert.Proof.Knn
-- ==== Proof.Launch.lean ====
/-
  Launch: the tiles' runs as the parts of one call. The call's inputs are dealt to the thirty-two tiles in read shares and
  its outputs in runs of rows; each tile brings its rows back done, and the call has every row done.
-/
module

public import proofs.«01_k».proof.Defs
public import proofs.«01_k».proof.Proof.Tile
public import proofs.«01_k».proof.Proof.Base
public import proofs.«01_k».proof.Proof.Windows
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Contents of a rank-one buffer at every position -/

/-- The contents of a rank-one buffer, continued periodically past its end. -/
def flat {α : Type} {n : ℕ} (h : 0 < n) (f : (Sh n).Idx → α) : ℕ → α :=
  fun p => f fun a => ⟨p % n, by fin_cases a; exact Nat.mod_lt _ h⟩

theorem flat_val {α : Type} {n : ℕ} (h : 0 < n) (f : (Sh n).Idx → α) (x : (Sh n).Idx) : flat h f (x 0).val = f x := by
  unfold flat
  congr 1
  funext a
  fin_cases a
  exact Fin.ext (Nat.mod_eq_of_lt (x 0).isLt)

/-- A pure fact of every summand, taken out. -/
theorem bigSep_pure_out {I : Type} [DecidableEq I] {M : Type} [URA M] (s : Finset I) (p : I → Prop) (Φ : I → sProp M) :
    bigSep s (fun i => iprop(⌜p i⌝ ∗ Φ i)) ⊢ iprop(⌜∀ i ∈ s, p i⌝ ∗ bigSep s Φ) := by
  induction s using Finset.induction_on with
  | empty =>
    iintro H
    isplitr; · ipureintro; intro i hi; exact absurd hi (Finset.notMem_empty _)
    iexact H
  | insert a s ha ih =>
    have e : bigSep (insert a s) (fun i => iprop(⌜p i⌝ ∗ Φ i)) = iprop((⌜p a⌝ ∗ Φ a) ∗ bigSep s fun i => iprop(⌜p i⌝ ∗ Φ i)) := bigSep_insert ha
    have e' : bigSep (insert a s) Φ = iprop(Φ a ∗ bigSep s Φ) := bigSep_insert ha
    rw [e, e']
    iintro ⟨⟨%h, Ha⟩, Hs⟩
    ihave Hs' := ih $$ Hs
    icases Hs' with ⟨%hs, Hs⟩
    isplitr
    · ipureintro
      intro i hi
      rcases Finset.mem_insert.mp hi with rfl | hi
      · exact h
      · exact hs i hi
    isplitl [Ha] <;> iassumption

/-! ## The call's operands -/

abbrev locT (d : Dev nD) (b : Ref sig .tc) : Loc nD τ sig := (SparseCore.T d).loc b

variable (In : Dev nD → Valuation τ sig (Elt F))

abbrev inD (d : Dev nD) : ℕ → F .f32 := flat (n := 100000000) (by omega) (In d (Proc.devRef .tc main_v8))
abbrev inT (d : Dev nD) : ℕ → F .f32 := flat (n := 10336) (by omega) (In d (Proc.devRef .tc main_v7))
abbrev inX (d : Dev nD) : ℕ → F .f32 := flat (n := 10000) (by omega) (In d (Proc.devRef .tc main_v10))
abbrev inY (d : Dev nD) : ℕ → F .f32 := flat (n := 10000) (by omega) (In d (Proc.devRef .tc main_v12))
abbrev inZ (d : Dev nD) : ℕ → F .f32 := flat (n := 10000) (by omega) (In d (Proc.devRef .tc main_v14))

/-- The five inputs at a share. -/
abbrev reads (d : Dev nD) (q : PosShare TreeShare) : sProp 𝕄 :=
  iprop((locT d main_v8 ↦{q} In d (Proc.devRef .tc main_v8)) ∗ (locT d main_v7 ↦{q} In d (Proc.devRef .tc main_v7))
    ∗ (locT d main_v10 ↦{q} In d (Proc.devRef .tc main_v10)) ∗ (locT d main_v12 ↦{q} In d (Proc.devRef .tc main_v12))
    ∗ (locT d main_v14 ↦{q} In d (Proc.devRef .tc main_v14)))

/-- The two outputs over a set of positions. -/
abbrev outs (d : Dev nD) (J : Finset S640000.Idx) (f : Buf (Elt F) (locT d main_v15_0) × Buf (Elt F) (locT d main_v15_1)) : sProp 𝕄 :=
  iprop((locT d main_v15_0 ↦[J]{fullShare} f.1) ∗ (locT d main_v15_1 ↦[J]{fullShare} f.2))

def coordsV (c : Fin (grid1.bound 0)) (s : Fin (grid1.bound 1)) : grid1.Coords :=
  fun | 0 => c | 1 => s | ⟨_ + 2, h⟩ => absurd h (Nat.not_lt.2 (Nat.le_add_left _ _))

/-- The positions of the outputs that a tile writes. -/
def part (i : grid1.Coords) : Finset S640000.Idx :=
  Finset.univ.filter fun x => 64 * base i ≤ (x 0).val ∧ (x 0).val < 64 * (base i + nrows i)
def partC (c : Fin (grid1.bound 0)) : Finset S640000.Idx := Finset.univ.biUnion fun s => part (coordsV c s)

variable [FloatOps F]

abbrev Row (d : Dev nD) (r : ℕ) (f : Buf (Elt F) (locT d main_v15_0) × Buf (Elt F) (locT d main_v15_1)) : Prop :=
  RowDone (inD In d) (inT In d) (inX In d) (inY In d) (inZ In d) r (flat (n := 640000) (by omega) f.1) (flat (n := 640000) (by omega) f.2)

theorem Row.congr {d : Dev nD} {r : ℕ} (hr : r < 10000) {f g : Buf (Elt F) (locT d main_v15_0) × Buf (Elt F) (locT d main_v15_1)}
    (h : Row In d r f) (h1 : ∀ x : S640000.Idx, 64 * r ≤ (x 0).val → (x 0).val < 64 * r + 64 → g.1 x = f.1 x)
    (h2 : ∀ x : S640000.Idx, 64 * r ≤ (x 0).val → (x 0).val < 64 * r + 64 → g.2 x = f.2 x) : Row In d r g := by
  refine RowOk.congr h (fun c hc => ?_) (fun c hc => ?_)
  · refine h1 _ ?_ ?_ <;> (show _ ; simp only [Nat.mod_eq_of_lt (show 64 * r + c < 640000 by omega)]; omega)
  · refine h2 _ ?_ ?_ <;> (show _ ; simp only [Nat.mod_eq_of_lt (show 64 * r + c < 640000 by omega)]; omega)

/-- What the call hands each SparseCore and each tile, and what they bring back. -/
def P : (K (F := F)).Pay (nD := nD) (Val := Elt F) (Name := ℕ) (U := UU) where
  st := fun q d c => match q with | 0 => iprop(reads In d (leaf 1 fullShare c) ∗ ∃ f, outs d (partC c) f)
  dn := fun q d c => match q with
    | 0 => iprop(reads In d (leaf 1 fullShare c) ∗ ∃ f, ⌜∀ s, ∀ j < nrows (coordsV c s), Row In d (base (coordsV c s) + j) f⌝ ∗ outs d (partC c) f)
  go := fun q d c i => match q with
    | 0 => iprop(reads In d (leaf 4 (leaf 1 fullShare c) i) ∗ ∃ f, outs d (part (coordsV c i)) f)
  td := fun q d c i => match q with
    | 0 => iprop(reads In d (leaf 4 (leaf 1 fullShare c) i) ∗ ∃ f, ⌜∀ j < nrows (coordsV c i), Row In d (base (coordsV c i) + j) f⌝
        ∗ outs d (part (coordsV c i)) f)
  x := fun _ _ => iprop(emp)

instance P_storable : (P (F := F) In).IsStorable where
  st q d c := match q with
    | 0 => (inferInstance : BI.Storable (upEmb : UEmb _ 𝕄) iprop(reads In d (leaf 1 fullShare c) ∗ ∃ f, outs d (partC c) f))
  dn q d c := match q with
    | 0 => (inferInstance : BI.Storable (upEmb : UEmb _ 𝕄)
        iprop(reads In d (leaf 1 fullShare c) ∗ ∃ f, ⌜∀ s, ∀ j < nrows (coordsV c s), Row In d (base (coordsV c s) + j) f⌝ ∗ outs d (partC c) f))
  go q d c i := match q with
    | 0 => (inferInstance : BI.Storable (upEmb : UEmb _ 𝕄)
        iprop(reads In d (leaf 4 (leaf 1 fullShare c) i) ∗ ∃ f, outs d (part (coordsV c i)) f))
  td q d c i := match q with
    | 0 => (inferInstance : BI.Storable (upEmb : UEmb _ 𝕄)
        iprop(reads In d (leaf 4 (leaf 1 fullShare c) i) ∗ ∃ f, ⌜∀ j < nrows (coordsV c i), Row In d (base (coordsV c i) + j) f⌝
          ∗ outs d (part (coordsV c i)) f))

/-- A tile's scratch buffers, and the semaphores of its copies. -/
def scratches : Finset (Ref sig .scVector) :=
  {cc1_scratch0, cc1_scratch1, cc1_scratch2, cc1_scratch3, cc1_scratch4, cc1_scratch5, cc1_scratch6, cc1_scratch7, cc1_scratch8}
def copies : Finset (SemLoc sig) :=
  {.dma cc1_scoped0.sem, .dma cc1_scoped1.sem, .dma cc1_scoped2.sem, .dma cc1_scoped3.sem, .dma cc1_scoped4.sem, .dma cc1_scoped5.sem,
    .dma cc1_scoped6.sem}

theorem scratches_own (i : grid1.Coords) :
    scratches.map ⟨(Proc.scVector ((i 0).castLE hcore1) ((i 1).castLE hsub1)).devRef, Proc.devRef_injective _⟩
      ⊆ ownRefs (τ := τ) (.scVector ((i 0).castLE hcore1) ((i 1).castLE hsub1)) := by
  intro b hb
  obtain ⟨r, hr, rfl⟩ := Finset.mem_map.mp hb
  refine SparseCore.Cfg.mem_ownRefs_of_owner ?_
  simp only [scratches, Finset.mem_insert, Finset.mem_singleton] at hr
  rcases hr with rfl | rfl | rfl | rfl | rfl | rfl | rfl | rfl | rfl <;> rfl

theorem copies_own (d : Dev nD) (i : grid1.Coords) :
    copies.map ⟨fun s => (thr d i, s), fun _ _ h => (Prod.mk.inj h).2⟩ ⊆ ownCells (sig := sig) (thr d i) := by
  intro g hg
  obtain ⟨s, hs, rfl⟩ := Finset.mem_map.mp hg
  refine mem_ownCells.mpr ⟨rfl, ?_⟩
  show s.isScoped .scVector = true
  have : ∀ s ∈ copies, s.isScoped .scVector = true := by unfold copies; decide
  exact this s hs

theorem bigSep_scratches (Φ : Ref sig .scVector → sProp 𝕄) : bigSep scratches Φ
      = iprop(Φ cc1_scratch0 ∗ Φ cc1_scratch1 ∗ Φ cc1_scratch2 ∗ Φ cc1_scratch3 ∗ Φ cc1_scratch4 ∗ Φ cc1_scratch5 ∗ Φ cc1_scratch6
          ∗ Φ cc1_scratch7 ∗ Φ cc1_scratch8) := by
  unfold scratches
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem bigSep_copies (Φ : SemLoc sig → sProp 𝕄) : bigSep copies Φ
      = iprop(Φ (.dma cc1_scoped0.sem) ∗ Φ (.dma cc1_scoped1.sem) ∗ Φ (.dma cc1_scoped2.sem) ∗ Φ (.dma cc1_scoped3.sem)
          ∗ Φ (.dma cc1_scoped4.sem) ∗ Φ (.dma cc1_scoped5.sem) ∗ Φ (.dma cc1_scoped6.sem)) := by
  unfold copies
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

section tile

variable (d : Dev nD) (i : grid1.Coords)

theorem ownBufs_tile : (ownBufs (thr d i) : sProp 𝕄)
      = iprop(((∃ f, (thr d i).loc cc1_scratch0 ↦{fullShare} f) ∗ (∃ f, (thr d i).loc cc1_scratch1 ↦{fullShare} f)
            ∗ (∃ f, (thr d i).loc cc1_scratch2 ↦{fullShare} f) ∗ (∃ f, (thr d i).loc cc1_scratch3 ↦{fullShare} f)
            ∗ (∃ f, (thr d i).loc cc1_scratch4 ↦{fullShare} f) ∗ (∃ f, (thr d i).loc cc1_scratch5 ↦{fullShare} f)
            ∗ (∃ f, (thr d i).loc cc1_scratch6 ↦{fullShare} f) ∗ (∃ f, (thr d i).loc cc1_scratch7 ↦{fullShare} f)
            ∗ (∃ f, (thr d i).loc cc1_scratch8 ↦{fullShare} f))
          ∗ bigSep (ownRefs (τ := τ) (thr d i).2 \ scratches.map ⟨(thr d i).2.devRef, Proc.devRef_injective _⟩)
              fun b => iprop(∃ f, ((d, b) : Loc nD τ sig) ↦{fullShare} f)) := by
  unfold SparseCore.Cfg.ownBufs
  refine (SparseCore.bigSep_sdiff_split' (scratches_own i)).trans (congrArg (fun A : sProp 𝕄 => iprop(A ∗ _)) ?_)
  rw [BI.bigSep_map]
  exact bigSep_scratches _

theorem ownSems_tile : (ownSems0 (thr d i) : sProp 𝕄)
      = iprop((semVal (thr d i, .dma cc1_scoped0.sem) 0 ∗ semVal (thr d i, .dma cc1_scoped1.sem) 0 ∗ semVal (thr d i, .dma cc1_scoped2.sem) 0
            ∗ semVal (thr d i, .dma cc1_scoped3.sem) 0 ∗ semVal (thr d i, .dma cc1_scoped4.sem) 0 ∗ semVal (thr d i, .dma cc1_scoped5.sem) 0
            ∗ semVal (thr d i, .dma cc1_scoped6.sem) 0)
          ∗ bigSep (ownCells (thr d i) \ copies.map ⟨fun s => (thr d i, s), fun _ _ h => (Prod.mk.inj h).2⟩) fun g => semVal g 0) := by
  unfold SparseCore.Cfg.ownSems0
  refine (SparseCore.bigSep_sdiff_split' (copies_own d i)).trans (congrArg (fun A : sProp 𝕄 => iprop(A ∗ _)) ?_)
  rw [BI.bigSep_map]
  exact bigSep_copies _

end tile

/-! ## A tile's run -/

section whole

variable {sp : Space} {n : ℕ} {e : EltTy} (c : Thread nD τ) (m : Memref sig c.2.kind sp (Sh n) e) (q : PosShare TreeShare)

theorem own_whole (hn : 0 < n) (hs : m.view.set = Finset.univ) (f : Buf (Elt F) (m.view.loc c)) :
    (m.view.loc c ↦{q} f : sProp 𝕄) ⊢ own c m q (flat hn (m.view.read (Elt F) f)) := by
  unfold own
  rw [hs]
  iintro H
  iexists f
  isplitr; · ipureintro; exact fun x => (flat_val hn _ x).symm
  iexact H

theorem own_back (hn : 0 < n) (hs : m.view.set = Finset.univ) (f : Buf (Elt F) (m.view.loc c))
    (hinj : ∀ f' : Buf (Elt F) (m.view.loc c), (∀ x, m.view.read (Elt F) f' x = m.view.read (Elt F) f x) → f' = f) :
    own c m q (flat hn (m.view.read (Elt F) f)) ⊢ (m.view.loc c ↦{q} f : sProp 𝕄) := by
  unfold own
  rw [hs]
  iintro ⟨%f', %h, H⟩
  obtain rfl : f' = f := hinj f' fun x => (h x).trans (flat_val hn _ x)
  iexact H

theorem own_some (hs : m.view.set = Finset.univ) (g : ℕ → Elt F e) :
    own c m fullShare g ⊢ (iprop(∃ f, m.view.loc c ↦{fullShare} f) : sProp 𝕄) := by
  unfold own
  rw [hs]
  iintro ⟨%f', %h, H⟩
  iexists f'
  iexact H

end whole

theorem setOn_whole {κ : Kind} (b : Ref sig κ) (M : Finset b.ty.shape.Idx) : (View.whole b).setOn M = M := by
  unfold View.setOn
  exact Finset.map_refl

variable (d : Dev nD) (i : grid1.Coords)

theorem junk_of {sp : Space} {n : ℕ} {e : EltTy} (hn : 0 < n) (m : Memref sig Kind.scVector sp (Sh n) e) (hs : m.view.set = Finset.univ) :
    (iprop(∃ f, m.view.loc (thr d i) ↦{fullShare} f) : sProp 𝕄) ⊢ junk d i m := by
  unfold junk
  iintro ⟨%f, H⟩
  iexists _
  iapply (own_whole (thr d i) m fullShare hn hs f)
  iexact H

theorem of_junk {sp : Space} {n : ℕ} {e : EltTy} (m : Memref sig Kind.scVector sp (Sh n) e) (hs : m.view.set = Finset.univ) :
    (junk d i m : sProp 𝕄) ⊢ iprop(∃ f, m.view.loc (thr d i) ↦{fullShare} f) := by
  unfold junk
  iintro ⟨%g, H⟩
  iapply (own_some (thr d i) m hs g)
  iexact H

theorem blk_of_7 (f : Buf (Elt F) (locT d main_v15_0)) :
    (locT d main_v15_0 ↦[part i]{fullShare} f : sProp 𝕄)
      ⊢ blk (thr d i) (Memref.whole main_v15_0_scv) (e := .i32) (n := 640000) (64 * base i) (64 * (base i + nrows i)) (flat (n := 640000) (by omega) f) := by
  unfold blk
  rw [Memref.view_whole, setOn_whole]
  iintro H
  iexists f
  isplitr; · ipureintro; exact fun x _ _ => (flat_val (n := 640000) (by omega) f x).symm
  iexact H

theorem blk_of_8 (f : Buf (Elt F) (locT d main_v15_1)) :
    (locT d main_v15_1 ↦[part i]{fullShare} f : sProp 𝕄)
      ⊢ blk (thr d i) (Memref.whole main_v15_1_scv) (e := .f32) (n := 640000) (64 * base i) (64 * (base i + nrows i)) (flat (n := 640000) (by omega) f) := by
  unfold blk
  rw [Memref.view_whole, setOn_whole]
  iintro H
  iexists f
  isplitr; · ipureintro; exact fun x _ _ => (flat_val (n := 640000) (by omega) f x).symm
  iexact H

theorem of_blk_7 (g : ℕ → BitVec 32) :
    blk (thr d i) (Memref.whole main_v15_0_scv) (e := .i32) (n := 640000) (64 * base i) (64 * (base i + nrows i)) g
      ⊢ (iprop(∃ f, ⌜∀ x ∈ part i, f x = g (x 0).val⌝ ∗ locT d main_v15_0 ↦[part i]{fullShare} f) : sProp 𝕄) := by
  unfold blk
  rw [Memref.view_whole, setOn_whole]
  iintro ⟨%f, %h, H⟩
  iexists f
  isplitr
  · ipureintro
    intro x hx
    have := (Finset.mem_filter.mp hx).2
    exact h x this.1 this.2
  iexact H

theorem of_blk_8 (g : ℕ → F .f32) :
    blk (thr d i) (Memref.whole main_v15_1_scv) (e := .f32) (n := 640000) (64 * base i) (64 * (base i + nrows i)) g
      ⊢ (iprop(∃ f, ⌜∀ x ∈ part i, f x = g (x 0).val⌝ ∗ locT d main_v15_1 ↦[part i]{fullShare} f) : sProp 𝕄) := by
  unfold blk
  rw [Memref.view_whole, setOn_whole]
  iintro ⟨%f, %h, H⟩
  iexists f
  isplitr
  · ipureintro
    intro x hx
    have := (Finset.mem_filter.mp hx).2
    exact h x this.1 this.2
  iexact H

/-- A row done of some contents is done of the outputs that read them. -/
theorem Row.of_done {d : Dev nD} {i : grid1.Coords} {j : ℕ} (hj : j < nrows i) {n7 : ℕ → BitVec 32} {n8 : ℕ → F .f32}
    (h : RowDone (inD In d) (inT In d) (inX In d) (inY In d) (inZ In d) (base i + j) n7 n8)
    {f : Buf (Elt F) (locT d main_v15_0) × Buf (Elt F) (locT d main_v15_1)} (h1 : ∀ x ∈ part i, f.1 x = n7 (x 0).val)
    (h2 : ∀ x ∈ part i, f.2 x = n8 (x 0).val) : Row In d (base i + j) f := by
  have hb := base_le i
  have key : ∀ c < 64, (⟨(64 * (base i + j) + c) % 640000, Nat.mod_lt _ (by omega)⟩ : Fin 640000).val = 64 * (base i + j) + c := by
    intro c hc
    exact Nat.mod_eq_of_lt (by omega)
  refine RowOk.congr h (fun c hc => ?_) (fun c hc => ?_)
  · refine (h1 _ (Finset.mem_filter.mpr ⟨Finset.mem_univ _, ?_⟩)).trans (congrArg n7 (key c hc))
    exact (key c hc).symm ▸ ⟨by omega, by omega⟩
  · refine (h2 _ (Finset.mem_filter.mpr ⟨Finset.mem_univ _, ?_⟩)).trans (congrArg n8 (key c hc))
    exact (key c hc).symm ▸ ⟨by omega, by omega⟩

set_option maxHeartbeats 1000000 in
/-- A tile's run, from its shares of the inputs and its rows of the outputs. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ (reads In d q ∗ ∃ f, outs d (part i) f)
        ∗ scopedBufs (thr d i) ∗ scopedSems0 (thr d i) ∗ owes (thr d i) O W)
      ⊢ wp frame (wpE (defs₀ (F := F)) 𝒱₀ (thr d i) none) Set.univ
          (cc1_sc i (Memref.whole main_v8_scv) (Memref.isWhole_whole _) (Memref.whole main_v7_scv) (Memref.isWhole_whole _) (Memref.whole main_v10_scv)
            (Memref.isWhole_whole _) (Memref.whole main_v12_scv) (Memref.isWhole_whole _) (Memref.whole main_v14_scv) (Memref.isWhole_whole _) (Memref.whole
            main_v15_0_scv) (Memref.isWhole_whole _) (Memref.whole main_v15_1_scv) (Memref.isWhole_whole _) (Memref.whole cc1_scratch0) (Memref.isWhole_whole _)
            (Memref.whole cc1_scratch1) (Memref.isWhole_whole _) (Memref.whole cc1_scratch2) (Memref.isWhole_whole _) (Memref.whole cc1_scratch3)
            (Memref.isWhole_whole _) (Memref.whole cc1_scratch4) (Memref.isWhole_whole _) (Memref.whole cc1_scratch5) (Memref.isWhole_whole _) (Memref.whole
            cc1_scratch6) (Memref.isWhole_whole _) (Memref.whole cc1_scratch7) (Memref.isWhole_whole _) (Memref.whole cc1_scratch8) (Memref.isWhole_whole _)
            cc1_scoped0 cc1_scoped1 cc1_scoped2 cc1_scoped3 cc1_scoped4 cc1_scoped5 cc1_scoped6)
          fun _ => iprop((reads In d q ∗ ∃ f, ⌜∀ j < nrows i, Row In d (base i + j) f⌝ ∗ outs d (part i) f)
            ∗ scopedBufs (thr d i) ∗ scopedSems0 (thr d i) ∗ ∃ W', ⌜∀ p ∈ W', p ∈ W ∨ p.2 = none⌝ ∗ owes (thr d i) O W') := by
  rw [(K (F := F)).scopedBufs_V hF d ((i 0).castLE hcore1) ((i 1).castLE hsub1),
    SparseCore.Cfg.scopedSems0_V (Val := Elt F) d ((i 0).castLE hcore1) ((i 1).castLE hsub1)]
  rw [ownSems_tile d i, ownBufs_tile d i]
  iintro ⟨#Hlv, -, ⟨⟨H2, H1, H4, H6, H8⟩, ⟨%f, H7, Hv⟩⟩, ⟨⟨B0, B1, B2, B3, B4, B5, B6, B7, B8⟩, Hbufs⟩, ⟨⟨S0, S1, S2, S3, S4, S5, S6⟩, Hsems⟩, HO⟩
  ihave Hmw := (show levAts (K (F := F)).L (K (F := F)).lev ⊢ Transfers.MayWaits (thr d i) (none : HIx 1) O from
    (K (F := F)).mayWaits_none (thr := thr d i) hO) $$ Hlv
  iapply (wp_wand frame (wpE (defs₀ (F := F)) 𝒱₀ (thr d i) none) Set.univ) $$ [H2 H1 H4 H6 H8 H7 Hv B0 B1 B2 B3 B4 B5 B6 B7 B8 S0 S1 S2 S3 S4 S5 S6 HO Hmw]
  · iapply (wp_sc d i (Memref.whole main_v8_scv) (Memref.isWhole_whole _) (Memref.whole main_v7_scv) (Memref.isWhole_whole _) (Memref.whole main_v10_scv)
            (Memref.isWhole_whole _) (Memref.whole main_v12_scv) (Memref.isWhole_whole _) (Memref.whole main_v14_scv) (Memref.isWhole_whole _) (Memref.whole
            main_v15_0_scv) (Memref.isWhole_whole _) (Memref.whole main_v15_1_scv) (Memref.isWhole_whole _) (Memref.whole cc1_scratch0) (Memref.isWhole_whole _)
            (Memref.whole cc1_scratch1) (Memref.isWhole_whole _) (Memref.whole cc1_scratch2) (Memref.isWhole_whole _) (Memref.whole cc1_scratch3)
            (Memref.isWhole_whole _) (Memref.whole cc1_scratch4) (Memref.isWhole_whole _) (Memref.whole cc1_scratch5) (Memref.isWhole_whole _) (Memref.whole
            cc1_scratch6) (Memref.isWhole_whole _) (Memref.whole cc1_scratch7) (Memref.isWhole_whole _) (Memref.whole cc1_scratch8) (Memref.isWhole_whole _)
            cc1_scoped0 cc1_scoped1 cc1_scoped2 cc1_scoped3 cc1_scoped4 cc1_scoped5 cc1_scoped6 𝒱₀ none (inD In d) (inT In d) (inX In d) (inY In d) (inZ In d) q
            (flat (n := 640000) (by omega) f.1) (flat (n := 640000) (by omega) f.2) (ι := (none : HIx 1)) (O := O) (W := W))
    unfold whole
    isplitl [H2]
    · iapply (own_whole (thr d i) (Memref.whole main_v8_scv) q (n := 100000000) (by omega) (View.set_whole _) (In d (Proc.devRef .tc main_v8))); iexact H2
    isplitl [H1]
    · iapply (own_whole (thr d i) (Memref.whole main_v7_scv) q (n := 10336) (by omega) (View.set_whole _) (In d (Proc.devRef .tc main_v7))); iexact H1
    isplitl [H4]
    · iapply (own_whole (thr d i) (Memref.whole main_v10_scv) q (n := 10000) (by omega) (View.set_whole _) (In d (Proc.devRef .tc main_v10))); iexact H4
    isplitl [H6]
    · iapply (own_whole (thr d i) (Memref.whole main_v12_scv) q (n := 10000) (by omega) (View.set_whole _) (In d (Proc.devRef .tc main_v12))); iexact H6
    isplitl [H8]
    · iapply (own_whole (thr d i) (Memref.whole main_v14_scv) q (n := 10000) (by omega) (View.set_whole _) (In d (Proc.devRef .tc main_v14))); iexact H8
    isplitl [H7]; · iapply (blk_of_7 d i f.1); iexact H7
    isplitl [Hv]; · iapply (blk_of_8 d i f.2); iexact Hv
    isplitl [B0]; · iapply (junk_of d i (n := 10000) (by omega) (Memref.whole cc1_scratch0) (View.set_whole _)); iexact B0
    isplitl [B1]; · iapply (junk_of d i (n := 10000) (by omega) (Memref.whole cc1_scratch1) (View.set_whole _)); iexact B1
    isplitl [B2]; · iapply (junk_of d i (n := 10000) (by omega) (Memref.whole cc1_scratch2) (View.set_whole _)); iexact B2
    isplitl [B3]; · iapply (junk_of d i (n := 10000) (by omega) (Memref.whole cc1_scratch3) (View.set_whole _)); iexact B3
    isplitl [B4]; · iapply (junk_of d i (n := 336) (by omega) (Memref.whole cc1_scratch4) (View.set_whole _)); iexact B4
    isplitl [B5]; · iapply (junk_of d i (n := 2064) (by omega) (Memref.whole cc1_scratch5) (View.set_whole _)); iexact B5
    isplitl [B6]; · iapply (junk_of d i (n := 2064) (by omega) (Memref.whole cc1_scratch6) (View.set_whole _)); iexact B6
    isplitl [B7]; · iapply (junk_of d i (n := 2064) (by omega) (Memref.whole cc1_scratch7) (View.set_whole _)); iexact B7
    isplitl [B8]; · iapply (junk_of d i (n := 2064) (by omega) (Memref.whole cc1_scratch8) (View.set_whole _)); iexact B8
    isplitl [S0]; · iexact S0
    isplitl [S1]; · iexact S1
    isplitl [S2]; · iexact S2
    isplitl [S3]; · iexact S3
    isplitl [S4]; · iexact S4
    isplitl [S5]; · iexact S5
    isplitl [S6]; · iexact S6
    unfold live
    isplitl [Hmw]; · iexact Hmw
    iexists W
    isplitr; · ipureintro; exact fun p hp => .inl hp
    iexact HO
  iintro %_ ⟨%n7, %n8, %hr, H⟩
  unfold whole live
  icases H with ⟨H2, H1, H4, H6, H8, H7, Hv, B0, B1, B2, B3, B4, B5, B6, B7, B8, S0, S1, S2, S3, S4, S5, S6, -, HO⟩
  isplitl [H2 H1 H4 H6 H8 H7 Hv]
  · isplitl [H2 H1 H4 H6 H8]
    · isplitl [H2]
      · iapply (own_back (thr d i) (Memref.whole main_v8_scv) q (n := 100000000) (by omega) (View.set_whole _) (In d (Proc.devRef .tc main_v8)) (fun _ h => funext h)); iexact H2
      isplitl [H1]
      · iapply (own_back (thr d i) (Memref.whole main_v7_scv) q (n := 10336) (by omega) (View.set_whole _) (In d (Proc.devRef .tc main_v7)) (fun _ h => funext h)); iexact H1
      isplitl [H4]
      · iapply (own_back (thr d i) (Memref.whole main_v10_scv) q (n := 10000) (by omega) (View.set_whole _) (In d (Proc.devRef .tc main_v10)) (fun _ h => funext h)); iexact H4
      isplitl [H6]
      · iapply (own_back (thr d i) (Memref.whole main_v12_scv) q (n := 10000) (by omega) (View.set_whole _) (In d (Proc.devRef .tc main_v12)) (fun _ h => funext h)); iexact H6
      iapply (own_back (thr d i) (Memref.whole main_v14_scv) q (n := 10000) (by omega) (View.set_whole _) (In d (Proc.devRef .tc main_v14)) (fun _ h => funext h)); iexact H8
    ihave H7' := (of_blk_7 d i n7) $$ H7
    icases H7' with ⟨%f7, %h7, H7⟩
    ihave H8' := (of_blk_8 d i n8) $$ Hv
    icases H8' with ⟨%f8, %h8, Hv⟩
    iexists (f7, f8)
    isplitr; · ipureintro; exact fun j hj => Row.of_done In hj (hr j hj) h7 h8
    isplitl [H7] <;> iassumption
  isplitl [B0 B1 B2 B3 B4 B5 B6 B7 B8 Hbufs]
  · isplitr [Hbufs]
    · isplitl [B0]; · iapply (of_junk d i (Memref.whole cc1_scratch0) (View.set_whole _)); iexact B0
      isplitl [B1]; · iapply (of_junk d i (Memref.whole cc1_scratch1) (View.set_whole _)); iexact B1
      isplitl [B2]; · iapply (of_junk d i (Memref.whole cc1_scratch2) (View.set_whole _)); iexact B2
      isplitl [B3]; · iapply (of_junk d i (Memref.whole cc1_scratch3) (View.set_whole _)); iexact B3
      isplitl [B4]; · iapply (of_junk d i (Memref.whole cc1_scratch4) (View.set_whole _)); iexact B4
      isplitl [B5]; · iapply (of_junk d i (Memref.whole cc1_scratch5) (View.set_whole _)); iexact B5
      isplitl [B6]; · iapply (of_junk d i (Memref.whole cc1_scratch6) (View.set_whole _)); iexact B6
      isplitl [B7]; · iapply (of_junk d i (Memref.whole cc1_scratch7) (View.set_whole _)); iexact B7
      iapply (of_junk d i (Memref.whole cc1_scratch8) (View.set_whole _)); iexact B8
    iexact Hbufs
  isplitl [S0 S1 S2 S3 S4 S5 S6 Hsems]
  · isplitr [Hsems]
    · isplitl [S0]; · iexact S0
      isplitl [S1]; · iexact S1
      isplitl [S2]; · iexact S2
      isplitl [S3]; · iexact S3
      isplitl [S4]; · iexact S4
      isplitl [S5]; · iexact S5
      iexact S6
    iexact Hsems
  iexact HO

theorem defs₀_vector (c : Fin τ.nSC) (s : Fin τ.nSub) :
    defs₀ (F := F) (.scVector c s) 1 ()
      = SparseCore.onTile hcore1 hsub1 (fun c s => cc1_sc (coordsV c s) (Memref.whole main_v8_scv) (Memref.isWhole_whole _) (Memref.whole main_v7_scv) (Memref.isWhole_whole _) (Memref.whole main_v10_scv)
            (Memref.isWhole_whole _) (Memref.whole main_v12_scv) (Memref.isWhole_whole _) (Memref.whole main_v14_scv) (Memref.isWhole_whole _) (Memref.whole
            main_v15_0_scv) (Memref.isWhole_whole _) (Memref.whole main_v15_1_scv) (Memref.isWhole_whole _) (Memref.whole cc1_scratch0) (Memref.isWhole_whole _)
            (Memref.whole cc1_scratch1) (Memref.isWhole_whole _) (Memref.whole cc1_scratch2) (Memref.isWhole_whole _) (Memref.whole cc1_scratch3)
            (Memref.isWhole_whole _) (Memref.whole cc1_scratch4) (Memref.isWhole_whole _) (Memref.whole cc1_scratch5) (Memref.isWhole_whole _) (Memref.whole
            cc1_scratch6) (Memref.isWhole_whole _) (Memref.whole cc1_scratch7) (Memref.isWhole_whole _) (Memref.whole cc1_scratch8) (Memref.isWhole_whole _)
            cc1_scoped0 cc1_scoped1 cc1_scoped2 cc1_scoped3 cc1_scoped4 cc1_scoped5 cc1_scoped6) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P In) v₀ 0 := by
  intro d c i O W hO _ _
  simp only [show (P In).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body In d (coordsV ⟨_, hci.1⟩ ⟨_, hci.2⟩) hF (leaf 4 (leaf 1 fullShare c) i) O W hO).trans (wp_mono frame _ _ fun _ => obl_post)

/-! ## Sharing the operands out among the tiles and putting them together again -/

omit [FloatOps F] in
theorem reads_leaves (d : Dev nD) (n : ℕ) (q : PosShare TreeShare) :
    (reads In d q : sProp 𝕄) = bigSep Finset.univ fun i : Fin (2 ^ n) => reads In d (leaf n q i) := by
  rw [bigSep_sep', bigSep_sep', bigSep_sep', bigSep_sep', ← pointsTo_leaves, ← pointsTo_leaves, ← pointsTo_leaves, ← pointsTo_leaves, ← pointsTo_leaves]

omit [FloatOps F] in
theorem outs_split {n : ℕ} (d : Dev nD) (J : Fin n → Finset S640000.Idx) (hJ : ∀ a b, a ≠ b → Disjoint (J a) (J b)) (f) :
    (outs d (Finset.univ.biUnion J) f : sProp 𝕄) ⊢ bigSep Finset.univ fun a => iprop(∃ f, outs d (J a) f) := by
  have e : (outs d (Finset.univ.biUnion J) f : sProp 𝕄) = bigSep Finset.univ fun a => outs d (J a) f := by
    rw [bigSep_sep', ← pointsTo_biUnion (ℓ := locT d main_v15_0) Finset.univ J fun a _ b _ h => hJ a b h,
      ← pointsTo_biUnion (ℓ := locT d main_v15_1) Finset.univ J fun a _ b _ h => hJ a b h]
  rw [e]
  exact BI.bigSep_mono fun a _ => (show (outs d (J a) f : sProp 𝕄) ⊢ iprop(∃ f, outs d (J a) f) by iintro H; iexists f; iexact H)

omit [FloatOps F] in
theorem outs_join {n : ℕ} (d : Dev nD) (J : Fin (n + 1) → Finset S640000.Idx) (hJ : ∀ a b, a ≠ b → Disjoint (J a) (J b))
    (p : Fin (n + 1) → Buf (Elt F) (locT d main_v15_0) × Buf (Elt F) (locT d main_v15_1) → Prop)
    (hp : ∀ a f g, (∀ x ∈ J a, g.1 x = f.1 x ∧ g.2 x = f.2 x) → p a f → p a g) :
    (bigSep Finset.univ fun a => iprop(∃ f, ⌜p a f⌝ ∗ outs d (J a) f) : sProp 𝕄)
      ⊢ iprop(∃ f, ⌜∀ a, p a f⌝ ∗ outs d (Finset.univ.biUnion J) f) := by
  by_cases hne : ∃ f : Buf (Elt F) (locT d main_v15_0) × Buf (Elt F) (locT d main_v15_1), True
  · obtain ⟨f₀, -⟩ := hne
    haveI : Nonempty (Buf (Elt F) (locT d main_v15_0) × Buf (Elt F) (locT d main_v15_1)) := ⟨f₀⟩
    iintro H
    ihave H := (bigSep_exists_pi Finset.univ fun a f => iprop(⌜p a f⌝ ∗ outs d (J a) f)) $$ H
    icases H with ⟨%fs, H⟩
    ihave H := (bigSep_pure_out Finset.univ (fun a => p a (fs a)) fun a => outs d (J a) (fs a)) $$ H
    icases H with ⟨%h, H⟩
    ihave H := (show (bigSep Finset.univ fun a => outs d (J a) (fs a) : sProp 𝕄)
        ⊢ iprop((bigSep Finset.univ fun a => locT d main_v15_0 ↦[J a]{fullShare} (fs a).1) ∗ bigSep Finset.univ fun a => locT d main_v15_1 ↦[J a]{fullShare} (fs a).2) from
      by rw [bigSep_sep']) $$ H
    icases H with ⟨H1, H2⟩
    ihave H1 := (pointsTo_biUnion_join (ℓ := locT d main_v15_0) (q := fullShare) (Val := Elt F) Finset.univ J (fun a => (fs a).1) (fs 0).1
      fun a _ b _ h => hJ a b h) $$ H1
    ihave H2 := (pointsTo_biUnion_join (ℓ := locT d main_v15_1) (q := fullShare) (Val := Elt F) Finset.univ J (fun a => (fs a).2) (fs 0).2
      fun a _ b _ h => hJ a b h) $$ H2
    icases H1 with ⟨%g1, %h1, H1⟩
    icases H2 with ⟨%g2, %h2, H2⟩
    iexists (g1, g2)
    isplitr
    · ipureintro
      exact fun a => hp a (fs a) _ (fun x hx => ⟨h1 a (Finset.mem_univ _) x hx, h2 a (Finset.mem_univ _) x hx⟩) (h a (Finset.mem_univ _))
    isplitl [H1] <;> iassumption
  · have e : (bigSep Finset.univ fun a => iprop(∃ f, ⌜p a f⌝ ∗ outs d (J a) f) : sProp 𝕄)
        = iprop((∃ f, ⌜p 0 f⌝ ∗ outs d (J 0) f) ∗ bigSep (Finset.univ.erase 0) fun a => iprop(∃ f, ⌜p a f⌝ ∗ outs d (J a) f)) := by
      exact SparseCore.bigSep_erase' (Finset.mem_univ 0)
    rw [e]
    iintro ⟨⟨%f, -⟩, -⟩
    exact absurd ⟨f, trivial⟩ hne

theorem mem_part {i : grid1.Coords} {x : S640000.Idx} : x ∈ part i ↔ 64 * base i ≤ (x 0).val ∧ (x 0).val < 64 * (base i + nrows i) := by
  unfold part
  rw [Finset.mem_filter]
  exact ⟨fun h => h.2, fun h => ⟨Finset.mem_univ _, h⟩⟩

/-- Two tiles that share a position are the same. -/
theorem part_inj {c c' : Fin (grid1.bound 0)} {s s' : Fin (grid1.bound 1)} {x : S640000.Idx} (h : x ∈ part (coordsV c s)) (h' : x ∈ part (coordsV c' s')) :
    c = c' ∧ s = s' := by
  have hc : c.val < 2 := c.isLt
  have hc' : c'.val < 2 := c'.isLt
  have hs : s.val < 16 := s.isLt
  have hs' : s'.val < 16 := s'.isLt
  rw [mem_part] at h h'
  have a : base (coordsV c s) = 313 * (2 * s.val + c.val) - (2 * s.val + c.val - 16) := rfl
  have a' : base (coordsV c' s') = 313 * (2 * s'.val + c'.val) - (2 * s'.val + c'.val - 16) := rfl
  have n : nrows (coordsV c s) = if 2 * s.val + c.val < 16 then 313 else 312 := rfl
  have n' : nrows (coordsV c' s') = if 2 * s'.val + c'.val < 16 then 313 else 312 := rfl
  rw [a, n] at h
  rw [a', n'] at h'
  have : 2 * s.val + c.val = 2 * s'.val + c'.val := by split at h <;> split at h' <;> omega
  constructor <;> apply Fin.ext <;> omega

theorem part_disjoint (c : Fin (grid1.bound 0)) (s s' : Fin (grid1.bound 1)) (h : s ≠ s') : Disjoint (part (coordsV c s)) (part (coordsV c s')) :=
  Finset.disjoint_left.mpr fun _ hx hx' => h (part_inj hx hx').2

theorem partC_disjoint (c c' : Fin (grid1.bound 0)) (h : c ≠ c') : Disjoint (partC c) (partC c') := by
  refine Finset.disjoint_left.mpr fun x hx hx' => ?_
  unfold partC at hx hx'
  obtain ⟨s, -, hs⟩ := Finset.mem_biUnion.mp hx
  obtain ⟨s', -, hs'⟩ := Finset.mem_biUnion.mp hx'
  exact h (part_inj hs hs').1

/-- Every row is some tile's. -/
theorem row_tile {r : ℕ} (hr : r < 10000) : ∃ c s, ∃ j < nrows (coordsV c s), r = base (coordsV c s) + j := by
  obtain ⟨w, hw, h1, h2⟩ : ∃ w < 32, 313 * w - (w - 16) ≤ r ∧ r < 313 * w - (w - 16) + (if w < 16 then 313 else 312) := by
    by_cases h : r < 5008
    · exact ⟨r / 313, by omega, by omega, by rw [if_pos (by omega)]; omega⟩
    · exact ⟨(r - 16) / 312, by omega, by omega, by rw [if_neg (by omega)]; omega⟩
  obtain ⟨c, s, hc, hs⟩ : ∃ (c : Fin (grid1.bound 0)) (s : Fin (grid1.bound 1)), c.val = w % 2 ∧ s.val = w / 2 :=
    ⟨⟨w % 2, Nat.mod_lt w (show 0 < 2 by omega)⟩, ⟨w / 2, show w / 2 < 16 by omega⟩, rfl, rfl⟩
  have hb : base (coordsV c s) = 313 * (2 * s.val + c.val) - (2 * s.val + c.val - 16) := rfl
  have hn : nrows (coordsV c s) = if 2 * s.val + c.val < 16 then 313 else 312 := rfl
  rw [show 2 * s.val + c.val = w by omega] at hb hn
  exact ⟨c, s, r - (313 * w - (w - 16)), by rw [hn]; omega, by rw [hb]; omega⟩

theorem parts_univ : (Finset.univ.biUnion fun c => partC c) = (Finset.univ : Finset S640000.Idx) := by
  refine Finset.eq_univ_iff_forall.mpr fun x => ?_
  obtain ⟨c, s, j, hj, e⟩ := row_tile (r := (x 0).val / 64) (by have : (x 0).val < 640000 := (x 0).isLt; omega)
  refine Finset.mem_biUnion.mpr ⟨c, Finset.mem_univ _, ?_⟩
  unfold partC
  exact Finset.mem_biUnion.mpr ⟨s, Finset.mem_univ _, mem_part.mpr ⟨by omega, by omega⟩⟩

theorem row_lt (c s) {j : ℕ} (hj : j < nrows (coordsV c s)) : base (coordsV c s) + j < 10000 := by
  have hc : c.val < 2 := c.isLt
  have hs : s.val < 16 := s.isLt
  have a : base (coordsV c s) = 313 * (2 * s.val + c.val) - (2 * s.val + c.val - 16) := rfl
  have n : nrows (coordsV c s) = if 2 * s.val + c.val < 16 then 313 else 312 := rfl
  rw [n] at hj
  rw [a]
  split at hj <;> omega

theorem Row.congr_part {d : Dev nD} {c s} {j : ℕ} (hj : j < nrows (coordsV c s)) {f g : Buf (Elt F) (locT d main_v15_0) × Buf (Elt F) (locT d main_v15_1)}
    (h : ∀ x ∈ part (coordsV c s), g.1 x = f.1 x ∧ g.2 x = f.2 x) (hf : Row In d (base (coordsV c s) + j) f) : Row In d (base (coordsV c s) + j) g :=
  Row.congr In (row_lt c s hj) hf (fun x h1 h2 => (h x (mem_part.mpr ⟨by omega, by omega⟩)).1)
    (fun x h1 h2 => (h x (mem_part.mpr ⟨by omega, by omega⟩)).2)

theorem vecSplit : (K (F := F)).VecSplit' (P In) 0 := by
  intro d c
  show iprop(reads In d (leaf 1 fullShare c) ∗ ∃ f, outs d (partC c) f) ⊢ |={Set.univ}=> iprop(
      (bigSep Finset.univ fun i : Fin (2 ^ 4) => iprop(reads In d (leaf 4 (leaf 1 fullShare c) i) ∗ ∃ f, outs d (part (coordsV c i)) f))
      ∗ ((bigSep Finset.univ fun i : Fin (2 ^ 4) => iprop(reads In d (leaf 4 (leaf 1 fullShare c) i)
            ∗ ∃ f, ⌜∀ j < nrows (coordsV c i), Row In d (base (coordsV c i) + j) f⌝ ∗ outs d (part (coordsV c i)) f))
          -∗ iprop(reads In d (leaf 1 fullShare c)
            ∗ ∃ f, ⌜∀ s, ∀ j < nrows (coordsV c s), Row In d (base (coordsV c s) + j) f⌝ ∗ outs d (partC c) f)))
  rw [bigSep_sep' Finset.univ (fun i : Fin (2 ^ 4) => reads In d (leaf 4 (leaf 1 fullShare c) i)),
    bigSep_sep' Finset.univ (fun i : Fin (2 ^ 4) => reads In d (leaf 4 (leaf 1 fullShare c) i)), ← reads_leaves]
  iintro ⟨H, ⟨%f, Ho⟩⟩
  imodintro
  isplitl [H Ho]
  · isplitl [H]; · iexact H
    iapply (outs_split d (fun s : Fin 16 => part (coordsV c s)) (part_disjoint c) f); iexact Ho
  iintro ⟨H, Ho⟩
  isplitl [H]; · iexact H
  iapply (outs_join d (n := 15) (fun s : Fin 16 => part (coordsV c s)) (part_disjoint c)
    (fun s f => ∀ j < nrows (coordsV c s), Row In d (base (coordsV c s) + j) f) fun s f g h hf j hj => Row.congr_part In hj h (hf j hj))
  iexact Ho

/-- The whole call's start, from the inputs in full and the outputs at any contents. -/
theorem start_of (d : Dev nD) : iprop(reads In d fullShare ∗ ∃ f, outs d Finset.univ f)
    ⊢ bigSep Finset.univ fun c : Fin ((K (F := F)).nCore 0) => (P In).st 0 d c := by
  show _ ⊢ bigSep Finset.univ fun c : Fin (2 ^ 1) => iprop(reads In d (leaf 1 fullShare c) ∗ ∃ f, outs d (partC c) f)
  rw [bigSep_sep' Finset.univ (fun c : Fin (2 ^ 1) => reads In d (leaf 1 fullShare c)), ← reads_leaves, ← parts_univ]
  iintro ⟨H, ⟨%f, Ho⟩⟩
  isplitl [H]; · iexact H
  iapply (outs_split d (fun c : Fin 2 => partC c) partC_disjoint f); iexact Ho

/-- The whole call's end: every row done. -/
theorem end_of (d : Dev nD) : (bigSep Finset.univ fun c : Fin ((K (F := F)).nCore 0) => (P In).dn 0 d c)
    ⊢ iprop(reads In d fullShare ∗ ∃ f, ⌜∀ r < 10000, Row In d r f⌝ ∗ outs d Finset.univ f) := by
  show (bigSep Finset.univ fun c : Fin (2 ^ 1) => iprop(reads In d (leaf 1 fullShare c)
    ∗ ∃ f, ⌜∀ s, ∀ j < nrows (coordsV c s), Row In d (base (coordsV c s) + j) f⌝ ∗ outs d (partC c) f)) ⊢ _
  rw [bigSep_sep' Finset.univ (fun c : Fin (2 ^ 1) => reads In d (leaf 1 fullShare c)), ← reads_leaves]
  iintro ⟨H, Ho⟩
  isplitl [H]; · iexact H
  ihave Ho := (outs_join d (n := 1) (fun c : Fin 2 => partC c) partC_disjoint
    (fun c f => ∀ s, ∀ j < nrows (coordsV c s), Row In d (base (coordsV c s) + j) f)
    fun c f g h hf s j hj => Row.congr_part In hj (fun x hx => h x (by unfold partC; exact Finset.mem_biUnion.mpr ⟨s, Finset.mem_univ _, hx⟩)) (hf s j hj)) $$ Ho
  icases Ho with ⟨%f, %h, Ho⟩
  iexists f
  isplitr
  · ipureintro
    intro r hr
    obtain ⟨c, s, j, hj, rfl⟩ := row_tile hr
    exact h c s j hj
  rw [← parts_univ]; iexact Ho

/-- The ghost state at launch: the handshakes' rounds and the windowed calls'. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What a device's TensorCore holds of it for its windowed calls. -/
abbrev calls (d : Dev nD) : sProp 𝕄 :=
  iprop((bigSep Finset.univ fun p : Fin 3 => Pipeline.cellsGhost cfgs (EP (F := F)) p d) ∗ bigSep Finset.univ fun p : Fin 3 => Pipeline.toksInit cfgs (EP (F := F)) p d)

theorem hu₀ : (ownU (u₀ (F := F)) : sProp 𝕄)
    ⊢ |={Set.univ}=> iprop(BI.own (EH (initOf (K (F := F)).hsCells (K (F := F)).hsToks)) ∗ (bigSep Finset.univ fun d : Dev nD => calls d)
        ∗ bigSep Finset.univ fun thr : Thread nD τ => bigSep Finset.univ fun q : Fin 1 => (P In).x q thr) := by
  unfold u₀
  iintro Hu
  ihave H := (ownU_pair (initOf (K (F := F)).hsCells (K (F := F)).hsToks) ((_, 1) : UP × Counters)) $$ Hu
  icases H with ⟨HH, HR⟩
  ihave H := (own_pair_emb (embR : Emb (UP × Counters) 𝕄) _ (1 : Counters)) $$ HR
  icases H with ⟨HP, -⟩
  ihave H := (Pipeline.fund_ghost (nD := nD) (τ := τ) cfgs (EP (F := F)) cellOf_inj) $$ HP
  imod H with ⟨HC, HT⟩
  imodintro
  isplitl [HH]; · iexact HH
  isplitl [HC HT]
  · unfold calls
    rw [bigSep_sep']
    isplitl [HC] <;> iassumption
  have e1 : (bigSep (Finset.univ : Finset (Thread nD τ)) fun _ => iprop(emp)) = (iprop(emp) : sProp 𝕄) := bigSep_emp_const _
  rw [show (bigSep Finset.univ fun thr : Thread nD τ => bigSep Finset.univ fun q : Fin 1 => (P (F := F) In).x q thr) = bigSep Finset.univ fun _ => iprop(emp) from
    bigSep_congr fun _ _ => bigSep_univ_of_subsingleton (0 : Fin 1), e1]
  iempintro

end Cert.Proof.Knn

end
-- ==== Proof.RegionPairs.lean ====
/-
  RegionPairs: the call computing the distance matrix and the thresholds, point by point.
-/
module

public import proofs.«01_k».proof.Proof.Windows
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Knn

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S200x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x1 .f32 := win0_5.stage (cfg0.slots t 5)
abbrev hs0_5 (t : Fin cfg0.N) : (ms0_5 t).IsWhole := hstage0_5 ((cfg0.slots t 5).cast nbuf0_5)

abbrev r0_0 : Rect S200x3 := Rect.unit (s := S200x3) ![0, 0] S200x3.size inb_S200x3_S200x3_0_0
abbrev r0_1 : Rect S3x10000 := Rect.unit (s := S3x10000) ![0, 0] S3x10000.size inb_S3x10000_S3x10000_0_0
abbrev r0_2 : Rect S200x1 := Rect.unit (s := S200x1) ![0, 0] S200x1.size inb_S200x1_S200x1_0_0
abbrev r0_3 : Rect S1x10000 := Rect.unit (s := S1x10000) ![0, 0] S1x10000.size inb_S1x10000_S1x10000_0_0
abbrev r0_4 : Rect S200x10000 := Rect.unit (s := S200x10000) ![0, 0] S200x10000.size inb_S200x10000_S200x10000_0_0

/-- A block of the distance matrix, as the call stores it. -/
def out0_4 (i : grid0.Coords) (x0 : Vec F S200x3 .f32) (x1 : Vec F S3x10000 .f32) (x2 : Vec F S200x1 .f32) (x3 : Vec F S1x10000 .f32) : Vec F S200x10000 .f32 :=
  View.canon [⟨r0_4, k0_pay1 i (View.ld x0 r0_0) (View.ld x1 r0_1) (View.ld x2 r0_2) (View.ld x3 r0_3)⟩]

/-- The minima of the groups and the last minimum taken, after the rounds. -/
def lastRound (g : FVec F S79x200 .f32) : FVec F S79x200 .f32 × FVec F S1x200 .f32 :=
  Scf.fold (n := k0_t1_loop.trips) (fun _ a => (k0_pay5 a.1, k0_pay4 a.1)) (g, k0_pay3)

/-- A block of the thresholds, as the call stores it. -/
def out0_5 (i : grid0.Coords) (x0 : Vec F S200x3 .f32) (x1 : Vec F S3x10000 .f32) (x2 : Vec F S200x1 .f32) (x3 : Vec F S1x10000 .f32) : Vec F S200x1 .f32 :=
  View.canon [⟨r0_2, k0_pay6 (lastRound (k0_pay2 i (View.ld x0 r0_0) (View.ld x1 r0_1) (View.ld x2 r0_2) (View.ld x3 r0_3))).2⟩]

theorem cover0_4 (p0 : Vec F S200x10000 .f32) (y : S200x10000.Idx) :
    ∃ pc ∈ ([⟨r0_4, p0⟩] : List (View.Piece (Elt F) S200x10000 .f32)), y ∈ pc.1.set :=
  View.cover_of_tiled [⟨r0_4, p0⟩] S200x10000.size (by rfl) y

theorem cover0_5 (p0 : Vec F S200x1 .f32) (y : S200x1.Idx) :
    ∃ pc ∈ ([⟨r0_2, p0⟩] : List (View.Piece (Elt F) S200x1 .f32)), y ∈ pc.1.set :=
  View.cover_of_tiled [⟨r0_2, p0⟩] S200x1.size (by rfl) y

set_option maxHeartbeats 1000000 in
/-- One point of the call: the inputs' blocks stay, the outputs' buffers are left at their blocks. -/
theorem sound_kernel0 (c : Dev nD) (E : Set ℕ) (i : grid0.Coords) (arg1 : Memref sig .tc .vmem S200x3 .f32) (harg1 : arg1.IsWhole) (arg2 : Memref sig .tc .vmem S3x10000 .f32) (harg2 : arg2.IsWhole)
    (arg3 : Memref sig .tc .vmem S200x1 .f32) (harg3 : arg3.IsWhole) (arg4 : Memref sig .tc .vmem S1x10000 .f32) (harg4 : arg4.IsWhole)
    (arg5 : Memref sig .tc .vmem S200x10000 .f32) (harg5 : arg5.IsWhole) (arg6 : Memref sig .tc .vmem S200x1 .f32) (harg6 : arg6.IsWhole)
    (x0 : Vec F S200x3 .f32) (x1 : Vec F S3x10000 .f32) (x2 : Vec F S200x1 .f32) (x3 : Vec F S1x10000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 i x0 x1 x2 x3) ∗ owns (c : Thread nD τ) arg6 fullShare (out0_5 i x0 x1 x2 x3)) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

def dat0 (n : ℕ) (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
    | ⟨5, _⟩ => out0_5 (grid0.coords t) (iblk0 V c 0 t) (iblk0 V c 1 t) (iblk0 V c 2 t) (iblk0 V c 3 t)
  Φ _ := Pipeline.scopedRest spec0 c
  q _ := fullShare
  owed _ := (K (F := F)).Otc c n
  recorded _ := below (F := F) c n

theorem A_eq0 (n : ℕ) (c : Dev nD) (w : Fin cfg0.W) : (dat0 V n c).A w = V c (Pipeline.arrRef spec0 w) := by
  dsimp only [dat0]

theorem after0_0 (n : ℕ) (c : Dev nD) (t : Fin cfg0.N) : (dat0 V n c).after 0 t = iblk0 V c 0 t := by dsimp only [dat0]
theorem after0_1 (n : ℕ) (c : Dev nD) (t : Fin cfg0.N) : (dat0 V n c).after 1 t = iblk0 V c 1 t := by dsimp only [dat0]
theorem after0_2 (n : ℕ) (c : Dev nD) (t : Fin cfg0.N) : (dat0 V n c).after 2 t = iblk0 V c 2 t := by dsimp only [dat0]
theorem after0_3 (n : ℕ) (c : Dev nD) (t : Fin cfg0.N) : (dat0 V n c).after 3 t = iblk0 V c 3 t := by dsimp only [dat0]
theorem after0_4 (n : ℕ) (c : Dev nD) (t : Fin cfg0.N) : (dat0 V n c).after 4 t = out0_4 (grid0.coords t) (iblk0 V c 0 t) (iblk0 V c 1 t) (iblk0 V c 2 t) (iblk0 V c 3 t) := by dsimp only [dat0]
theorem after0_5 (n : ℕ) (c : Dev nD) (t : Fin cfg0.N) : (dat0 V n c).after 5 t = out0_5 (grid0.coords t) (iblk0 V c 0 t) (iblk0 V c 1 t) (iblk0 V c 2 t) (iblk0 V c 3 t) := by dsimp only [dat0]

theorem before0_0 (n : ℕ) (c : Dev nD) (t : Fin cfg0.N) (d) : (dat0 V n c).before 0 t d = iblk0 V c 0 t :=
  before0_0_of V (dat0 V n c) (A_eq0 V n c 0) (after0_0 V n c) t d
theorem before0_1 (n : ℕ) (c : Dev nD) (t : Fin cfg0.N) (d) : (dat0 V n c).before 1 t d = iblk0 V c 1 t :=
  before0_1_of V (dat0 V n c) (A_eq0 V n c 1) (after0_1 V n c) t d
theorem before0_2 (n : ℕ) (c : Dev nD) (t : Fin cfg0.N) (d) : (dat0 V n c).before 2 t d = iblk0 V c 2 t :=
  before0_2_of V (dat0 V n c) (A_eq0 V n c 2) (after0_2 V n c) t d
theorem before0_3 (n : ℕ) (c : Dev nD) (t : Fin cfg0.N) (d) : (dat0 V n c).before 3 t d = iblk0 V c 3 t :=
  before0_3_of V (dat0 V n c) (A_eq0 V n c 3) (after0_3 V n c) t d

def bodyPre0 (n : ℕ) (c : Dev nD) (t : Fin cfg0.N) : sProp 𝕄 :=
  iprop((dat0 V n c).Φ t.castSucc ∗ (dat0 V n c).owesAt none t.castSucc
    ∗ (∃ d, owns (c : Thread nD τ) (ms0_0 t) fullShare ((dat0 V n c).before 0 t d))
    ∗ (∃ d, owns (c : Thread nD τ) (ms0_1 t) fullShare ((dat0 V n c).before 1 t d))
    ∗ (∃ d, owns (c : Thread nD τ) (ms0_2 t) fullShare ((dat0 V n c).before 2 t d))
    ∗ (∃ d, owns (c : Thread nD τ) (ms0_3 t) fullShare ((dat0 V n c).before 3 t d))
    ∗ (∃ d, owns (c : Thread nD τ) (ms0_4 t) fullShare ((dat0 V n c).before 4 t d))
    ∗ (∃ d, owns (c : Thread nD τ) (ms0_5 t) fullShare ((dat0 V n c).before 5 t d)))

def bodyPost0 (n : ℕ) (c : Dev nD) (t : Fin cfg0.N) : sProp 𝕄 :=
  iprop((dat0 V n c).Φ t.succ ∗ (dat0 V n c).owesAt none t.succ
    ∗ owns (c : Thread nD τ) (ms0_0 t) fullShare ((dat0 V n c).after 0 t)
    ∗ owns (c : Thread nD τ) (ms0_1 t) fullShare ((dat0 V n c).after 1 t)
    ∗ owns (c : Thread nD τ) (ms0_2 t) fullShare ((dat0 V n c).after 2 t)
    ∗ owns (c : Thread nD τ) (ms0_3 t) fullShare ((dat0 V n c).after 3 t)
    ∗ owns (c : Thread nD τ) (ms0_4 t) fullShare ((dat0 V n c).after 4 t)
    ∗ owns (c : Thread nD τ) (ms0_5 t) fullShare ((dat0 V n c).after 5 t))

theorem sound_body0 (n : ℕ) (c : Dev nD) (t : Fin cfg0.N) :
    bodyPre0 V n c t ⊢ wp frame (wpE (defs₀ (F := F)) Variants.none c none) Set.univ (bodyAt0 t) (fun _ => bodyPost0 V n c t) := by
  unfold bodyPre0 bodyPost0 bodyAt0
  simp only [before0_0, before0_1, before0_2, before0_3]
  rw [show (dat0 V n c).Φ t.succ = (dat0 V n c).Φ t.castSucc from rfl,
    show (dat0 V n c).owesAt none t.succ = (dat0 V n c).owesAt none t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  rfl

theorem body_obligation0 (n : ℕ) (c : Dev nD) : BodyObligation (dat0 (F := F) V n c) (defs₀ (F := F)) Variants.none none Set.univ := fun t => by
  rw [bigSep_W0, bigSep_W0, defs₀_row0]
  exact triple_restated (sound_body0 V n c t) rfl .rfl fun _ => .rfl

end Cert.Proof.Knn
-- ==== Proof.RegionEdges.lean ====
/-
  RegionEdges: the call computing the distances of the edges, point by point.
-/
module

public import proofs.«01_k».proof.Proof.Windows
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Knn

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S200x64 := Rect.unit (s := S200x64) ![0, 0] S200x64.size inb_S200x64_S200x64_0_0
abbrev r2_1 : Rect S200x50 := Rect.unit (s := S200x50) ![0, 0] S200x50.size inb_S200x50_S200x50_0_0
abbrev r2_2 : Rect S200x1 := Rect.unit (s := S200x1) ![0, 0] S200x1.size inb_S200x1_S200x1_0_0

def out2_1 (x0 : Vec F S200x64 .f32) : Vec F S200x50 .f32 :=
  View.canon [⟨r2_1, k2_pay1 (View.ld x0 r2_0)⟩]

theorem cover2_1 (p0 : Vec F S200x50 .f32) (y : S200x50.Idx) :
    ∃ pc ∈ ([⟨r2_1, p0⟩] : List (View.Piece (Elt F) S200x50 .f32)), y ∈ pc.1.set :=
  View.cover_of_tiled [⟨r2_1, p0⟩] S200x50.size (by rfl) y

def out2_2 (x0 : Vec F S200x64 .f32) : Vec F S200x1 .f32 :=
  View.canon [⟨r2_2, k2_pay2 (View.ld x0 r2_0)⟩]

theorem cover2_2 (p0 : Vec F S200x1 .f32) (y : S200x1.Idx) :
    ∃ pc ∈ ([⟨r2_2, p0⟩] : List (View.Piece (Elt F) S200x1 .f32)), y ∈ pc.1.set :=
  View.cover_of_tiled [⟨r2_2, p0⟩] S200x1.size (by rfl) y

set_option maxHeartbeats 1000000 in
theorem sound_kernel2 (c : Dev nD) (E : Set ℕ) (i : grid2.Coords) (arg1 : Memref sig .tc .vmem S200x64 .f32) (harg1 : arg1.IsWhole) (arg2 : Memref sig .tc .vmem S200x50 .f32) (harg2 : arg2.IsWhole) (arg3 : Memref sig .tc .vmem S200x1 .f32) (harg3 : arg3.IsWhole)
    (x0 : Vec F S200x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out2_1 x0) ∗ owns (c : Thread nD τ) arg3 fullShare (out2_2 x0)) -∗ K ⟨⟩))
      ⊢ wp frame (wpE (defs₀ (F := F)) Variants.none c none) E (cc2__dist_body i arg1 harg1 arg2 harg2 arg3 harg3) K := by
  simp only [cc2__dist_body_eq_skeleton]; unfold cc2__dist_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover2_1 _)
  iexists _; isplitr
  swap; · iexact H2
  ipureintro
  exact View.read_writes_eq_canon _ _ _ (cover2_2 _)

def dat2 (n : ℕ) (c : Dev nD) : Dat τ (Elt F) (HIx 1) ℕ UU ℕ cfg2 c where
  A w := V c (Pipeline.arrRef spec2 w)
  after w t := match w with
    | ⟨0, _⟩ => iblk2 V c 0 t
    | ⟨1, _⟩ => out2_1 (iblk2 V c 0 t)
    | ⟨2, _⟩ => out2_2 (iblk2 V c 0 t)
  Φ _ := Pipeline.scopedRest spec2 c
  q _ := fullShare
  owed _ := (K (F := F)).Otc c n
  recorded _ := below (F := F) c n

theorem A_eq2 (n : ℕ) (c : Dev nD) (w : Fin cfg2.W) : (dat2 V n c).A w = V c (Pipeline.arrRef spec2 w) := by
  dsimp only [dat2]

theorem after2_0 (n : ℕ) (c : Dev nD) (t : Fin cfg2.N) : (dat2 V n c).after 0 t = iblk2 V c 0 t := by dsimp only [dat2]
theorem after2_1 (n : ℕ) (c : Dev nD) (t : Fin cfg2.N) : (dat2 V n c).after 1 t = out2_1 (iblk2 V c 0 t) := by dsimp only [dat2]
theorem after2_2 (n : ℕ) (c : Dev nD) (t : Fin cfg2.N) : (dat2 V n c).after 2 t = out2_2 (iblk2 V c 0 t) := by dsimp only [dat2]

theorem before2_0 (n : ℕ) (c : Dev nD) (t : Fin cfg2.N) (d) : (dat2 V n c).before 0 t d = iblk2 V c 0 t :=
  before2_0_of V (dat2 V n c) (A_eq2 V n c 0) (after2_0 V n c) t d

def bodyPre2 (n : ℕ) (c : Dev nD) (t : Fin cfg2.N) : sProp 𝕄 :=
  iprop((dat2 V n c).Φ t.castSucc ∗ (dat2 V n c).owesAt none t.castSucc
    ∗ (∃ d, owns (c : Thread nD τ) (st2_0 t) fullShare ((dat2 V n c).before 0 t d))
    ∗ (∃ d, owns (c : Thread nD τ) (st2_1 t) fullShare ((dat2 V n c).before 1 t d))
    ∗ (∃ d, owns (c : Thread nD τ) (st2_2 t) fullShare ((dat2 V n c).before 2 t d)))

def bodyPost2 (n : ℕ) (c : Dev nD) (t : Fin cfg2.N) : sProp 𝕄 :=
  iprop((dat2 V n c).Φ t.succ ∗ (dat2 V n c).owesAt none t.succ
    ∗ owns (c : Thread nD τ) (st2_0 t) fullShare ((dat2 V n c).after 0 t)
    ∗ owns (c : Thread nD τ) (st2_1 t) fullShare ((dat2 V n c).after 1 t)
    ∗ owns (c : Thread nD τ) (st2_2 t) fullShare ((dat2 V n c).after 2 t))

theorem sound_body2 (n : ℕ) (c : Dev nD) (t : Fin cfg2.N) :
    bodyPre2 V n c t ⊢ wp frame (wpE (defs₀ (F := F)) Variants.none c none) Set.univ (bodyAt2 t) (fun _ => bodyPost2 V n c t) := by
  unfold bodyPre2 bodyPost2 bodyAt2
  simp only [before2_0]
  rw [show (dat2 V n c).Φ t.succ = (dat2 V n c).Φ t.castSucc from rfl,
    show (dat2 V n c).owesAt none t.succ = (dat2 V n c).owesAt none t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  rfl

theorem body_obligation2 (n : ℕ) (c : Dev nD) : BodyObligation (dat2 (F := F) V n c) (defs₀ (F := F)) Variants.none none Set.univ := fun t => by
  rw [bigSep_W2, bigSep_W2, defs₀_row2]
  exact triple_restated (sound_body2 V n c t) rfl .rfl fun _ => .rfl

end Cert.Proof.Knn
-- ==== Proof.RegionBasis.lean ====
/-
  RegionBasis: the call computing the radial basis, point by point.
-/
module

public import proofs.«01_k».proof.Proof.Windows
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Knn

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S20000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S20000x5 .f32 := win3_2.stage (cfg3.slots t 2)
abbrev hs3_2 (t : Fin cfg3.N) : (ms3_2 t).IsWhole := hstage3_2 ((cfg3.slots t 2).cast nbuf3_2)

abbrev r3_0 : Rect S1 := Rect.unit (s := S1) ![0] S1.size inb_S1_S1_0
abbrev r3_1 : Rect S20000x1 := Rect.unit (s := S20000x1) ![0, 0] S20000x1.size inb_S20000x1_S20000x1_0_0
abbrev r3_2 : Rect S20000x5 := Rect.unit (s := S20000x5) ![0, 0] S20000x5.size inb_S20000x5_S20000x5_0_0

/-- A block of the radial basis, as the call stores it. -/
def out3_2 (x0 : Vec F S1 .f32) (x1 : Vec F S20000x1 .f32) : Vec F S20000x5 .f32 :=
  View.canon [⟨r3_2, k3_pay1 (View.ld x0 r3_0 (Shape.Idx.first (by decide))) (View.ld x1 r3_1)⟩]

theorem cover3_2 (p0 : Vec F S20000x5 .f32) (y : S20000x5.Idx) :
    ∃ pc ∈ ([⟨r3_2, p0⟩] : List (View.Piece (Elt F) S20000x5 .f32)), y ∈ pc.1.set :=
  View.cover_of_tiled [⟨r3_2, p0⟩] S20000x5.size (by rfl) y

set_option maxHeartbeats 1000000 in
/-- One point of the call: the inputs' blocks stay, the output's buffer is left at its block. -/
theorem sound_kernel3 (c : Dev nD) (E : Set ℕ) (i : grid3.Coords) (arg1 : Memref sig .tc .smem S1 .f32) (harg1 : arg1.IsWhole) (arg2 : Memref sig .tc .vmem S20000x1 .f32) (harg2 : arg2.IsWhole)
    (arg3 : Memref sig .tc .vmem S20000x5 .f32) (harg3 : arg3.IsWhole)
    (x0 : Vec F S1 .f32) (x1 : Vec F S20000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__rbf_body i arg1 harg1 arg2 harg2 arg3 harg3) K := by
  simp only [cc3__rbf_body_eq_skeleton]; unfold cc3__rbf_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (n : ℕ) (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.scopedRest spec3 c
  q _ := fullShare
  owed _ := (K (F := F)).Otc c n
  recorded _ := below (F := F) c n

theorem A_eq3 (n : ℕ) (c : Dev nD) (w : Fin cfg3.W) : (dat3 V n c).A w = V c (Pipeline.arrRef spec3 w) := by
  dsimp only [dat3]

theorem after3_0 (n : ℕ) (c : Dev nD) (t : Fin cfg3.N) : (dat3 V n c).after 0 t = iblk3 V c 0 t := by dsimp only [dat3]
theorem after3_1 (n : ℕ) (c : Dev nD) (t : Fin cfg3.N) : (dat3 V n c).after 1 t = iblk3 V c 1 t := by dsimp only [dat3]
theorem after3_2 (n : ℕ) (c : Dev nD) (t : Fin cfg3.N) : (dat3 V n c).after 2 t = out3_2 (iblk3 V c 0 t) (iblk3 V c 1 t) := by dsimp only [dat3]

theorem before3_0 (n : ℕ) (c : Dev nD) (t : Fin cfg3.N) (d) : (dat3 V n c).before 0 t d = iblk3 V c 0 t :=
  before3_0_of V (dat3 V n c) (A_eq3 V n c 0) (after3_0 V n c) t d
theorem before3_1 (n : ℕ) (c : Dev nD) (t : Fin cfg3.N) (d) : (dat3 V n c).before 1 t d = iblk3 V c 1 t :=
  before3_1_of V (dat3 V n c) (A_eq3 V n c 1) (after3_1 V n c) t d

def bodyPre3 (n : ℕ) (c : Dev nD) (t : Fin cfg3.N) : sProp 𝕄 :=
  iprop((dat3 V n c).Φ t.castSucc ∗ (dat3 V n c).owesAt none t.castSucc
    ∗ (∃ d, owns (c : Thread nD τ) (ms3_0 t) fullShare ((dat3 V n c).before 0 t d))
    ∗ (∃ d, owns (c : Thread nD τ) (ms3_1 t) fullShare ((dat3 V n c).before 1 t d))
    ∗ (∃ d, owns (c : Thread nD τ) (ms3_2 t) fullShare ((dat3 V n c).before 2 t d)))

def bodyPost3 (n : ℕ) (c : Dev nD) (t : Fin cfg3.N) : sProp 𝕄 :=
  iprop((dat3 V n c).Φ t.succ ∗ (dat3 V n c).owesAt none t.succ
    ∗ owns (c : Thread nD τ) (ms3_0 t) fullShare ((dat3 V n c).after 0 t)
    ∗ owns (c : Thread nD τ) (ms3_1 t) fullShare ((dat3 V n c).after 1 t)
    ∗ owns (c : Thread nD τ) (ms3_2 t) fullShare ((dat3 V n c).after 2 t))

theorem sound_body3 (n : ℕ) (c : Dev nD) (t : Fin cfg3.N) :
    bodyPre3 V n c t ⊢ wp frame (wpE (defs₀ (F := F)) Variants.none c none) Set.univ (bodyAt3 t) (fun _ => bodyPost3 V n c t) := by
  unfold bodyPre3 bodyPost3 bodyAt3
  simp only [before3_0, before3_1]
  rw [show (dat3 V n c).Φ t.succ = (dat3 V n c).Φ t.castSucc from rfl,
    show (dat3 V n c).owesAt none t.succ = (dat3 V n c).owesAt none t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row3 (t : Fin cfg3.N) :
    defs₀ (F := F) .tc cfg3.body (cfg3.bodyArgs t (cfg3.slots t)) = bodyAt3 t := by
  rfl

theorem body_obligation3 (n : ℕ) (c : Dev nD) : BodyObligation (dat3 (F := F) V n c) (defs₀ (F := F)) Variants.none none Set.univ := fun t => by
  rw [bigSep_W3, bigSep_W3, defs₀_row3]
  exact triple_restated (sound_body3 V n c t) rfl .rfl fun _ => .rfl

end Cert.Proof.Knn
-- ==== Proof.Regions.lean ====
/-
  Regions: each windowed call as one step of the host program — the contents it leaves, and its run from the contents it is entered at.
-/
module

public import proofs.«01_k».proof.Proof.RegionPairs
public import proofs.«01_k».proof.Proof.RegionEdges
public import proofs.«01_k».proof.Proof.RegionBasis
public import Idealize.ShloMosaic.Lib.Pipeline.Regions
public import Idealize.ShloMosaic.Lib.Pipeline.RegionsLoop
public import Idealize.ShloMosaic.Lib.Pipeline.FrameSuffix
public import Idealize.ShloMosaic.Lib.SparseCore.Threads

@[expose] public section
noncomputable section

namespace Cert.Proof.Knn

open Cert.KernelIdeal Cert.KernelIdeal.Gen
open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- No windowed call prefetches a table. -/
abbrev adm (p : Fin 3) : (pcfgs (F := F) p).Adm := (cfgs p).toPCfg_adm

/-- The TensorCore owes starts of calls, nothing at a copy's index. -/
theorem otc_none (d : Dev nD) (n : ℕ) (g : GSem nD τ sig) : (K (F := F)).Otc d n g none = 0 := by
  by_contra h
  have := SparseCore.Cfg.lev_of_Otc_pos (Nat.pos_of_ne_zero h)
  rw [SparseCore.Cfg.lev_none] at this; omega

variable (W : Dev nD → Valuation τ sig (Elt F))

/-- The contents as the TensorCore's references read them. -/
abbrev at_ (c : Dev nD) (b : Ref sig .tc) : Buf (Elt F) ((c : Thread nD τ).loc b) := W c b

/-- The three calls' proof data at one contents. -/
def pdats (n : ℕ) : (p : Fin 3) → (c : Dev nD) → Dat τ (Elt F) (HIx 1) ℕ UU ℕ (Pipeline.pin (pcfgs (F := F)) adm p) c
  | ⟨0, _⟩ => fun c => dat0 (at_ W) n c
  | ⟨1, _⟩ => fun c => dat2 (at_ W) n c
  | ⟨2, _⟩ => fun c => dat3 (at_ W) n c

/-- What a windowed call is entered and left with: the memory, and the starts still owed. -/
abbrev around (n : ℕ) (c : Dev nD) (X : Valuation τ sig (Elt F)) : sProp 𝕄 :=
  iprop(StableHlo.held (c : Thread nD τ) (Pipeline.ucRefs τ sig) X
    ∗ ∃ Wt, ⌜(K (F := F)).WBelow (T c) Wt (8 * n)⌝ ∗ owes (T c) ((K (F := F)).Otc c n) Wt)

/-! ## Windowed call 0 -/

/-- The contents call 0 leaves. -/
def leave0 (n : ℕ) (c : Dev nD) : Valuation τ sig (Elt F) :=
  Pipeline.withArrays spec0 c (W c) fun w => (dat0 (at_ W) n c).arrAt w cfg0.N
theorem leave0_arr (n : ℕ) (c : Dev nD) (w : Fin cfg0.W) :
    leave0 W n c (Proc.devRef .tc (Pipeline.arrRef spec0 w)) = (dat0 (at_ W) n c).arrAt w cfg0.N := by
  unfold leave0; exact Pipeline.withArrays_arr spec0 launch0.win.arr_inj c _ _ w
theorem leave0_of_ne (n : ℕ) (c : Dev nD) (b : Ref sig .tc) (hb : ∀ w, Pipeline.arrRef spec0 w ≠ b) :
    leave0 W n c (Proc.devRef .tc b) = W c (Proc.devRef .tc b) := by
  unfold leave0; exact Pipeline.withArrays_of_ne spec0 c _ _ b hb
/-- It writes its outputs alone. -/
theorem leave0_of (n : ℕ) (c : Dev nD) (r : Ref sig .tc) (h : ∀ w : Fin cfg0.W, Pipeline.arrRef spec0 w = r → (cfg0.win w).isOut = false) :
    leave0 W n c (Proc.devRef .tc r) = W c (Proc.devRef .tc r) := by
  by_cases hw : ∃ w : Fin cfg0.W, Pipeline.arrRef spec0 w = r
  · obtain ⟨w, rfl⟩ := hw
    exact (leave0_arr W n c w).trans (((dat0 (at_ W) n c).arrAt_in w (h w rfl) _).trans (A_eq0 (at_ W) n c w))
  · exact leave0_of_ne W n c r fun w e => hw ⟨w, e⟩
theorem leave0_in (n : ℕ) (c : Dev nD) (w : Fin cfg0.W) :
    (dat0 (at_ W) n c).arrAt w cfg0.N = at_ (leave0 W n) c (Pipeline.arrRef spec0 w) := (leave0_arr W n c w).symm
theorem leave0_rest (n : ℕ) (c : Dev nD) : ∀ b, b ∉ Finset.univ.image (Pipeline.arrRef spec0) → at_ (leave0 W n) c b = at_ W c b :=
  fun b hb => leave0_of_ne W n c b fun w e => hb (Finset.mem_image.mpr ⟨w, Finset.mem_univ _, e⟩)

set_option backward.isDefEq.respectTransparency.types false in
def reg0 (n : ℕ) : Pipeline.RegionSeg (pcfgs (F := F)) adm (pdats W n) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (at_ W) n c).loose
  hwaits c := Pipeline.cellsWaits_intro _ _ _ _ _ fun w s t => (K (F := F)).mayWait_none _ (otc_none c n)
  pre c := around n c (W c)
  post c := around n c (leave0 W n c)
  X c := iprop(emp)
  Y c := iprop(emp)
  Z c := Pipeline.unscopedRest (Ix := HIx 1) (Name := ℕ) (U := UU) (Lvl := ℕ) spec0 c (at_ W c)
  hentry c := by
    rw [Pipeline.ownSems0_none]
    have hsplit := Pipeline.arrays_of_unscopedBufs (p := 0) (pcfgs (F := F)) adm (pdats W n) launch0.win launch0.arr_whole c
      ((pdats W n 0 c).share_full fun _ => rfl) (at_ W c) (A_eq0 (at_ W) n c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun p hp => Or.inl (hW p hp)
      iexact HO
    isplitr; · iempintro
    iexact Hrest
  hin c := by
    rw [show (pdats W n 0 c).Φ 0 = Pipeline.scopedRest spec0 c from rfl]
    iintro ⟨-, -, Hr⟩
    iexact Hr
  hout c := by
    rw [Pipeline.ownSems0_none, show (pdats W n 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats W n) ((pdats W n 0 c).share_full fun _ => rfl)
      (at_ W c) (at_ (leave0 W n) c) ((pdats W n 0 c).arrAt · cfg0.N) (leave0_in W n c) (leave0_rest W n c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Wt, %hW, HO⟩; iexists Wt
    isplitr
    · ipureintro
      intro p hp
      rcases hW hp with h | ⟨w, s, rfl⟩
      · exact h
      · exact Nat.zero_le _
    iexact HO

/-- The ghost state call 0 spends. -/
abbrev ghost0 (c : Dev nD) : sProp 𝕄 :=
  iprop(Pipeline.cellsGhost (Pipeline.pin (pcfgs (F := F)) adm) (EP (F := F)) 0 c ∗ Pipeline.toksInit (Pipeline.pin (pcfgs (F := F)) adm) (EP (F := F)) 0 c)

set_option backward.isDefEq.respectTransparency.types false in
theorem step0 [∀ e, Nonempty (Elt F e)] (n : ℕ) (c : Dev nD) {Φ : PUnit → sProp 𝕄} :
    iprop((iprop(boundary (T c) ∗ around n c (leave0 W n c)) -∗ Φ ⟨⟩)
        ∗ boundary (T c) ∗ around n c (W c) ∗ levAts (K (F := F)).L (K (F := F)).lev ∗ ghost0 c)
      ⊢ wp frame (wpE ((K (F := F)).defs (D (F := F))) 𝒱 (T c) none) Set.univ
          (Prog.lift (.customCall (SparseCore.inner (Pipeline.entry 0)) ())) Φ := by
  have e : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun u => .ret u : Prog (TpuEff nD τ sig (Elt F) (ΛP (F := F)) .tc) PUnit) := rfl
  rw [e]
  refine BIBase.Entails.trans ?_ ((K (F := F)).wp_liftProg (D (F := F)) 𝒱 (T c) Set.univ none _ Φ)
  refine BIBase.Entails.trans ?_ (Pipeline.RegionSeg.wp (pcfgs (F := F)) adm (pdats W n) (none : HIx 1) cellOf_inj (EP (F := F)) defs₀ 𝒱₀
    (K (F := F)).L (K (F := F)).lev (reg0 W n) c none (fun u hu => nomatch hu) (fun u => .ret u) Φ)
  iintro ⟨Hk, Hb, Hp, Hl, Hg, Ht⟩
  isplitl [Hk]
  · iintro H
    rw [wp_ret]; imodintro
    iapply Hk; iexact H
  isplitl [Hb]; · iexact Hb
  isplitl [Hp]; · iapply (Entails.of_eq (show around n c (W c) = (reg0 W n).pre c from rfl)); iexact Hp
  isplitl [Hl]; · iexact Hl
  isplitl [Hg] <;> iassumption

/-! ## Windowed call 2 -/

/-- The contents call 2 leaves. -/
def leave2 (n : ℕ) (c : Dev nD) : Valuation τ sig (Elt F) :=
  Pipeline.withArrays spec2 c (W c) fun w => (dat2 (at_ W) n c).arrAt w cfg2.N
theorem leave2_arr (n : ℕ) (c : Dev nD) (w : Fin cfg2.W) :
    leave2 W n c (Proc.devRef .tc (Pipeline.arrRef spec2 w)) = (dat2 (at_ W) n c).arrAt w cfg2.N := by
  unfold leave2; exact Pipeline.withArrays_arr spec2 launch2.win.arr_inj c _ _ w
theorem leave2_of_ne (n : ℕ) (c : Dev nD) (b : Ref sig .tc) (hb : ∀ w, Pipeline.arrRef spec2 w ≠ b) :
    leave2 W n c (Proc.devRef .tc b) = W c (Proc.devRef .tc b) := by
  unfold leave2; exact Pipeline.withArrays_of_ne spec2 c _ _ b hb
/-- It writes its outputs alone. -/
theorem leave2_of (n : ℕ) (c : Dev nD) (r : Ref sig .tc) (h : ∀ w : Fin cfg2.W, Pipeline.arrRef spec2 w = r → (cfg2.win w).isOut = false) :
    leave2 W n c (Proc.devRef .tc r) = W c (Proc.devRef .tc r) := by
  by_cases hw : ∃ w : Fin cfg2.W, Pipeline.arrRef spec2 w = r
  · obtain ⟨w, rfl⟩ := hw
    exact (leave2_arr W n c w).trans (((dat2 (at_ W) n c).arrAt_in w (h w rfl) _).trans (A_eq2 (at_ W) n c w))
  · exact leave2_of_ne W n c r fun w e => hw ⟨w, e⟩
theorem leave2_in (n : ℕ) (c : Dev nD) (w : Fin cfg2.W) :
    (dat2 (at_ W) n c).arrAt w cfg2.N = at_ (leave2 W n) c (Pipeline.arrRef spec2 w) := (leave2_arr W n c w).symm
theorem leave2_rest (n : ℕ) (c : Dev nD) : ∀ b, b ∉ Finset.univ.image (Pipeline.arrRef spec2) → at_ (leave2 W n) c b = at_ W c b :=
  fun b hb => leave2_of_ne W n c b fun w e => hb (Finset.mem_image.mpr ⟨w, Finset.mem_univ _, e⟩)

set_option backward.isDefEq.respectTransparency.types false in
def reg2 (n : ℕ) : Pipeline.RegionSeg (pcfgs (F := F)) adm (pdats W n) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (at_ W) n c).loose
  hwaits c := Pipeline.cellsWaits_intro _ _ _ _ _ fun w s t => (K (F := F)).mayWait_none _ (otc_none c n)
  pre c := around n c (W c)
  post c := around n c (leave2 W n c)
  X c := iprop(emp)
  Y c := iprop(emp)
  Z c := Pipeline.unscopedRest (Ix := HIx 1) (Name := ℕ) (U := UU) (Lvl := ℕ) spec2 c (at_ W c)
  hentry c := by
    rw [Pipeline.ownSems0_none]
    have hsplit := Pipeline.arrays_of_unscopedBufs (p := 1) (pcfgs (F := F)) adm (pdats W n) launch2.win launch2.arr_whole c
      ((pdats W n 1 c).share_full fun _ => rfl) (at_ W c) (A_eq2 (at_ W) n c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun p hp => Or.inl (hW p hp)
      iexact HO
    isplitr; · iempintro
    iexact Hrest
  hin c := by
    rw [show (pdats W n 1 c).Φ 0 = Pipeline.scopedRest spec2 c from rfl]
    iintro ⟨-, -, Hr⟩
    iexact Hr
  hout c := by
    rw [Pipeline.ownSems0_none, show (pdats W n 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats W n) ((pdats W n 1 c).share_full fun _ => rfl)
      (at_ W c) (at_ (leave2 W n) c) ((pdats W n 1 c).arrAt · cfg2.N) (leave2_in W n c) (leave2_rest W n c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Wt, %hW, HO⟩; iexists Wt
    isplitr
    · ipureintro
      intro p hp
      rcases hW hp with h | ⟨w, s, rfl⟩
      · exact h
      · exact Nat.zero_le _
    iexact HO

/-- The ghost state call 2 spends. -/
abbrev ghost2 (c : Dev nD) : sProp 𝕄 :=
  iprop(Pipeline.cellsGhost (Pipeline.pin (pcfgs (F := F)) adm) (EP (F := F)) 1 c ∗ Pipeline.toksInit (Pipeline.pin (pcfgs (F := F)) adm) (EP (F := F)) 1 c)

set_option backward.isDefEq.respectTransparency.types false in
theorem step2 [∀ e, Nonempty (Elt F e)] (n : ℕ) (c : Dev nD) {Φ : PUnit → sProp 𝕄} :
    iprop((iprop(boundary (T c) ∗ around n c (leave2 W n c)) -∗ Φ ⟨⟩)
        ∗ boundary (T c) ∗ around n c (W c) ∗ levAts (K (F := F)).L (K (F := F)).lev ∗ ghost2 c)
      ⊢ wp frame (wpE ((K (F := F)).defs (D (F := F))) 𝒱 (T c) none) Set.univ
          (Prog.lift (.customCall (SparseCore.inner (Pipeline.entry 1)) ())) Φ := by
  have e : (Prog.lift (.customCall (SparseCore.inner (Pipeline.entry 1)) ()) : Prog (TpuEff nD τ sig (Elt F) (SparseCore.Sig (ΛP (F := F)) 1) .tc) PUnit)
      = SparseCore.liftProg (.op (.customCall (Pipeline.entry 1) ()) fun u => .ret u : Prog (TpuEff nD τ sig (Elt F) (ΛP (F := F)) .tc) PUnit) := rfl
  rw [e]
  refine BIBase.Entails.trans ?_ ((K (F := F)).wp_liftProg (D (F := F)) 𝒱 (T c) Set.univ none _ Φ)
  refine BIBase.Entails.trans ?_ (Pipeline.RegionSeg.wp (pcfgs (F := F)) adm (pdats W n) (none : HIx 1) cellOf_inj (EP (F := F)) defs₀ 𝒱₀
    (K (F := F)).L (K (F := F)).lev (reg2 W n) c none (fun u hu => nomatch hu) (fun u => .ret u) Φ)
  iintro ⟨Hk, Hb, Hp, Hl, Hg, Ht⟩
  isplitl [Hk]
  · iintro H
    rw [wp_ret]; imodintro
    iapply Hk; iexact H
  isplitl [Hb]; · iexact Hb
  isplitl [Hp]; · iapply (Entails.of_eq (show around n c (W c) = (reg2 W n).pre c from rfl)); iexact Hp
  isplitl [Hl]; · iexact Hl
  isplitl [Hg] <;> iassumption

/-! ## Windowed call 3 -/

/-- The contents call 3 leaves. -/
def leave3 (n : ℕ) (c : Dev nD) : Valuation τ sig (Elt F) :=
  Pipeline.withArrays spec3 c (W c) fun w => (dat3 (at_ W) n c).arrAt w cfg3.N
theorem leave3_arr (n : ℕ) (c : Dev nD) (w : Fin cfg3.W) :
    leave3 W n c (Proc.devRef .tc (Pipeline.arrRef spec3 w)) = (dat3 (at_ W) n c).arrAt w cfg3.N := by
  unfold leave3; exact Pipeline.withArrays_arr spec3 launch3.win.arr_inj c _ _ w
theorem leave3_of_ne (n : ℕ) (c : Dev nD) (b : Ref sig .tc) (hb : ∀ w, Pipeline.arrRef spec3 w ≠ b) :
    leave3 W n c (Proc.devRef .tc b) = W c (Proc.devRef .tc b) := by
  unfold leave3; exact Pipeline.withArrays_of_ne spec3 c _ _ b hb
/-- It writes its outputs alone. -/
theorem leave3_of (n : ℕ) (c : Dev nD) (r : Ref sig .tc) (h : ∀ w : Fin cfg3.W, Pipeline.arrRef spec3 w = r → (cfg3.win w).isOut = false) :
    leave3 W n c (Proc.devRef .tc r) = W c (Proc.devRef .tc r) := by
  by_cases hw : ∃ w : Fin cfg3.W, Pipeline.arrRef spec3 w = r
  · obtain ⟨w, rfl⟩ := hw
    exact (leave3_arr W n c w).trans (((dat3 (at_ W) n c).arrAt_in w (h w rfl) _).trans (A_eq3 (at_ W) n c w))
  · exact leave3_of_ne W n c r fun w e => hw ⟨w, e⟩
theorem leave3_in (n : ℕ) (c : Dev nD) (w : Fin cfg3.W) :
    (dat3 (at_ W) n c).arrAt w cfg3.N = at_ (leave3 W n) c (Pipeline.arrRef spec3 w) := (leave3_arr W n c w).symm
theorem leave3_rest (n : ℕ) (c : Dev nD) : ∀ b, b ∉ Finset.univ.image (Pipeline.arrRef spec3) → at_ (leave3 W n) c b = at_ W c b :=
  fun b hb => leave3_of_ne W n c b fun w e => hb (Finset.mem_image.mpr ⟨w, Finset.mem_univ _, e⟩)

set_option backward.isDefEq.respectTransparency.types false in
def reg3 (n : ℕ) : Pipeline.RegionSeg (pcfgs (F := F)) adm (pdats W n) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (at_ W) n c).loose
  hwaits c := Pipeline.cellsWaits_intro _ _ _ _ _ fun w s t => (K (F := F)).mayWait_none _ (otc_none c n)
  pre c := around n c (W c)
  post c := around n c (leave3 W n c)
  X c := iprop(emp)
  Y c := iprop(emp)
  Z c := Pipeline.unscopedRest (Ix := HIx 1) (Name := ℕ) (U := UU) (Lvl := ℕ) spec3 c (at_ W c)
  hentry c := by
    rw [Pipeline.ownSems0_none]
    have hsplit := Pipeline.arrays_of_unscopedBufs (p := 2) (pcfgs (F := F)) adm (pdats W n) launch3.win launch3.arr_whole c
      ((pdats W n 2 c).share_full fun _ => rfl) (at_ W c) (A_eq3 (at_ W) n c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun p hp => Or.inl (hW p hp)
      iexact HO
    isplitr; · iempintro
    iexact Hrest
  hin c := by
    rw [show (pdats W n 2 c).Φ 0 = Pipeline.scopedRest spec3 c from rfl]
    iintro ⟨-, -, Hr⟩
    iexact Hr
  hout c := by
    rw [Pipeline.ownSems0_none, show (pdats W n 2 c).Φ (Fin.last _) = Pipeline.scopedRest spec3 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats W n) ((pdats W n 2 c).share_full fun _ => rfl)
      (at_ W c) (at_ (leave3 W n) c) ((pdats W n 2 c).arrAt · cfg3.N) (leave3_in W n c) (leave3_rest W n c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Wt, %hW, HO⟩; iexists Wt
    isplitr
    · ipureintro
      intro p hp
      rcases hW hp with h | ⟨w, s, rfl⟩
      · exact h
      · exact Nat.zero_le _
    iexact HO

/-- The ghost state call 3 spends. -/
abbrev ghost3 (c : Dev nD) : sProp 𝕄 :=
  iprop(Pipeline.cellsGhost (Pipeline.pin (pcfgs (F := F)) adm) (EP (F := F)) 2 c ∗ Pipeline.toksInit (Pipeline.pin (pcfgs (F := F)) adm) (EP (F := F)) 2 c)

set_option backward.isDefEq.respectTransparency.types false in
theorem step3 [∀ e, Nonempty (Elt F e)] (n : ℕ) (c : Dev nD) {Φ : PUnit → sProp 𝕄} :
    iprop((iprop(boundary (T c) ∗ around n c (leave3 W n c)) -∗ Φ ⟨⟩)
        ∗ boundary (T c) ∗ around n c (W c) ∗ levAts (K (F := F)).L (K (F := F)).lev ∗ ghost3 c)
      ⊢ wp frame (wpE ((K (F := F)).defs (D (F := F))) 𝒱 (T c) none) Set.univ
          (Prog.lift (.customCall (SparseCore.inner (Pipeline.entry 2)) ())) Φ := by
  have e : (Prog.lift (.customCall (SparseCore.inner (Pipeline.entry 2)) ()) : Prog (TpuEff nD τ sig (Elt F) (SparseCore.Sig (ΛP (F := F)) 1) .tc) PUnit)
      = SparseCore.liftProg (.op (.customCall (Pipeline.entry 2) ()) fun u => .ret u : Prog (TpuEff nD τ sig (Elt F) (ΛP (F := F)) .tc) PUnit) := rfl
  rw [e]
  refine BIBase.Entails.trans ?_ ((K (F := F)).wp_liftProg (D (F := F)) 𝒱 (T c) Set.univ none _ Φ)
  refine BIBase.Entails.trans ?_ (Pipeline.RegionSeg.wp (pcfgs (F := F)) adm (pdats W n) (none : HIx 1) cellOf_inj (EP (F := F)) defs₀ 𝒱₀
    (K (F := F)).L (K (F := F)).lev (reg3 W n) c none (fun u hu => nomatch hu) (fun u => .ret u) Φ)
  iintro ⟨Hk, Hb, Hp, Hl, Hg, Ht⟩
  isplitl [Hk]
  · iintro H
    rw [wp_ret]; imodintro
    iapply Hk; iexact H
  isplitl [Hb]; · iexact Hb
  isplitl [Hp]; · iapply (Entails.of_eq (show around n c (W c) = (reg3 W n).pre c from rfl)); iexact Hp
  isplitl [Hl]; · iexact Hl
  isplitl [Hg] <;> iassumption

end Cert.Proof.Knn

end

end
-- ==== Proof.Host.lean ====
module

public import proofs.«01_k».proof.Proof.Launch
public import proofs.«01_k».proof.Proof.Regions
public import Idealize.ShloMosaic.Lib.SparseCore.Quiescent
public import Idealize.ShloMosaic.Lib.StableHlo.RunHlo
public import Idealize.ShloMosaic.Lib.Pipeline.Frame

@[expose] public section
noncomputable section

namespace Cert.Proof.Knn

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host program: five stretches of lines, and the calls between them -/

/-- The host operations before the first windowed call. -/
def opsA : List (HloOp τ sig (Elt F)) :=
  [ StableHlo.unary main_arg0 main_v0 ((transpose S3x10000 [1, 0] · transposes_S10000x3_S3x10000_1_0) : (⟨S10000x3, .f32⟩ : BufTy).Contents (Elt F) → (⟨S3x10000, .f32⟩ : BufTy).Contents (Elt F))
  , StableHlo.binary main_arg0 main_arg0 main_v1 (mulf : (⟨S10000x3, .f32⟩ : BufTy).Contents (Elt F) → (⟨S10000x3, .f32⟩ : BufTy).Contents (Elt F) → (⟨S10000x3, .f32⟩ : BufTy).Contents (Elt F))
  , StableHlo.nullary main_cst (constant S_ .f32 0x00000000#32)
  , StableHlo.binary main_v1 main_cst main_v2 ((fun x v => Host.reduceAdd x v reducesTo_S10000x3_S10000_d1 h_S_) : (⟨S10000x3, .f32⟩ : BufTy).Contents (Elt F) → (⟨S_, .f32⟩ : BufTy).Contents (Elt F) → (⟨S10000, .f32⟩ : BufTy).Contents (Elt F))
  , StableHlo.reshape main_v2 main_v3 (rfl : (.f32 : EltTy) = .f32) shapeCasts_S10000_S10000x1
  , StableHlo.reshape main_v2 main_v4 (rfl : (.f32 : EltTy) = .f32) shapeCasts_S10000_S1x10000 ]

/-- The host operations between it and the SparseCore's call. -/
def opsB : List (HloOp τ sig (Elt F)) :=
  [ StableHlo.reshape main_v5_1 main_v6 (rfl : (.f32 : EltTy) = .f32) shapeCasts_S10000x1_S10000
  , StableHlo.nullary main_c (constantI S_ 32 0#32)
  , StableHlo.TRef.unary (.of main_c : StableHlo.TRef sig ⟨S_, .i32⟩) main_call0.v0 (sitofp .f32)
  , StableHlo.TRef.binary (.of main_v6 : StableHlo.TRef sig ⟨S10000, .f32⟩) main_call0.v0 main_call0.v1 (fun x v => pad S10336 ![0] ![336] ![0] x v pads_S10000_S10336_03360 h_S_)
  , StableHlo.reshape main_v5_0 main_v8 (rfl : (.f32 : EltTy) = .f32) shapeCasts_S10000x10000_S100000000
  , StableHlo.unary main_arg0 main_v9 ((extractStridedSlice S10000x1 ![0, 0] · slices_S10000x3_S10000x1_0_0) : (⟨S10000x3, .f32⟩ : BufTy).Contents (Elt F) → (⟨S10000x1, .f32⟩ : BufTy).Contents (Elt F))
  , StableHlo.reshape main_v9 main_v10 (rfl : (.f32 : EltTy) = .f32) shapeCasts_S10000x1_S10000
  , StableHlo.unary main_arg0 main_v11 ((extractStridedSlice S10000x1 ![0, 1] · slices_S10000x3_S10000x1_0_1) : (⟨S10000x3, .f32⟩ : BufTy).Contents (Elt F) → (⟨S10000x1, .f32⟩ : BufTy).Contents (Elt F))
  , StableHlo.reshape main_v11 main_v12 (rfl : (.f32 : EltTy) = .f32) shapeCasts_S10000x1_S10000
  , StableHlo.unary main_arg0 main_v13 ((extractStridedSlice S10000x1 ![0, 2] · slices_S10000x3_S10000x1_0_2) : (⟨S10000x3, .f32⟩ : BufTy).Contents (Elt F) → (⟨S10000x1, .f32⟩ : BufTy).Contents (Elt F))
  , StableHlo.reshape main_v13 main_v14 (rfl : (.f32 : EltTy) = .f32) shapeCasts_S10000x1_S10000 ]

/-- The host operations between that and the second windowed call. -/
def opsC : List (HloOp τ sig (Elt F)) :=
  [ StableHlo.reshape main_v15_0 main_v16 (rfl : (.i32 : EltTy) = .i32) shapeCasts_S640000_S10000x64
  , StableHlo.reshape main_v15_1 main_v17 (rfl : (.f32 : EltTy) = .f32) shapeCasts_S640000_S10000x64 ]

/-- The host operations between the second and the third. -/
def opsD : List (HloOp τ sig (Elt F)) :=
  [ StableHlo.nullary main_cst_0 (constant S_ .f32 0xFF800000#32)
  , StableHlo.binary main_v18_1 main_cst_0 main_v19 ((fun x v => Host.reduce FloatOps.maximumf x v reducesTo_S10000x1_S_d0_1 h_S_) : (⟨S10000x1, .f32⟩ : BufTy).Contents (Elt F) → (⟨S_, .f32⟩ : BufTy).Contents (Elt F) → (⟨S_, .f32⟩ : BufTy).Contents (Elt F))
  , StableHlo.reshape main_v19 main_v20 (rfl : (.f32 : EltTy) = .f32) shapeCasts_S_S1
  , StableHlo.reshape main_v18_0 main_v21 (rfl : (.f32 : EltTy) = .f32) shapeCasts_S10000x50_S500000x1 ]

/-- Two columns of edge ends one after the other, -/
def joinWords (a b : IVec S500000 32) : IVec S1000000 32 :=
  concatenate S1000000 0 [⟨S500000, a⟩, ⟨S500000, b⟩] concatenates_S500000_S500000_S1000000_d0
/-- and two such as the rows of the edge list. -/
def stackWords (a b : IVec S1x1000000 32) : IVec S2x1000000 32 :=
  concatenate S2x1000000 0 [⟨S1x1000000, a⟩, ⟨S1x1000000, b⟩] concatenates_S1x1000000_S1x1000000_S2x1000000_d0

/-- Two halves of the edges' rows, one after the other. -/
def joinRows (a b : FVec F S500000x5 .f32) : FVec F S1000000x5 .f32 :=
  concatenate S1000000x5 0 [⟨S500000x5, a⟩, ⟨S500000x5, b⟩] concatenates_S500000x5_S500000x5_S1000000x5_d0

/-- The host operations after the third. -/
def opsE : List (HloOp τ sig (Elt F)) :=
  [ StableHlo.unary main_v16 main_v23 ((extractStridedSlice S10000x50 ![0, 0] · slices_S10000x64_S10000x50_0_0) : (⟨S10000x64, .i32⟩ : BufTy).Contents (Elt F) → (⟨S10000x50, .i32⟩ : BufTy).Contents (Elt F))
  , StableHlo.reshape main_v23 main_v24 (rfl : (.i32 : EltTy) = .i32) shapeCasts_S10000x50_S500000
  , StableHlo.nullary main_v25 (iotaInDim S10000 32 0)
  , StableHlo.unary main_v25 main_v26 (broadcastInDim S10000x1 ![0] bcast_S10000_S10000x1_0 : (⟨S10000, .i32⟩ : BufTy).Contents (Elt F) → (⟨S10000x1, .i32⟩ : BufTy).Contents (Elt F))
  , StableHlo.unary main_v26 main_v27 (broadcastInDim S10000x50 ![0, 1] bcast_S10000x1_S10000x50_0_1 : (⟨S10000x1, .i32⟩ : BufTy).Contents (Elt F) → (⟨S10000x50, .i32⟩ : BufTy).Contents (Elt F))
  , StableHlo.reshape main_v27 main_v28 (rfl : (.i32 : EltTy) = .i32) shapeCasts_S10000x50_S500000
  , StableHlo.binary main_v24 main_v28 main_v29 joinWords
  , StableHlo.binary main_v28 main_v24 main_v30 joinWords
  , StableHlo.unary main_v29 main_v31 (broadcastInDim S1x1000000 ![1] bcast_S1000000_S1x1000000_1 : (⟨S1000000, .i32⟩ : BufTy).Contents (Elt F) → (⟨S1x1000000, .i32⟩ : BufTy).Contents (Elt F))
  , StableHlo.unary main_v30 main_v32 (broadcastInDim S1x1000000 ![1] bcast_S1000000_S1x1000000_1 : (⟨S1000000, .i32⟩ : BufTy).Contents (Elt F) → (⟨S1x1000000, .i32⟩ : BufTy).Contents (Elt F))
  , StableHlo.binary main_v31 main_v32 main_v33 stackWords
  , StableHlo.binary main_v22 main_v22 main_v34 joinRows ]

theorem main_eq (d : Dev nD) : main (F := F) d = (StableHlo.seq opsA >>= fun _ => Prog.lift (.customCall (SparseCore.inner (Pipeline.entry 0)) ()) >>= fun _ =>
    StableHlo.seq opsB >>= fun _ => (K (F := F)).run d 0 >>= fun _ => StableHlo.seq opsC >>= fun _ =>
    Prog.lift (.customCall (SparseCore.inner (Pipeline.entry 1)) ()) >>= fun _ => StableHlo.seq opsD >>= fun _ =>
    Prog.lift (.customCall (SparseCore.inner (Pipeline.entry 2)) ()) >>= fun _ => StableHlo.seq opsE) := by
  unfold main fn_pad.body opsA opsB opsC opsD opsE
  simp only [StableHlo.seq, bind_assoc, pure_bind]
  rfl

/-- The buffers of the call: its five inputs and its two outputs. -/
def callRefs : Finset (Ref sig .tc) := {main_v8, main_v7, main_v10, main_v12, main_v14, main_v15_0, main_v15_1}

theorem group_five (A B C D E G : sProp 𝕄) : iprop((A ∗ B ∗ C ∗ D ∗ E) ∗ G) = iprop(A ∗ B ∗ C ∗ D ∗ E ∗ G) := by
  refine BI.equiv_iff.mp ⟨?_, ?_⟩
  · show iprop((A ∗ B ∗ C ∗ D ∗ E) ∗ G) ⊢ iprop(A ∗ B ∗ C ∗ D ∗ E ∗ G)
    iintro ⟨⟨HA, HB, HC, HD, HE⟩, HG⟩
    isplitl [HA]; · iexact HA
    isplitl [HB]; · iexact HB
    isplitl [HC]; · iexact HC
    isplitl [HD]; · iexact HD
    isplitl [HE] <;> iassumption
  · show iprop(A ∗ B ∗ C ∗ D ∗ E ∗ G) ⊢ iprop((A ∗ B ∗ C ∗ D ∗ E) ∗ G)
    iintro ⟨HA, HB, HC, HD, HE, HG⟩
    isplitr [HG]
    · isplitl [HA]; · iexact HA
      isplitl [HB]; · iexact HB
      isplitl [HC]; · iexact HC
      isplitl [HD] <;> iassumption
    iexact HG

theorem bigSep_callRefs (Φ : Ref sig .tc → sProp 𝕄) : bigSep callRefs Φ
    = iprop((Φ main_v8 ∗ Φ main_v7 ∗ Φ main_v10 ∗ Φ main_v12 ∗ Φ main_v14) ∗ Φ main_v15_0 ∗ Φ main_v15_1) := by
  unfold callRefs
  rw [group_five]
  rw [SparseCore.bigSep_insert' (by decide), SparseCore.bigSep_insert' (by decide), SparseCore.bigSep_insert' (by decide),
    SparseCore.bigSep_insert' (by decide), SparseCore.bigSep_insert' (by decide), SparseCore.bigSep_insert' (by decide), BI.bigSep_singleton]

def callBufs : Finset (DevRef τ sig) := callRefs.map ⟨Proc.devRef .tc, Proc.devRef_injective _⟩

theorem callBufs_sub : callBufs ⊆ Pipeline.ucRefs τ sig := by
  intro b hb
  obtain ⟨r, hr, rfl⟩ := Finset.mem_map.mp hb
  have : ∀ r ∈ callRefs, r.isScoped = false := by unfold callRefs; decide
  exact Finset.mem_filter.mpr ⟨StableHlo.devRef_mem_tcRefs r, fun h => Bool.false_ne_true ((this r hr).symm.trans h)⟩

theorem held_call (d : Dev nD) (W : Valuation τ sig (Elt F)) :
    (StableHlo.held (SparseCore.T d) callBufs W : sProp 𝕄)
      = iprop(reads (fun _ => W) d fullShare ∗ outs d Finset.univ (W (Proc.devRef .tc main_v15_0), W (Proc.devRef .tc main_v15_1))) := by
  unfold StableHlo.held callBufs
  rw [BI.bigSep_map, bigSep_callRefs]
  rfl

/-- The contents after the call, its outputs now `f`. -/
def withOuts (W : Valuation τ sig (Elt F)) (d : Dev nD) (f : Buf (Elt F) (locT d main_v15_0) × Buf (Elt F) (locT d main_v15_1)) : Valuation τ sig (Elt F) :=
  Function.update (Function.update W (Proc.devRef .tc main_v15_0) f.1) (Proc.devRef .tc main_v15_1) f.2

theorem withOuts_0 (W : Valuation τ sig (Elt F)) (d : Dev nD) (f) : withOuts W d f (Proc.devRef .tc main_v15_0) = f.1 := by
  unfold withOuts
  rw [Function.update_of_ne (StableHlo.devRef_ne_of_ne (by decide)), Function.update_self]
theorem withOuts_1 (W : Valuation τ sig (Elt F)) (d : Dev nD) (f) : withOuts W d f (Proc.devRef .tc main_v15_1) = f.2 := by
  unfold withOuts
  rw [Function.update_self]
theorem withOuts_of_ne (W : Valuation τ sig (Elt F)) (d : Dev nD) (f) (b : DevRef τ sig) (h0 : b ≠ Proc.devRef .tc main_v15_0)
    (h1 : b ≠ Proc.devRef .tc main_v15_1) : withOuts W d f b = W b := by
  unfold withOuts
  rw [Function.update_of_ne h1, Function.update_of_ne h0]
theorem withOuts_ref (W : Valuation τ sig (Elt F)) (d : Dev nD) (f) (r : Ref sig .tc) (h0 : r ≠ main_v15_0) (h1 : r ≠ main_v15_1) :
    withOuts W d f (Proc.devRef .tc r) = W (Proc.devRef .tc r) :=
  withOuts_of_ne W d f _ (StableHlo.devRef_ne_of_ne h0) (StableHlo.devRef_ne_of_ne h1)
theorem withOuts_rest (W : Valuation τ sig (Elt F)) (d : Dev nD) (f) : ∀ b ∈ Pipeline.ucRefs τ sig \ callBufs, W b = withOuts W d f b := by
  intro b hb
  have h := (Finset.mem_sdiff.mp hb).2
  refine (withOuts_of_ne W d f b ?_ ?_).symm
  · rintro rfl; exact h (Finset.mem_map.mpr ⟨main_v15_0, by unfold callRefs; decide, rfl⟩)
  · rintro rfl; exact h (Finset.mem_map.mpr ⟨main_v15_1, by unfold callRefs; decide, rfl⟩)

variable (m : (ℓ : Loc nD τ sig) → Buf (Elt F) ℓ) (ρ : Dev nD → PrngReg)

/-- A device's contents when the first windowed call starts, -/
def Start (d : Dev nD) : Valuation τ sig (Elt F) := StableHlo.after opsA (fun b => m (d, b))
/-- when the SparseCore's call starts, -/
def In (d : Dev nD) : Valuation τ sig (Elt F) := StableHlo.after opsB (leave0 (Start m) 0 d)
/-- when the second windowed call starts, the SparseCore's call having left `f`, -/
def Mid (d : Dev nD) (f : Buf (Elt F) (locT d main_v15_0) × Buf (Elt F) (locT d main_v15_1)) : Valuation τ sig (Elt F) :=
  StableHlo.after opsC (withOuts (In m d) d f)
/-- when the third starts, -/
def Late (d : Dev nD) (f : Buf (Elt F) (locT d main_v15_0) × Buf (Elt F) (locT d main_v15_1)) : Valuation τ sig (Elt F) :=
  StableHlo.after opsD (leave2 (fun _ => Mid m d f) 1 d)
/-- and when the program ends. -/
def Out (d : Dev nD) (f : Buf (Elt F) (locT d main_v15_0) × Buf (Elt F) (locT d main_v15_1)) : Valuation τ sig (Elt F) :=
  StableHlo.after opsE (leave3 (fun _ => Late m d f) 1 d)

theorem opsA_sub : ∀ op ∈ (opsA : List (HloOp τ sig (Elt F))), op.bufs ⊆ Pipeline.ucRefs τ sig := by
  intro op h
  refine Pipeline.sub_ucRefs op ?_
  revert op
  rw [← List.forall_iff_forall_mem]
  unfold opsA
  simp only [List.Forall, StableHlo.TRef.unary, StableHlo.TRef.binary, StableHlo.nullary_bufs_sub, StableHlo.unary_bufs_sub, StableHlo.binary_bufs_sub,
    StableHlo.ternary_bufs_sub, StableHlo.reshape_bufs_sub, and_self]

theorem opsA_fresh : ∀ op ∈ (opsA : List (HloOp τ sig (Elt F))), op.fresh = ∅ := by
  rw [← List.forall_iff_forall_mem]
  exact StableHlo.forall_fresh_of_map rfl

/-- They write these buffers alone. -/
theorem opsA_of (V : Valuation τ sig (Elt F)) (r : Ref sig .tc) (h : r ∉ [main_v0, main_v1, main_cst, main_v2, main_v3, main_v4]) :
    StableHlo.after opsA V (Proc.devRef .tc r) = V (Proc.devRef .tc r) :=
  StableHlo.after_of_writes_sub opsA V (StableHlo.forall_writes_sub_of_map rfl) h

theorem opsB_sub : ∀ op ∈ (opsB : List (HloOp τ sig (Elt F))), op.bufs ⊆ Pipeline.ucRefs τ sig := by
  intro op h
  refine Pipeline.sub_ucRefs op ?_
  revert op
  rw [← List.forall_iff_forall_mem]
  unfold opsB
  simp only [List.Forall, StableHlo.TRef.unary, StableHlo.TRef.binary, StableHlo.nullary_bufs_sub, StableHlo.unary_bufs_sub, StableHlo.binary_bufs_sub,
    StableHlo.ternary_bufs_sub, StableHlo.reshape_bufs_sub, and_self]

theorem opsB_fresh : ∀ op ∈ (opsB : List (HloOp τ sig (Elt F))), op.fresh = ∅ := by
  rw [← List.forall_iff_forall_mem]
  exact StableHlo.forall_fresh_of_map rfl

/-- They write these buffers alone. -/
theorem opsB_of (V : Valuation τ sig (Elt F)) (r : Ref sig .tc) (h : r ∉ [main_v6, main_c, main_call0_v0, main_v7, main_v8, main_v9, main_v10, main_v11, main_v12, main_v13, main_v14]) :
    StableHlo.after opsB V (Proc.devRef .tc r) = V (Proc.devRef .tc r) :=
  StableHlo.after_of_writes_sub opsB V (StableHlo.forall_writes_sub_of_map rfl) h

theorem opsC_sub : ∀ op ∈ (opsC : List (HloOp τ sig (Elt F))), op.bufs ⊆ Pipeline.ucRefs τ sig := by
  intro op h
  refine Pipeline.sub_ucRefs op ?_
  revert op
  rw [← List.forall_iff_forall_mem]
  unfold opsC
  simp only [List.Forall, StableHlo.TRef.unary, StableHlo.TRef.binary, StableHlo.nullary_bufs_sub, StableHlo.unary_bufs_sub, StableHlo.binary_bufs_sub,
    StableHlo.ternary_bufs_sub, StableHlo.reshape_bufs_sub, and_self]

theorem opsC_fresh : ∀ op ∈ (opsC : List (HloOp τ sig (Elt F))), op.fresh = ∅ := by
  rw [← List.forall_iff_forall_mem]
  exact StableHlo.forall_fresh_of_map rfl

/-- They write these buffers alone. -/
theorem opsC_of (V : Valuation τ sig (Elt F)) (r : Ref sig .tc) (h : r ∉ [main_v16, main_v17]) :
    StableHlo.after opsC V (Proc.devRef .tc r) = V (Proc.devRef .tc r) :=
  StableHlo.after_of_writes_sub opsC V (StableHlo.forall_writes_sub_of_map rfl) h

theorem opsD_sub : ∀ op ∈ (opsD : List (HloOp τ sig (Elt F))), op.bufs ⊆ Pipeline.ucRefs τ sig := by
  intro op h
  refine Pipeline.sub_ucRefs op ?_
  revert op
  rw [← List.forall_iff_forall_mem]
  unfold opsD
  simp only [List.Forall, StableHlo.TRef.unary, StableHlo.TRef.binary, StableHlo.nullary_bufs_sub, StableHlo.unary_bufs_sub, StableHlo.binary_bufs_sub,
    StableHlo.ternary_bufs_sub, StableHlo.reshape_bufs_sub, and_self]

theorem opsD_fresh : ∀ op ∈ (opsD : List (HloOp τ sig (Elt F))), op.fresh = ∅ := by
  rw [← List.forall_iff_forall_mem]
  exact StableHlo.forall_fresh_of_map rfl

/-- They write these buffers alone. -/
theorem opsD_of (V : Valuation τ sig (Elt F)) (r : Ref sig .tc) (h : r ∉ [main_cst_0, main_v19, main_v20, main_v21]) :
    StableHlo.after opsD V (Proc.devRef .tc r) = V (Proc.devRef .tc r) :=
  StableHlo.after_of_writes_sub opsD V (StableHlo.forall_writes_sub_of_map rfl) h

theorem opsE_sub : ∀ op ∈ (opsE : List (HloOp τ sig (Elt F))), op.bufs ⊆ Pipeline.ucRefs τ sig := by
  intro op h
  refine Pipeline.sub_ucRefs op ?_
  revert op
  rw [← List.forall_iff_forall_mem]
  unfold opsE
  simp only [List.Forall, StableHlo.TRef.unary, StableHlo.TRef.binary, StableHlo.nullary_bufs_sub, StableHlo.unary_bufs_sub, StableHlo.binary_bufs_sub,
    StableHlo.ternary_bufs_sub, StableHlo.reshape_bufs_sub, and_self]

theorem opsE_fresh : ∀ op ∈ (opsE : List (HloOp τ sig (Elt F))), op.fresh = ∅ := by
  rw [← List.forall_iff_forall_mem]
  exact StableHlo.forall_fresh_of_map rfl

/-- They write these buffers alone. -/
theorem opsE_of (V : Valuation τ sig (Elt F)) (r : Ref sig .tc) (h : r ∉ [main_v23, main_v24, main_v25, main_v26, main_v27, main_v28, main_v29, main_v30, main_v31, main_v32, main_v33, main_v34]) :
    StableHlo.after opsE V (Proc.devRef .tc r) = V (Proc.devRef .tc r) :=
  StableHlo.after_of_writes_sub opsE V (StableHlo.forall_writes_sub_of_map rfl) h

/-- What the claims read at the end: the argument and the results. -/
def endRefs : Finset (Ref sig .tc) := {main_arg0, main_v33, main_v34}

theorem bigSep_endRefs (Φ : Ref sig .tc → sProp 𝕄) : bigSep endRefs Φ
    = iprop(Φ main_arg0 ∗ Φ main_v33 ∗ Φ main_v34) := by
  unfold endRefs
  rw [SparseCore.bigSep_insert' (by decide), SparseCore.bigSep_insert' (by decide), BI.bigSep_singleton]

def endBufs : Finset (DevRef τ sig) := endRefs.map ⟨Proc.devRef .tc, Proc.devRef_injective _⟩

theorem endBufs_sub : endBufs ⊆ Pipeline.ucRefs τ sig := by
  intro b hb
  obtain ⟨r, hr, rfl⟩ := Finset.mem_map.mp hb
  have : ∀ r ∈ endRefs, r.isScoped = false := by unfold endRefs; decide
  exact Finset.mem_filter.mpr ⟨StableHlo.devRef_mem_tcRefs r, fun h => Bool.false_ne_true ((this r hr).symm.trans h)⟩

/-- The end of the host program: every row of the call's outputs done, and the buffers at what the operations make of them. -/
abbrev FIN (d : Dev nD) : sProp 𝕄 :=
  iprop(∃ f, ⌜∀ r < 10000, Row (In m) d r f⌝ ∗ StableHlo.held (SparseCore.T d) endBufs (Out m d f))

/-- The TensorCore's state before call `n` is the starts it owes and the rest. -/
theorem tcSt_split (d : Dev nD) (n : ℕ) : ∃ rest : sProp 𝕄, (K (F := F)).tcSt EH d n
    = iprop((∃ Wt, ⌜(K (F := F)).WBelow (T d) Wt (8 * n)⌝ ∗ owes (T d) ((K (F := F)).Otc d n) Wt) ∗ rest) := ⟨_, rfl⟩

/-- A device's ghost state for its windowed calls, call by call. -/
theorem calls_split (d : Dev nD) : (calls d : sProp 𝕄) ⊢ iprop(ghost0 d ∗ ghost2 d ∗ ghost3 d) := by
  unfold calls
  rw [show (Finset.univ : Finset (Fin 3)) = {0, 1, 2} from rfl, SparseCore.bigSep_insert' (by decide), SparseCore.bigSep_insert' (by decide), BI.bigSep_singleton,
    SparseCore.bigSep_insert' (by decide), SparseCore.bigSep_insert' (by decide), BI.bigSep_singleton]
  iintro ⟨⟨A0, A1, A2⟩, B0, B1, B2⟩
  isplitl [A0 B0]
  · isplitl [A0]; · iexact A0
    iexact B0
  isplitl [A1 B1]
  · isplitl [A1]; · iexact A1
    iexact B1
  isplitl [A2]; · iexact A2
  iexact B2

set_option backward.isDefEq.respectTransparency.types false in
theorem hmain [∀ e, Nonempty (Elt F e)] (κ : GSem nD τ sig → ℕ) (d : Dev nD) :
    iprop((K (F := F)).ctx EH (P (In m)) κ ∗ (K (F := F)).tcSt EH d 0 ∗ (K (F := F)).tcRes m ρ d ∗ calls d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨rest0, e0⟩ := tcSt_split (F := F) d 0
  obtain ⟨rest1, e1⟩ := tcSt_split (F := F) d 1
  unfold SparseCore.Cfg.tcRes SparseCore.Cfg.tcEnd
  rw [main_eq, show (unscopedBufs d (fun b => m ((SparseCore.T d).loc b)) : sProp 𝕄) = StableHlo.held (SparseCore.T d) (Pipeline.ucRefs τ sig) (fun b => m (d, b))
    from Pipeline.unscopedBufs_held d fun b => m (d, b)]
  iintro ⟨#Hctx, Hst, ⟨Hb, Hheld, Hts, -⟩, Hg⟩
  ihave Hg := (calls_split d) $$ Hg
  icases Hg with ⟨Hg0, Hg2, Hg3⟩
  ihave #Hlev := (SparseCore.Cfg.ctx_levAts κ) $$ Hctx
  iapply (StableHlo.wp_seq 𝒱 none Set.univ d (Pipeline.ucRefs τ sig) _ opsA opsA_sub opsA_fresh (fun b => m (d, b))) $$ [Hb Hheld]
  · isplitl [Hb] <;> iassumption
  iintro ⟨Hb, Hheld⟩
  ihave Hst := (Entails.of_eq e0) $$ Hst
  icases Hst with ⟨HO, Hst⟩
  rw [wp_bind]
  iapply (step0 (Start m) 0 d) $$ [Hb Hheld HO Hg0 Hst Hg2 Hg3 Hts]
  isplitr [Hb Hheld HO Hg0]
  rotate_left
  · isplitl [Hb]; · iexact Hb
    isplitl [Hheld HO]
    · isplitl [Hheld]; · iexact Hheld
      iexact HO
    isplitr; · iexact Hlev
    iexact Hg0
  iintro ⟨Hb, Hheld, HO⟩
  iapply (StableHlo.wp_seq 𝒱 none Set.univ d (Pipeline.ucRefs τ sig) _ opsB opsB_sub opsB_fresh (leave0 (Start m) 0 d)) $$ [Hb Hheld]
  · isplitl [Hb] <;> iassumption
  iintro ⟨Hb, Hheld⟩
  ihave Hst := (Entails.of_eq e0.symm) $$ [HO Hst]
  · isplitl [HO] <;> iassumption
  ihave Hh := (Entails.of_eq (show (StableHlo.held d.tc (Pipeline.ucRefs τ sig) (StableHlo.after opsB (leave0 (Start m) 0 d)) : sProp 𝕄) = _ from
    StableHlo.held_sub_split (SparseCore.T d) callBufs_sub (In m d))) $$ Hheld
  icases Hh with ⟨Hc, Hrest⟩
  ihave Hc := (Entails.of_eq (held_call d (In m d))) $$ Hc
  icases Hc with ⟨Hr, Ho⟩
  rw [wp_bind]
  iapply ((K (F := F)).wp_run (D (F := F)) 𝒱 (EH := EH) (P := P (In m)) κ d 0) $$ [Hst Hr Ho Hb Hrest Hts Hg2 Hg3]
  isplitr; · iexact Hctx
  isplitl [Hst]; · iexact Hst
  isplitl [Hr Ho]
  · iapply (start_of (In m) d)
    isplitl [Hr]; · iexact Hr
    iexists _; iexact Ho
  iintro ⟨Hst, Hdn⟩
  ihave Hdn := (end_of (In m) d) $$ Hdn
  icases Hdn with ⟨Hr, ⟨%f, %hf, Ho⟩⟩
  ihave Hc := (Entails.of_eq (held_call d (withOuts (In m d) d f)).symm) $$ [Hr Ho]
  · rw [withOuts_0, withOuts_1, show (reads (fun _ => withOuts (In m d) d f) d fullShare : sProp 𝕄) = reads (In m) d fullShare from by
      unfold reads
      beta_reduce
      rw [withOuts_ref _ _ _ main_v8 (by decide) (by decide), withOuts_ref _ _ _ main_v7 (by decide) (by decide),
        withOuts_ref _ _ _ main_v10 (by decide) (by decide), withOuts_ref _ _ _ main_v12 (by decide) (by decide),
        withOuts_ref _ _ _ main_v14 (by decide) (by decide)]]
    isplitl [Hr] <;> iassumption
  ihave Hrest := (Entails.of_eq (StableHlo.held_congr (SparseCore.T d) (S := Pipeline.ucRefs τ sig \ callBufs) (V := In m d) (V' := withOuts (In m d) d f)
    (withOuts_rest (In m d) d f))) $$ Hrest
  ihave Hheld := (Entails.of_eq (StableHlo.held_sub_split (SparseCore.T d) callBufs_sub (withOuts (In m d) d f)).symm) $$ [Hc Hrest]
  · isplitl [Hc] <;> iassumption
  iapply (StableHlo.wp_seq 𝒱 none Set.univ d (Pipeline.ucRefs τ sig) _ opsC opsC_sub opsC_fresh (withOuts (In m d) d f)) $$ [Hb Hheld]
  · isplitl [Hb] <;> iassumption
  iintro ⟨Hb, Hheld⟩
  ihave Hst := (Entails.of_eq (show (K (F := F)).tcSt EH d ((0 : Fin 1).val + 1) = _ from e1)) $$ Hst
  icases Hst with ⟨HO, Hst⟩
  rw [wp_bind]
  iapply (step2 (fun _ => Mid m d f) 1 d) $$ [Hb Hheld HO Hst Hg2 Hg3 Hts]
  isplitr [Hb Hheld HO Hg2]
  rotate_left
  · isplitl [Hb]; · iexact Hb
    isplitl [Hheld HO]
    · isplitl [Hheld]; · iexact Hheld
      iexact HO
    isplitr; · iexact Hlev
    iexact Hg2
  iintro ⟨Hb, Hheld, HO⟩
  iapply (StableHlo.wp_seq 𝒱 none Set.univ d (Pipeline.ucRefs τ sig) _ opsD opsD_sub opsD_fresh (leave2 (fun _ => Mid m d f) 1 d)) $$ [Hb Hheld]
  · isplitl [Hb] <;> iassumption
  iintro ⟨Hb, Hheld⟩
  rw [wp_bind]
  iapply (step3 (fun _ => Late m d f) 1 d) $$ [Hb Hheld HO Hst Hg3 Hts]
  isplitr [Hb Hheld HO Hg3]
  rotate_left
  · isplitl [Hb]; · iexact Hb
    isplitl [Hheld HO]
    · isplitl [Hheld]; · iexact Hheld
      iexact HO
    isplitr; · iexact Hlev
    iexact Hg3
  iintro ⟨Hb, Hheld, HO⟩
  rw [← bind_pure (StableHlo.seq opsE)]
  iapply (StableHlo.wp_seq 𝒱 none Set.univ d (Pipeline.ucRefs τ sig) _ opsE opsE_sub opsE_fresh (leave3 (fun _ => Late m d f) 1 d)) $$ [Hb Hheld]
  · isplitl [Hb] <;> iassumption
  iintro ⟨Hb, Hheld⟩
  ihave Hst := (Entails.of_eq e1.symm) $$ [HO Hst]
  · isplitl [HO] <;> iassumption
  ihave Hh := (Entails.of_eq (show (StableHlo.held d.tc (Pipeline.ucRefs τ sig) (StableHlo.after opsE (leave3 (fun _ => Late m d f) 1 d)) : sProp 𝕄) = _ from
    StableHlo.held_sub_split (SparseCore.T d) endBufs_sub (Out m d f))) $$ Hheld
  icases Hh with ⟨He, -⟩
  rw [wp_pure]; imodintro
  isplitl [Hst]; · iexact Hst
  isplitl [He]
  · iexists f
    isplitr; · ipureintro; exact hf
    iexact He
  isplitl [Hb] <;> iassumption

/-- What a device's final memory holds. -/
def fq (d : Dev nD) (s' : Phys nD τ sig (Elt F)) : Prop :=
  ∃ f, (∀ r < 10000, Row (In m) d r f) ∧ ∀ r ∈ endRefs, s'.mem.mem (locT d r) = Out m d f (Proc.devRef .tc r)

theorem read_end (d : Dev nD) (r : Ref sig .tc) (v : Buf (Elt F) (locT d r)) (s' : Phys nD τ sig (Elt F)) :
    iprop((locT d r ↦{fullShare} v) ∗ SI s') ⊢ (iprop(⌜s'.mem.mem (locT d r) = v⌝ ∗ SI s') : sProp 𝕄) := by
  iintro ⟨H, HSI⟩
  ihave H := (persistent_entails_right (SI_pointsTo_agree (st := s') (ℓ := locT d r) (I := Finset.univ) (q := fullShare) (f := v))) $$ [HSI H]
  · isplitl [HSI] <;> iassumption
  icases H with ⟨%h, HSI, -⟩
  isplitr
  · ipureintro; funext x; exact h x (Finset.mem_univ _)
  iexact HSI

theorem hfin (d : Dev nD) (s' : Phys nD τ sig (Elt F)) : iprop(FIN m d ∗ SI s') ⊢ (⌜fq m d s'⌝ : sProp 𝕄) := by
  iintro ⟨⟨%f, %hf, He⟩, HSI⟩
  ihave He := (show (StableHlo.held (SparseCore.T d) endBufs (Out m d f) : sProp 𝕄)
      ⊢ bigSep endRefs fun r => locT d r ↦{fullShare} Out m d f (Proc.devRef .tc r) from by
    unfold StableHlo.held endBufs; rw [BI.bigSep_map]; exact .rfl) $$ He
  ihave He := (Entails.of_eq (bigSep_endRefs _)) $$ He
  icases He with ⟨H0, H1, H2⟩
  ihave H := (read_end d main_arg0 _ s') $$ [H0 HSI]
  · isplitl [H0] <;> iassumption
  icases H with ⟨%h0, HSI⟩
  ihave H := (read_end d main_v33 _ s') $$ [H1 HSI]
  · isplitl [H1] <;> iassumption
  icases H with ⟨%h1, HSI⟩
  ihave H := (read_end d main_v34 _ s') $$ [H2 HSI]
  · isplitl [H2] <;> iassumption
  icases H with ⟨%h2, -⟩
  ipureintro
  refine ⟨f, hf, fun r hr => ?_⟩
  simp only [endRefs, Finset.mem_insert, Finset.mem_singleton] at hr
  rcases hr with rfl | rfl | rfl <;> assumption

/-- The argument reaches the end as it was given. -/
theorem start_arg (d : Dev nD) : Start m d (Proc.devRef .tc main_arg0) = m (locT d main_arg0) :=
  opsA_of _ _ (by decide)
theorem in_arg (d : Dev nD) : In m d (Proc.devRef .tc main_arg0) = m (locT d main_arg0) :=
  (opsB_of _ _ (by decide)).trans ((leave0_of (Start m) 0 d main_arg0 (by decide)).trans (start_arg m d))
theorem out_arg (d : Dev nD) (f) : Out m d f (Proc.devRef .tc main_arg0) = m (locT d main_arg0) :=
  (opsE_of _ _ (by decide)).trans ((leave3_of (fun _ => Late m d f) 1 d main_arg0 (by decide)).trans ((opsD_of _ _ (by decide)).trans
    ((leave2_of (fun _ => Mid m d f) 1 d main_arg0 (by decide)).trans ((opsC_of _ _ (by decide)).trans
      ((withOuts_ref _ _ _ _ (by decide) (by decide)).trans (in_arg m d))))))

/-- The run: every thread ends, with the semaphores at zero, the argument unchanged and the results made of done rows. -/
def QC (r : PUnit × MemSt nD τ sig (Elt F)) : Prop :=
  (∀ d, ∃ f, (∀ row < 10000, Row (In m) d row f) ∧ ∀ b ∈ endRefs, r.2.mem (locT d b) = Out m d f (Proc.devRef .tc b)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (In m)) (A := ∅) facts v₀
    (fun q hq => match q with | 0 => nomatch hq)
    (fun q _ => match q with | 0 => tileObl (In m) facts)
    (fun q _ => match q with | 0 => SparseCore.Cfg.VecSplit.of_plain (vecSplit (In m)))
    m ρ main (fun d => calls d) (FIN m) (u₀ (F := F)) (sep_elim_left.trans (hu₀ (In m))) (hmain m ρ) (fq m) (hfin m) (QC m) (fun _ h hz => ⟨h, hz⟩)

theorem frame_ideal : Cert.quiescent_KernelIdeal := fun m ρ _ =>
  (θ_run Cert.KernelIdeal.defs _ _).mono (fun _ h => ⟨fun d => by
    obtain ⟨f, -, h⟩ := h.1 d
    exact (h main_arg0 (by unfold endRefs; decide)).trans (out_arg m d f), h.2⟩) (run_main (F := Ideal) m ρ)

end Cert.Proof.Knn

end

end
-- ==== Proof.Frame.lean ====
/-
  Frame: the kernel as given and the kernel read over the reals are one program text, so the run proved of the one for every
  number type is the run of the other.
-/
module

public import proofs.«01_k».proof.Proof.Host
public import proofs.«01_k».proof.Proof.Gen.Kernel

@[expose] public section
noncomputable section

set_option maxHeartbeats 4000000

namespace Cert.Proof.Knn

open Idealize.ShloMosaic Idealize.SL.Sem
attribute [local instance] Cert.Kernel.Gen.facts

variable {F : FTy → Type} [FloatOps F]

theorem same_main : Cert.Kernel.main (F := F) = Cert.KernelIdeal.main (F := F) := rfl

/-- The bodies of the called functions, thread kind by thread kind. -/
theorem same_bodies : Cert.Kernel.defs₀ (F := F) = Cert.KernelIdeal.defs₀ (F := F) := by
  funext p l
  match p, l with
  | .tc, 0 => rfl
  | .tc, 1 => rfl
  | .tc, 2 => rfl
  | .tc, 3 => rfl
  | .scVector c s, 0 => rfl
  | .scVector c s, 1 => rfl
  | .scVector c s, 2 => rfl
  | .scVector c s, 3 => rfl
  | .scScalar c, 0 => rfl
  | .scScalar c, 1 => rfl
  | .scScalar c, 2 => rfl
  | .scScalar c, 3 => rfl

theorem same_defs : Cert.Kernel.defs (F := F) = Cert.KernelIdeal.defs (F := F) :=
  congrArg (fun b => Cert.KernelIdeal.sc.defs (Pipeline.defs Cert.KernelIdeal.pcfgs b)) same_bodies

theorem same_threads : Cert.Kernel.threads (F := F) = Cert.KernelIdeal.threads (F := F) :=
  congrArg Cert.KernelIdeal.sc.threads same_main

theorem run_same (s) (Q) (h : θ_run (Cert.KernelIdeal.defs (F := F)) (Cert.KernelIdeal.threads (F := F)) s Q) :
    θ_run (Cert.Kernel.defs (F := F)) (Cert.Kernel.threads (F := F)) s Q :=
  (congrArg₂ (fun A B => θ_run A B s Q) same_defs same_threads).mpr h

open Cert.KernelIdeal Cert.KernelIdeal.Gen in
theorem frame_kernel : Cert.quiescent_Kernel (hKernel := Cert.Kernel.Gen.facts) := fun m ρ _ =>
  run_same _ _ ((θ_run Cert.KernelIdeal.defs _ _).mono (fun _ h => ⟨fun d => by
    obtain ⟨f, -, h⟩ := h.1 d
    exact (h main_arg0 (by unfold endRefs; decide)).trans (out_arg m d f), h.2⟩) (run_main (F := Bits) m ρ))

end Cert.Proof.Knn

end

end
-- ==== Proof.Select.lean ====
module

public import proofs.«01_k».proof.Proof.Row
public import Idealize.ShloMosaic.PureOps.Ideal.Laws
public import Idealize.ShloMosaic.Lib.SortPrefix

@[expose] public section
noncomputable section

namespace Cert.Proof.Knn

open Idealize.ShloMosaic

/-! ## The rounds over the extended reals: they extract the smallest entries, in the order of value and position -/

/-- Position `a` sorts before position `b`: by the entry, and of equal entries the earlier one. -/
def Before (V : ℕ → EReal) (a b : ℕ) : Prop := V a < V b ∨ V a = V b ∧ a < b

theorem hit_iff (V : ℕ → Ideal .f32) (m : Ideal .f32) (p : ℕ) : hit (F := Ideal) V m p = true ↔ V p = m := by
  simp only [hit, Ideal.cmpf_def, Ideal.cmp, decide_eq_true_eq]
  by_cases h : V p = m <;> simp [h]

theorem le_iff (a b : Ideal .f32) : le (F := Ideal) a b = true ↔ (a : EReal) ≤ b := by
  simp only [le, Ideal.cmpf_def, Ideal.cmp, decide_eq_true_eq]
  by_cases h : (a : EReal) ≤ b <;> simp [h]

theorem lane_le (V : ℕ → Ideal .f32) (l q k : ℕ) (hk : k < q) : (lane (F := Ideal) V l q : EReal) ≤ V (16 * k + l) := by
  induction q with
  | zero => omega
  | succ q ih =>
    show min (lane (F := Ideal) V l q : EReal) (V (16 * q + l)) ≤ _
    rcases Nat.lt_succ_iff_lt_or_eq.1 hk with h | h
    · exact (min_le_left _ _).trans (ih h)
    · rw [h]; exact min_le_right _ _

theorem lane_mem (V : ℕ → Ideal .f32) (l q : ℕ) :
    lane (F := Ideal) V l q = big (F := Ideal) ∨ ∃ k < q, lane (F := Ideal) V l q = V (16 * k + l) := by
  induction q with
  | zero => exact Or.inl rfl
  | succ q ih =>
    have e : lane (F := Ideal) V l (q + 1) = min (lane (F := Ideal) V l q : EReal) (V (16 * q + l)) := rfl
    rcases min_choice (lane (F := Ideal) V l q : EReal) (V (16 * q + l)) with h | h
    · rw [e, h]
      exact ih.imp id fun ⟨k, hk, h⟩ => ⟨k, by omega, h⟩
    · exact Or.inr ⟨q, by omega, e.trans h⟩

theorem foldl_min (f : ℕ → EReal) (a : EReal) (n : ℕ) :
    let m := (List.range n).foldl (fun a l => min a (f l)) a
    m ≤ a ∧ (∀ l < n, m ≤ f l) ∧ (m = a ∨ ∃ l < n, m = f l) := by
  induction n with
  | zero => exact ⟨le_refl _, by omega, Or.inl rfl⟩
  | succ n ih =>
    rw [List.range_succ, List.foldl_append]
    obtain ⟨h1, h2, h3⟩ := ih
    refine ⟨(min_le_left _ _).trans h1, fun l hl => ?_, ?_⟩
    · rcases Nat.lt_succ_iff_lt_or_eq.1 hl with h | h
      · exact (min_le_left _ _).trans (h2 l h)
      · rw [h]; exact min_le_right _ _
    · show min _ (f n) = a ∨ _
      rcases min_choice ((List.range n).foldl (fun a l => min a (f l)) a) (f n) with h | h
      · exact h3.imp (fun e => h.trans e) fun ⟨l, hl, e⟩ => ⟨l, by omega, h.trans e⟩
      · exact Or.inr ⟨n, by omega, h⟩

theorem least_le (V : ℕ → Ideal .f32) (T p : ℕ) (hp : p < 16 * T) : (least (F := Ideal) V T : EReal) ≤ V p := by
  have h := foldl_min (fun l => lane (F := Ideal) V (l + 1) T) (lane (F := Ideal) V 0 T) 15
  have e : 16 * (p / 16) + p % 16 = p := Nat.div_add_mod p 16
  have hl := lane_le V (p % 16) T (p / 16) (by omega)
  rw [e] at hl
  rcases Nat.eq_zero_or_pos (p % 16) with h0 | h0
  · rw [h0] at hl; exact h.1.trans hl
  · obtain ⟨l, hl'⟩ : ∃ l, p % 16 = l + 1 := ⟨p % 16 - 1, by omega⟩
    rw [hl'] at hl
    exact (h.2.1 l (by omega)).trans hl

theorem least_mem (V : ℕ → Ideal .f32) (T : ℕ) :
    least (F := Ideal) V T = big (F := Ideal) ∨ ∃ p < 16 * T, least (F := Ideal) V T = V p := by
  have h := foldl_min (fun l => lane (F := Ideal) V (l + 1) T) (lane (F := Ideal) V 0 T) 15
  obtain ⟨l, hl, e⟩ : ∃ l < 16, least (F := Ideal) V T = lane (F := Ideal) V l T := by
    rcases h.2.2 with h | ⟨l, hl, h⟩
    · exact ⟨0, by omega, h⟩
    · exact ⟨l + 1, by omega, h⟩
  rw [e]
  exact (lane_mem V l T).imp id fun ⟨k, hk, h⟩ => ⟨16 * k + l, by omega, h⟩

/-- What holds after any number of rounds: of the buffer `s.1` and the extracted positions `s.2`. -/
structure Drawn (V : ℕ → Ideal .f32) (n T : ℕ) (s : (ℕ → Ideal .f32) × List ℕ) : Prop where
  nodup : s.2.Nodup
  lt : ∀ q ∈ s.2, q < n
  out : ∀ q ∈ s.2, s.1 q = big (F := Ideal)
  kept : ∀ q, q ∉ s.2 → s.1 q = V q
  ordered : s.2.Pairwise (Before V)
  below : ∀ q ∈ s.2, ∀ p < 16 * T, p ∉ s.2 → (V q : EReal) < V p

theorem Drawn.length_le {V : ℕ → Ideal .f32} {n T : ℕ} {s : (ℕ → Ideal .f32) × List ℕ} (h : Drawn V n T s) : s.2.length ≤ n := by
  have := (List.subperm_of_subset h.nodup fun q hq => List.mem_range.2 (h.lt q hq)).length_le
  simpa using this

theorem Drawn.round {V : ℕ → Ideal .f32} {n T : ℕ} (hn : 50 ≤ n) (hT : n < 16 * T) (hV : ∀ p < n, (V p : EReal) < big (F := Ideal))
    (hp : ∀ p, n ≤ p → p < 16 * T → V p = big (F := Ideal)) {s : (ℕ → Ideal .f32) × List ℕ} (h : Drawn V n T s) :
    Drawn V n T (round (F := Ideal) T s) ∧ min 50 (s.2.length + 1) ≤ (round (F := Ideal) T s).2.length := by
  unfold Knn.round
  by_cases hs : s.2.length < 50
  swap
  · rw [if_neg hs]; exact ⟨h, by omega⟩
  rw [if_pos hs]
  obtain ⟨p, hpn, hps⟩ : ∃ p < n, p ∉ s.2 := by
    by_contra hc
    push Not at hc
    have := (List.subperm_of_subset (List.nodup_range (n := n)) fun q hq => hc q (List.mem_range.1 hq)).length_le
    simp at this; omega
  generalize hm : least (F := Ideal) s.1 T = m
  have hle : ∀ p < 16 * T, (m : EReal) ≤ s.1 p := fun p hp => hm ▸ least_le s.1 T p hp
  have hmb : (m : EReal) < big (F := Ideal) := lt_of_le_of_lt (hle p (by omega)) (by rw [h.kept p hps]; exact hV p hpn)
  obtain ⟨p₀, hp₀, e₀⟩ : ∃ p < 16 * T, m = s.1 p := by
    rcases least_mem s.1 T with e | e
    · rw [hm] at e; rw [e] at hmb; exact absurd hmb (lt_irrefl _)
    · rwa [hm] at e
  have hmem : ∀ q, q ∈ hits (F := Ideal) s.1 m (16 * T) ↔ q < 16 * T ∧ s.1 q = m := fun q => by
    unfold hits; rw [List.mem_filter, List.mem_range, hit_iff]
  have hnot : ∀ q, s.1 q = m → q ∉ s.2 := fun q e hq => by
    rw [h.out q hq] at e; rw [← e] at hmb; exact absurd hmb (lt_irrefl _)
  have hVm : ∀ q, s.1 q = m → V q = m := fun q e => by rw [← h.kept q (hnot q e), e]
  have hsort : (hits (F := Ideal) s.1 m (16 * T)).Pairwise (· < ·) := (List.pairwise_lt_range (n := 16 * T)).filter _
  refine ⟨⟨?_, ?_, ?_, ?_, ?_, ?_⟩, ?_⟩
  · refine List.nodup_append.2 ⟨h.nodup, hsort.imp fun h => ne_of_lt h, fun a ha b hb e => ?_⟩
    subst e
    exact hnot a ((hmem a).1 hb).2 ha
  · intro q hq
    rcases List.mem_append.1 hq with hq | hq
    · exact h.lt q hq
    · obtain ⟨h1, h2⟩ := (hmem q).1 hq
      by_contra hc
      have e := hp q (by omega) h1
      rw [hVm q h2] at e
      rw [e] at hmb
      exact absurd hmb (lt_irrefl _)
  · intro q hq
    show clear (F := Ideal) s.1 m (16 * T) q = _
    unfold clear
    rcases List.mem_append.1 hq with hq | hq
    · split
      · rfl
      · exact h.out q hq
    · obtain ⟨h1, h2⟩ := (hmem q).1 hq
      rw [if_pos ⟨h1, (hit_iff _ _ _).2 h2⟩]
  · intro q hq
    have hq' := fun hh => hq (List.mem_append.2 hh)
    show clear (F := Ideal) s.1 m (16 * T) q = _
    unfold clear
    rw [if_neg fun hh => hq' (Or.inr ((hmem q).2 ⟨hh.1, (hit_iff _ _ _).1 hh.2⟩))]
    exact h.kept q fun hh => hq' (Or.inl hh)
  · refine List.pairwise_append.2 ⟨h.ordered, hsort.imp_of_mem fun {a b} ha hb hab => Or.inr ⟨?_, hab⟩, fun a ha b hb => Or.inl ?_⟩
    · rw [hVm a ((hmem a).1 ha).2, hVm b ((hmem b).1 hb).2]
    · exact h.below a ha b ((hmem b).1 hb).1 (hnot b ((hmem b).1 hb).2)
  · intro q hq p hpT hpq
    have hp' := fun hh => hpq (List.mem_append.2 hh)
    rcases List.mem_append.1 hq with hq | hq
    · exact h.below q hq p hpT fun hh => hp' (Or.inl hh)
    · rw [hVm q ((hmem q).1 hq).2, ← h.kept p fun hh => hp' (Or.inl hh)]
      exact lt_of_le_of_ne (hle p hpT) fun e => hp' (Or.inr ((hmem p).2 ⟨hpT, e.symm⟩))
  · have : 0 < (hits (F := Ideal) s.1 m (16 * T)).length := List.length_pos_of_mem ((hmem p₀).2 ⟨hp₀, e₀.symm⟩)
    rw [List.length_append]
    omega

/-- After fifty rounds at least fifty positions are extracted. -/
theorem drawn_rounds {V : ℕ → Ideal .f32} {n T : ℕ} (hn : 50 ≤ n) (hT : n < 16 * T) (hV : ∀ p < n, (V p : EReal) < big (F := Ideal))
    (hp : ∀ p, n ≤ p → p < 16 * T → V p = big (F := Ideal)) :
    Drawn V n T (rounds (F := Ideal) T (V, []) 50) ∧ 50 ≤ (rounds (F := Ideal) T (V, []) 50).2.length := by
  have key : ∀ k, Drawn V n T (rounds (F := Ideal) T (V, []) k) ∧ min 50 k ≤ (rounds (F := Ideal) T (V, []) k).2.length := by
    intro k
    induction k with
    | zero => exact ⟨⟨List.nodup_nil, by simp [rounds], by simp [rounds], fun _ _ => rfl, List.Pairwise.nil, by simp [rounds]⟩, by simp⟩
    | succ k ih =>
      obtain ⟨h1, h2⟩ := ih.1.round hn hT hV hp
      exact ⟨h1, le_trans (by omega) h2⟩
  exact key 50

/-! ## The stable sort of a row -/

/-- The order by which the row is sorted: smaller entries first, of equal ones the earlier. -/
def before (row : ℕ → EReal) (k k' : Fin 10000) : Bool :=
  decide (row k < row k') || (decide (row k = row k') && decide (k < k'))

theorem before_total (row : ℕ → EReal) : StrictTotalBefore (before row) :=
  StrictTotalBefore.of_key_then_position (fun a b : EReal => decide (a < b)) (fun k : Fin 10000 => row k) (by simp)
    (fun a b c => by simpa using lt_trans) (fun a b => by simpa using lt_trichotomy a b)

/-- A stable sort by the entry alone is the sort by the entry and the position. -/
theorem stableSort_by_key (row : ℕ → EReal) (l : List (Fin 10000)) (hl : l.Pairwise (· < ·)) :
    stableSort (fun k k' : Fin 10000 => decide (row k < row k')) l = stableSort (before row) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab := hl.1 b ((perm_stableSort _ l).mem_iff.1 hb)
    simp [before, not_lt.2 (le_of_lt hab)]

theorem sortedFrom_of_positions {n : ℕ} {R R' : Fin n → Fin n → Bool} (e : sortPositions n R = sortPositions n R') (k : Fin n) :
    sortedFrom R k = sortedFrom R' k := by
  unfold sortedFrom
  rw [List.get_of_eq e]
  rfl

theorem sortedFrom_by_key (row : ℕ → EReal) (k : Fin 10000) :
    sortedFrom (fun k k' : Fin 10000 => decide (row k < row k')) k = sortedFrom (before row) k :=
  sortedFrom_of_positions (stableSort_by_key row _ (List.pairwise_lt_finRange 10000)) k

/-- Neighbour number `c` of a row: the position the stable sort puts at `c`. -/
def nearest (row : ℕ → EReal) (c : Fin 50) : Fin 10000 := sortedFrom (before row) (c.castLE (by omega))

/-- A row that the kernel finished, if it has at least fifty candidates, not too many, below the constant that stands
    for none: its neighbours are the first fifty columns of the row's stable sort. -/
theorem RowOk.columns {row : ℕ → Ideal .f32} {t : Ideal .f32} {X Y Z : ℕ → Ideal .f32} {r : ℕ} {nb : ℕ → BitVec 32} {val : ℕ → Ideal .f32}
    (h : RowOk (F := Ideal) row t X Y Z r nb val) (h50 : 50 ≤ (cands (F := Ideal) row t 10000).length)
    (hcap : (cands (F := Ideal) row t 10000).length ≤ 2048) (ht : (t : EReal) < big (F := Ideal)) (c : Fin 50) :
    nb c = BitVec.ofNat 32 (nearest row c).val := by
  obtain ⟨V, ci, hV, hpad, hnb⟩ := h.2 hcap
  generalize hL : cands (F := Ideal) row t 10000 = L at *
  have hmem : ∀ j, j ∈ L ↔ j < 10000 ∧ (row j : EReal) ≤ t := fun j => by
    rw [← hL]; unfold cands; rw [List.mem_filter, List.mem_range, le_iff]
  have hsort : L.Pairwise (· < ·) := by rw [← hL]; exact (List.pairwise_lt_range (n := 10000)).filter _
  have hVt : ∀ p (hp : p < L.length), (V p : EReal) ≤ t := fun p hp => by
    rw [(hV p hp).1]; exact ((hmem _).1 (List.getElem_mem hp)).2
  obtain ⟨hd, hlen⟩ := drawn_rounds (V := V) (n := L.length) (T := L.length / 16 + 1) h50 (by omega)
    (fun p hp => lt_of_le_of_lt (hVt p hp) ht) hpad
  have hnb' := hnb (hd.length_le.trans hcap)
  generalize hO : (rounds (F := Ideal) (L.length / 16 + 1) (V, []) 50) = s at *
  have hin : ∀ c : Fin 50, s.2[c.val]'(by omega) < L.length := fun c => hd.lt _ (List.getElem_mem _)
  have hcol : ∀ c : Fin 50, L[s.2[c.val]'(by omega)]'(hin c) < 10000 := fun c => ((hmem _).1 (List.getElem_mem _)).1
  let σ : Fin 50 → Fin 10000 := fun c => ⟨L[s.2[c.val]'(by omega)]'(hin c), hcol c⟩
  have hrow : ∀ c, row (σ c) = V (s.2[c.val]'(by omega)) := fun c => ((hV _ (hin c)).1).symm
  have hlt : ∀ a b (ha : a < L.length) (hb : b < L.length), L[a] < L[b] ↔ a < b := fun a b ha hb =>
    ⟨fun hh => by
      by_contra hc
      rcases Nat.lt_or_eq_of_le (not_lt.1 hc) with h' | h'
      · exact absurd (List.pairwise_iff_getElem.1 hsort b a hb ha h') (by omega)
      · subst h'; omega, fun h' => List.pairwise_iff_getElem.1 hsort a b ha hb h'⟩
  have hσ : nearest row c = σ c := by
    refine (before_total row).sortedFrom_eq_of_prefix (by omega) σ (fun a b hab => ?_) (fun i j hij => ?_) (fun i p hp => ?_) c
    · have e : L[s.2[a.val]'(by omega)]'(hin a) = L[s.2[b.val]'(by omega)]'(hin b) := congrArg Fin.val hab
      have e2 := (List.Nodup.getElem_inj_iff (hsort.imp fun h => ne_of_lt h)).1 e
      exact Fin.ext ((List.Nodup.getElem_inj_iff hd.nodup).1 e2)
    · have hb := List.pairwise_iff_getElem.1 hd.ordered i.val j.val (by omega) (by omega) hij
      unfold before
      rw [hrow, hrow]
      rcases hb with hb | ⟨hb, hb'⟩
      · simp [not_lt.2 hb.le, hb.ne']
      · have : ¬ σ j < σ i := fun hh => by
          have := (hlt _ _ (hin j) (hin i)).1 hh
          omega
        simp [hb, this]
    · unfold before
      rw [hrow]
      by_cases hpL : p.val ∈ L
      · obtain ⟨q, hq, e⟩ := List.getElem_of_mem hpL
        have hrp : row p.val = V q := by rw [(hV q hq).1, e]
        rw [hrp]
        by_cases hqs : q ∈ s.2
        · obtain ⟨k, hk, ek⟩ := List.getElem_of_mem hqs
          have hk50 : 50 ≤ k := by
            by_contra hc
            refine hp ⟨k, by omega⟩ (Fin.ext ?_)
            show L[s.2[k]'hk]'_ = p.val
            simp only [ek, e]
          have hb := List.pairwise_iff_getElem.1 hd.ordered i.val k (by omega) hk (by omega)
          rw [ek] at hb
          rcases hb with hb | ⟨hb, hb'⟩
          · simp [not_lt.2 hb.le, hb.ne']
          · have : ¬ p < σ i := fun hh => by
              have h2 : L[q] < L[s.2[i.val]'(by omega)]'(hin i) := by rw [e]; exact hh
              have := (hlt _ _ hq (hin i)).1 h2
              omega
            simp [hb, this]
        · have hb := hd.below (s.2[i.val]'(by omega)) (List.getElem_mem _) q (by omega) hqs
          simp [not_lt.2 hb.le, hb.ne']
      · have h2 : (t : EReal) < row p.val := not_le.1 fun hh => hpL ((hmem _).2 ⟨p.isLt, hh⟩)
        have hb := lt_of_le_of_lt (hVt _ (hin i)) h2
        simp [not_lt.2 hb.le, hb.ne']
  rw [hσ, hnb' c.val (by omega) (by omega), (hV _ (hin c)).2]

end Cert.Proof.Knn

end

end
-- ==== Proof.Layout.lean ====
module

public import proofs.«01_k».proof.Proof.Select
public import Idealize.ShloMosaic.Lib.Pipeline.Value
public import Idealize.ShloMosaic.Lib.ValueIdx
public import Idealize.ShloMosaic.Lib.ValueIdxRank1
public import Idealize.ShloMosaic.Lib.Pointwise

@[expose] public section
noncomputable section

namespace Cert.Proof.Knn

open Idealize.ShloMosaic

/-! ## The host's rearrangements, read at an index -/

section Words
variable {α : Type}

/-- A matrix as a vector: entry `n * r + c` of the vector is entry `(r, c)`. -/
theorem cast_matrix_vector {a n N : ℕ} (x : (⟨2, ![a, n]⟩ : Shape).Idx → α) (h : (⟨2, ![a, n]⟩ : Shape).ShapeCasts ⟨1, ![N]⟩)
    (r : Fin a) (c : Fin n) (e : n * r.val + c.val < N) : shapeCast ⟨1, ![N]⟩ x h (ix1 ⟨n * r.val + c.val, e⟩) = x (ix2 r c) := by
  refine shapeCast_apply x h _ _ ?_
  rw [Shape.rowMajor_val_two, Shape.rowMajor_val_one]
  show r.val * n + c.val = n * r.val + c.val
  rw [Nat.mul_comm]

/-- A vector as a matrix. -/
theorem cast_vector_matrix {a n N : ℕ} (x : (⟨1, ![N]⟩ : Shape).Idx → α) (h : (⟨1, ![N]⟩ : Shape).ShapeCasts ⟨2, ![a, n]⟩)
    (r : Fin a) (c : Fin n) (e : n * r.val + c.val < N) : shapeCast ⟨2, ![a, n]⟩ x h (ix2 r c) = x (ix1 ⟨n * r.val + c.val, e⟩) := by
  refine shapeCast_apply x h _ _ ?_
  rw [Shape.rowMajor_val_two, Shape.rowMajor_val_one]
  show n * r.val + c.val = r.val * n + c.val
  rw [Nat.mul_comm]

/-- Two vectors as the rows of a matrix. -/
theorem rows_two {n : ℕ} (hn : n ≠ 1) (x y : (⟨1, ![n]⟩ : Shape).Idx → α) (hb : (⟨1, ![n]⟩ : Shape).BroadcastsInDim ⟨2, ![1, n]⟩ ![1])
    (h : Shape.Concatenates [(⟨2, ![1, n]⟩ : Shape), ⟨2, ![1, n]⟩] (⟨2, ![2, n]⟩ : Shape) 0) (r : Fin 2) (c : Fin n) :
    concatenate ⟨2, ![2, n]⟩ 0 [⟨⟨2, ![1, n]⟩, broadcastInDim ⟨2, ![1, n]⟩ ![1] hb x⟩, ⟨⟨2, ![1, n]⟩, broadcastInDim ⟨2, ![1, n]⟩ ![1] hb y⟩] h (ix2 r c)
      = if r = 0 then x (ix1 c) else y (ix1 c) := by
  have hbc : ∀ z : (⟨1, ![n]⟩ : Shape).Idx → α, broadcastInDim ⟨2, ![1, n]⟩ ![1] hb z (ix2 (0 : Fin 1) c) = z (ix1 c) := fun z => by
    refine broadcastInDim_apply _ _ _ _ _ fun a => ?_
    match a with
    | ⟨0, _⟩ => exact (if_neg hn).symm
  match r with
  | ⟨0, _⟩ =>
    refine Eq.trans ?_ (if_pos rfl).symm
    rw [concatenate_pair_apply_left 0 _ _ h _ rfl (ix2 (0 : Fin 1) c) fun b => by match b with | ⟨0, _⟩ => rfl | ⟨1, _⟩ => rfl]
    exact hbc x
  | ⟨1, _⟩ =>
    refine Eq.trans ?_ (if_neg (by simp)).symm
    rw [concatenate_pair_apply_right 0 _ _ h _ rfl rfl (ix2 (0 : Fin 1) c)
      (fun b hb => by match b with | ⟨0, _⟩ => exact absurd rfl hb | ⟨1, _⟩ => rfl) rfl]
    exact hbc y

/-- Two vectors one after the other. -/
theorem joined {n N : ℕ} (x y : (⟨1, ![n]⟩ : Shape).Idx → α) (h : Shape.Concatenates [(⟨1, ![n]⟩ : Shape), ⟨1, ![n]⟩] (⟨1, ![N]⟩ : Shape) 0)
    (hN : N = n + n) (c : Fin N) :
    concatenate ⟨1, ![N]⟩ 0 [⟨⟨1, ![n]⟩, x⟩, ⟨⟨1, ![n]⟩, y⟩] h (ix1 c)
      = if hc : c.val < n then x (ix1 ⟨c.val, hc⟩) else y (ix1 ⟨c.val - n, by omega⟩) := by
  by_cases hc : c.val < n
  · rw [dif_pos hc]
    exact concatenate_pair_apply_left 0 _ _ h _ rfl (ix1 ⟨c.val, hc⟩) fun b => by match b with | ⟨0, _⟩ => rfl
  · rw [dif_neg hc]
    refine concatenate_pair_apply_right 0 _ _ h _ rfl rfl (ix1 ⟨c.val - n, by omega⟩)
      (fun b hb => by match b with | ⟨0, _⟩ => exact absurd rfl hb) ?_
    show c.val - n + n = c.val
    omega

/-- Two matrices side by side. -/
theorem beside {a n N : ℕ} (x y : (⟨2, ![a, n]⟩ : Shape).Idx → α)
    (h : Shape.Concatenates [(⟨2, ![a, n]⟩ : Shape), ⟨2, ![a, n]⟩] (⟨2, ![a, N]⟩ : Shape) 1) (hN : N = n + n) (r : Fin a) (c : Fin N) :
    concatenate ⟨2, ![a, N]⟩ 1 [⟨⟨2, ![a, n]⟩, x⟩, ⟨⟨2, ![a, n]⟩, y⟩] h (ix2 r c)
      = if hc : c.val < n then x (ix2 r ⟨c.val, hc⟩) else y (ix2 r ⟨c.val - n, by omega⟩) := by
  by_cases hc : c.val < n
  · rw [dif_pos hc]
    exact concatenate_pair_apply_left 1 _ _ h _ rfl (ix2 r ⟨c.val, hc⟩) fun b => by match b with | ⟨0, _⟩ => rfl | ⟨1, _⟩ => rfl
  · rw [dif_neg hc]
    refine concatenate_pair_apply_right 1 _ _ h _ rfl rfl (ix2 r ⟨c.val - n, by omega⟩)
      (fun b hb => by match b with | ⟨0, _⟩ => rfl | ⟨1, _⟩ => exact absurd rfl hb) ?_
    show c.val - n + n = c.val
    omega

/-- The edges and their reversals: the two ways of laying out the four parts agree. -/
theorem edges_eq {n N : ℕ} (hn : n ≠ 1) (hN : N = n + n) (hN1 : N ≠ 1) (x y : (⟨1, ![n]⟩ : Shape).Idx → α)
    (h1 : Shape.Concatenates [(⟨1, ![n]⟩ : Shape), ⟨1, ![n]⟩] (⟨1, ![N]⟩ : Shape) 0)
    (hb : (⟨1, ![N]⟩ : Shape).BroadcastsInDim ⟨2, ![1, N]⟩ ![1])
    (h2 : Shape.Concatenates [(⟨2, ![1, N]⟩ : Shape), ⟨2, ![1, N]⟩] (⟨2, ![2, N]⟩ : Shape) 0)
    (hb' : (⟨1, ![n]⟩ : Shape).BroadcastsInDim ⟨2, ![1, n]⟩ ![1])
    (h3 : Shape.Concatenates [(⟨2, ![1, n]⟩ : Shape), ⟨2, ![1, n]⟩] (⟨2, ![2, n]⟩ : Shape) 0)
    (h4 : Shape.Concatenates [(⟨2, ![2, n]⟩ : Shape), ⟨2, ![2, n]⟩] (⟨2, ![2, N]⟩ : Shape) 1) :
    concatenate ⟨2, ![2, N]⟩ 0 [⟨⟨2, ![1, N]⟩, broadcastInDim ⟨2, ![1, N]⟩ ![1] hb (concatenate ⟨1, ![N]⟩ 0 [⟨⟨1, ![n]⟩, x⟩, ⟨⟨1, ![n]⟩, y⟩] h1)⟩,
        ⟨⟨2, ![1, N]⟩, broadcastInDim ⟨2, ![1, N]⟩ ![1] hb (concatenate ⟨1, ![N]⟩ 0 [⟨⟨1, ![n]⟩, y⟩, ⟨⟨1, ![n]⟩, x⟩] h1)⟩] h2
      = concatenate ⟨2, ![2, N]⟩ 1
        [⟨⟨2, ![2, n]⟩, concatenate ⟨2, ![2, n]⟩ 0 [⟨⟨2, ![1, n]⟩, broadcastInDim ⟨2, ![1, n]⟩ ![1] hb' x⟩, ⟨⟨2, ![1, n]⟩, broadcastInDim ⟨2, ![1, n]⟩ ![1] hb' y⟩] h3⟩,
         ⟨⟨2, ![2, n]⟩, Host.reverse [0] (concatenate ⟨2, ![2, n]⟩ 0 [⟨⟨2, ![1, n]⟩, broadcastInDim ⟨2, ![1, n]⟩ ![1] hb' x⟩,
            ⟨⟨2, ![1, n]⟩, broadcastInDim ⟨2, ![1, n]⟩ ![1] hb' y⟩] h3)⟩] h4 := by
  have hrev : ∀ (z : (⟨2, ![2, n]⟩ : Shape).Idx → α) (r : Fin 2) (c : Fin n), Host.reverse [0] z (ix2 r c) = z (ix2 r.rev c) := fun z r c => by
    unfold Host.reverse
    congr 1
    funext a
    match a with
    | ⟨0, _⟩ => exact if_pos (List.mem_singleton.2 rfl)
    | ⟨1, _⟩ => exact if_neg (by simp)
  funext j
  obtain ⟨r, c, rfl⟩ : ∃ r : Fin 2, ∃ c : Fin N, j = ix2 r c := ⟨j 0, j 1, eq_ix2 j⟩
  rw [rows_two hN1, joined _ _ _ hN, joined _ _ _ hN, beside _ _ _ hN]
  by_cases hc : c.val < n
  · simp only [dif_pos hc]
    rw [rows_two hn]
  · simp only [dif_neg hc]
    rw [hrev, rows_two hn]
    match r with
    | ⟨0, _⟩ => rfl
    | ⟨1, _⟩ => rfl

end Words

end Cert.Proof.Knn

end

end
-- ==== Proof.Plain.lean ====
module

public import proofs.«01_k».proof.Proof.Layout
public import proofs.«01_k».proof.Proof.Gen.ReferenceIdeal
public import proofs.«01_k».proof.Proof.Gen.Pre_enough_candidates
public import Idealize.ShloMosaic.Lib.Routing.Ops
public import Idealize.ShloMosaic.Lib.IndicatorCount

@[expose] public section
noncomputable section

namespace Cert.Proof.Knn

open Idealize.ShloMosaic

/-! ## The reference read at an index, and the precondition read per row -/

/-- Row `r` of a distance matrix, as a function of the position. -/
def rowOf (D : FVec Ideal (⟨2, ![10000, 10000]⟩ : Shape) .f32) (r : Fin 10000) : ℕ → EReal := fun p => D (ix2 r ⟨p % 10000, Nat.mod_lt _ (by norm_num)⟩)

theorem rowOf_at (D : FVec Ideal (⟨2, ![10000, 10000]⟩ : Shape) .f32) (r p : Fin 10000) : rowOf D r p.val = D (ix2 r p) :=
  congrArg (fun q => D (ix2 r q)) (Fin.ext (Nat.mod_eq_of_lt p.isLt))

/-- The neighbour words: column `c` of row `r` is the `c`-th nearest position. -/
def nbrs (D : FVec Ideal (⟨2, ![10000, 10000]⟩ : Shape) .f32) : IVec (⟨2, ![10000, 50]⟩ : Shape) 32 :=
  fun j => BitVec.ofNat 32 (nearest (rowOf D (j 0)) (j 1)).val

/-- One number is greater than another, negated, exactly when it is less. -/
theorem neg_greater (a b : Ideal .f32) :
    (FloatOps.cmpfTotal .gt (FloatOps.negf a) (FloatOps.negf b) == 1#1) = decide ((a : EReal) < b) := by
  rw [Ideal.cmpfTotal_def]
  show (BitVec.ofBool (decide ((-b : EReal) < -a)) == 1#1) = _
  by_cases h : (a : EReal) < b
  · rw [decide_eq_true (EReal.neg_lt_neg_iff.mpr h), decide_eq_true h]; rfl
  · rw [decide_eq_false fun h' => h (EReal.neg_lt_neg_iff.mp h'), decide_eq_false h]; rfl

theorem along_row {a n : ℕ} (r : Fin a) (k' k : Fin n) : (ix2 r k').along 1 k = ix2 r k := by
  funext b
  match b with
  | ⟨0, _⟩ => exact Function.update_of_ne (fun h => absurd (congrArg Fin.val h) Nat.zero_ne_one) _ _
  | ⟨1, _⟩ => exact Function.update_self _ _ _

/-- The positions of the stable descending sort of the negated distances are the nearest positions. -/
theorem topK_nbrs (D : FVec Ideal (⟨2, ![10000, 10000]⟩ : Shape) .f32) (h : (⟨2, ![10000, 10000]⟩ : Shape).Slices 0 (⟨2, ![10000, 50]⟩ : Shape)) :
    (Host.topK (⟨2, ![10000, 50]⟩ : Shape) 1 (FloatOps.cmpfTotal .gt) (Host.negf D) h).2 = nbrs D := by
  funext j
  obtain ⟨r, c, rfl⟩ : ∃ r : Fin 10000, ∃ c : Fin 50, j = ix2 r c := ⟨j 0, j 1, eq_ix2 j⟩
  let c' : Fin 10000 := c.castLE (by norm_num)
  have hs : (fun k k' : Fin 10000 => FloatOps.cmpfTotal .gt (Host.negf D ((ix2 r c').along 1 k)) (Host.negf D ((ix2 r c').along 1 k')) == 1#1)
      = fun k k' : Fin 10000 => decide (rowOf D r k.val < rowOf D r k'.val) := by
    funext k k'
    rw [along_row, along_row, rowOf_at, rowOf_at]
    exact neg_greater _ _
  have hj : (fun a => ⟨0 + (ix2 r c (Fin.cast h.1.symm a)).val, Nat.lt_of_lt_of_le (Nat.add_lt_add_left (ix2 r c (Fin.cast h.1.symm a)).isLt _) (h.2 a)⟩
      : (⟨2, ![10000, 10000]⟩ : Shape).Idx) = ix2 r c' := by
    funext a
    match a with
    | ⟨0, _⟩ => exact Fin.ext (Nat.zero_add _)
    | ⟨1, _⟩ => exact Fin.ext (Nat.zero_add _)
  unfold Host.topK Host.sort2 extractStridedSlice
  dsimp only
  rw [dif_pos Nat.one_lt_two]
  refine (congrArg _ hj).trans ?_
  dsimp only
  rw [dif_pos Nat.one_lt_two]
  refine (congrArg (fun i : (⟨2, ![10000, 10000]⟩ : Shape).Idx => BitVec.ofNat 32 (i 1).val) (along_row r c' (sortedFrom (fun k k' : Fin 10000 =>
    FloatOps.cmpfTotal .gt (Host.negf D ((ix2 r c').along 1 k)) (Host.negf D ((ix2 r c').along 1 k')) == 1#1) c'))).trans ?_
  show BitVec.ofNat 32 (sortedFrom (fun k k' : Fin 10000 => FloatOps.cmpfTotal .gt (Host.negf D ((ix2 r c').along 1 k)) (Host.negf D ((ix2 r c').along 1 k')) == 1#1) c').val = _
  rw [hs, sortedFrom_by_key]
  rfl

/-! ### The precondition -/

/-- How many of a row's distances are at or below its threshold. -/
theorem count_eq (row : ℕ → Ideal .f32) (t : Ideal .f32) (n : ℕ) :
    (Finset.univ.filter fun k : Fin n => le (row k.val) t = true).card = (cands row t n).length := by
  rw [Finset.card_filter, ← Finset.sum_range fun k => if le (row k) t = true then 1 else 0]
  unfold cands
  induction n with
  | zero => rfl
  | succ n ih =>
    rw [Finset.sum_range_succ, ih, List.range_succ, List.filter_append, List.length_append]
    cases h : le (row n) t <;> simp [h]

/-- The sum along a row of one-bit words is the number of ones. -/
theorem count_word {a n : ℕ} (M : IVec (⟨2, ![a, n]⟩ : Shape) 1) (hw : 1 < 32) (hr : (⟨2, ![a, n]⟩ : Shape).ReducesTo [1] ⟨1, ![a]⟩)
    (hu : 0 < (⟨0, ![]⟩ : Shape).numel) (r : Fin a) :
    Host.reduce IntOp.addi (extui 32 M hw) (constantI ⟨0, ![]⟩ 32 0#32) hr hu (ix1 r)
      = BitVec.ofNat 32 (Finset.univ.filter fun k : Fin n => M (ix2 r k) = 1#1).card := by
  rw [Host.reduce_eq_fold, Shape.ReducesTo.fold_fiber_r2_a1]
  exact IndicatorCount.fold_addi_setWidth_eq_card (fun k : Fin n => M (ix2 r k)) Finset.univ

theorem and_one {a b : BitVec 1} (h : IntOp.andi a b = 1#1) : a = 1#1 ∧ b = 1#1 := by
  revert a b
  decide

theorem of_ofBool {b : Bool} (h : BitVec.ofBool b = 1#1) : b = true := by
  revert b
  decide

theorem le_word {n : ℕ} (x : IVec (⟨1, ![n]⟩ : Shape) 32) (w : BitVec 32) (hb : (⟨0, ![]⟩ : Shape).BroadcastsInDim ⟨1, ![n]⟩ ![]) (r : Fin n)
    (h : cmpi .sle x (broadcastInDim ⟨1, ![n]⟩ ![] hb (constantI ⟨0, ![]⟩ 32 w)) (ix1 r) = 1#1) : (x (ix1 r)).sle w = true := of_ofBool h
theorem lt_num {n : ℕ} (x : FVec Ideal (⟨1, ![n]⟩ : Shape) .f32) (w : BitVec 32) (hb : (⟨0, ![]⟩ : Shape).BroadcastsInDim ⟨1, ![n]⟩ ![]) (r : Fin n)
    (h : cmpf .olt x (broadcastInDim ⟨1, ![n]⟩ ![] hb (constant ⟨0, ![]⟩ .f32 w)) (ix1 r) = 1#1) :
    (x (ix1 r) : EReal) < Scalar.ofBits (F := Ideal) .f32 w := of_decide_eq_true (of_ofBool h)

/-! ### The squared distances -/

/-- The squared distance between two points, its three terms added in order. -/
def sq (P : FVec Ideal (⟨2, ![10000, 3]⟩ : Shape) .f32) (r j : Fin 10000) : EReal :=
  (P (ix2 j (0 : Fin 3)) - P (ix2 r (0 : Fin 3))) * (P (ix2 j (0 : Fin 3)) - P (ix2 r (0 : Fin 3)))
    + (P (ix2 j (1 : Fin 3)) - P (ix2 r (1 : Fin 3))) * (P (ix2 j (1 : Fin 3)) - P (ix2 r (1 : Fin 3)))
    + (P (ix2 j (2 : Fin 3)) - P (ix2 r (2 : Fin 3))) * (P (ix2 j (2 : Fin 3)) - P (ix2 r (2 : Fin 3)))

open Cert.ReferenceIdeal Cert.ReferenceIdeal.Gen in
/-- The rows of the points that a list of positions names, negative positions counted from the end. -/
def pick (P : FVec Ideal S10000x3 .f32) (w : IVec S1000000 32) : FVec Ideal S1000000x3 .f32 :=
  Host.gather gather_S10000x3_S1000000x1_S1000000x3_1_0_n_n_0_1_13 P (broadcastInDim S1000000x1 ![0] bcast_S1000000_S1000000x1_0
    (select (cmpi .slt w (broadcastInDim S1000000 ![] bcast_S_S1000000 (constantI S_ 32 0#32)))
      (addi w (broadcastInDim S1000000 ![] bcast_S_S1000000 (constantI S_ 32 10000#32))) w))

theorem pick_at (P : FVec Ideal (⟨2, ![10000, 3]⟩ : Shape) .f32) (w : IVec (⟨1, ![1000000]⟩ : Shape) 32) (e : Fin 1000000) (j : Fin 10000)
    (hw : w (ix1 e) = BitVec.ofNat 32 j.val) (a : Fin 3) : pick P w (ix2 e a) = P (ix2 j a) := by
  refine Routing.gather_row _ rfl rfl rfl rfl rfl P _ e a j ?_ (by norm_num)
  refine (Routing.bcCol _ _ e).trans ?_
  have hint : (BitVec.ofNat 32 j.val).toInt = (j.val : ℤ) := by
    have := j.isLt
    rw [BitVec.toInt_eq_toNat_of_lt (by rw [BitVec.toNat_ofNat]; omega), BitVec.toNat_ofNat, Nat.mod_eq_of_lt (by omega)]
  have hs : (w (ix1 e)).slt 0#32 = false := by
    rw [hw]
    refine Bool.eq_false_iff.mpr fun h => ?_
    have := BitVec.slt_iff_toInt_lt.mp h
    rw [hint, show (0#32).toInt = 0 by decide] at this
    omega
  have hc : (if BitVec.ofBool ((w (ix1 e)).slt 0#32) = 1#1 then IntOp.addi (w (ix1 e)) 10000#32 else w (ix1 e)) = w (ix1 e) := by rw [hs]; exact if_neg (by decide)
  exact Eq.trans hc hw

open Cert.ReferenceIdeal Cert.ReferenceIdeal.Gen in
/-- Each edge's squared distance. -/
def squares (P : FVec Ideal S10000x3 .f32) (src dst : IVec S1000000 32) : FVec Ideal S1000000 .f32 :=
  Host.reduceAdd (mulf (subf (pick P src) (pick P dst)) (subf (pick P src) (pick P dst))) (constant S_ .f32 0x00000000#32)
    reducesTo_S1000000x3_S1000000_d1 h_S_

theorem squares_at (P : FVec Ideal (⟨2, ![10000, 3]⟩ : Shape) .f32) (src dst : IVec (⟨1, ![1000000]⟩ : Shape) 32) (e : Fin 1000000) (r j : Fin 10000)
    (hs : src (ix1 e) = BitVec.ofNat 32 j.val) (hd : dst (ix1 e) = BitVec.ofNat 32 r.val) : squares P src dst (ix1 e) = sq P r j := by
  unfold squares
  rw [Host.reduceAdd_apply, Ideal.hostReduceAdd_def, Ideal.hostReduceAdd_r2_a1, Fin.sum_univ_three]
  have h0 : ∀ z, constant (F := Ideal) (⟨0, ![]⟩ : Shape) .f32 0x00000000#32 z = (0 : EReal) := fun z => Ideal.ofBits_zero_f32
  refine (congrArg₂ (· + ·) (h0 _) rfl).trans ((zero_add _).trans ?_)
  have hk : ∀ a : Fin 3, mulf (subf (pick P src) (pick P dst)) (subf (pick P src) (pick P dst)) (ix2 e a)
      = ((P (ix2 j a) - P (ix2 r a)) * (P (ix2 j a) - P (ix2 r a)) : EReal) := fun a => by
    have h1 := pick_at P src e j hs a
    have h2 := pick_at P dst e r hd a
    show ((pick P src (ix2 e a) - pick P dst (ix2 e a)) * (pick P src (ix2 e a) - pick P dst (ix2 e a)) : EReal) = _
    rw [h1, h2]
  exact congrArg₂ (· + ·) (congrArg₂ (· + ·) (hk 0) (hk 1)) (hk 2)

end Cert.Proof.Knn

end

end
-- ==== Proof.Rounds.lean ====
/-
  Rounds: fifty rounds of taking the least of some numbers and striking it out, and how many numbers are then at or below the last one taken.
-/
module

public import Idealize.ShloMosaic.PureOps.Ideal
public import Idealize.ShloMosaic.PureOps.Ideal.Laws

@[expose] public section
noncomputable section

namespace Cert.Proof.Knn

open Idealize.ShloMosaic

/-! ## The rounds that find a row's threshold -/

/-- The number that stands for a struck one, and fills the last group. -/
def filler : EReal := Scalar.ofBits (F := Ideal) .f32 0x7EE1B1E6#32

/-- The least of finitely many numbers. -/
def leastOf {n : ℕ} (g : Fin n → EReal) : EReal := Finset.univ.inf g

theorem leastOf_le {n : ℕ} (g : Fin n → EReal) (k : Fin n) : leastOf g ≤ g k := Finset.inf_le (Finset.mem_univ k)

theorem leastOf_attained {n : ℕ} (g : Fin (n + 1) → EReal) : ∃ k, g k = leastOf g := by
  obtain ⟨k, -, h⟩ := Finset.exists_mem_eq_inf Finset.univ Finset.univ_nonempty g
  exact ⟨k, h.symm⟩

theorem top_word : Ideal.ofBits .f32 0x7F800000#32 = ⊤ := by simp [Ideal.ofBits, Ideal.ieee]

/-- A fold of `min` from infinity is the least. -/
theorem fold_least {n : ℕ} (g : Fin n → EReal) : Finset.univ.fold min (Ideal.ofBits .f32 0x7F800000#32) g = leastOf g := by
  rw [top_word]
  rfl

/-- One round: the least number struck out. -/
def strike {n : ℕ} (g : Fin n → EReal) : Fin n → EReal := fun k => if g k = leastOf g then filler else g k

/-- The number taken after `m` rounds is at least that many of the numbers, and one more. -/
theorem enough {n : ℕ} (m : ℕ) : ∀ g : Fin (n + 1) → EReal, leastOf (strike^[m] g) < filler →
    m + 1 ≤ (Finset.univ.filter fun k => g k ≤ leastOf (strike^[m] g)).card := by
  induction m with
  | zero =>
    intro g _
    obtain ⟨k, hk⟩ := leastOf_attained g
    exact Finset.card_pos.mpr ⟨k, Finset.mem_filter.mpr ⟨Finset.mem_univ k, hk.le⟩⟩
  | succ m ih =>
    intro g h
    have h' : leastOf (strike^[m] (strike g)) < filler := h
    have hm := ih (strike g) h'
    show m + 1 + 1 ≤ (Finset.univ.filter fun k => g k ≤ leastOf (strike^[m] (strike g))).card
    generalize leastOf (strike^[m] (strike g)) = t at h' hm ⊢
    obtain ⟨k, hk⟩ := leastOf_attained g
    have hstruck : ∀ i, strike g i ≤ t → g i = strike g i ∧ g i ≠ g k := fun i hi => by
      unfold strike at hi ⊢
      split at hi
      · exact absurd hi (not_le.mpr h')
      · rename_i hne
        rw [if_neg hne, hk]
        exact ⟨rfl, hne⟩
    have hsub : insert k (Finset.univ.filter fun i => strike g i ≤ t) ⊆ Finset.univ.filter fun i => g i ≤ t := by
      intro i hi
      refine Finset.mem_filter.mpr ⟨Finset.mem_univ i, ?_⟩
      rcases Finset.mem_insert.mp hi with rfl | hi
      · obtain ⟨j, hj⟩ := Finset.card_pos.mp (Nat.lt_of_lt_of_le (Nat.succ_pos m) hm)
        have hj := (Finset.mem_filter.mp hj).2
        rw [hk]
        exact (leastOf_le g j).trans ((hstruck j hj).1.le.trans hj)
      · have hi := (Finset.mem_filter.mp hi).2
        exact (hstruck i hi).1.le.trans hi
    have hnot : k ∉ Finset.univ.filter fun i => strike g i ≤ t := fun hi => (hstruck k (Finset.mem_filter.mp hi).2).2 rfl
    have := Finset.card_le_card hsub
    rw [Finset.card_insert_of_notMem hnot] at this
    omega

/-- As many rounds as there are numbers below the filling leave none below it. -/
theorem spent {n : ℕ} (m : ℕ) : ∀ (g : Fin n → EReal) (S : Finset EReal), S.card ≤ m → (∀ k, g k ∈ S ∨ filler ≤ g k) →
    filler ≤ leastOf (strike^[m] g) := by
  induction m with
  | zero =>
    intro g S hS h
    rw [Finset.card_eq_zero.mp (Nat.le_zero.mp hS)] at h
    exact Finset.le_inf fun k _ => (h k).resolve_left (Finset.notMem_empty _)
  | succ m ih =>
    intro g S hS h
    show filler ≤ leastOf (strike^[m] (strike g))
    by_cases hm : leastOf g ∈ S
    · refine ih (strike g) (S.erase (leastOf g)) (by rw [Finset.card_erase_of_mem hm]; omega) fun k => ?_
      unfold strike
      split
      · exact .inr le_rfl
      · rename_i hne
        exact (h k).imp (fun hk => Finset.mem_erase.mpr ⟨hne, hk⟩) id
    · refine ih (strike g) ∅ (Nat.zero_le _) fun k => .inr ?_
      unfold strike
      split
      · exact le_rfl
      · obtain ⟨j, -, hj⟩ := Finset.exists_mem_eq_inf Finset.univ ⟨k, Finset.mem_univ k⟩ g
        have hj : g j = leastOf g := hj.symm
        exact ((h j).resolve_left (by rw [hj]; exact hm)).trans (hj.le.trans (leastOf_le g k))

/-- A row's distances in seventy-nine groups of 128, the last one filled: the least of group `k`. -/
def group (row : Fin 10000 → EReal) (k : Fin 79) : EReal :=
  leastOf fun q : Fin 128 => if h : 128 * k.val + q.val < 10000 then row ⟨128 * k.val + q.val, h⟩ else filler

/-- A row's threshold: the fiftieth least of the groups' least distances, equal ones taken together. -/
def threshold (row : Fin 10000 → EReal) : EReal := leastOf (strike^[49] (group row))

/-- Fifty distances are at or below a threshold that is less than the filling. -/
theorem threshold_enough (row : Fin 10000 → EReal) (h : threshold row < filler) :
    50 ≤ (Finset.univ.filter fun p => row p ≤ threshold row).card := by
  refine (enough (n := 78) 49 (group row) h).trans ?_
  have hp : ∀ k : Fin 79, group row k ≤ threshold row → ∃ p : Fin 10000, row p ≤ threshold row ∧ p.val / 128 = k.val := fun k hk => by
    obtain ⟨q, hq⟩ := leastOf_attained (n := 127) fun q : Fin 128 => if h : 128 * k.val + q.val < 10000 then row ⟨128 * k.val + q.val, h⟩ else filler
    have hq' : (if h : 128 * k.val + q.val < 10000 then row ⟨128 * k.val + q.val, h⟩ else filler) ≤ threshold row := hq.le.trans hk
    split at hq'
    · rename_i hlt
      exact ⟨⟨_, hlt⟩, hq', by have := q.isLt; show (128 * k.val + q.val) / 128 = k.val; omega⟩
    · exact absurd hq' (not_le.mpr h)
  choose p hp using hp
  refine Finset.card_le_card_of_injOn (fun k => if h : group row k ≤ threshold row then p k h else 0) (fun k hk => ?_) fun k hk k' hk' e => ?_
  · have hk : group row k ≤ threshold row := (Finset.mem_filter.mp hk).2
    refine Finset.mem_filter.mpr ⟨Finset.mem_univ _, ?_⟩
    dsimp only
    rw [dif_pos hk]
    exact (hp k hk).1
  · have hk : group row k ≤ threshold row := (Finset.mem_filter.mp hk).2
    have hk' : group row k' ≤ threshold row := (Finset.mem_filter.mp hk').2
    dsimp only at e
    rw [dif_pos hk, dif_pos hk'] at e
    exact Fin.ext ((hp k hk).2.symm.trans ((congrArg (fun i : Fin 10000 => i.val / 128) e).trans (hp k' hk').2))

/-- A row of fewer than fifty distinct distances below the filling has the filling, or more, for its threshold. -/
theorem threshold_few (row : Fin 10000 → EReal) (S : Finset EReal) (hS : S.card ≤ 49) (h : ∀ p, row p ∈ S ∨ filler ≤ row p) :
    filler ≤ threshold row := by
  refine spent 49 (group row) S hS fun k => ?_
  obtain ⟨q, hq⟩ := leastOf_attained (n := 127) fun q : Fin 128 => if h : 128 * k.val + q.val < 10000 then row ⟨128 * k.val + q.val, h⟩ else filler
  have hq : (if h : 128 * k.val + q.val < 10000 then row ⟨128 * k.val + q.val, h⟩ else filler) = group row k := hq
  rw [← hq]
  split
  · exact h _
  · exact .inr le_rfl

end Cert.Proof.Knn

end

end
-- ==== Proof.Groups.lean ====
/-
  Groups: the groups' minima and the striking rounds as the kernel and the host write them, read at a row.
-/
module

public import proofs.«01_k».proof.Proof.Rounds
public import proofs.«01_k».proof.Proof.RegionPairs
public import proofs.«01_k».proof.Proof.Gen.Pre_enough_candidates
public import Idealize.ShloMosaic.Lib.KernelVsHost
public import Idealize.ShloMosaic.Lib.Pointwise
public import Idealize.ShloMosaic.Lib.Routing.Ops

@[expose] public section
noncomputable section

set_option maxRecDepth 16384

namespace Cert.Proof.Knn

open Idealize.ShloMosaic

/-! ## Reductions by minimum, read at an index -/

theorem host_least_row {a n : ℕ} (x : FVec Ideal (⟨2, ![a, n]⟩ : Shape) .f32) (hr : (⟨2, ![a, n]⟩ : Shape).ReducesTo [1] ⟨1, ![a]⟩)
    (hu : 0 < (⟨0, ![]⟩ : Shape).numel) (r : Fin a) :
    Host.reduce FloatOps.minimumf x (constant (F := Ideal) ⟨0, ![]⟩ .f32 0x7F800000#32) hr hu (ix1 r) = leastOf fun k => x (ix2 r k) := by
  rw [Host.reduce_eq_fold, Shape.ReducesTo.fold_fiber_r2_a1]
  exact fold_least fun k => x (ix2 r k)

theorem host_least_group {a n b : ℕ} (x : FVec Ideal (⟨3, ![a, n, b]⟩ : Shape) .f32) (hr : (⟨3, ![a, n, b]⟩ : Shape).ReducesTo [2] ⟨2, ![a, n]⟩)
    (h : (⟨3, ![a, n, b]⟩ : Shape).Reduces [2] ⟨2, ![a, n]⟩) (hu : 0 < (⟨0, ![]⟩ : Shape).numel) (r : Fin a) (k : Fin n) :
    Host.reduce FloatOps.minimumf x (constant (F := Ideal) ⟨0, ![]⟩ .f32 0x7F800000#32) hr hu (ix2 r k) = leastOf fun q => x (ix3 r k q) := by
  rw [Host.reduce_eq_fold_single _ x _ hr h]
  refine (fold_least _).trans (congrArg leastOf (funext fun q => congrArg x ?_))
  funext c
  match c with
  | ⟨0, _⟩ => rfl
  | ⟨1, _⟩ => rfl
  | ⟨2, _⟩ => rfl

theorem kernel_least_group {a n b : ℕ} (x : FVec Ideal (⟨3, ![a, n, b]⟩ : Shape) .f32) (h : (⟨3, ![a, n, b]⟩ : Shape).Reduces [2] ⟨2, ![a, n]⟩)
    (hφ : FKind.Formats .f32) (hacc) (r : Fin a) (k : Fin n) :
    multiReduction .minimumf [2] ⟨2, ![a, n]⟩ x 0x7F800000#32 h hφ hacc (ix2 r k) = leastOf fun q => x (ix3 r k q) := by
  rw [multiReduction_minimumf_eq_fold, h.fold_filter_drop_single]
  refine (fold_least _).trans (congrArg leastOf (funext fun q => congrArg x ?_))
  funext c
  match c with
  | ⟨0, _⟩ => rfl
  | ⟨1, _⟩ => rfl
  | ⟨2, _⟩ => rfl

theorem kernel_least_col {a n : ℕ} (x : FVec Ideal (⟨2, ![n, a]⟩ : Shape) .f32) (h : (⟨2, ![n, a]⟩ : Shape).Reduces [0] ⟨1, ![a]⟩)
    (hφ : FKind.Formats .f32) (hacc) (r : Fin a) :
    multiReduction .minimumf [0] ⟨1, ![a]⟩ x 0x7F800000#32 h hφ hacc (ix1 r) = leastOf fun k => x (ix2 k r) := by
  rw [multiReduction_minimumf_eq_fold, h.fold_filter_drop_single]
  refine (fold_least _).trans (congrArg leastOf (funext fun q => congrArg x ?_))
  funext c
  match c with
  | ⟨0, _⟩ => rfl
  | ⟨1, _⟩ => rfl

/-- A row cut in groups. -/
theorem cast_groups {α : Type} {a : ℕ} (x : (⟨2, ![a, 10112]⟩ : Shape).Idx → α) (h : (⟨2, ![a, 10112]⟩ : Shape).ShapeCasts ⟨3, ![a, 79, 128]⟩)
    (r : Fin a) (k : Fin 79) (q : Fin 128) (hlt : 128 * k.val + q.val < 10112) :
    shapeCast (⟨3, ![a, 79, 128]⟩ : Shape) x h (ix3 r k q) = x (ix2 r ⟨128 * k.val + q.val, hlt⟩) := by
  refine shapeCast_apply _ _ _ _ ?_
  rw [Shape.rowMajor_val_two, Shape.rowMajor_val_three]
  show r.val * 10112 + (128 * k.val + q.val) = (r.val * 79 + k.val) * 128 + q.val
  omega

theorem leastOf_cast_groups {a : ℕ} (x : FVec Ideal (⟨2, ![a, 10112]⟩ : Shape) .f32) (h : (⟨2, ![a, 10112]⟩ : Shape).ShapeCasts ⟨3, ![a, 79, 128]⟩)
    (r : Fin a) (row : Fin 10000 → EReal) (hin : ∀ (p : Fin 10000) (hp : p.val < 10112), x (ix2 r ⟨p.val, hp⟩) = row p)
    (hout : ∀ p : Fin 10112, 10000 ≤ p.val → x (ix2 r p) = filler) (k : Fin 79) :
    (leastOf fun q => shapeCast (⟨3, ![a, 79, 128]⟩ : Shape) x h (ix3 r k q)) = group row k := by
  unfold group
  refine congrArg leastOf (funext fun q => ?_)
  have hlt : 128 * k.val + q.val < 10112 := by have := k.isLt; have := q.isLt; omega
  rw [cast_groups x h r k q hlt]
  split
  · rename_i hp
    exact hin ⟨_, hp⟩ hlt
  · rename_i hp
    exact hout ⟨_, hlt⟩ (not_lt.mp hp)

/-- A matrix transposed. -/
theorem transposed {α : Type} {a b : ℕ} (x : (⟨2, ![a, b]⟩ : Shape).Idx → α) (h : (⟨2, ![a, b]⟩ : Shape).Transposes [1, 0] ⟨2, ![b, a]⟩)
    (i : Fin a) (j : Fin b) : transpose ⟨2, ![b, a]⟩ [1, 0] x h (ix2 j i) = x (ix2 i j) :=
  transpose_apply _ x h _ _ fun c => match c with | ⟨0, _⟩ => rfl | ⟨1, _⟩ => rfl

/-- Two matrices side by side, read in the second. -/
theorem beyond {α : Type} {a n k N : ℕ} (x : (⟨2, ![a, n]⟩ : Shape).Idx → α) (y : (⟨2, ![a, k]⟩ : Shape).Idx → α)
    (h : Shape.Concatenates [(⟨2, ![a, n]⟩ : Shape), ⟨2, ![a, k]⟩] ⟨2, ![a, N]⟩ (1 : Fin 2)) (r : Fin a) (p : Fin N) (hp : n ≤ p.val) (hlt : p.val - n < k) :
    concatenate (⟨2, ![a, N]⟩ : Shape) (1 : Fin 2) [⟨⟨2, ![a, n]⟩, x⟩, ⟨⟨2, ![a, k]⟩, y⟩] h (ix2 r p) = y (ix2 r ⟨p.val - n, hlt⟩) := by
  refine concatenate_pair_apply_right (t := ⟨2, ![a, N]⟩) (s₁ := ⟨2, ![a, n]⟩) (s₂ := ⟨2, ![a, k]⟩) (1 : Fin 2) x y h _ rfl rfl (ix2 r ⟨p.val - n, hlt⟩) (fun c hc => ?_) ?_
  · match c with
    | ⟨0, _⟩ => rfl
    | ⟨1, _⟩ => exact absurd (Fin.ext rfl) hc
  · show p.val - n + n = p.val
    omega

/-! ## The host's rounds -/

section Host

open Cert.Pre_enough_candidates Cert.Pre_enough_candidates.Gen

/-- The groups' minima of every row. -/
def minima (D : FVec Ideal S10000x10000 .f32) : FVec Ideal S10000x79 .f32 :=
  Host.reduce FloatOps.minimumf (shapeCast S10000x79x128 (fn_pad (F := Ideal) D (constant S_ .f32 0x7EE1B1E6#32)) shapeCasts_S10000x10112_S10000x79x128)
    (constant S_ .f32 0x7F800000#32) reducesTo_S10000x79x128_S10000x79_d2 h_S_

/-- The least number of every row. -/
def lowest (g : FVec Ideal S10000x79 .f32) : FVec Ideal S10000 .f32 :=
  Host.reduce FloatOps.minimumf g (constant S_ .f32 0x7F800000#32) reducesTo_S10000x79_S10000_d1 h_S_

/-- It, beside the row's numbers. -/
def lowestCol (g : FVec Ideal S10000x79 .f32) : FVec Ideal S10000x1 .f32 := broadcastInDim S10000x1 ![0] bcast_S10000_S10000x1_0 (lowest g)
def lowestAll (g : FVec Ideal S10000x79 .f32) : FVec Ideal S10000x79 .f32 := broadcastInDim S10000x79 ![0, 1] bcast_S10000x1_S10000x79_0_1 (lowestCol g)
/-- Where it is. -/
def lowestAt (g : FVec Ideal S10000x79 .f32) : IVec S10000x79 1 := cmpf .oeq g (lowestAll g)
/-- It struck out. -/
def struck (g : FVec Ideal S10000x79 .f32) : FVec Ideal S10000x79 .f32 := fn_where (F := Ideal) (lowestAt g) (constant S_ .f32 0x7EE1B1E6#32) g

theorem minima_at (D : FVec Ideal S10000x10000 .f32) (r : Fin 10000) (k : Fin 79) : minima D (ix2 r k) = group (fun p => D (ix2 r p)) k := by
  unfold minima
  rw [host_least_group _ _ (by decide)]
  refine leastOf_cast_groups _ _ r _ (fun p hp => ?_) (fun p hp => ?_) k
  · unfold fn_pad
    refine pad_apply_of_inside _ _ _ _ _ _ _ _ (ix2 r p) fun c => ?_
    match c with
    | ⟨0, _⟩ => show r.val = 0 + r.val * (0 + 1); omega
    | ⟨1, _⟩ => show p.val = 0 + p.val * (0 + 1); omega
  · unfold fn_pad
    refine (pad_apply_of_not_inside _ _ _ _ _ _ _ _ (1 : Fin 2) ?_).trans rfl
    rintro ⟨-, -, h⟩
    have h : (p.val - 0) / (0 + 1) < 10000 := h
    omega

theorem lowest_at (g : FVec Ideal S10000x79 .f32) (r : Fin 10000) : lowest g (ix1 r) = leastOf fun k => g (ix2 r k) := host_least_row g _ _ r

theorem lowestCol_at (g : FVec Ideal S10000x79 .f32) (r : Fin 10000) : lowestCol g (ix2 r (0 : Fin 1)) = lowest g (ix1 r) := by
  refine broadcastInDim_apply _ _ _ _ (ix1 r) fun a => ?_
  match a with
  | ⟨0, _⟩ => exact (if_neg (show ¬ (10000 : ℕ) = 1 by norm_num)).symm

theorem struck_at (g : FVec Ideal S10000x79 .f32) (r : Fin 10000) (k : Fin 79) : struck g (ix2 r k) = strike (fun k => g (ix2 r k)) k := by
  have hall : lowestAll g (ix2 r k) = leastOf fun k => g (ix2 r k) := by
    refine (broadcastInDim_apply _ _ _ _ (ix2 r (0 : Fin 1)) fun a => ?_).trans ((lowestCol_at g r).trans (lowest_at g r))
    match a with
    | ⟨0, _⟩ => exact (if_neg (show ¬ (10000 : ℕ) = 1 by norm_num)).symm
    | ⟨1, _⟩ => exact (if_pos rfl).symm
  unfold struck fn_where strike
  show (if BitVec.ofBool (decide (g (ix2 r k) = lowestAll g (ix2 r k))) = 1#1 then _ else _) = _
  rw [hall]
  by_cases h : g (ix2 r k) = leastOf fun k => g (ix2 r k)
  · rw [decide_eq_true h, if_pos (by decide), if_pos h]
    rfl
  · rw [decide_eq_false h, if_neg (by decide), if_neg h]

theorem struck_rounds (m : ℕ) : ∀ (g : FVec Ideal S10000x79 .f32) (r : Fin 10000),
    (fun k => struck^[m] g (ix2 r k)) = strike^[m] fun k => g (ix2 r k) := by
  induction m with
  | zero => exact fun _ _ => rfl
  | succ m ih => exact fun g r => (ih (struck g) r).trans (congrArg strike^[m] (funext fun k => struck_at g r k))

/-- The threshold of every row. -/
theorem lowest_rounds (D : FVec Ideal S10000x10000 .f32) (r : Fin 10000) :
    lowest (struck^[49] (minima D)) (ix1 r) = threshold fun p => D (ix2 r p) := by
  rw [lowest_at, struck_rounds]
  unfold threshold
  exact congrArg (fun g => leastOf (strike^[49] g)) (funext fun k => minima_at D r k)

end Host

/-! ## The kernel's rounds -/

section Kernel

open Cert.KernelIdeal Cert.KernelIdeal.Gen

variable (i : grid0.Coords) (x0 : Vec Ideal S200x3 .f32) (x1 : Vec Ideal S3x10000 .f32) (x2 : Vec Ideal S200x1 .f32) (x3 : Vec Ideal S1x10000 .f32)

theorem pay2_at (k : Fin 79) (a : Fin 200) : k0_pay2 (F := Ideal) i x0 x1 x2 x3 (ix2 k a) = group (fun p => k0_pay1 (F := Ideal) i x0 x1 x2 x3 (ix2 a p)) k := by
  unfold k0_pay2
  refine (transposed _ _ a k).trans ?_
  refine (kernel_least_group _ _ _ _ a k).trans ?_
  refine leastOf_cast_groups _ _ a _ (fun p hp => ?_) (fun p hp => ?_) k
  · refine concatenate_pair_apply_left (t := S200x10112) (s₁ := S200x10000) (s₂ := S200x112) (1 : Fin 2) (k0_pay1 (F := Ideal) i x0 x1 x2 x3) _ _ _ rfl (ix2 a p) fun c => ?_
    match c with
    | ⟨0, _⟩ => rfl
    | ⟨1, _⟩ => rfl
  · have hlt : p.val - 10000 < 112 := by have := p.isLt; omega
    exact beyond (k0_pay1 (F := Ideal) i x0 x1 x2 x3) (broadcast S200x112 (Scalar.ofBits (F := Ideal) .f32 0x7EE1B1E6#32)) _ a p hp hlt

theorem pay4_at (g : FVec Ideal S79x200 .f32) (a : Fin 200) : k0_pay4 g (ix2 (0 : Fin 1) a) = leastOf fun k => g (ix2 k a) := by
  unfold k0_pay4
  refine (shapeCast_apply _ _ _ (ix1 a) ?_).trans (kernel_least_col g _ _ _ a)
  rw [Shape.rowMajor_val_two, Shape.rowMajor_val_one]
  show a.val = 0 * 200 + a.val
  omega

theorem pay5_at (g : FVec Ideal S79x200 .f32) (k : Fin 79) (a : Fin 200) : k0_pay5 g (ix2 k a) = strike (fun k => g (ix2 k a)) k := by
  have hall : broadcastTo S79x200 (k0_pay4 g) broadcasts_S1x200_S79x200 (ix2 k a) = leastOf fun k => g (ix2 k a) := by
    refine (broadcastTo_apply _ _ _ (ix2 (0 : Fin 1) a) fun c => ?_).trans (pay4_at g a)
    match c with
    | ⟨0, _⟩ => exact (if_pos rfl).symm
    | ⟨1, _⟩ => exact (if_neg (show ¬ (200 : ℕ) = 1 by norm_num)).symm
  unfold k0_pay5 strike
  show (if BitVec.ofBool (decide (g (ix2 k a) = broadcastTo S79x200 (k0_pay4 g) broadcasts_S1x200_S79x200 (ix2 k a))) = 1#1 then _ else _) = _
  rw [hall]
  by_cases h : g (ix2 k a) = leastOf fun k => g (ix2 k a)
  · rw [decide_eq_true h, if_pos (by decide), if_pos h]
    rfl
  · rw [decide_eq_false h, if_neg (by decide), if_neg h]

theorem pay5_rounds (m : ℕ) : ∀ (g : FVec Ideal S79x200 .f32) (a : Fin 200),
    (fun k => (k0_pay5 (F := Ideal))^[m] g (ix2 k a)) = strike^[m] fun k => g (ix2 k a) := by
  induction m with
  | zero => exact fun _ _ => rfl
  | succ m ih => exact fun g a => (ih (k0_pay5 g) a).trans (congrArg strike^[m] (funext fun k => pay5_at g k a))

/-- Rounds that strike out, and keep what they struck out last. -/
theorem foldl_rounds {α β γ : Type} (f : α → α) (h : α → β) : ∀ (n : ℕ) (l : List γ) (_ : l.length = n + 1) (g : α) (b : β),
    (l.foldl (fun (acc : α × β) _ => (f acc.1, h acc.1)) (g, b)).2 = h (f^[n] g) := by
  intro n
  induction n with
  | zero =>
    intro l hl g b
    obtain ⟨x, rfl⟩ := List.length_eq_one_iff.mp hl
    rfl
  | succ n ih =>
    intro l hl g b
    obtain ⟨x, l, rfl⟩ := List.exists_cons_of_length_eq_add_one hl
    rw [List.foldl_cons]
    exact ih l (Nat.succ.inj hl) (f g) (h g)

theorem lastRound_snd (g : FVec Ideal S79x200 .f32) : (lastRound g).2 = k0_pay4 ((k0_pay5 (F := Ideal))^[49] g) := by
  have h50 : (List.finRange k0_t1_loop.trips).length = 49 + 1 := List.length_finRange.trans (by decide)
  unfold lastRound
  rw [Scf.fold_eq]
  exact foldl_rounds (k0_pay5 (F := Ideal)) (k0_pay4 (F := Ideal)) 49 (List.finRange k0_t1_loop.trips) h50 g k0_pay3

theorem pay6_at (x : FVec Ideal S1x200 .f32) (a : Fin 200) : k0_pay6 x (ix2 a (0 : Fin 1)) = x (ix2 (0 : Fin 1) a) := by
  unfold k0_pay6
  exact transposed _ _ 0 a

/-- The threshold the kernel finds for a row of its block. -/
theorem rounds_at (a : Fin 200) : k0_pay6 (lastRound (k0_pay2 (F := Ideal) i x0 x1 x2 x3)).2 (ix2 a (0 : Fin 1))
    = threshold fun p => k0_pay1 (F := Ideal) i x0 x1 x2 x3 (ix2 a p) := by
  rw [pay6_at, lastRound_snd, pay4_at, pay5_rounds]
  unfold threshold
  exact congrArg (fun g => leastOf (strike^[49] g)) (funext fun k => pay2_at i x0 x1 x2 x3 k a)

end Kernel

end Cert.Proof.Knn

end

end
-- ==== Proof.Pre.lean ====
/-
  Pre: the precondition read at a row. Its fifty rounds are the ones of `Rounds`; it says that at most 2048 distances
  of the row are at or below the row's threshold, and that the threshold is below the number that stands for a struck one.
-/
module

public import proofs.«01_k».proof.Proof.Plain
public import proofs.«01_k».proof.Proof.Groups
public import Idealize.ShloMosaic.Lib.ReduceAll

@[expose] public section
noncomputable section

set_option maxRecDepth 16384

namespace Cert.Proof.Knn

open Idealize.ShloMosaic

section Formula

open Cert.Pre_enough_candidates Cert.Pre_enough_candidates.Gen

/-- The sums of the squared coordinates. -/
def norms (P : FVec Ideal S10000x3 .f32) : FVec Ideal S10000 .f32 :=
  Host.reduceAdd (mulf P P) (constant S_ .f32 0x00000000#32) reducesTo_S10000x3_S10000_d1 h_S_

/-- The squared distances between the points, no less than zero. -/
def apart (P : FVec Ideal S10000x3 .f32) : FVec Ideal S10000x10000 .f32 :=
  maximumf (subf (addf (broadcastInDim S10000x10000 ![0, 1] bcast_S10000x1_S10000x10000_0_1 (broadcastInDim S10000x1 ![0] bcast_S10000_S10000x1_0 (norms P)))
      (broadcastInDim S10000x10000 ![0, 1] bcast_S1x10000_S10000x10000_0_1 (broadcastInDim S1x10000 ![1] bcast_S10000_S1x10000_1 (norms P))))
    (mulf (broadcastInDim S10000x10000 ![] bcast_S_S10000x10000 (constant S_ .f32 0x40000000#32))
      (Host.dotGeneral dot_S10000x3_S3x10000_S10000x10000_1_0_0_1_n_n none P (transpose S3x10000 [1, 0] P transposes_S10000x3_S3x10000_1_0))))
    (broadcastInDim S10000x10000 ![] bcast_S_S10000x10000 (constant S_ .f32 0x00000000#32))

/-- One on the diagonal, zero elsewhere. -/
def itself : FVec Ideal S10000x10000 .f32 :=
  uitofp .f32 (cmpi .eq (addi (iotaInDim S10000x10000 32 0) (broadcastInDim S10000x10000 ![] bcast_S_S10000x10000 (constantI S_ 32 0#32))) (iotaInDim S10000x10000 32 1))

/-- The distances that the nearest are taken by: far from itself. -/
def distances (P : FVec Ideal S10000x3 .f32) : FVec Ideal S10000x10000 .f32 :=
  addf (apart P) (mulf itself (broadcastInDim S10000x10000 ![] bcast_S_S10000x10000 (constant S_ .f32 0x501502F9#32)))

/-- The precondition of the distances and the groups' minima after the rounds. -/
def verdict (D : FVec Ideal S10000x10000 .f32) (g : FVec Ideal S10000x79 .f32) : IVec S10000 1 :=
  fn_part16 (F := Ideal) D (lowest g) (lowestCol g)

variable (P : FVec Ideal S10000x3 .f32) (D : FVec Ideal S10000x10000 .f32) (g : FVec Ideal S10000x79 .f32)

theorem nest2 : struck (struck g) = struck^[2] g := (Function.iterate_succ_apply struck 1 g).symm
theorem nest3 : struck (struck (struck g)) = struck^[3] g := (nest2 (struck g)).trans (Function.iterate_succ_apply struck 2 g).symm
theorem nest4 : struck (struck (struck (struck g))) = struck^[4] g := (nest3 (struck g)).trans (Function.iterate_succ_apply struck 3 g).symm

/-! Each part of the formula ends with the next part's start, three or four rounds on. -/

theorem stage2 : fn_part2 (F := Ideal) D g (constant S_ .f32 0x7F800000#32)
    = fn_part3 (F := Ideal) D (struck (struck (struck g))) (lowestAll (struck (struck (struck g)))) := rfl
theorem stage3 : fn_part3 (F := Ideal) D g (lowestAll g)
    = fn_part4 (F := Ideal) D (struck (struck (struck (struck g)))) := rfl
theorem stage4 : fn_part4 (F := Ideal) D g
    = fn_part5 (F := Ideal) D (struck (struck (struck g))) (lowestCol (struck (struck (struck g)))) := rfl
theorem stage5 : fn_part5 (F := Ideal) D g (lowestCol g)
    = fn_part6 (F := Ideal) D (struck (struck (struck g))) (lowestAt (struck (struck (struck g)))) (constant S_ .f32 0x7EE1B1E6#32) := rfl
theorem stage6 : fn_part6 (F := Ideal) D g (lowestAt g) (constant S_ .f32 0x7EE1B1E6#32)
    = fn_part7 (F := Ideal) D (struck (struck (struck (struck g)))) (lowest (struck (struck (struck (struck g))))) := rfl
theorem stage7 : fn_part7 (F := Ideal) D g (lowest g)
    = fn_part8 (F := Ideal) D (struck (struck (struck g))) (lowestAt (struck (struck (struck g)))) := rfl
theorem stage8 : fn_part8 (F := Ideal) D g (lowestAt g)
    = fn_part9 (F := Ideal) D (struck (struck (struck (struck g)))) (constant S_ .f32 0x7F800000#32) := rfl
theorem stage9 : fn_part9 (F := Ideal) D g (constant S_ .f32 0x7F800000#32)
    = fn_part10 (F := Ideal) D (struck (struck (struck g))) (lowestAll (struck (struck (struck g)))) := rfl
theorem stage10 : fn_part10 (F := Ideal) D g (lowestAll g)
    = fn_part11 (F := Ideal) D (struck (struck (struck (struck g)))) := rfl
theorem stage11 : fn_part11 (F := Ideal) D g
    = fn_part12 (F := Ideal) D (struck (struck (struck g))) (lowestCol (struck (struck (struck g)))) := rfl
theorem stage12 : fn_part12 (F := Ideal) D g (lowestCol g)
    = fn_part13 (F := Ideal) D (struck (struck (struck g))) (lowestAt (struck (struck (struck g)))) (constant S_ .f32 0x7EE1B1E6#32) := rfl
theorem stage13 : fn_part13 (F := Ideal) D g (lowestAt g) (constant S_ .f32 0x7EE1B1E6#32)
    = fn_part14 (F := Ideal) D (struck (struck (struck (struck g)))) (lowest (struck (struck (struck (struck g))))) := rfl
theorem stage14 : fn_part14 (F := Ideal) D g (lowest g)
    = fn_part15 (F := Ideal) D (struck (struck (struck g))) (lowestAt (struck (struck (struck g)))) := rfl
theorem stage15 : fn_part15 (F := Ideal) D g (lowestAt g)
    = verdict D (struck (struck (struck g))) := rfl

theorem part15 : fn_part15 (F := Ideal) D g (lowestAt g) = verdict D (struck^[3] g) := by
  rw [stage15, nest3]
theorem part14 : fn_part14 (F := Ideal) D g (lowest g) = verdict D (struck^[6] g) := by
  rw [stage14, part15, nest3, ← Function.iterate_add_apply]
theorem part13 : fn_part13 (F := Ideal) D g (lowestAt g) (constant S_ .f32 0x7EE1B1E6#32) = verdict D (struck^[10] g) := by
  rw [stage13, part14, nest4, ← Function.iterate_add_apply]
theorem part12 : fn_part12 (F := Ideal) D g (lowestCol g) = verdict D (struck^[13] g) := by
  rw [stage12, part13, nest3, ← Function.iterate_add_apply]
theorem part11 : fn_part11 (F := Ideal) D g = verdict D (struck^[16] g) := by
  rw [stage11, part12, nest3, ← Function.iterate_add_apply]
theorem part10 : fn_part10 (F := Ideal) D g (lowestAll g) = verdict D (struck^[20] g) := by
  rw [stage10, part11, nest4, ← Function.iterate_add_apply]
theorem part9 : fn_part9 (F := Ideal) D g (constant S_ .f32 0x7F800000#32) = verdict D (struck^[23] g) := by
  rw [stage9, part10, nest3, ← Function.iterate_add_apply]
theorem part8 : fn_part8 (F := Ideal) D g (lowestAt g) = verdict D (struck^[27] g) := by
  rw [stage8, part9, nest4, ← Function.iterate_add_apply]
theorem part7 : fn_part7 (F := Ideal) D g (lowest g) = verdict D (struck^[30] g) := by
  rw [stage7, part8, nest3, ← Function.iterate_add_apply]
theorem part6 : fn_part6 (F := Ideal) D g (lowestAt g) (constant S_ .f32 0x7EE1B1E6#32) = verdict D (struck^[34] g) := by
  rw [stage6, part7, nest4, ← Function.iterate_add_apply]
theorem part5 : fn_part5 (F := Ideal) D g (lowestCol g) = verdict D (struck^[37] g) := by
  rw [stage5, part6, nest3, ← Function.iterate_add_apply]
theorem part4 : fn_part4 (F := Ideal) D g = verdict D (struck^[40] g) := by
  rw [stage4, part5, nest3, ← Function.iterate_add_apply]
theorem part3 : fn_part3 (F := Ideal) D g (lowestAll g) = verdict D (struck^[44] g) := by
  rw [stage3, part4, nest4, ← Function.iterate_add_apply]
theorem part2 : fn_part2 (F := Ideal) D g (constant S_ .f32 0x7F800000#32) = verdict D (struck^[47] g) := by
  rw [stage2, part3, nest3, ← Function.iterate_add_apply]

theorem fn_start : Cert.Pre_enough_candidates.fn (F := Ideal) P
    = fn_part2 (F := Ideal) (distances P) (struck (struck (minima (distances P)))) (constant S_ .f32 0x7F800000#32) := rfl

theorem fn_verdict : Cert.Pre_enough_candidates.fn (F := Ideal) P = verdict (distances P) (struck^[49] (minima (distances P))) := by
  rw [fn_start, part2, nest2, ← Function.iterate_add_apply]

/-- A row's threshold. -/
def limit (r : Fin 10000) : Ideal .f32 := threshold fun p => D (ix2 r p)

/-- What the precondition says of a row: at most 2048 distances of the row are at or below its threshold, and the threshold
    is below the number that stands for a struck one. -/
theorem pre_row (h : Cert.Pre_enough_candidates.fn (F := Ideal) P = fun _ => 1#1) (r : Fin 10000) :
    (cands (rowOf (distances P) r) (limit (distances P) r) 10000).length ≤ 2048
      ∧ (limit (distances P) r : EReal) < filler := by
  have h1 := congrFun h (ix1 r)
  rw [fn_verdict] at h1
  have hT : lowest (struck^[49] (minima (distances P))) (ix1 r) = limit (distances P) r := lowest_rounds (distances P) r
  generalize distances P = D at h1 hT ⊢
  generalize struck^[49] (minima D) = g at h1 hT
  generalize limit D r = t at hT ⊢
  unfold verdict fn_part16 at h1
  dsimp only at h1
  obtain ⟨h5, h3⟩ := and_one h1
  clear h1
  have e3 := lt_num _ _ _ r h3
  rw [hT] at e3
  have e5 := le_word _ _ _ r h5
  have hbc : ∀ k : Fin 10000, broadcastInDim S10000x10000 ![0, 1] bcast_S10000x1_S10000x10000_0_1 (lowestCol g) (ix2 r k) = t := fun k => by
    refine (broadcastInDim_apply _ _ _ _ (ix2 r (0 : Fin 1)) fun a => ?_).trans ((lowestCol_at g r).trans hT)
    match a with
    | ⟨0, _⟩ => exact (if_neg (show ¬ (10000 : ℕ) = 1 by norm_num)).symm
    | ⟨1, _⟩ => exact (if_pos rfl).symm
  have hcnt : Host.reduce IntOp.addi (extui 32 (cmpf .ole D (broadcastInDim S10000x10000 ![0, 1] bcast_S10000x1_S10000x10000_0_1 (lowestCol g))) natLt_1_32)
      (constantI S_ 32 0#32) reducesTo_S10000x10000_S10000_d1 h_S_ (ix1 r) = BitVec.ofNat 32 (cands (rowOf D r) t 10000).length := by
    rw [count_word, ← count_eq]
    refine congrArg (fun S : Finset (Fin 10000) => BitVec.ofNat 32 S.card) (Finset.filter_congr fun k _ => ?_)
    unfold le
    rw [decide_eq_true_iff, rowOf_at]
    show FloatOps.cmpf .ole (D (ix2 r k)) (broadcastInDim S10000x10000 ![0, 1] bcast_S10000x1_S10000x10000_0_1 (lowestCol g) (ix2 r k)) = 1#1 ↔ _
    rw [hbc]
  have hle := cands_le (rowOf D r) t 10000
  have e5 : (Host.reduce IntOp.addi (extui 32 (cmpf .ole D (broadcastInDim S10000x10000 ![0, 1] bcast_S10000x1_S10000x10000_0_1 (lowestCol g))) natLt_1_32)
      (constantI S_ 32 0#32) reducesTo_S10000x10000_S10000_d1 h_S_ (ix1 r)).sle 2048#32 = true := e5
  rw [hcnt] at e5
  have hint : (BitVec.ofNat 32 (cands (rowOf D r) t 10000).length).toInt = ((cands (rowOf D r) t 10000).length : ℤ) := by
    rw [BitVec.toInt_eq_toNat_of_lt (by rw [BitVec.toNat_ofNat]; omega), BitVec.toNat_ofNat, Nat.mod_eq_of_lt (by omega)]
  refine ⟨?_, e3⟩
  have := BitVec.sle_iff_toInt_le.mp e5
  rw [hint, show (2048#32).toInt = 2048 by decide] at this
  omega

end Formula

end Cert.Proof.Knn

end

end
-- ==== Proof.Distances.lean ====
/-
  Distances: the distance between two points as the reference and the precondition write it and as the first call's kernel writes it.
-/
module

public import proofs.«01_k».proof.Proof.Pre
public import Idealize.ShloMosaic.Lib.Pipeline.ValueKit

@[expose] public section
noncomputable section

set_option maxRecDepth 16384

namespace Cert.Proof.Knn

open Idealize.ShloMosaic Idealize.ShloMosaic.TcCoe Idealize.ShloMosaic.Tactic

abbrev Points := FVec Ideal (⟨2, ![10000, 3]⟩ : Shape) .f32

/-- Every coordinate is a real number. -/
def Finite (P : Points) : Prop := ∀ i : (⟨2, ![10000, 3]⟩ : Shape).Idx, max (P i : EReal) (-P i) < ⊤

theorem Finite.real {P : Points} (h : Finite P) (i) : ∃ x : ℝ, (P i : EReal) = x := by
  have h := h i
  induction hP : (P i : EReal) using EReal.rec with
  | bot => rw [hP] at h; exact absurd h (by simp)
  | coe x => exact ⟨x, rfl⟩
  | top => rw [hP] at h; exact absurd h (by simp)

/-- A point's squared length, and two points' product. -/
def dot (P : Points) (r b : Fin 10000) : EReal := ∑ k : Fin 3, (P (ix2 r k) : EReal) * P (ix2 b k)

theorem two_word : Ideal.ofBits .f32 0x40000000#32 = ((2 : ℝ) : EReal) := by
  have h : Ideal.ofBits .f32 0x40000000#32 = ((8388608 * (2 ^ 22 : ℝ)⁻¹ : ℝ) : EReal) := by simp [Ideal.ofBits, Ideal.ieee]
  rw [h]
  norm_num

/-- The number that the nearest are taken by: the squared distance, and a large number for the point itself. -/
def between (P : Points) (r b : Fin 10000) : EReal :=
  if r = b then Ideal.ofBits .f32 0x501502F9#32
  else max ((dot P r r + dot P b b) - Ideal.ofBits .f32 0x40000000#32 * dot P r b) 0

theorem select_one {α : Type} {w : BitVec 1} (x y : α) (h : w = 1#1) : Scalar.select w x y = x := if_pos h
theorem select_zero {α : Type} {w : BitVec 1} (x y : α) (h : w = 0#1) : Scalar.select w x y = y := if_neg (by rw [h]; decide)

theorem kernel_between (i : Cert.KernelIdeal.grid0.Coords) (x0 : FVec Ideal (⟨2, ![200, 3]⟩ : Shape) .f32) (x1 : FVec Ideal (⟨2, ![3, 10000]⟩ : Shape) .f32)
    (x2 : FVec Ideal (⟨2, ![200, 1]⟩ : Shape) .f32) (x3 : FVec Ideal (⟨2, ![1, 10000]⟩ : Shape) .f32) (a : Fin 200) (b : Fin 10000)
    (P : Points) (r : Fin 10000) (hr : r.val = (i 0).val * 200 + a.val) (h0 : ∀ k, x0 (ix2 a k) = P (ix2 r k)) (h1 : ∀ k, x1 (ix2 k b) = P (ix2 b k))
    (h2 : x2 (ix2 a (0 : Fin 1)) = dot P r r) (h3 : x3 (ix2 (0 : Fin 1) b) = dot P b b) :
    Cert.KernelIdeal.Gen.k0_pay1 (F := Ideal) i x0 x1 x2 x3 (ix2 a b) = between P r b := by
  have hi : (i 0).val < 50 := (i 0).isLt
  have ha := a.isLt
  have hb := b.isLt
  have hw : IntOp.addi (Scalar.muli (BitVec.ofNat 32 (i 0).val) 200#32) (BitVec.ofNat 32 a.val) = BitVec.ofNat 32 r.val := by
    rw [hr]
    apply BitVec.eq_of_toNat_eq
    show ((BitVec.ofNat 32 (i 0).val) * 200#32 + BitVec.ofNat 32 a.val).toNat = _
    simp only [BitVec.toNat_add, BitVec.toNat_mul, BitVec.toNat_ofNat]
    omega
  pointwise [Cert.KernelIdeal.Gen.k0_pay1]
  rw [hw, h2, h3]
  simp only [h0, h1]
  unfold between
  by_cases h : r = b
  · rw [if_pos h, h]
    exact select_one _ _ (by show BitVec.ofBool (_ == _) = 1#1; rw [beq_self_eq_true]; rfl)
  · rw [if_neg h]
    refine select_zero _ _ ?_
    show BitVec.ofBool (BitVec.ofNat 32 b.val == BitVec.ofNat 32 r.val) = 0#1
    rw [beq_eq_false_iff_ne.mpr]
    · rfl
    · intro hc
      have hc := congrArg BitVec.toNat hc
      rw [BitVec.toNat_ofNat, BitVec.toNat_ofNat] at hc
      have hrl := r.isLt
      exact h (Fin.ext (by omega))

/-- A point's squared length is a real number. -/
theorem dot_real {P : Points} (h : Finite P) (r b : Fin 10000) : ∃ x : ℝ, dot P r b = x := by
  unfold dot
  rw [Fin.sum_univ_three]
  obtain ⟨x0, e0⟩ := h.real (ix2 r (0 : Fin 3))
  obtain ⟨x1, e1⟩ := h.real (ix2 r (1 : Fin 3))
  obtain ⟨x2, e2⟩ := h.real (ix2 r (2 : Fin 3))
  obtain ⟨y0, f0⟩ := h.real (ix2 b (0 : Fin 3))
  obtain ⟨y1, f1⟩ := h.real (ix2 b (1 : Fin 3))
  obtain ⟨y2, f2⟩ := h.real (ix2 b (2 : Fin 3))
  rw [e0, e1, e2, f0, f1, f2]
  exact ⟨x0 * y0 + x1 * y1 + x2 * y2, by push_cast; rfl⟩

/-- An entry of the distance matrix, whatever the points. -/
theorem distances_at (P : Points) (r b : Fin 10000) : distances P (ix2 r b)
    = max ((dot P r r + dot P b b) - Ideal.ofBits .f32 0x40000000#32 * dot P r b) 0 + (if r = b then 1 else 0) * Ideal.ofBits .f32 0x501502F9#32 := by
  pointwise [distances, apart, itself, norms]
  have hw : IntOp.addi (BitVec.ofNat 32 r.val) 0#32 = BitVec.ofNat 32 r.val := BitVec.add_zero _
  rw [hw]
  by_cases h : r = b
  · have h1 : IntOp.cmpi .eq (BitVec.ofNat 32 r.val) (BitVec.ofNat 32 b.val) = 1#1 := by
      rw [h]
      show BitVec.ofBool (_ == _) = 1#1
      rw [beq_self_eq_true]; rfl
    have h2 : FloatOps.uitofp (F := Ideal) .f32 (1#1 : BitVec 1) = (1 : EReal) := by
      show (((1#1 : BitVec 1).toNat : ℝ) : EReal) = 1
      simp
    rw [h1, h2, if_pos h]
    rfl
  · have h1 : IntOp.cmpi .eq (BitVec.ofNat 32 r.val) (BitVec.ofNat 32 b.val) = 0#1 := by
      show BitVec.ofBool (BitVec.ofNat 32 r.val == BitVec.ofNat 32 b.val) = 0#1
      rw [beq_eq_false_iff_ne.mpr]
      · rfl
      · intro hc
        have hc := congrArg BitVec.toNat hc
        rw [BitVec.toNat_ofNat, BitVec.toNat_ofNat] at hc
        have hrl := r.isLt
        have hbl := b.isLt
        exact h (Fin.ext (by omega))
    have h2 : FloatOps.uitofp (F := Ideal) .f32 (0#1 : BitVec 1) = (0 : EReal) := by
      show (((0#1 : BitVec 1).toNat : ℝ) : EReal) = 0
      simp
    rw [h1, h2, if_neg h]
    rfl

theorem distances_between {P : Points} (hP : Finite P) (r b : Fin 10000) : distances P (ix2 r b) = between P r b := by
  rw [distances_at]
  unfold between
  by_cases h : r = b
  · obtain ⟨x, hx⟩ := dot_real hP r r
    rw [if_pos h, if_pos h, ← h, hx, two_word, one_mul]
    have h3 : ((x : EReal) + x - ((2 : ℝ) : EReal) * x) = 0 := by
      rw [← EReal.coe_mul, ← EReal.coe_add, ← EReal.coe_sub]
      exact congrArg _ (show x + x - 2 * x = 0 by ring)
    rw [h3, max_self, zero_add]
  · rw [if_neg h, if_neg h, zero_mul, add_zero]

/-! ## A point that is not finite -/

theorem square_nonneg (x : EReal) : 0 ≤ x * x := by
  induction x using EReal.rec with
  | bot => rw [EReal.bot_mul_bot]; exact le_top
  | coe x => rw [← EReal.coe_mul]; exact EReal.coe_nonneg.mpr (mul_self_nonneg x)
  | top => rw [EReal.top_mul_top]; exact le_top

theorem dot_nonneg (P : Points) (r : Fin 10000) : 0 ≤ dot P r r := Finset.sum_nonneg fun _ _ => square_nonneg _

/-- Its squared length is infinite. -/
theorem dot_top {P : Points} {r : Fin 10000} {a : Fin 3} (h : (P (ix2 r a) : EReal) * P (ix2 r a) = ⊤) : dot P r r = ⊤ := by
  refine top_le_iff.mp (h.symm.le.trans ?_)
  exact Finset.single_le_sum (f := fun k : Fin 3 => (P (ix2 r k) : EReal) * P (ix2 r k)) (fun _ _ => square_nonneg _) (Finset.mem_univ a)

/-- Its distances are all nothing, the diagonal's number, or infinite. -/
theorem distances_far {P : Points} {r : Fin 10000} (h : dot P r r = ⊤) (b : Fin 10000) :
    distances P (ix2 r b) ∈ ({0, Ideal.ofBits .f32 0x501502F9#32} : Finset EReal) ∨ filler ≤ (distances P (ix2 r b) : EReal) := by
  rw [distances_at, h, EReal.top_add_of_ne_bot (ne_of_gt (lt_of_lt_of_le EReal.bot_lt_zero (dot_nonneg P b)))]
  generalize Ideal.ofBits .f32 0x40000000#32 * dot P r b = y
  have hw : (0 : EReal) ≤ Ideal.ofBits .f32 0x501502F9#32 := by
    rw [show Ideal.ofBits .f32 0x501502F9#32 = ((9765625 * 2 ^ 10 : ℝ) : EReal) by simp [Ideal.ofBits, Ideal.ieee]]
    exact EReal.coe_nonneg.mpr (by norm_num)
  have hy : max (⊤ - y) 0 = (0 : EReal) ∨ max (⊤ - y) 0 = (⊤ : EReal) := by
    induction y using EReal.rec with
    | bot => exact .inr (by simp)
    | coe y => exact .inr (by rw [EReal.top_sub_coe]; simp)
    | top => exact .inl (by rw [EReal.sub_top]; simp)
  rcases hy with hy | hy <;> rw [hy]
  · left
    split
    · rw [one_mul, zero_add]; simp
    · rw [zero_mul, zero_add]; simp
  · right
    split
    · rw [one_mul, EReal.top_add_of_ne_bot (ne_of_gt (lt_of_lt_of_le EReal.bot_lt_zero hw))]; exact le_top
    · rw [zero_mul, add_zero]; exact le_top

/-- Where every row's threshold is below the filling, the points are finite. -/
theorem finite_of_limit {P : Points} (h : ∀ r, (limit (distances P) r : EReal) < filler) : Finite P := by
  intro i
  obtain ⟨r, a, rfl⟩ : ∃ r : Fin 10000, ∃ a : Fin 3, i = ix2 r a := ⟨_, _, eq_ix2 (n0 := 10000) (n1 := 3) i⟩
  by_contra hi
  have hsq : (P (ix2 r a) : EReal) * P (ix2 r a) = ⊤ := by
    generalize (P (ix2 r a) : EReal) = x at hi
    induction x using EReal.rec with
    | bot => exact EReal.bot_mul_bot
    | coe x => exact absurd (max_lt (EReal.coe_lt_top x) (EReal.coe_lt_top (-x))) hi
    | top => exact EReal.top_mul_top
  exact absurd (h r) (not_lt.mpr (threshold_few _ {0, Ideal.ofBits .f32 0x501502F9#32}
    ((Finset.card_le_two).trans (by norm_num)) (distances_far (dot_top hsq))))

end Cert.Proof.Knn

end

end
-- ==== Proof.Arrays.lean ====
/-
  Arrays: what the windowed calls leave in their output arrays, as functions of the arrays they read.
-/
module

public import proofs.«01_k».proof.Proof.Distances
public import proofs.«01_k».proof.Proof.RegionEdges
public import proofs.«01_k».proof.Proof.RegionBasis

@[expose] public section
noncomputable section

set_option maxRecDepth 16384

namespace Cert.Proof.Knn

open Cert.KernelIdeal Cert.KernelIdeal.Gen
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b)) (n : ℕ) (c : Dev nD)

theorem idx0 : ∀ t : Fin cfg0.N, win0_0.index t = ![(grid0.coords t 0).val, 0] ∧ win0_1.index t = ![0, 0] ∧ win0_2.index t = ![(grid0.coords t 0).val, 0]
    ∧ win0_3.index t = ![0, 0] ∧ win0_4.index t = ![(grid0.coords t 0).val, 0] ∧ win0_5.index t = ![(grid0.coords t 0).val, 0] :=
  (by decide +kernel : ∀ t : Fin grid0.N, _)

/-- What the first call reads: the points, the points transposed, and their squared lengths as a column and as a row. -/
structure Reads0 (P : Points) : Prop where
  points : ∀ r k, (V c main_arg0 : FVec Ideal S10000x3 .f32) (ix2 r k) = P (ix2 r k)
  flipped : ∀ k b, (V c main_v0 : FVec Ideal S3x10000 .f32) (ix2 k b) = P (ix2 b k)
  column : ∀ r, (V c main_v3 : FVec Ideal S10000x1 .f32) (ix2 r (0 : Fin 1)) = dot P r r
  row : ∀ b, (V c main_v4 : FVec Ideal S1x10000 .f32) (ix2 (0 : Fin 1) b) = dot P b b

/-- The row of the whole array that a block's row is. -/
def rowAt (t : Fin cfg0.N) (a : Fin 200) : Fin 10000 :=
  ⟨(grid0.coords t 0).val * 200 + a.val, by have h : (grid0.coords t 0).val < 50 := (grid0.coords t 0).isLt; have := a.isLt; omega⟩

theorem block_between {P : Points} (h : Reads0 V c P) (t : Fin cfg0.N) (a : Fin 200) (b : Fin 10000) :
    k0_pay1 (F := Ideal) (grid0.coords t) (iblk0 V c 0 t) (iblk0 V c 1 t) (iblk0 V c 2 t) (iblk0 V c 3 t) (ix2 a b) = between P (rowAt t a) b := by
  refine kernel_between _ _ _ _ _ a b P (rowAt t a) rfl (fun k => ?_) (fun k => ?_) ?_ ?_
  · refine Eq.trans ?_ (h.points (rowAt t a) k)
    blk_ext [iblk0, idx0 t]
    rfl
  · refine Eq.trans ?_ (h.flipped k b)
    blk_ext [iblk0, idx0 t]
  · refine Eq.trans ?_ (h.column (rowAt t a))
    blk_ext [iblk0, idx0 t]
    rfl
  · refine Eq.trans ?_ (h.row b)
    blk_ext [iblk0, idx0 t]

/-- The distances the first call leaves. -/
theorem left_distances {P : Points} (h : Reads0 V c P) (r b : Fin 10000) :
    ((dat0 V n c).arrAt 4 cfg0.N : FVec Ideal S10000x10000 .f32) (ix2 r b) = between P r b := by
  have e : (dat0 V n c).arrAt 4 cfg0.N = fun i : S10000x10000.Idx => between P (i 0) (i 1) := by
    refine (dat0 V n c).arrAt_eq_of_covers 4 _ (by decide +kernel) fun t _ y => ?_
    blk_simp
    rw [after0_4]; frame_out
    obtain ⟨a, b, rfl⟩ : ∃ (a : Fin 200) (b : Fin 10000), y = ix2 a b := ⟨_, _, eq_ix2 (n0 := 200) (n1 := 10000) y⟩
    refine (block_between V c h t a b).trans (congrArg₂ (between P) (Fin.ext ?_) (Fin.ext ?_))
    · blk_simp [idx0 t]
      rfl
    · blk_simp [idx0 t]
  rw [e]
  rfl

/-- The thresholds it leaves. -/
theorem left_thresholds {P : Points} (h : Reads0 V c P) (r : Fin 10000) :
    ((dat0 V n c).arrAt 5 cfg0.N : FVec Ideal S10000x1 .f32) (ix2 r (0 : Fin 1)) = threshold fun p => between P r p := by
  have e : (dat0 V n c).arrAt 5 cfg0.N = fun i : S10000x1.Idx => threshold fun p => between P (i 0) p := by
    refine (dat0 V n c).arrAt_eq_of_covers 5 _ (by decide +kernel) fun t _ y => ?_
    blk_simp
    rw [after0_5]; frame_out
    obtain ⟨a, z, rfl⟩ : ∃ (a : Fin 200) (z : Fin 1), y = ix2 a z := ⟨_, _, eq_ix2 (n0 := 200) (n1 := 1) y⟩
    obtain rfl : z = 0 := Subsingleton.elim _ _
    refine (rounds_at _ _ _ _ _ a).trans (congrArg threshold (funext fun p => (block_between V c h t a p).trans (congrArg (between P · p) (Fin.ext ?_))))
    blk_simp [idx0 t]
    rfl
  rw [e]
  rfl

end Cert.Proof.Knn

end

end
-- ==== Proof.Edges.lean ====
/-
  Edges: what the last two calls leave in their output arrays, as functions of the arrays they read: the lengths of the edges, the
  longest of every row, and the basis functions of every length.
-/
module

public import proofs.«01_k».proof.Proof.Arrays

@[expose] public section
noncomputable section

set_option maxRecDepth 16384

namespace Cert.Proof.Knn

open Cert.KernelIdeal Cert.KernelIdeal.Gen
open Idealize.ShloMosaic Idealize.ShloMosaic.TcCoe Idealize.ShloMosaic.Tactic
open Idealize.ShloMosaic.Pipeline (Dat)

/-- An edge's length from its square. -/
def length (x : EReal) : EReal := Ideal.sqrt (x + Ideal.ofBits .f32 0x2B8CBCCC#32)

/-- Column `b` of fifty among sixty-four. -/
abbrev wide (b : Fin 50) : Fin 64 := ⟨b.val, by have := b.isLt; omega⟩

theorem lengths_at (x : FVec Ideal S200x64 .f32) (a : Fin 200) (b : Fin 50) : k2_pay1 (F := Ideal) x (ix2 a b) = length (x (ix2 a (wide b))) := by
  unfold length
  pointwise [k2_pay1]

theorem row_most {a n : ℕ} (x : FVec Ideal (⟨2, ![a, n]⟩ : Shape) .f32) (h : (⟨2, ![a, n]⟩ : Shape).Reduces [1] ⟨1, ![a]⟩)
    (hφ : FKind.Formats .f32) (hacc) (r : Fin a) :
    multiReduction .maximumf [1] ⟨1, ![a]⟩ x 0xFF800000#32 h hφ hacc (ix1 r) = Finset.univ.sup fun k => (x (ix2 r k) : EReal) := by
  rw [multiReduction_maximumf_eq_fold, h.fold_filter_drop_single]
  have hb : (FloatOps.ofBits (F := Ideal) .f32 0xFF800000#32 : EReal) = ⊥ := by
    show Ideal.ofBits .f32 0xFF800000#32 = ⊥
    simp [Ideal.ofBits, Ideal.ieee]
  rw [hb]
  refine Eq.trans rfl (congrArg (Finset.univ.sup) (funext fun q => congrArg x ?_))
  funext c
  match c with
  | ⟨0, _⟩ => rfl
  | ⟨1, _⟩ => rfl

theorem longest_at (x : FVec Ideal S200x64 .f32) (a : Fin 200) :
    k2_pay2 (F := Ideal) x (ix2 a (0 : Fin 1)) = Finset.univ.sup fun b : Fin 50 => length (x (ix2 a (wide b))) := by
  unfold k2_pay2
  refine (shapeCast_apply _ _ _ (ix1 a) ?_).trans ((row_most _ _ _ _ a).trans (congrArg _ (funext fun b => lengths_at x a b)))
  rw [Shape.rowMajor_val_two, Shape.rowMajor_val_one]
  exact (Nat.mul_one _).symm

/-- One basis function of a length, from the cutoff: the width is a quarter of the cutoff with a little added. -/
def basis (v x : EReal) (b : Fin 5) : EReal :=
  Ideal.exp ((0 - (x - FloatOps.sitofp (F := Ideal) FTy.f32 (BitVec.ofNat 32 b.val) * (v * Ideal.ofBits .f32 0x3E800000#32))
      * (x - FloatOps.sitofp (F := Ideal) FTy.f32 (BitVec.ofNat 32 b.val) * (v * Ideal.ofBits .f32 0x3E800000#32)))
    * Ideal.div 1 (Ideal.ofBits .f32 0x40000000#32 * (v * Ideal.ofBits .f32 0x3E800000#32 + Ideal.ofBits .f32 0x3089705F#32)
      * (v * Ideal.ofBits .f32 0x3E800000#32 + Ideal.ofBits .f32 0x3089705F#32)))

theorem basis_at (v : Ideal .f32) (x : FVec Ideal S20000x1 .f32) (a : Fin 20000) (b : Fin 5) :
    k3_pay1 (F := Ideal) v x (ix2 a b) = basis v (x (ix2 a (0 : Fin 1))) b := by
  unfold basis
  pointwise [k3_pay1]

/-! ## The arrays -/

variable (V : (c : Dev nD) → (b : Ref sig .tc) → Buf (Elt Ideal) ((c : Thread nD τ).loc b)) (n : ℕ) (c : Dev nD)

theorem idx2 : ∀ t : Fin cfg2.N, win2_0.index t = ![(grid2.coords t 0).val, 0] ∧ win2_1.index t = ![(grid2.coords t 0).val, 0]
    ∧ win2_2.index t = ![(grid2.coords t 0).val, 0] :=
  (by decide +kernel : ∀ t : Fin grid2.N, _)

theorem idx3 : ∀ t : Fin cfg3.N, win3_0.index t = ![0] ∧ win3_1.index t = ![(grid3.coords t 0).val, 0] ∧ win3_2.index t = ![(grid3.coords t 0).val, 0] :=
  (by decide +kernel : ∀ t : Fin grid3.N, _)

/-- The squares the second call reads. -/
abbrev readSq : FVec Ideal S10000x64 .f32 := V c main_v17

def rowAt2 (t : Fin cfg2.N) (a : Fin 200) : Fin 10000 :=
  ⟨(grid2.coords t 0).val * 200 + a.val, by have h : (grid2.coords t 0).val < 50 := (grid2.coords t 0).isLt; have := a.isLt; omega⟩

theorem block_sq (t : Fin cfg2.N) (a : Fin 200) (b : Fin 64) :
    (iblk2 V c 0 t : FVec Ideal S200x64 .f32) (ix2 a b) = readSq V c (ix2 (rowAt2 t a) b) := by
  blk_ext [iblk2, idx2 t]
  rfl

theorem left_lengths (r : Fin 10000) (b : Fin 50) :
    ((dat2 V n c).arrAt 1 cfg2.N : FVec Ideal S10000x50 .f32) (ix2 r b) = length (readSq V c (ix2 r (wide b))) := by
  have e : (dat2 V n c).arrAt 1 cfg2.N = fun i : S10000x50.Idx => length (readSq V c (ix2 (i 0) (wide (i 1)))) := by
    refine (dat2 V n c).arrAt_eq_of_covers 1 _ (by decide +kernel) fun t _ y => ?_
    blk_simp
    rw [after2_1]; frame_out
    obtain ⟨a, b, rfl⟩ : ∃ (a : Fin 200) (b : Fin 50), y = ix2 a b := ⟨_, _, eq_ix2 (n0 := 200) (n1 := 50) y⟩
    refine (lengths_at _ a b).trans (congrArg length ((block_sq V c t a _).trans (congrArg₂ (fun r b => readSq V c (ix2 r (wide b))) (Fin.ext ?_) (Fin.ext ?_))))
    · blk_simp [idx2 t]
      rfl
    · blk_simp [idx2 t]
  rw [e]
  rfl

theorem left_longest (r : Fin 10000) :
    ((dat2 V n c).arrAt 2 cfg2.N : FVec Ideal S10000x1 .f32) (ix2 r (0 : Fin 1)) = Finset.univ.sup fun b : Fin 50 => length (readSq V c (ix2 r (wide b))) := by
  have e : (dat2 V n c).arrAt 2 cfg2.N = fun i : S10000x1.Idx => Finset.univ.sup fun b : Fin 50 => length (readSq V c (ix2 (i 0) (wide b))) := by
    refine (dat2 V n c).arrAt_eq_of_covers 2 _ (by decide +kernel) fun t _ y => ?_
    blk_simp
    rw [after2_2]; frame_out
    obtain ⟨a, z, rfl⟩ : ∃ (a : Fin 200) (z : Fin 1), y = ix2 a z := ⟨_, _, eq_ix2 (n0 := 200) (n1 := 1) y⟩
    obtain rfl : z = 0 := Subsingleton.elim _ _
    refine (longest_at _ a).trans (congrArg _ (funext fun b => congrArg length ((block_sq V c t a _).trans
      (congrArg (fun r => readSq V c (ix2 r (wide b))) (Fin.ext ?_)))))
    blk_simp [idx2 t]
    rfl
  rw [e]
  rfl

/-- The cutoff and the lengths the third call reads. -/
abbrev readCut : FVec Ideal S1 .f32 := V c main_v20
abbrev readLen : FVec Ideal S500000x1 .f32 := V c main_v21

def edgeAt (t : Fin cfg3.N) (a : Fin 20000) : Fin 500000 :=
  ⟨(grid3.coords t 0).val * 20000 + a.val, by have h : (grid3.coords t 0).val < 25 := (grid3.coords t 0).isLt; have := a.isLt; omega⟩

theorem one_word (x : Vec Ideal S1 .f32) (j) : View.ld x r3_0 j = x (ix1 (0 : Fin 1)) :=
  congrArg x (funext fun a => match a with | ⟨0, _⟩ => Subsingleton.elim (α := Fin 1) _ _)

theorem block_cut (t : Fin cfg3.N) (z : Fin 1) : (iblk3 V c 0 t : FVec Ideal S1 .f32) (ix1 z) = readCut V c (ix1 (0 : Fin 1)) := by
  obtain rfl : z = 0 := Subsingleton.elim _ _
  blk_ext [iblk3, idx3 t]

theorem block_len (t : Fin cfg3.N) (a : Fin 20000) (z : Fin 1) :
    (iblk3 V c 1 t : FVec Ideal S20000x1 .f32) (ix2 a z) = readLen V c (ix2 (edgeAt t a) z) := by
  blk_ext [iblk3, idx3 t]
  rfl

theorem left_basis (e : Fin 500000) (b : Fin 5) :
    ((dat3 V n c).arrAt 2 cfg3.N : FVec Ideal S500000x5 .f32) (ix2 e b) = basis (readCut V c (ix1 (0 : Fin 1))) (readLen V c (ix2 e (0 : Fin 1))) b := by
  have h : (dat3 V n c).arrAt 2 cfg3.N = fun i : S500000x5.Idx => basis (readCut V c (ix1 (0 : Fin 1))) (readLen V c (ix2 (i 0) (0 : Fin 1))) (i 1) := by
    refine (dat3 V n c).arrAt_eq_of_covers 2 _ (by decide +kernel) fun t _ y => ?_
    blk_simp
    rw [after3_2]; frame_out
    obtain ⟨a, b, rfl⟩ : ∃ (a : Fin 20000) (b : Fin 5), y = ix2 a b := ⟨_, _, eq_ix2 (n0 := 20000) (n1 := 5) y⟩
    refine (basis_at _ _ a b).trans ?_
    rw [block_len]
    refine congr (congrArg₂ basis ((one_word _ _).trans (block_cut V c t 0)) (congrArg (fun r => readLen V c (ix2 r (0 : Fin 1))) (Fin.ext ?_))) (Fin.ext ?_)
    · blk_simp [idx3 t]
      rfl
    · blk_simp [idx3 t]
  rw [h]
  rfl

end Cert.Proof.Knn

end

end
-- ==== Proof.Reads.lean ====
/-
  Reads: what each call of the program reads, and what the program returns of what they wrote.
-/
module

public import proofs.«01_k».proof.Proof.Host
public import proofs.«01_k».proof.Proof.Layout
public import proofs.«01_k».proof.Proof.Edges
public import Idealize.ShloMosaic.Lib.KernelVsHost

@[expose] public section
noncomputable section

set_option maxRecDepth 16384

namespace Cert.Proof.Knn

open Cert.KernelIdeal Cert.KernelIdeal.Gen
open Idealize.ShloMosaic Idealize.ShloMosaic.TcCoe Idealize.ShloMosaic.Tactic

variable (m : (ℓ : Loc nD τ sig) → Buf (Elt Ideal) ℓ) (d : Dev nD)

/-- The argument: the points. -/
def argP : Points := m (locT d main_arg0)

/-! ## The first call -/

theorem start_v0 : (Start m d (Proc.devRef .tc main_v0) : FVec Ideal S3x10000 .f32) = transpose S3x10000 [1, 0] (argP m d) transposes_S10000x3_S3x10000_1_0 := by
  unfold Start opsA
  after_results_simp <;> rfl
theorem start_v3 : (Start m d (Proc.devRef .tc main_v3) : FVec Ideal S10000x1 .f32)
    = shapeCast S10000x1 (Host.reduceAdd (F := Ideal) (φ := .f32) (mulf (F := Ideal) (φ := .f32) (argP m d) (argP m d)) (constant S_ .f32 0x00000000#32) reducesTo_S10000x3_S10000_d1 h_S_)
      shapeCasts_S10000_S10000x1 := by
  unfold Start opsA
  after_results_simp <;> rfl
theorem start_v4 : (Start m d (Proc.devRef .tc main_v4) : FVec Ideal S1x10000 .f32)
    = shapeCast S1x10000 (Host.reduceAdd (F := Ideal) (φ := .f32) (mulf (F := Ideal) (φ := .f32) (argP m d) (argP m d)) (constant S_ .f32 0x00000000#32) reducesTo_S10000x3_S10000_d1 h_S_)
      shapeCasts_S10000_S1x10000 := by
  unfold Start opsA
  after_results_simp <;> rfl

theorem reads_first : Reads0 (at_ (Start m)) d (argP m d) where
  points r k := congrFun (start_arg m d) (ix2 r k)
  flipped k b := by
    refine (congrFun (start_v0 m d) (ix2 k b)).trans ?_
    pointwise
  column r := by
    refine (congrFun (start_v3 m d) (ix2 r (0 : Fin 1))).trans ?_
    pointwise [dot]
  row b := by
    refine (congrFun (start_v4 m d) (ix2 (0 : Fin 1) b)).trans ?_
    pointwise [dot]

/-! ## The SparseCore's call -/

/-- The distances and the thresholds the first call leaves. -/
def kept : FVec Ideal S10000x10000 .f32 := (dat0 (at_ (Start m)) 0 d).arrAt 4 cfg0.N
def bounds : FVec Ideal S10000x1 .f32 := (dat0 (at_ (Start m)) 0 d).arrAt 5 cfg0.N

theorem in_v8 : (In m d (Proc.devRef .tc main_v8) : FVec Ideal S100000000 .f32)
    = shapeCast S100000000 (kept m d) shapeCasts_S10000x10000_S100000000 := by
  have h := leave0_arr (Start m) 0 d 4
  unfold In opsB
  after_results_simp
  exact congrArg (fun x => shapeCast S100000000 x shapeCasts_S10000x10000_S100000000) h

theorem in_v7 : ∃ z, (In m d (Proc.devRef .tc main_v7) : FVec Ideal S10336 .f32)
    = pad S10336 ![0] ![336] ![0] (shapeCast S10000 (bounds m d) shapeCasts_S10000x1_S10000) z pads_S10000_S10336_03360 h_S_ := by
  refine ⟨sitofp .f32 (constantI S_ 32 0#32), ?_⟩
  have h := leave0_arr (Start m) 0 d 5
  unfold In opsB
  after_results_simp
  exact congrArg (fun x : FVec Ideal S10000x1 .f32 => pad S10336 ![0] ![336] ![0] (shapeCast S10000 x shapeCasts_S10000x1_S10000) (sitofp (F := Ideal) .f32 (constantI S_ 32 0#32) : FVec Ideal S_ .f32) pads_S10000_S10336_03360 h_S_)
    (h : (leave0 (Start m) 0 d (Proc.devRef .tc main_v5_1) : FVec Ideal S10000x1 .f32) = bounds m d)

theorem leave_arg : leave0 (Start m) 0 d (Proc.devRef .tc main_arg0) = argP m d :=
  (leave0_of (Start m) 0 d main_arg0 (by decide)).trans (start_arg m d)

theorem in_v10 : (In m d (Proc.devRef .tc main_v10) : FVec Ideal S10000 .f32)
    = shapeCast S10000 (extractStridedSlice S10000x1 ![0, 0] (argP m d) slices_S10000x3_S10000x1_0_0) shapeCasts_S10000x1_S10000 := by
  have h := leave_arg m d
  unfold In opsB
  after_results_simp
  exact congrArg (fun x => shapeCast S10000 (extractStridedSlice S10000x1 ![0, 0] x slices_S10000x3_S10000x1_0_0) shapeCasts_S10000x1_S10000) h
theorem in_v12 : (In m d (Proc.devRef .tc main_v12) : FVec Ideal S10000 .f32)
    = shapeCast S10000 (extractStridedSlice S10000x1 ![0, 1] (argP m d) slices_S10000x3_S10000x1_0_1) shapeCasts_S10000x1_S10000 := by
  have h := leave_arg m d
  unfold In opsB
  after_results_simp
  exact congrArg (fun x => shapeCast S10000 (extractStridedSlice S10000x1 ![0, 1] x slices_S10000x3_S10000x1_0_1) shapeCasts_S10000x1_S10000) h
theorem in_v14 : (In m d (Proc.devRef .tc main_v14) : FVec Ideal S10000 .f32)
    = shapeCast S10000 (extractStridedSlice S10000x1 ![0, 2] (argP m d) slices_S10000x3_S10000x1_0_2) shapeCasts_S10000x1_S10000 := by
  have h := leave_arg m d
  unfold In opsB
  after_results_simp
  exact congrArg (fun x => shapeCast S10000 (extractStridedSlice S10000x1 ![0, 2] x slices_S10000x3_S10000x1_0_2) shapeCasts_S10000x1_S10000) h

/-- A vector read at a position in range. -/
theorem flat_at {α : Type} {n : ℕ} (h : 0 < n) (f : (⟨1, ![n]⟩ : Shape).Idx → α) (i : Fin n) : flat h f i.val = f (ix1 i) := by
  refine Eq.trans (congrArg f (funext fun a => ?_)) rfl
  match a with
  | ⟨0, _⟩ => exact Fin.ext (Nat.mod_eq_of_lt i.isLt)

theorem read_D (r p : Fin 10000) : inD (In m) d (10000 * r.val + p.val) = between (argP m d) r p := by
  have h := r.isLt
  have h' := p.isLt
  have hlt : 10000 * r.val + p.val < 100000000 := by omega
  refine (flat_at _ _ (⟨_, hlt⟩ : Fin 100000000)).trans ?_
  rw [in_v8]
  exact (cast_matrix_vector _ _ r p hlt).trans (left_distances _ 0 d (reads_first m d) r p)

theorem read_T (r : Fin 10000) : inT (In m) d r.val = threshold fun p => between (argP m d) r p := by
  have h := r.isLt
  have hlt : r.val < 10336 := by omega
  refine (flat_at _ _ (⟨_, hlt⟩ : Fin 10336)).trans ?_
  obtain ⟨z, hz⟩ := in_v7 m d
  rw [hz]
  refine (pad_apply_of_inside _ _ _ _ _ _ _ _ (ix1 r) ?_).trans ((shapeCast_apply _ shapeCasts_S10000x1_S10000 (ix1 r) (ix2 r (0 : Fin 1)) ?_).trans
    (left_thresholds _ 0 d (reads_first m d) r))
  · intro a
    match a with
    | ⟨0, _⟩ => show r.val = 0 + r.val * (0 + 1); omega
  · rw [Shape.rowMajor_val_two, Shape.rowMajor_val_one]
    exact Nat.mul_one _

theorem read_col (c : Fin 3) (h : S10000x3.Slices ![0, c.val] S10000x1) (x : Points) (j : Fin 10000) :
    shapeCast S10000 (extractStridedSlice S10000x1 ![0, c.val] x h) shapeCasts_S10000x1_S10000 (ix1 j) = x (ix2 j c) := by
  refine (shapeCast_apply _ shapeCasts_S10000x1_S10000 (ix1 j) (ix2 j (0 : Fin 1)) ?_).trans ?_
  · rw [Shape.rowMajor_val_two, Shape.rowMajor_val_one]
    exact Nat.mul_one _
  · unfold extractStridedSlice
    refine congrArg x (funext fun a => Fin.ext ?_)
    match a with
    | ⟨0, _⟩ => exact Nat.zero_add _
    | ⟨1, _⟩ => exact Nat.add_zero _

theorem read_X (j : Fin 10000) : inX (In m) d j.val = argP m d (ix2 j (0 : Fin 3)) :=
  (flat_at _ _ j).trans ((congrFun (in_v10 m d) _).trans (read_col 0 _ _ j))
theorem read_Y (j : Fin 10000) : inY (In m) d j.val = argP m d (ix2 j (1 : Fin 3)) :=
  (flat_at _ _ j).trans ((congrFun (in_v12 m d) _).trans (read_col 1 _ _ j))
theorem read_Z (j : Fin 10000) : inZ (In m) d j.val = argP m d (ix2 j (2 : Fin 3)) :=
  (flat_at _ _ j).trans ((congrFun (in_v14 m d) _).trans (read_col 2 _ _ j))

/-! ### The results -/

/-- The first fifty of sixty-four columns of a flat array of rows. -/
def fifty {α : Type} (f : S640000.Idx → α) : S10000x50.Idx → α :=
  extractStridedSlice S10000x50 ![0, 0] (shapeCast S10000x64 f shapeCasts_S640000_S10000x64) slices_S10000x64_S10000x50_0_0

theorem fifty_at {α : Type} (f : S640000.Idx → α) (r : Fin 10000) (c : Fin 50) :
    fifty f (ix2 r c) = f (ix1 ⟨64 * r.val + c.val, by have := r.isLt; have := c.isLt; omega⟩) := by
  have := c.isLt
  refine Eq.trans ?_ (cast_vector_matrix f shapeCasts_S640000_S10000x64 r (⟨c.val, by omega⟩ : Fin 64) _)
  unfold fifty extractStridedSlice
  refine congrArg _ (funext fun a => Fin.ext ?_)
  match a with
  | ⟨0, _⟩ => exact Nat.zero_add _
  | ⟨1, _⟩ => exact Nat.zero_add _

/-- Each edge's own point. -/
def centres : IVec S500000 32 :=
  shapeCast S500000 (broadcastInDim S10000x50 ![0, 1] bcast_S10000x1_S10000x50_0_1
    (broadcastInDim S10000x1 ![0] bcast_S10000_S10000x1_0 (iotaInDim S10000 32 0))) shapeCasts_S10000x50_S500000

theorem out_edges (f) : (Out m d f (Proc.devRef .tc main_v33) : IVec S2x1000000 32)
    = stackWords
      (broadcastInDim S1x1000000 ![1] bcast_S1000000_S1x1000000_1 (joinWords (shapeCast S500000 (fifty f.1) shapeCasts_S10000x50_S500000) centres))
      (broadcastInDim S1x1000000 ![1] bcast_S1000000_S1x1000000_1 (joinWords centres (shapeCast S500000 (fifty f.1) shapeCasts_S10000x50_S500000))) := by
  have h : (leave3 (fun _ => Late m d f) 1 d (Proc.devRef .tc main_v16) : IVec S10000x64 32) = shapeCast S10000x64 (f.1 : IVec S640000 32) shapeCasts_S640000_S10000x64 := by
    refine (leave3_of (fun _ => Late m d f) 1 d main_v16 (by decide)).trans ((opsD_of _ _ (by decide)).trans
      ((leave2_of (fun _ => Mid m d f) 1 d main_v16 (by decide)).trans ?_))
    have h := withOuts_0 (In m d) d f
    unfold Mid opsC
    after_results_simp
    exact congrArg (fun x => shapeCast S10000x64 x shapeCasts_S640000_S10000x64) h
  unfold Out opsE
  after_results_simp
  rw [h]
  rfl

/-! ### The last two calls -/

section Late
variable (f : Buf (Elt Ideal) (locT d main_v15_0) × Buf (Elt Ideal) (locT d main_v15_1))

theorem mid_squares : readSq (at_ fun _ => Mid m d f) d = shapeCast S10000x64 (f.2 : FVec Ideal S640000 .f32) shapeCasts_S640000_S10000x64 := by
  have h := withOuts_1 (In m d) d f
  show (Mid m d f (Proc.devRef .tc main_v17) : FVec Ideal S10000x64 .f32) = _
  unfold Mid opsC
  after_results_simp
  exact congrArg (fun x : FVec Ideal S640000 .f32 => shapeCast S10000x64 x shapeCasts_S640000_S10000x64) h

/-- A squared distance that the second call reads is one that the SparseCore's call left. -/
theorem mid_fifty (r : Fin 10000) (c : Fin 50) : readSq (at_ fun _ => Mid m d f) d (ix2 r (wide c)) = fifty (f.2 : FVec Ideal S640000 .f32) (ix2 r c) := by
  rw [mid_squares]
  unfold fifty extractStridedSlice
  refine congrArg _ (funext fun a => Fin.ext ?_)
  match a with
  | ⟨0, _⟩ => exact (Nat.zero_add _).symm
  | ⟨1, _⟩ => exact (Nat.zero_add _).symm

/-- The lengths the second call leaves, and the longest of every row. -/
def lengths : FVec Ideal S10000x50 .f32 := (dat2 (at_ fun _ => Mid m d f) 1 d).arrAt 1 cfg2.N
def longest : FVec Ideal S10000x1 .f32 := (dat2 (at_ fun _ => Mid m d f) 1 d).arrAt 2 cfg2.N

theorem late_cutoff : readCut (at_ fun _ => Late m d f) d
    = shapeCast S1 (Host.reduce (FloatOps.maximumf (F := Ideal) (φ := .f32)) (longest m d f) (constant S_ .f32 0xFF800000#32) reducesTo_S10000x1_S_d0_1 h_S_) shapeCasts_S_S1 := by
  have h := leave2_arr (fun _ => Mid m d f) 1 d 2
  show (Late m d f (Proc.devRef .tc main_v20) : FVec Ideal S1 .f32) = _
  unfold Late opsD
  after_results_simp
  exact congrArg (fun x : FVec Ideal S10000x1 .f32 => shapeCast S1 (Host.reduce (FloatOps.maximumf (F := Ideal) (φ := .f32)) x (constant S_ .f32 0xFF800000#32) reducesTo_S10000x1_S_d0_1 h_S_) shapeCasts_S_S1)
    (h : (leave2 (fun _ => Mid m d f) 1 d (Proc.devRef .tc main_v18_1) : FVec Ideal S10000x1 .f32) = longest m d f)

theorem late_lengths : readLen (at_ fun _ => Late m d f) d = shapeCast S500000x1 (lengths m d f) shapeCasts_S10000x50_S500000x1 := by
  have h := leave2_arr (fun _ => Mid m d f) 1 d 1
  show (Late m d f (Proc.devRef .tc main_v21) : FVec Ideal S500000x1 .f32) = _
  unfold Late opsD
  after_results_simp
  exact congrArg (fun x : FVec Ideal S10000x50 .f32 => shapeCast S500000x1 x shapeCasts_S10000x50_S500000x1)
    (h : (leave2 (fun _ => Mid m d f) 1 d (Proc.devRef .tc main_v18_0) : FVec Ideal S10000x50 .f32) = lengths m d f)

end Late

/-- The rows the last call leaves, one for each of half the edges. -/
def half (f : Buf (Elt Ideal) (locT d main_v15_0) × Buf (Elt Ideal) (locT d main_v15_1)) : FVec Ideal S500000x5 .f32 :=
  (dat3 (at_ fun _ => Late m d f) 1 d).arrAt 2 cfg3.N

theorem out_rows (f) : (Out m d f (Proc.devRef .tc main_v34) : FVec Ideal S1000000x5 .f32)
    = joinRows (half m d f) (half m d f) := by
  have h := leave3_arr (fun _ => Late m d f) 1 d 2
  unfold Out opsE
  after_results_simp
  exact congrArg (fun x => joinRows (F := Ideal) x x) h

end Cert.Proof.Knn

end

end
-- ==== Proof.ReferenceRun.lean ====
/-
  ReferenceRun: the reference's program as a list of host operations, what each named intermediate is as a term of the argument, and its
  run: both results end at their terms. Adapted from the generated module of the same content, with more room for the proof that the
  second half of the program is its list.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.Knn.Ref

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v30`, named. It packs its operands into a list of dependent pairs
    whose shapes a later argument's type mentions, so `simp` cannot rewrite an operand where it stands; applied by
    name, the operands are plain arguments, which the window lemmas below rewrite before the name unfolds. -/
def fn_main_v30 : (⟨S1x500000, .i32⟩ : BufTy).Contents (Elt F) → (⟨S1x500000, .i32⟩ : BufTy).Contents (Elt F) → (⟨S2x500000, .i32⟩ : BufTy).Contents (Elt F) :=
  (fun a b => concatenate S2x500000 0 [⟨S1x500000, a⟩, ⟨S1x500000, b⟩] concatenates_S1x500000_S1x500000_S2x500000_d0)

/-- The function of the operation that writes `main_v32`, named. It packs its operands into a list of dependent pairs
    whose shapes a later argument's type mentions, so `simp` cannot rewrite an operand where it stands; applied by
    name, the operands are plain arguments, which the window lemmas below rewrite before the name unfolds. -/
def fn_main_v32 : (⟨S2x500000, .i32⟩ : BufTy).Contents (Elt F) → (⟨S2x500000, .i32⟩ : BufTy).Contents (Elt F) → (⟨S2x1000000, .i32⟩ : BufTy).Contents (Elt F) :=
  (fun a b => concatenate S2x1000000 1 [⟨S2x500000, a⟩, ⟨S2x500000, b⟩] concatenates_S2x500000_S2x500000_S2x1000000_d1)

/-- The function of the operation that writes `main_v58`, named. It packs its operands into a list of dependent pairs
    whose shapes a later argument's type mentions, so `simp` cannot rewrite an operand where it stands; applied by
    name, the operands are plain arguments, which the window lemmas below rewrite before the name unfolds. -/
def fn_main_v58 : (main_call0_v14 : Ref sig .tc).ty.Contents (Elt F) → (main_call0_v15 : Ref sig .tc).ty.Contents (Elt F) → (main_v58 : Ref sig .tc).ty.Contents (Elt F) :=
  (fun a b => concatenate S5 0 [⟨S4, a⟩, ⟨S1, b⟩] concatenates_S4_S1_S5_d0)

/-- @main's operations 1 … 60 of 113 (window `main_part0`). -/
abbrev ops_part0 : List (HloOp τ sig (Elt F)) :=
  [ binary main_arg0 main_arg0 main_v0 (mulf : (⟨S10000x3, .f32⟩ : BufTy).Contents (Elt F) → (⟨S10000x3, .f32⟩ : BufTy).Contents (Elt F) → (⟨S10000x3, .f32⟩ : BufTy).Contents (Elt F)),
    nullary main_cst (constant S_ .f32 0x00000000#32),
    binary main_v0 main_cst main_v1 ((fun x v => Host.reduceAdd x v reducesTo_S10000x3_S10000_d1 h_S_) : (⟨S10000x3, .f32⟩ : BufTy).Contents (Elt F) → (⟨S_, .f32⟩ : BufTy).Contents (Elt F) → (⟨S10000, .f32⟩ : BufTy).Contents (Elt F)),
    unary main_v1 main_v2 (broadcastInDim S10000x1 ![0] bcast_S10000_S10000x1_0 : (⟨S10000, .f32⟩ : BufTy).Contents (Elt F) → (⟨S10000x1, .f32⟩ : BufTy).Contents (Elt F)),
    unary main_v1 main_v3 (broadcastInDim S1x10000 ![1] bcast_S10000_S1x10000_1 : (⟨S10000, .f32⟩ : BufTy).Contents (Elt F) → (⟨S1x10000, .f32⟩ : BufTy).Contents (Elt F)),
    unary main_v2 main_v4 (broadcastInDim S10000x10000 ![0, 1] bcast_S10000x1_S10000x10000_0_1 : (⟨S10000x1, .f32⟩ : BufTy).Contents (Elt F) → (⟨S10000x10000, .f32⟩ : BufTy).Contents (Elt F)),
    unary main_v3 main_v5 (broadcastInDim S10000x10000 ![0, 1] bcast_S1x10000_S10000x10000_0_1 : (⟨S1x10000, .f32⟩ : BufTy).Contents (Elt F) → (⟨S10000x10000, .f32⟩ : BufTy).Contents (Elt F)),
    binary main_v4 main_v5 main_v6 (addf : (⟨S10000x10000, .f32⟩ : BufTy).Contents (Elt F) → (⟨S10000x10000, .f32⟩ : BufTy).Contents (Elt F) → (⟨S10000x10000, .f32⟩ : BufTy).Contents (Elt F)),
    unary main_arg0 main_v7 ((transpose S3x10000 [1, 0] · transposes_S10000x3_S3x10000_1_0) : (⟨S10000x3, .f32⟩ : BufTy).Contents (Elt F) → (⟨S3x10000, .f32⟩ : BufTy).Contents (Elt F)),
    binary main_arg0 main_v7 main_v8 ((fun l r => Host.dotGeneral dot_S10000x3_S3x10000_S10000x10000_1_0_0_1_n_n none l r) : (⟨S10000x3, .f32⟩ : BufTy).Contents (Elt F) → (⟨S3x10000, .f32⟩ : BufTy).Contents (Elt F) → (⟨S10000x10000, .f32⟩ : BufTy).Contents (Elt F)),
    nullary main_cst_0 (constant S_ .f32 0x40000000#32),
    unary main_cst_0 main_v9 (broadcastInDim S10000x10000 ![] bcast_S_S10000x10000 : (⟨S_, .f32⟩ : BufTy).Contents (Elt F) → (⟨S10000x10000, .f32⟩ : BufTy).Contents (Elt F)),
    binary main_v9 main_v8 main_v10 (mulf : (⟨S10000x10000, .f32⟩ : BufTy).Contents (Elt F) → (⟨S10000x10000, .f32⟩ : BufTy).Contents (Elt F) → (⟨S10000x10000, .f32⟩ : BufTy).Contents (Elt F)),
    binary main_v6 main_v10 main_v11 (subf : (⟨S10000x10000, .f32⟩ : BufTy).Contents (Elt F) → (⟨S10000x10000, .f32⟩ : BufTy).Contents (Elt F) → (⟨S10000x10000, .f32⟩ : BufTy).Contents (Elt F)),
    nullary main_cst_1 (constant S_ .f32 0x00000000#32),
    unary main_cst_1 main_v12 (broadcastInDim S10000x10000 ![] bcast_S_S10000x10000 : (⟨S_, .f32⟩ : BufTy).Contents (Elt F) → (⟨S10000x10000, .f32⟩ : BufTy).Contents (Elt F)),
    binary main_v11 main_v12 main_v13 (maximumf : (⟨S10000x10000, .f32⟩ : BufTy).Contents (Elt F) → (⟨S10000x10000, .f32⟩ : BufTy).Contents (Elt F) → (⟨S10000x10000, .f32⟩ : BufTy).Contents (Elt F)),
    nullary main_v14 (iotaInDim S10000x10000 32 0),
    nullary main_v15 (iotaInDim S10000x10000 32 1),
    nullary main_c (constantI S_ 32 0#32),
    unary main_c main_v16 (broadcastInDim S10000x10000 ![] bcast_S_S10000x10000 : (⟨S_, .i32⟩ : BufTy).Contents (Elt F) → (⟨S10000x10000, .i32⟩ : BufTy).Contents (Elt F)),
    binary main_v14 main_v16 main_v17 (addi : (⟨S10000x10000, .i32⟩ : BufTy).Contents (Elt F) → (⟨S10000x10000, .i32⟩ : BufTy).Contents (Elt F) → (⟨S10000x10000, .i32⟩ : BufTy).Contents (Elt F)),
    binary main_v17 main_v15 main_v18 (cmpi .eq : (⟨S10000x10000, .i32⟩ : BufTy).Contents (Elt F) → (⟨S10000x10000, .i32⟩ : BufTy).Contents (Elt F) → (⟨S10000x10000, .i1⟩ : BufTy).Contents (Elt F)),
    unary main_v18 main_v19 (uitofp .f32 : (⟨S10000x10000, .i1⟩ : BufTy).Contents (Elt F) → (⟨S10000x10000, .f32⟩ : BufTy).Contents (Elt F)),
    nullary main_cst_2 (constant S_ .f32 0x501502F9#32),
    unary main_cst_2 main_v20 (broadcastInDim S10000x10000 ![] bcast_S_S10000x10000 : (⟨S_, .f32⟩ : BufTy).Contents (Elt F) → (⟨S10000x10000, .f32⟩ : BufTy).Contents (Elt F)),
    binary main_v19 main_v20 main_v21 (mulf : (⟨S10000x10000, .f32⟩ : BufTy).Contents (Elt F) → (⟨S10000x10000, .f32⟩ : BufTy).Contents (Elt F) → (⟨S10000x10000, .f32⟩ : BufTy).Contents (Elt F)),
    binary main_v13 main_v21 main_v22 (addf : (⟨S10000x10000, .f32⟩ : BufTy).Contents (Elt F) → (⟨S10000x10000, .f32⟩ : BufTy).Contents (Elt F) → (⟨S10000x10000, .f32⟩ : BufTy).Contents (Elt F)),
    unary main_v22 main_v23 (Host.negf : (⟨S10000x10000, .f32⟩ : BufTy).Contents (Elt F) → (⟨S10000x10000, .f32⟩ : BufTy).Contents (Elt F)),
    unary main_v23 main_values ((fun x => (Host.topK S10000x50 1 (FloatOps.cmpfTotal .gt) x sliceFits_S10000x10000_S10000x50).1) : (⟨S10000x10000, .f32⟩ : BufTy).Contents (Elt F) → (⟨S10000x50, .f32⟩ : BufTy).Contents (Elt F)),
    unary main_v23 main_indices ((fun x => (Host.topK S10000x50 1 (FloatOps.cmpfTotal .gt) x sliceFits_S10000x10000_S10000x50).2) : (⟨S10000x10000, .f32⟩ : BufTy).Contents (Elt F) → (⟨S10000x50, .i32⟩ : BufTy).Contents (Elt F)),
    nullary main_v24 (iotaInDim S10000 32 0),
    unary main_v24 main_v25 (broadcastInDim S10000x50 ![0] bcast_S10000_S10000x50_0 : (⟨S10000, .i32⟩ : BufTy).Contents (Elt F) → (⟨S10000x50, .i32⟩ : BufTy).Contents (Elt F)),
    reshape main_v25 main_v26 (rfl : (.i32 : EltTy) = .i32) shapeCasts_S10000x50_S500000,
    reshape main_indices main_v27 (rfl : (.i32 : EltTy) = .i32) shapeCasts_S10000x50_S500000,
    unary main_v27 main_v28 (broadcastInDim S1x500000 ![1] bcast_S500000_S1x500000_1 : (⟨S500000, .i32⟩ : BufTy).Contents (Elt F) → (⟨S1x500000, .i32⟩ : BufTy).Contents (Elt F)),
    unary main_v26 main_v29 (broadcastInDim S1x500000 ![1] bcast_S500000_S1x500000_1 : (⟨S500000, .i32⟩ : BufTy).Contents (Elt F) → (⟨S1x500000, .i32⟩ : BufTy).Contents (Elt F)),
    binary main_v28 main_v29 main_v30 (fn_main_v30 (F := F)),
    unary main_v30 main_v31 (Host.reverse [0] : (⟨S2x500000, .i32⟩ : BufTy).Contents (Elt F) → (⟨S2x500000, .i32⟩ : BufTy).Contents (Elt F)),
    binary main_v30 main_v31 main_v32 (fn_main_v32 (F := F)),
    unary main_v32 main_v33 ((extractStridedSlice S1x1000000 ![0, 0] · slices_S2x1000000_S1x1000000_0_0) : (⟨S2x1000000, .i32⟩ : BufTy).Contents (Elt F) → (⟨S1x1000000, .i32⟩ : BufTy).Contents (Elt F)),
    reshape main_v33 main_v34 (rfl : (.i32 : EltTy) = .i32) shapeCasts_S1x1000000_S1000000,
    nullary main_c_3 (constantI S_ 32 0#32),
    unary main_c_3 main_v35 (broadcastInDim S1000000 ![] bcast_S_S1000000 : (⟨S_, .i32⟩ : BufTy).Contents (Elt F) → (⟨S1000000, .i32⟩ : BufTy).Contents (Elt F)),
    binary main_v34 main_v35 main_v36 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 10000#32),
    unary main_c_4 main_v37 (broadcastInDim S1000000 ![] bcast_S_S1000000 : (⟨S_, .i32⟩ : BufTy).Contents (Elt F) → (⟨S1000000, .i32⟩ : BufTy).Contents (Elt F)),
    binary main_v34 main_v37 main_v38 (addi : (⟨S1000000, .i32⟩ : BufTy).Contents (Elt F) → (⟨S1000000, .i32⟩ : BufTy).Contents (Elt F) → (⟨S1000000, .i32⟩ : BufTy).Contents (Elt F)),
    ternary main_v36 main_v38 main_v34 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v39 main_v40 (broadcastInDim S1000000x1 ![0] bcast_S1000000_S1000000x1_0 : (⟨S1000000, .i32⟩ : BufTy).Contents (Elt F) → (⟨S1000000x1, .i32⟩ : BufTy).Contents (Elt F)),
    binary main_arg0 main_v40 main_v41 ((fun x i => Host.gather gather_S10000x3_S1000000x1_S1000000x3_1_0_n_n_0_1_13 x i) : (⟨S10000x3, .f32⟩ : BufTy).Contents (Elt F) → (⟨S1000000x1, .i32⟩ : BufTy).Contents (Elt F) → (⟨S1000000x3, .f32⟩ : BufTy).Contents (Elt F)),
    unary main_v32 main_v42 ((extractStridedSlice S1x1000000 ![1, 0] · slices_S2x1000000_S1x1000000_1_0) : (⟨S2x1000000, .i32⟩ : BufTy).Contents (Elt F) → (⟨S1x1000000, .i32⟩ : BufTy).Contents (Elt F)),
    reshape main_v42 main_v43 (rfl : (.i32 : EltTy) = .i32) shapeCasts_S1x1000000_S1000000,
    nullary main_c_5 (constantI S_ 32 0#32),
    unary main_c_5 main_v44 (broadcastInDim S1000000 ![] bcast_S_S1000000 : (⟨S_, .i32⟩ : BufTy).Contents (Elt F) → (⟨S1000000, .i32⟩ : BufTy).Contents (Elt F)),
    binary main_v43 main_v44 main_v45 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 10000#32),
    unary main_c_6 main_v46 (broadcastInDim S1000000 ![] bcast_S_S1000000 : (⟨S_, .i32⟩ : BufTy).Contents (Elt F) → (⟨S1000000, .i32⟩ : BufTy).Contents (Elt F)),
    binary main_v43 main_v46 main_v47 (addi : (⟨S1000000, .i32⟩ : BufTy).Contents (Elt F) → (⟨S1000000, .i32⟩ : BufTy).Contents (Elt F) → (⟨S1000000, .i32⟩ : BufTy).Contents (Elt F)),
    ternary main_v45 main_v47 main_v43 main_v48 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ]

/-- @main's operations 61 … 113 of 113 (window `main_part1`). -/
abbrev ops_part1 : List (HloOp τ sig (Elt F)) :=
  [ unary main_v48 main_v49 (broadcastInDim S1000000x1 ![0] bcast_S1000000_S1000000x1_0 : (⟨S1000000, .i32⟩ : BufTy).Contents (Elt F) → (⟨S1000000x1, .i32⟩ : BufTy).Contents (Elt F)),
    binary main_arg0 main_v49 main_v50 ((fun x i => Host.gather gather_S10000x3_S1000000x1_S1000000x3_1_0_n_n_0_1_13 x i) : (⟨S10000x3, .f32⟩ : BufTy).Contents (Elt F) → (⟨S1000000x1, .i32⟩ : BufTy).Contents (Elt F) → (⟨S1000000x3, .f32⟩ : BufTy).Contents (Elt F)),
    binary main_v41 main_v50 main_v51 (subf : (⟨S1000000x3, .f32⟩ : BufTy).Contents (Elt F) → (⟨S1000000x3, .f32⟩ : BufTy).Contents (Elt F) → (⟨S1000000x3, .f32⟩ : BufTy).Contents (Elt F)),
    binary main_v51 main_v51 main_v52 (mulf : (⟨S1000000x3, .f32⟩ : BufTy).Contents (Elt F) → (⟨S1000000x3, .f32⟩ : BufTy).Contents (Elt F) → (⟨S1000000x3, .f32⟩ : BufTy).Contents (Elt F)),
    nullary main_cst_7 (constant S_ .f32 0x00000000#32),
    binary main_v52 main_cst_7 main_v53 ((fun x v => Host.reduceAdd x v reducesTo_S1000000x3_S1000000_d1 h_S_) : (⟨S1000000x3, .f32⟩ : BufTy).Contents (Elt F) → (⟨S_, .f32⟩ : BufTy).Contents (Elt F) → (⟨S1000000, .f32⟩ : BufTy).Contents (Elt F)),
    nullary main_cst_8 (constant S_ .f32 0x2B8CBCCC#32),
    unary main_cst_8 main_v54 (broadcastInDim S1000000 ![] bcast_S_S1000000 : (⟨S_, .f32⟩ : BufTy).Contents (Elt F) → (⟨S1000000, .f32⟩ : BufTy).Contents (Elt F)),
    binary main_v53 main_v54 main_v55 (addf : (⟨S1000000, .f32⟩ : BufTy).Contents (Elt F) → (⟨S1000000, .f32⟩ : BufTy).Contents (Elt F) → (⟨S1000000, .f32⟩ : BufTy).Contents (Elt F)),
    unary main_v55 main_v56 (Host.sqrt : (⟨S1000000, .f32⟩ : BufTy).Contents (Elt F) → (⟨S1000000, .f32⟩ : BufTy).Contents (Elt F)),
    nullary main_cst_9 (constant S_ .f32 0xFF800000#32),
    binary main_v56 main_cst_9 main_v57 ((fun x v => Host.reduce FloatOps.maximumf x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_10 (constant S_ .f32 0x00000000#32),
    TRef.unary (TRef.of (T := ⟨S_, .f32⟩) main_cst_10) (TRef.of (T := ⟨S_, .f32⟩) main_call0_v0) id,
    TRef.binary (TRef.of (T := ⟨S_, .f32⟩) main_v57) (TRef.of (T := ⟨S_, .f32⟩) main_call0_v0) (TRef.of (T := ⟨S_, .f32⟩) main_call0_v1) subf,
    TRef.nullary (TRef.of (T := ⟨S_, .f32⟩) main_call0_cst) (constant S_ .f32 0x40800000#32),
    TRef.binary (TRef.of (T := ⟨S_, .f32⟩) main_call0_v1) (TRef.of (T := ⟨S_, .f32⟩) main_call0_cst) (TRef.of (T := ⟨S_, .f32⟩) main_call0_v2) Host.divf,
    TRef.nullary (TRef.of (T := ⟨S4, .f32⟩) main_call0_v3) (sitofp .f32 (iotaInDim S4 32 0)),
    TRef.nullary (TRef.of (T := ⟨S_, .f32⟩) main_call0_cst_0) (constant S_ .f32 0x40800000#32),
    TRef.unary (TRef.of (T := ⟨S_, .f32⟩) main_call0_cst_0) (TRef.of (T := ⟨S4, .f32⟩) main_call0_v4) (broadcastInDim S4 ![] bcast_S_S4),
    TRef.binary (TRef.of (T := ⟨S4, .f32⟩) main_call0_v3) (TRef.of (T := ⟨S4, .f32⟩) main_call0_v4) (TRef.of (T := ⟨S4, .f32⟩) main_call0_v5) Host.divf,
    TRef.reshape (TRef.of (T := ⟨S_, .f32⟩) main_call0_v0) (TRef.of (T := ⟨S1, .f32⟩) main_call0_v6) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S4, .f32⟩) main_call0_v7) (broadcastInDim S4 ![] bcast_S_S4),
    TRef.binary (TRef.of (T := ⟨S4, .f32⟩) main_call0_v7) (TRef.of (T := ⟨S4, .f32⟩) main_call0_v5) (TRef.of (T := ⟨S4, .f32⟩) main_call0_v8) subf,
    TRef.unary (TRef.of (T := ⟨S1, .f32⟩) main_call0_v6) (TRef.of (T := ⟨S4, .f32⟩) main_call0_v9) (broadcastInDim S4 ![0] bcast_S1_S4_0),
    TRef.binary (TRef.of (T := ⟨S4, .f32⟩) main_call0_v9) (TRef.of (T := ⟨S4, .f32⟩) main_call0_v8) (TRef.of (T := ⟨S4, .f32⟩) main_call0_v10) mulf,
    TRef.reshape (TRef.of (T := ⟨S_, .f32⟩) main_v57) (TRef.of (T := ⟨S1, .f32⟩) main_call0_v11) (rfl : (.f32 : EltTy) = .f32) shapeCasts_S_S1,
    TRef.unary (TRef.of (T := ⟨S1, .f32⟩) main_call0_v11) (TRef.of (T := ⟨S4, .f32⟩) main_call0_v12) (broadcastInDim S4 ![0] bcast_S1_S4_0),
    TRef.binary (TRef.of (T := ⟨S4, .f32⟩) main_call0_v12) (TRef.of (T := ⟨S4, .f32⟩) main_call0_v5) (TRef.of (T := ⟨S4, .f32⟩) main_call0_v13) mulf,
    TRef.binary (TRef.of (T := ⟨S4, .f32⟩) main_call0_v10) (TRef.of (T := ⟨S4, .f32⟩) main_call0_v13) (TRef.of (T := ⟨S4, .f32⟩) main_call0_v14) addf,
    TRef.unary (TRef.of (T := ⟨S_, .f32⟩) main_v57) (TRef.of (T := ⟨S1, .f32⟩) main_call0_v15) (broadcastInDim S1 ![] bcast_S_S1),
    TRef.binary (TRef.of (T := ⟨S4, .f32⟩) main_call0_v14) (TRef.of (T := ⟨S1, .f32⟩) main_call0_v15) (TRef.of (T := ⟨S5, .f32⟩) main_v58) (fn_main_v58 (F := F)),
    unary main_v58 main_v59 ((extractStridedSlice S1 ![1] · slices_S5_S1_1) : (⟨S5, .f32⟩ : BufTy).Contents (Elt F) → (⟨S1, .f32⟩ : BufTy).Contents (Elt F)),
    reshape main_v59 main_v60 (rfl : (.f32 : EltTy) = .f32) shapeCasts_S1_S_,
    unary main_v58 main_v61 ((extractStridedSlice S1 ![0] · slices_S5_S1_0) : (⟨S5, .f32⟩ : BufTy).Contents (Elt F) → (⟨S1, .f32⟩ : BufTy).Contents (Elt F)),
    reshape main_v61 main_v62 (rfl : (.f32 : EltTy) = .f32) shapeCasts_S1_S_,
    binary main_v60 main_v62 main_v63 (subf : (⟨S_, .f32⟩ : BufTy).Contents (Elt F) → (⟨S_, .f32⟩ : BufTy).Contents (Elt F) → (⟨S_, .f32⟩ : BufTy).Contents (Elt F)),
    nullary main_cst_11 (constant S_ .f32 0x3089705F#32),
    binary main_v63 main_cst_11 main_v64 (addf : (⟨S_, .f32⟩ : BufTy).Contents (Elt F) → (⟨S_, .f32⟩ : BufTy).Contents (Elt F) → (⟨S_, .f32⟩ : BufTy).Contents (Elt F)),
    unary main_v56 main_v65 (broadcastInDim S1000000x1 ![0] bcast_S1000000_S1000000x1_0 : (⟨S1000000, .f32⟩ : BufTy).Contents (Elt F) → (⟨S1000000x1, .f32⟩ : BufTy).Contents (Elt F)),
    unary main_v58 main_v66 (broadcastInDim S1x5 ![1] bcast_S5_S1x5_1 : (⟨S5, .f32⟩ : BufTy).Contents (Elt F) → (⟨S1x5, .f32⟩ : BufTy).Contents (Elt F)),
    unary main_v65 main_v67 (broadcastInDim S1000000x5 ![0, 1] bcast_S1000000x1_S1000000x5_0_1 : (⟨S1000000x1, .f32⟩ : BufTy).Contents (Elt F) → (⟨S1000000x5, .f32⟩ : BufTy).Contents (Elt F)),
    unary main_v66 main_v68 (broadcastInDim S1000000x5 ![0, 1] bcast_S1x5_S1000000x5_0_1 : (⟨S1x5, .f32⟩ : BufTy).Contents (Elt F) → (⟨S1000000x5, .f32⟩ : BufTy).Contents (Elt F)),
    binary main_v67 main_v68 main_v69 (subf : (⟨S1000000x5, .f32⟩ : BufTy).Contents (Elt F) → (⟨S1000000x5, .f32⟩ : BufTy).Contents (Elt F) → (⟨S1000000x5, .f32⟩ : BufTy).Contents (Elt F)),
    binary main_v69 main_v69 main_v70 (mulf : (⟨S1000000x5, .f32⟩ : BufTy).Contents (Elt F) → (⟨S1000000x5, .f32⟩ : BufTy).Contents (Elt F) → (⟨S1000000x5, .f32⟩ : BufTy).Contents (Elt F)),
    unary main_v70 main_v71 (Host.negf : (⟨S1000000x5, .f32⟩ : BufTy).Contents (Elt F) → (⟨S1000000x5, .f32⟩ : BufTy).Contents (Elt F)),
    nullary main_cst_12 (constant S_ .f32 0x40000000#32),
    binary main_cst_12 main_v64 main_v72 (mulf : (⟨S_, .f32⟩ : BufTy).Contents (Elt F) → (⟨S_, .f32⟩ : BufTy).Contents (Elt F) → (⟨S_, .f32⟩ : BufTy).Contents (Elt F)),
    binary main_v72 main_v64 main_v73 (mulf : (⟨S_, .f32⟩ : BufTy).Contents (Elt F) → (⟨S_, .f32⟩ : BufTy).Contents (Elt F) → (⟨S_, .f32⟩ : BufTy).Contents (Elt F)),
    unary main_v73 main_v74 (broadcastInDim S1000000x5 ![] bcast_S_S1000000x5 : (⟨S_, .f32⟩ : BufTy).Contents (Elt F) → (⟨S1000000x5, .f32⟩ : BufTy).Contents (Elt F)),
    binary main_v71 main_v74 main_v75 (Host.divf : (⟨S1000000x5, .f32⟩ : BufTy).Contents (Elt F) → (⟨S1000000x5, .f32⟩ : BufTy).Contents (Elt F) → (⟨S1000000x5, .f32⟩ : BufTy).Contents (Elt F)),
    unary main_v75 main_v76 (Host.exp : (⟨S1000000x5, .f32⟩ : BufTy).Contents (Elt F) → (⟨S1000000x5, .f32⟩ : BufTy).Contents (Elt F)) ]

/-- @main's 113 operations, in order (a called function's operations stand in its call's place, spelt `TRef.…`). -/
abbrev ops : List (HloOp τ sig (Elt F)) :=
  ops_part0 ++ (ops_part1)

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., unary_bufs_sub .., unary_bufs_sub .., unary_bufs_sub .., nullary_bufs_sub .., unary_bufs_sub .., reshape_bufs_sub .., reshape_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., binary_bufs_sub .., binary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., reshape_bufs_sub .., unary_bufs_sub .., reshape_bufs_sub .., binary_bufs_sub .., nullary_bufs_sub .., binary_bufs_sub .., unary_bufs_sub .., unary_bufs_sub .., unary_bufs_sub .., unary_bufs_sub .., binary_bufs_sub .., binary_bufs_sub .., unary_bufs_sub .., nullary_bufs_sub .., binary_bufs_sub .., binary_bufs_sub .., unary_bufs_sub .., binary_bufs_sub .., unary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]
theorem ops_fresh : ∀ op ∈ (ops : List (HloOp τ sig (Elt F))), op.fresh = ∅ := fun op h => by
    simp only [ops, List.mem_append] at h
    rcases h with h | h
    exacts [List.forall_iff_forall_mem.mp ops_part0_fresh op h, List.forall_iff_forall_mem.mp ops_part1_fresh op h]

set_option maxRecDepth 8192 in
/-- `main_v1`'s composed term of the arguments (named: it is used 2 times). -/
def res_main_v1 (V0 : Valuation τ sig (Elt F)) : (Proc.devRef .tc main_v1 : DevRef τ sig).ty.Contents (Elt F) :=
  Host.reduceAdd (mulf (V0 (Proc.devRef .tc main_arg0)) (V0 (Proc.devRef .tc main_arg0))) (constant S_ .f32 0x00000000#32) reducesTo_S10000x3_S10000_d1 h_S_

set_option maxRecDepth 8192 in
/-- `main_v23`'s composed term of the arguments (named: it is used 2 times). -/
def res_main_v23 (V0 : Valuation τ sig (Elt F)) : (Proc.devRef .tc main_v23 : DevRef τ sig).ty.Contents (Elt F) :=
  Host.negf (addf (maximumf (subf (addf (broadcastInDim S10000x10000 ![0, 1] bcast_S10000x1_S10000x10000_0_1 (broadcastInDim S10000x1 ![0] bcast_S10000_S10000x1_0 (res_main_v1 V0))) (broadcastInDim S10000x10000 ![0, 1] bcast_S1x10000_S10000x10000_0_1 (broadcastInDim S1x10000 ![1] bcast_S10000_S1x10000_1 (res_main_v1 V0)))) (mulf (broadcastInDim S10000x10000 ![] bcast_S_S10000x10000 (constant S_ .f32 0x40000000#32)) (Host.dotGeneral dot_S10000x3_S3x10000_S10000x10000_1_0_0_1_n_n none (V0 (Proc.devRef .tc main_arg0)) (transpose S3x10000 [1, 0] (V0 (Proc.devRef .tc main_arg0)) transposes_S10000x3_S3x10000_1_0)))) (broadcastInDim S10000x10000 ![] bcast_S_S10000x10000 (constant S_ .f32 0x00000000#32))) (mulf (uitofp .f32 (cmpi .eq (addi (iotaInDim S10000x10000 32 0) (broadcastInDim S10000x10000 ![] bcast_S_S10000x10000 (constantI S_ 32 0#32))) (iotaInDim S10000x10000 32 1))) (broadcastInDim S10000x10000 ![] bcast_S_S10000x10000 (constant S_ .f32 0x501502F9#32))))

set_option maxRecDepth 8192 in
/-- `main_v30`'s composed term of the arguments (named: it is used 2 times). -/
def res_main_v30 (V0 : Valuation τ sig (Elt F)) : (Proc.devRef .tc main_v30 : DevRef τ sig).ty.Contents (Elt F) :=
  concatenate S2x500000 0 [⟨S1x500000, (broadcastInDim S1x500000 ![1] bcast_S500000_S1x500000_1 (shapeCast _ ((Host.topK S10000x50 1 (FloatOps.cmpfTotal .gt) (res_main_v23 V0) sliceFits_S10000x10000_S10000x50).2) shapeCasts_S10000x50_S500000))⟩, ⟨S1x500000, (broadcastInDim S1x500000 ![1] bcast_S500000_S1x500000_1 (shapeCast _ (broadcastInDim S10000x50 ![0] bcast_S10000_S10000x50_0 (iotaInDim S10000 32 0)) shapeCasts_S10000x50_S500000))⟩] concatenates_S1x500000_S1x500000_S2x500000_d0

set_option maxRecDepth 8192 in
/-- `main_v32`'s composed term of the arguments (named: it is used 2 times). -/
def res_main_v32 (V0 : Valuation τ sig (Elt F)) : (Proc.devRef .tc main_v32 : DevRef τ sig).ty.Contents (Elt F) :=
  concatenate S2x1000000 1 [⟨S2x500000, (res_main_v30 V0)⟩, ⟨S2x500000, (Host.reverse [0] (res_main_v30 V0))⟩] concatenates_S2x500000_S2x500000_S2x1000000_d1

set_option maxRecDepth 8192 in
/-- `main_v34`'s composed term of the arguments (named: it is used 3 times). -/
def res_main_v34 (V0 : Valuation τ sig (Elt F)) : (Proc.devRef .tc main_v34 : DevRef τ sig).ty.Contents (Elt F) :=
  shapeCast _ (extractStridedSlice S1x1000000 ![0, 0] (res_main_v32 V0) slices_S2x1000000_S1x1000000_0_0) shapeCasts_S1x1000000_S1000000

set_option maxRecDepth 8192 in
/-- `main_v43`'s composed term of the arguments (named: it is used 3 times). -/
def res_main_v43 (V0 : Valuation τ sig (Elt F)) : (Proc.devRef .tc main_v43 : DevRef τ sig).ty.Contents (Elt F) :=
  shapeCast _ (extractStridedSlice S1x1000000 ![1, 0] (res_main_v32 V0) slices_S2x1000000_S1x1000000_1_0) shapeCasts_S1x1000000_S1000000

set_option maxRecDepth 8192 in
/-- `main_v51`'s composed term of the arguments (named: it is used 2 times). -/
def res_main_v51 (V0 : Valuation τ sig (Elt F)) : (Proc.devRef .tc main_v51 : DevRef τ sig).ty.Contents (Elt F) :=
  subf (Host.gather gather_S10000x3_S1000000x1_S1000000x3_1_0_n_n_0_1_13 (V0 (Proc.devRef .tc main_arg0)) (broadcastInDim S1000000x1 ![0] bcast_S1000000_S1000000x1_0 (select (cmpi .slt (res_main_v34 V0) (broadcastInDim S1000000 ![] bcast_S_S1000000 (constantI S_ 32 0#32))) (addi (res_main_v34 V0) (broadcastInDim S1000000 ![] bcast_S_S1000000 (constantI S_ 32 10000#32))) (res_main_v34 V0)))) (Host.gather gather_S10000x3_S1000000x1_S1000000x3_1_0_n_n_0_1_13 (V0 (Proc.devRef .tc main_arg0)) (broadcastInDim S1000000x1 ![0] bcast_S1000000_S1000000x1_0 (select (cmpi .slt (res_main_v43 V0) (broadcastInDim S1000000 ![] bcast_S_S1000000 (constantI S_ 32 0#32))) (addi (res_main_v43 V0) (broadcastInDim S1000000 ![] bcast_S_S1000000 (constantI S_ 32 10000#32))) (res_main_v43 V0))))

set_option maxRecDepth 8192 in
/-- `main_v56`'s composed term of the arguments (named: it is used 2 times). -/
def res_main_v56 (V0 : Valuation τ sig (Elt F)) : (Proc.devRef .tc main_v56 : DevRef τ sig).ty.Contents (Elt F) :=
  Host.sqrt (addf (Host.reduceAdd (mulf (res_main_v51 V0) (res_main_v51 V0)) (constant S_ .f32 0x00000000#32) reducesTo_S1000000x3_S1000000_d1 h_S_) (broadcastInDim S1000000 ![] bcast_S_S1000000 (constant S_ .f32 0x2B8CBCCC#32)))

set_option maxRecDepth 8192 in
/-- `main_v57`'s composed term of the arguments (named: it is used 3 times). -/
def res_main_v57 (V0 : Valuation τ sig (Elt F)) : (Proc.devRef .tc main_v57 : DevRef τ sig).ty.Contents (Elt F) :=
  Host.reduce FloatOps.maximumf (res_main_v56 V0) (constant S_ .f32 0xFF800000#32) reducesTo_S1000000_S_d0 h_S_

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  id (constant S_ .f32 0x00000000#32)

set_option maxRecDepth 8192 in
/-- `main_call0_v5`'s composed term of the arguments (named: it is used 2 times). -/
def res_main_call0_v5 (V0 : Valuation τ sig (Elt F)) : (Proc.devRef .tc main_call0_v5 : DevRef τ sig).ty.Contents (Elt F) :=
  Host.divf (sitofp .f32 (iotaInDim S4 32 0)) (broadcastInDim S4 ![] bcast_S_S4 (constant S_ .f32 0x40800000#32))

set_option maxRecDepth 8192 in
/-- `main_v58`'s composed term of the arguments (named: it is used 3 times). -/
def res_main_v58 (V0 : Valuation τ sig (Elt F)) : (Proc.devRef .tc main_v58 : DevRef τ sig).ty.Contents (Elt F) :=
  concatenate S5 0 [⟨S4, (addf (mulf (broadcastInDim S4 ![0] bcast_S1_S4_0 (shapeCast _ (res_main_call0_v0 V0) shapeCasts_S_S1)) (subf (broadcastInDim S4 ![] bcast_S_S4 (constant S_ .f32 0x3F800000#32)) (res_main_call0_v5 V0))) (mulf (broadcastInDim S4 ![0] bcast_S1_S4_0 (shapeCast _ (res_main_v57 V0) shapeCasts_S_S1)) (res_main_call0_v5 V0)))⟩, ⟨S1, (broadcastInDim S1 ![] bcast_S_S1 (res_main_v57 V0))⟩] concatenates_S4_S1_S5_d0

set_option maxRecDepth 8192 in
/-- `main_v64`'s composed term of the arguments (named: it is used 2 times). -/
def res_main_v64 (V0 : Valuation τ sig (Elt F)) : (Proc.devRef .tc main_v64 : DevRef τ sig).ty.Contents (Elt F) :=
  addf (subf (shapeCast _ (extractStridedSlice S1 ![1] (res_main_v58 V0) slices_S5_S1_1) shapeCasts_S1_S_) (shapeCast _ (extractStridedSlice S1 ![0] (res_main_v58 V0) slices_S5_S1_0) shapeCasts_S1_S_)) (constant S_ .f32 0x3089705F#32)

set_option maxRecDepth 8192 in
/-- `main_v69`'s composed term of the arguments (named: it is used 2 times). -/
def res_main_v69 (V0 : Valuation τ sig (Elt F)) : (Proc.devRef .tc main_v69 : DevRef τ sig).ty.Contents (Elt F) :=
  subf (broadcastInDim S1000000x5 ![0, 1] bcast_S1000000x1_S1000000x5_0_1 (broadcastInDim S1000000x1 ![0] bcast_S1000000_S1000000x1_0 (res_main_v56 V0))) (broadcastInDim S1000000x5 ![0, 1] bcast_S1x5_S1000000x5_0_1 (broadcastInDim S1x5 ![1] bcast_S5_S1x5_1 (res_main_v58 V0)))

/-- `res_main_v32` by its position among the values @main returns, 0 counting from 0: the name for hand proofs to cite, since
    a re-print renumbers `main_v32`. An abbreviation: it unfolds to the `res_main_v32` that `run` states. -/
abbrev res_out0 (V0 : Valuation τ sig (Elt F)) : (Proc.devRef .tc main_v32 : DevRef τ sig).ty.Contents (Elt F) := res_main_v32 V0

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_cst, main_v1, main_v2, main_v3, main_v4, main_v5, main_v6, main_v7, main_v8, main_cst_0, main_v9, main_v10, main_v11, main_cst_1, main_v12, main_v13, main_v14, main_v15, main_c, main_v16, main_v17, main_v18, main_v19, main_cst_2, main_v20, main_v21, main_v22, main_v23, main_values, main_indices, main_v24, main_v25, main_v26, main_v27, main_v28, main_v29, main_v30, main_v31, main_v32, main_v33, main_v34, main_c_3, main_v35, main_v36, main_c_4, main_v37, main_v38, main_v39, main_v40, main_v41, main_v42, main_v43, main_c_5, main_v44, main_v45, main_c_6, main_v46, main_v47, main_v48]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
set_option maxRecDepth 8192 in
set_option maxHeartbeats 2000000 in
theorem val1_main_v32 (V0 : Valuation τ sig (Elt F)) : val1 V0 (no_index (Proc.devRef .tc main_v32)) = res_main_v32 V0 := by
  unfold val1
  simp only [ops_part0]
  after_results_simp
  simp only [val0_main_arg0] <;> rfl
set_option maxRecDepth 8192 in
set_option maxHeartbeats 2000000 in
theorem val1_main_v41 (V0 : Valuation τ sig (Elt F)) : val1 V0 (no_index (Proc.devRef .tc main_v41)) = Host.gather gather_S10000x3_S1000000x1_S1000000x3_1_0_n_n_0_1_13 (V0 (Proc.devRef .tc main_arg0)) (broadcastInDim S1000000x1 ![0] bcast_S1000000_S1000000x1_0 (select (cmpi .slt (res_main_v34 V0) (broadcastInDim S1000000 ![] bcast_S_S1000000 (constantI S_ 32 0#32))) (addi (res_main_v34 V0) (broadcastInDim S1000000 ![] bcast_S_S1000000 (constantI S_ 32 10000#32))) (res_main_v34 V0))) := by
  unfold val1
  simp only [ops_part0]
  after_results_simp
  simp only [val0_main_arg0] <;> rfl
set_option maxRecDepth 8192 in
set_option maxHeartbeats 2000000 in
theorem val1_main_v48 (V0 : Valuation τ sig (Elt F)) : val1 V0 (no_index (Proc.devRef .tc main_v48)) = select (cmpi .slt (res_main_v43 V0) (broadcastInDim S1000000 ![] bcast_S_S1000000 (constantI S_ 32 0#32))) (addi (res_main_v43 V0) (broadcastInDim S1000000 ![] bcast_S_S1000000 (constantI S_ 32 10000#32))) (res_main_v43 V0) := by
  unfold val1
  simp only [ops_part0]
  after_results_simp
  simp only [val0_main_arg0] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v49, main_v50, main_v51, main_v52, main_cst_7, main_v53, main_cst_8, main_v54, main_v55, main_v56, main_cst_9, main_v57, main_cst_10, main_call0_v0, main_call0_v1, main_call0_cst, main_call0_v2, main_call0_v3, main_call0_cst_0, main_call0_v4, main_call0_v5, main_call0_v6, main_call0_cst_1, main_call0_v7, main_call0_v8, main_call0_v9, main_call0_v10, main_call0_v11, main_call0_v12, main_call0_v13, main_call0_v14, main_call0_v15, main_v58, main_v59, main_v60, main_v61, main_v62, main_v63, main_cst_11, main_v64, main_v65, main_v66, main_v67, main_v68, main_v69, main_v70, main_v71, main_cst_12, main_v72, main_v73, main_v74, main_v75, main_v76]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_v32 (V0 : Valuation τ sig (Elt F)) : val2 V0 (no_index (Proc.devRef .tc main_v32)) = res_main_v32 V0 :=
  (val2_keep V0 main_v32 (by decide)).trans (val1_main_v32 V0)
set_option maxRecDepth 8192 in
set_option maxHeartbeats 2000000 in
theorem val2_main_v76 (V0 : Valuation τ sig (Elt F)) : val2 V0 (no_index (Proc.devRef .tc main_v76)) = Host.exp (Host.divf (Host.negf (mulf (res_main_v69 V0) (res_main_v69 V0))) (broadcastInDim S1000000x5 ![] bcast_S_S1000000x5 (mulf (mulf (constant S_ .f32 0x40000000#32) (res_main_v64 V0)) (res_main_v64 V0)))) := by
  unfold val2
  simp only [ops_part1, TRef.binary, TRef.nullary, TRef.reshape, TRef.unary, TRef.toBuf, TRef.ofBuf, cast_eq]
  after_results_simp
  simp only [val1_main_v48, val1_main_arg0, val1_main_v41] <;> rfl

theorem after_ops (V0 : Valuation τ sig (Elt F)) : after ops V0 = val2 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = res_main_v32 (launchContents m c)
      ∧ r.2.mem ((c.tc : Thread nD τ).loc main_v76) = Host.exp (Host.divf (Host.negf (mulf (res_main_v69 (launchContents m c)) (res_main_v69 (launchContents m c)))) (broadcastInDim S1000000x5 ![] bcast_S_S1000000x5 (mulf (mulf (constant S_ .f32 0x40000000#32) (res_main_v64 (launchContents m c))) (res_main_v64 (launchContents m c)))))
      ∧ r.2.mem ((c.tc : Thread nD τ).loc main_arg0) = m ((c.tc : Thread nD τ).loc main_arg0) :=
  (θ_run defs _ _).mono (fun _ h c => ⟨(h c main_v32).trans ((congrFun (after_ops (launchContents m c)) (Proc.devRef .tc main_v32)).trans (val2_main_v32 (launchContents m c))),
      (h c main_v76).trans ((congrFun (after_ops (launchContents m c)) (Proc.devRef .tc main_v76)).trans (val2_main_v76 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.Proof.Knn.Ref

end
-- ==== Proof.Reference.lean ====
/-
  Reference: the reference's edges, their lengths and the longest of them, read at an edge.
-/
module

public import proofs.«01_k».proof.Proof.Layout
public import proofs.«01_k».proof.Proof.Edges
public import proofs.«01_k».proof.Proof.ReferenceRun

@[expose] public section
noncomputable section

set_option maxRecDepth 16384

namespace Cert.Proof.Knn

open Idealize.ShloMosaic Idealize.ShloMosaic.TcCoe Idealize.ShloMosaic.Tactic

/-! ## The edges -/

/-- Each edge's own point, as the reference writes it. -/
def ends : IVec Cert.ReferenceIdeal.S500000 32 :=
  shapeCast _ (broadcastInDim Cert.ReferenceIdeal.S10000x50 ![0] Cert.ReferenceIdeal.Facts₀.bcast_S10000_S10000x50_0 (iotaInDim Cert.ReferenceIdeal.S10000 32 0))
    Cert.ReferenceIdeal.Facts₀.shapeCasts_S10000x50_S500000

variable (D : FVec Ideal (⟨2, ![10000, 10000]⟩ : Shape) .f32) (P : Points)

/-- Each edge's other point. -/
def other : IVec Cert.ReferenceIdeal.S500000 32 := shapeCast _ (nbrs D) Cert.ReferenceIdeal.Facts₀.shapeCasts_S10000x50_S500000

theorem ends_at (r : Fin 10000) (c : Fin 50) (e : 50 * r.val + c.val < 500000) : ends (ix1 ⟨50 * r.val + c.val, e⟩) = BitVec.ofNat 32 r.val := by
  refine (cast_matrix_vector _ _ r c e).trans ?_
  refine (broadcastInDim_apply _ _ _ _ (ix1 r) fun a => ?_).trans rfl
  match a with
  | ⟨0, _⟩ => exact (if_neg (show ¬ (10000 : ℕ) = 1 by norm_num)).symm

theorem other_at (r : Fin 10000) (c : Fin 50) (e : 50 * r.val + c.val < 500000) :
    other D (ix1 ⟨50 * r.val + c.val, e⟩) = BitVec.ofNat 32 (nearest (rowOf D r) c).val := cast_matrix_vector _ _ r c e

/-- The edge list as the reference lays it out. -/
def edges : IVec Cert.ReferenceIdeal.S2x1000000 32 :=
  Ref.fn_main_v32 (F := Ideal)
    (Ref.fn_main_v30 (F := Ideal) (broadcastInDim Cert.ReferenceIdeal.S1x500000 ![1] Cert.ReferenceIdeal.Facts₀.bcast_S500000_S1x500000_1 (other D))
      (broadcastInDim Cert.ReferenceIdeal.S1x500000 ![1] Cert.ReferenceIdeal.Facts₀.bcast_S500000_S1x500000_1 ends))
    (Host.reverse [0] (Ref.fn_main_v30 (F := Ideal) (broadcastInDim Cert.ReferenceIdeal.S1x500000 ![1] Cert.ReferenceIdeal.Facts₀.bcast_S500000_S1x500000_1 (other D))
      (broadcastInDim Cert.ReferenceIdeal.S1x500000 ![1] Cert.ReferenceIdeal.Facts₀.bcast_S500000_S1x500000_1 ends)))

/-- The same from its two rows. -/
theorem edges_rows (h1 : Shape.Concatenates [(⟨1, ![500000]⟩ : Shape), ⟨1, ![500000]⟩] (⟨1, ![1000000]⟩ : Shape) 0)
    (hb : (⟨1, ![1000000]⟩ : Shape).BroadcastsInDim ⟨2, ![1, 1000000]⟩ ![1])
    (h2 : Shape.Concatenates [(⟨2, ![1, 1000000]⟩ : Shape), ⟨2, ![1, 1000000]⟩] (⟨2, ![2, 1000000]⟩ : Shape) 0) :
    edges D = concatenate ⟨2, ![2, 1000000]⟩ 0
      [⟨⟨2, ![1, 1000000]⟩, broadcastInDim ⟨2, ![1, 1000000]⟩ ![1] hb (concatenate ⟨1, ![1000000]⟩ 0 [⟨⟨1, ![500000]⟩, other D⟩, ⟨⟨1, ![500000]⟩, ends⟩] h1)⟩,
       ⟨⟨2, ![1, 1000000]⟩, broadcastInDim ⟨2, ![1, 1000000]⟩ ![1] hb (concatenate ⟨1, ![1000000]⟩ 0 [⟨⟨1, ![500000]⟩, ends⟩, ⟨⟨1, ![500000]⟩, other D⟩] h1)⟩] h2 := by
  unfold edges Ref.fn_main_v32 Ref.fn_main_v30
  exact (edges_eq (by norm_num) (by norm_num) (by norm_num) (other D) ends _ _ _ _ _ _).symm

theorem edges_at (i : Fin 2) (e : Fin 1000000) : edges D (ix2 i e) = if i = 0
    then if hc : e.val < 500000 then other D (ix1 ⟨e.val, hc⟩) else ends (ix1 ⟨e.val - 500000, by have := e.isLt; omega⟩)
    else if hc : e.val < 500000 then ends (ix1 ⟨e.val, hc⟩) else other D (ix1 ⟨e.val - 500000, by have := e.isLt; omega⟩) := by
  rw [edges_rows D Cert.KernelIdeal.Facts₀.concatenates_S500000_S500000_S1000000_d0 Cert.KernelIdeal.Facts₀.bcast_S1000000_S1x1000000_1
    Cert.KernelIdeal.Facts₀.concatenates_S1x1000000_S1x1000000_S2x1000000_d0]
  rw [rows_two (by norm_num), joined _ _ _ (by norm_num), joined _ _ _ (by norm_num)]

/-- One row of the edge list. -/
def side (o : Fin 2) (h : Cert.ReferenceIdeal.S2x1000000.Slices ![o.val, 0] Cert.ReferenceIdeal.S1x1000000) : IVec Cert.ReferenceIdeal.S1000000 32 :=
  shapeCast _ (extractStridedSlice Cert.ReferenceIdeal.S1x1000000 ![o.val, 0] (edges D) h) Cert.ReferenceIdeal.Facts₀.shapeCasts_S1x1000000_S1000000

theorem side_at (o : Fin 2) (h) (e : Fin 1000000) : side D o h (ix1 e) = edges D (ix2 o e) := by
  unfold side
  refine (shapeCast_apply _ _ (ix1 e) (ix2 (0 : Fin 1) e) ?_).trans ?_
  · rw [Shape.rowMajor_val_two, Shape.rowMajor_val_one]
    show 0 * 1000000 + e.val = e.val
    omega
  · unfold extractStridedSlice
    refine congrArg (edges D) (funext fun a => Fin.ext ?_)
    match a with
    | ⟨0, _⟩ => exact Nat.add_zero _
    | ⟨1, _⟩ => exact Nat.zero_add _

/-! ## Their lengths -/

theorem sq_real {P : Points} (h : Finite P) (r j : Fin 10000) : ∃ x : ℝ, 0 ≤ x ∧ sq P r j = x ∧ sq P j r = x := by
  unfold sq
  obtain ⟨x0, e0⟩ := h.real (ix2 r (0 : Fin 3))
  obtain ⟨x1, e1⟩ := h.real (ix2 r (1 : Fin 3))
  obtain ⟨x2, e2⟩ := h.real (ix2 r (2 : Fin 3))
  obtain ⟨y0, f0⟩ := h.real (ix2 j (0 : Fin 3))
  obtain ⟨y1, f1⟩ := h.real (ix2 j (1 : Fin 3))
  obtain ⟨y2, f2⟩ := h.real (ix2 j (2 : Fin 3))
  rw [e0, e1, e2, f0, f1, f2]
  refine ⟨(y0 - x0) * (y0 - x0) + (y1 - x1) * (y1 - x1) + (y2 - x2) * (y2 - x2), by nlinarith [mul_self_nonneg (y0 - x0), mul_self_nonneg (y1 - x1), mul_self_nonneg (y2 - x2)], by push_cast; rfl, ?_⟩
  rw [← EReal.coe_sub, ← EReal.coe_sub, ← EReal.coe_sub, ← EReal.coe_mul, ← EReal.coe_mul, ← EReal.coe_mul, ← EReal.coe_add, ← EReal.coe_add]
  exact congrArg _ (by ring)

theorem length_real {x : ℝ} (h : 0 ≤ x) : ∃ y : ℝ, 0 ≤ y ∧ length x = y := by
  have hw : ∃ w : ℝ, 0 < w ∧ Ideal.ofBits .f32 0x2B8CBCCC#32 = (w : EReal) := by
    refine ⟨_, ?_, by simp [Ideal.ofBits, Ideal.ieee]; rfl⟩
    norm_num
  obtain ⟨w, hw, e⟩ := hw
  refine ⟨Real.sqrt (x + w), Real.sqrt_nonneg _, ?_⟩
  unfold length
  rw [e, ← EReal.coe_add, Ideal.sqrt_coe, if_neg (by linarith)]

/-- The length of the edge from a point to one of its nearest. -/
def reach (r : Fin 10000) (c : Fin 50) : EReal := length (sq P r (nearest (rowOf (distances P) r) c))

theorem reach_real {P : Points} (h : Finite P) (r c) : ∃ y : ℝ, 0 ≤ y ∧ reach P r c = y := by
  obtain ⟨x, hx, e, -⟩ := sq_real h r (nearest (rowOf (distances P) r) c)
  unfold reach
  rw [e]
  exact length_real hx

/-- The longest. -/
def cutoff : EReal := Finset.univ.sup fun r : Fin 10000 => Finset.univ.sup fun c : Fin 50 => reach P r c

theorem cutoff_real {P : Points} (h : Finite P) : ∃ y : ℝ, 0 ≤ y ∧ cutoff P = y := by
  obtain ⟨r, -, hr⟩ := Finset.exists_mem_eq_sup (Finset.univ : Finset (Fin 10000)) ⟨0, Finset.mem_univ _⟩ (fun r => Finset.univ.sup fun c : Fin 50 => reach P r c)
  obtain ⟨c, -, hc⟩ := Finset.exists_mem_eq_sup (Finset.univ : Finset (Fin 50)) ⟨0, Finset.mem_univ _⟩ (fun c => reach P r c)
  obtain ⟨y, hy, e⟩ := reach_real h r c
  exact ⟨y, hy, hr.trans (hc.trans e)⟩

/-- The point that an edge is at, and which of its nearest the edge goes to: the second half of the edges are the first half's reversals. -/
def edgeRow (e : Fin 1000000) : Fin 10000 := ⟨e.val % 500000 / 50, by omega⟩
def edgeCol (e : Fin 1000000) : Fin 50 := ⟨e.val % 50, by omega⟩

/-- The lengths of all edges, as the reference writes them. -/
def lengthsAll (src dst : IVec (⟨1, ![1000000]⟩ : Shape) 32) : FVec Ideal (⟨1, ![1000000]⟩ : Shape) .f32 :=
  Host.sqrt (addf (squares P src dst) (broadcastInDim Cert.ReferenceIdeal.S1000000 ![] Cert.ReferenceIdeal.Facts₀.bcast_S_S1000000 (constant Cert.ReferenceIdeal.S_ .f32 0x2B8CBCCC#32)))

theorem squares_sides {P : Points} (hP : Finite P) (h0 h1) (e : Fin 1000000) :
    squares P (side (distances P) 0 h0) (side (distances P) 1 h1) (ix1 e) = sq P (edgeRow e) (nearest (rowOf (distances P) (edgeRow e)) (edgeCol e)) := by
  have hel := e.isLt
  have s0 := side_at (distances P) 0 h0 e
  have s1 := side_at (distances P) 1 h1 e
  rw [edges_at, if_pos rfl] at s0
  rw [edges_at, if_neg (by decide)] at s1
  have hq : ∀ k : ℕ, k = e.val % 500000 → 50 * (edgeRow e).val + (edgeCol e).val = k := fun k hk => by
    show 50 * (e.val % 500000 / 50) + e.val % 50 = k
    omega
  by_cases hc : e.val < 500000
  · rw [dif_pos hc] at s0 s1
    have hi : (⟨e.val, hc⟩ : Fin 500000) = ⟨50 * (edgeRow e).val + (edgeCol e).val, by rw [hq e.val (by omega)]; exact hc⟩ := Fin.ext (hq e.val (by omega)).symm
    rw [hi] at s0 s1
    exact squares_at P _ _ e _ _ (s0.trans (other_at _ _ _ _)) (s1.trans (ends_at _ _ _))
  · rw [dif_neg hc] at s0 s1
    have hi : (⟨e.val - 500000, by omega⟩ : Fin 500000) = ⟨50 * (edgeRow e).val + (edgeCol e).val, by rw [hq (e.val - 500000) (by omega)]; omega⟩ :=
      Fin.ext (hq (e.val - 500000) (by omega)).symm
    rw [hi] at s0 s1
    obtain ⟨x, -, ea, eb⟩ := sq_real hP (edgeRow e) (nearest (rowOf (distances P) (edgeRow e)) (edgeCol e))
    exact (squares_at P _ _ e _ _ (s0.trans (ends_at _ _ _)) (s1.trans (other_at _ _ _ _))).trans (eb.trans ea.symm)

theorem host_length (x : FVec Ideal Cert.ReferenceIdeal.S1000000 .f32) (e : Fin 1000000) :
    Host.sqrt (addf x (broadcastInDim Cert.ReferenceIdeal.S1000000 ![] Cert.ReferenceIdeal.Facts₀.bcast_S_S1000000 (constant Cert.ReferenceIdeal.S_ .f32 0x2B8CBCCC#32))) (ix1 e)
      = length (x (ix1 e)) := by
  unfold length
  pointwise

theorem lengths_sides {P : Points} (hP : Finite P) (h0 h1) (e : Fin 1000000) :
    lengthsAll P (side (distances P) 0 h0) (side (distances P) 1 h1) (ix1 e) = reach P (edgeRow e) (edgeCol e) := by
  exact (host_length _ e).trans (congrArg length (squares_sides hP h0 h1 e))

/-- The largest entry of a whole array. -/
theorem most_total {S : Shape} {axes : List (Fin S.rank)} (x : FVec Ideal S .f32) (h : S.ReducesTo axes ⟨0, ![]⟩) (hu) (j) :
    Host.reduce FloatOps.maximumf x (constant (F := Ideal) ⟨0, ![]⟩ .f32 0xFF800000#32) h hu j = Finset.univ.sup fun i => (x i : EReal) := by
  rw [Host.reduce_eq_fold]
  have hb : ∀ z, (constant (F := Ideal) (⟨0, ![]⟩ : Shape) .f32 0xFF800000#32 z : EReal) = ⊥ := fun z => by
    show Ideal.ofBits .f32 0xFF800000#32 = ⊥
    simp [Ideal.ofBits, Ideal.ieee]
  have hf : (Finset.univ.filter fun i => h.drop i = j) = Finset.univ := Finset.filter_true_of_mem fun i _ => funext fun a => a.elim0
  rw [hb, hf]
  rfl

theorem most_vector (x : FVec Ideal (⟨1, ![1000000]⟩ : Shape) .f32) : (Finset.univ.sup fun i => (x i : EReal)) = Finset.univ.sup fun e => (x (ix1 e) : EReal) := by
  refine le_antisymm (Finset.sup_le fun i _ => ?_) (Finset.sup_le fun e _ => Finset.le_sup (f := fun i => (x i : EReal)) (Finset.mem_univ _))
  obtain ⟨e, rfl⟩ : ∃ e : Fin 1000000, i = ix1 e := ⟨i 0, funext fun a => by match a with | ⟨0, _⟩ => rfl⟩
  exact Finset.le_sup (f := fun e => (x (ix1 e) : EReal)) (Finset.mem_univ e)

theorem most_column (x : FVec Ideal (⟨2, ![10000, 1]⟩ : Shape) .f32) :
    (Finset.univ.sup fun i => (x i : EReal)) = Finset.univ.sup fun r => (x (ix2 r (0 : Fin 1)) : EReal) := by
  refine le_antisymm (Finset.sup_le fun i _ => ?_) (Finset.sup_le fun e _ => Finset.le_sup (f := fun i => (x i : EReal)) (Finset.mem_univ _))
  obtain ⟨r, z, rfl⟩ : ∃ (r : Fin 10000) (z : Fin 1), i = ix2 r z := ⟨_, _, eq_ix2 i⟩
  obtain rfl : z = 0 := Subsingleton.elim _ _
  exact Finset.le_sup (f := fun r => (x (ix2 r (0 : Fin 1)) : EReal)) (Finset.mem_univ r)

theorem cutoff_edges : (Finset.univ.sup fun e : Fin 1000000 => reach P (edgeRow e) (edgeCol e)) = cutoff P := by
  refine le_antisymm (Finset.sup_le fun e _ => ?_) (Finset.sup_le fun r _ => Finset.sup_le fun c _ => ?_)
  · exact (Finset.le_sup (f := fun c => reach P (edgeRow e) c) (Finset.mem_univ (edgeCol e))).trans
      (Finset.le_sup (f := fun r => Finset.univ.sup fun c : Fin 50 => reach P r c) (Finset.mem_univ (edgeRow e)))
  · have hr := r.isLt
    have hc := c.isLt
    have er : edgeRow ⟨50 * r.val + c.val, by omega⟩ = r := Fin.ext (by show (50 * r.val + c.val) % 500000 / 50 = r.val; omega)
    have ec : edgeCol ⟨50 * r.val + c.val, by omega⟩ = c := Fin.ext (by show (50 * r.val + c.val) % 50 = c.val; omega)
    refine le_trans (le_of_eq ?_) (Finset.le_sup (f := fun e : Fin 1000000 => reach P (edgeRow e) (edgeCol e)) (Finset.mem_univ ⟨50 * r.val + c.val, by omega⟩))
    rw [er, ec]

/-- The longest of the reference's edges. -/
theorem cutoff_sides {P : Points} (hP : Finite P) (h0 h1) (h : Cert.ReferenceIdeal.S1000000.ReducesTo [0] Cert.ReferenceIdeal.S_) (hu) (j) :
    Host.reduce FloatOps.maximumf (lengthsAll P (side (distances P) 0 h0) (side (distances P) 1 h1)) (constant (F := Ideal) Cert.ReferenceIdeal.S_ .f32 0xFF800000#32) h hu j
      = cutoff P := by
  rw [most_total, most_vector, ← cutoff_edges]
  exact congrArg _ (funext fun e => lengths_sides hP h0 h1 e)

end Cert.Proof.Knn

end

end
-- ==== Proof.Basis.lean ====
/-
  Basis: the reference's basis functions of an edge's length are the kernel's. Their centres are at the same multiples of the cutoff, their
  widths are the same quarter of it with the same little added, and a quotient by a number that is not zero is a product by its inverse.
-/
module

public import proofs.«01_k».proof.Proof.Reference

@[expose] public section
noncomputable section

set_option maxRecDepth 16384

namespace Cert.Proof.Knn

open Idealize.ShloMosaic Idealize.ShloMosaic.TcCoe Idealize.ShloMosaic.Tactic
open Cert.ReferenceIdeal Cert.ReferenceIdeal.Gen

variable (C : FVec Ideal S_ .f32) (L : FVec Ideal S1000000 .f32)

/-- The fractions of the cutoff that the first four centres are at. -/
def fractions : FVec Ideal S4 .f32 := Host.divf (sitofp .f32 (iotaInDim S4 32 0)) (broadcastInDim S4 ![] bcast_S_S4 (constant S_ .f32 0x40800000#32))

/-- The first four centres, -/
def firstCentres : FVec Ideal S4 .f32 :=
  addf (mulf (broadcastInDim S4 ![0] bcast_S1_S4_0 (shapeCast S1 (id (constant (F := Ideal) S_ .f32 0x00000000#32)) shapeCasts_S_S1))
      (subf (broadcastInDim S4 ![] bcast_S_S4 (constant S_ .f32 0x3F800000#32)) fractions))
    (mulf (broadcastInDim S4 ![0] bcast_S1_S4_0 (shapeCast S1 C shapeCasts_S_S1)) fractions)

/-- and all five. -/
def centresAll : FVec Ideal S5 .f32 :=
  Ref.fn_main_v58 (F := Ideal) (firstCentres C) (broadcastInDim S1 ![] bcast_S_S1 C)

/-- The width. -/
def widthAll : FVec Ideal S_ .f32 :=
  addf (subf (shapeCast S_ (extractStridedSlice S1 ![1] (centresAll C) slices_S5_S1_1) shapeCasts_S1_S_)
    (shapeCast S_ (extractStridedSlice S1 ![0] (centresAll C) slices_S5_S1_0) shapeCasts_S1_S_)) (constant S_ .f32 0x3089705F#32)

/-- How far each length is from each centre. -/
def offsets : FVec Ideal S1000000x5 .f32 :=
  subf (broadcastInDim S1000000x5 ![0, 1] bcast_S1000000x1_S1000000x5_0_1 (broadcastInDim S1000000x1 ![0] bcast_S1000000_S1000000x1_0 L))
    (broadcastInDim S1000000x5 ![0, 1] bcast_S1x5_S1000000x5_0_1 (broadcastInDim S1x5 ![1] bcast_S5_S1x5_1 (centresAll C)))

/-- The basis functions of every edge. -/
def attributes : FVec Ideal S1000000x5 .f32 :=
  Host.exp (Host.divf (Host.negf (mulf (offsets C L) (offsets C L)))
    (broadcastInDim S1000000x5 ![] bcast_S_S1000000x5 (mulf (mulf (constant S_ .f32 0x40000000#32) (widthAll C)) (widthAll C))))

theorem four_word : Ideal.ofBits .f32 0x40800000#32 = ((4 : ℝ) : EReal) := by
  have h : Ideal.ofBits .f32 0x40800000#32 = ((8388608 * (2 ^ 21 : ℝ)⁻¹ : ℝ) : EReal) := by simp [Ideal.ofBits, Ideal.ieee]
  rw [h]
  norm_num

theorem quarter_word : Ideal.ofBits .f32 0x3E800000#32 = ((4⁻¹ : ℝ) : EReal) := by
  have h : Ideal.ofBits .f32 0x3E800000#32 = ((8388608 * (2 ^ 25 : ℝ)⁻¹ : ℝ) : EReal) := by simp [Ideal.ofBits, Ideal.ieee]
  rw [h]
  norm_num

/-- The little that is added to the width is a positive real number. -/
theorem little_word : ∃ w : ℝ, 0 < w ∧ Ideal.ofBits .f32 0x3089705F#32 = (w : EReal) := by
  refine ⟨_, ?_, by simp [Ideal.ofBits, Ideal.ieee]; rfl⟩
  norm_num

theorem count_number (b : ℕ) (h : b < 5) : FloatOps.sitofp (F := Ideal) FTy.f32 (BitVec.ofNat 32 b) = ((b : ℝ) : EReal) := by
  show (((BitVec.ofNat 32 b).toInt : ℝ) : EReal) = _
  rw [BitVec.toInt_eq_toNat_of_lt (by rw [BitVec.toNat_ofNat]; omega), BitVec.toNat_ofNat, Nat.mod_eq_of_lt (by omega)]
  norm_cast

variable {C} {L} {c : ℝ} (hC : C ix0 = (c : EReal))

include hC

theorem first_at (b : Fin 4) : firstCentres C (ix1 b) = (((b.val : ℝ) * (c * 4⁻¹) : ℝ) : EReal) := by
  have hz : id (constant (F := Ideal) S_ .f32 0#32) ix0 = (0 : EReal) := Ideal.ofBits_zero_f32
  pointwise [firstCentres, fractions]
  have hb := b.isLt
  rw [hz, hC, zero_mul, zero_add, four_word, count_number b.val (by omega), Ideal.div_coe (by norm_num), ← EReal.coe_mul, ← EReal.coe_mul]
  exact congrArg _ (by ring)

theorem centre_at (b : Fin 5) : centresAll C (ix1 b) = (((b.val : ℝ) * (c * 4⁻¹) : ℝ) : EReal) := by
  unfold centresAll Ref.fn_main_v58
  by_cases hb : b.val < 4
  · refine Eq.trans ?_ (first_at hC ⟨b.val, hb⟩)
    exact concatenate_pair_apply_left (t := S5) (s₁ := S4) (s₂ := S1) 0 _ _ _ _ rfl (ix1 ⟨b.val, hb⟩) fun a => by match a with | ⟨0, _⟩ => rfl
  · have hb4 : b.val = 4 := by have := b.isLt; omega
    refine (concatenate_pair_apply_right (t := S5) (s₁ := S4) (s₂ := S1) 0 _ _ _ _ rfl rfl (ix1 (0 : Fin 1))
      (fun a ha => by match a with | ⟨0, _⟩ => exact absurd rfl ha) ?_).trans ?_
    · show 0 + 4 = b.val
      omega
    · have h : (broadcastInDim S1 ![] bcast_S_S1 C) (ix1 (0 : Fin 1)) = C ix0 := by pointwise
      refine h.trans (hC.trans (congrArg _ ?_))
      rw [hb4]
      push_cast
      ring

theorem width_at {w : ℝ} (hw : Ideal.ofBits .f32 0x3089705F#32 = (w : EReal)) (z) : widthAll C z = ((c * 4⁻¹ + w : ℝ) : EReal) := by
  pointwise [widthAll]
  rw [centre_at hC, centre_at hC, hw, ← EReal.coe_sub, ← EReal.coe_add]
  exact congrArg _ (show ((1 : ℕ) : ℝ) * (c * 4⁻¹) - ((0 : ℕ) : ℝ) * (c * 4⁻¹) + w = c * 4⁻¹ + w by push_cast; ring)

theorem attributes_at (hc : 0 ≤ c) {e : Fin 1000000} {x : ℝ} (hx : L (ix1 e) = (x : EReal)) (b : Fin 5) :
    attributes C L (ix2 e b) = basis (c : EReal) (x : EReal) b := by
  obtain ⟨w, hw, ew⟩ := little_word
  have hy : (2 * (c * 4⁻¹ + w)) * (c * 4⁻¹ + w) ≠ 0 := by
    have : 0 < c * 4⁻¹ + w := by positivity
    positivity
  pointwise [attributes, offsets]
  unfold basis
  rw [width_at hC ew, centre_at hC, hx, count_number b.val b.isLt, quarter_word, ew, two_word]
  simp only [← EReal.coe_mul, ← EReal.coe_add]
  rw [Ideal.div_coe hy, Ideal.div_coe hy, one_mul, zero_sub]

end Cert.Proof.Knn

end

end
-- ==== Proof.Value.lean ====
/-
  Value: the value claim. Under the precondition the kernel's edges and their basis functions are the reference's.
-/
module

public import proofs.«01_k».proof.Defs
public import proofs.«01_k».proof.Proof.Reads
public import proofs.«01_k».proof.Proof.Basis

@[expose] public section
noncomputable section

set_option maxRecDepth 16384

namespace Cert.Proof.Knn

open Cert.KernelIdeal Cert.KernelIdeal.Gen
open Idealize.ShloMosaic Idealize.SL.Sem

variable (m : (ℓ : Loc nD τ sig) → Buf (Elt Ideal) ℓ) (d : Dev nD)

theorem cands_congr {row row' : ℕ → Ideal .f32} (t : Ideal .f32) (h : ∀ p < 10000, row p = row' p) : cands row t 10000 = cands row' t 10000 := by
  unfold cands
  exact List.filter_congr fun p hp => by rw [h p (List.mem_range.mp hp)]

theorem before_congr {row row' : ℕ → EReal} (h : ∀ p < 10000, row p = row' p) : before row = before row' := by
  funext k k'
  unfold before
  rw [h k.val k.isLt, h k'.val k'.isLt]

theorem clampW_of_lt (j : Fin 10000) : clampW (BitVec.ofNat 32 j.val) = j.val := by
  have hj := j.isLt
  have h : Affine.IsInt (IntOp.minsi 9999#32 (IntOp.maxsi 0#32 (BitVec.ofNat 32 j.val))) (min 9999 (max 0 (j.val : ℤ))) :=
    Affine.minsi (Affine.ofNat 9999 ⟨rfl, by omega⟩) (Affine.maxsi (Affine.ofNat 0 ⟨rfl, by omega⟩) (Affine.ofNat j.val ⟨rfl, by omega⟩) rfl) rfl
  exact Affine.nat_eq h j.val (by omega)

/-- Under the precondition the points are finite. -/
theorem pre_finite {P : Points} (hpre : Cert.Pre_enough_candidates.fn (F := Ideal) P = fun _ => 1#1) : Finite P :=
  finite_of_limit fun r => (pre_row P hpre r).2

/-- A row of the SparseCore's outputs, under the precondition: the nearest positions and the squared distances to them. -/
theorem row_value (hpre : Cert.Pre_enough_candidates.fn (F := Ideal) (argP m d) = fun _ => 1#1)
    {f : Buf (Elt Ideal) (locT d main_v15_0) × Buf (Elt Ideal) (locT d main_v15_1)} (r : Fin 10000) (h : Row (In m) d r.val f) (c : Fin 50) :
    fifty (f.1 : IVec S640000 32) (ix2 r c) = nbrs (distances (argP m d)) (ix2 r c)
      ∧ fifty (f.2 : FVec Ideal S640000 .f32) (ix2 r c) = sq (argP m d) r (nearest (rowOf (distances (argP m d)) r) c) := by
  have hP := pre_finite hpre
  obtain ⟨hcap, ht⟩ := pre_row (argP m d) hpre r
  have hrow : ∀ p < 10000, inD (In m) d (10000 * r.val + p) = rowOf (distances (argP m d)) r p := fun p hp =>
    (read_D m d r ⟨p, hp⟩).trans ((distances_between hP r ⟨p, hp⟩).symm.trans (rowOf_at (distances (argP m d)) r ⟨p, hp⟩).symm)
  have hT : inT (In m) d r.val = limit (distances (argP m d)) r :=
    (read_T m d r).trans (congrArg threshold (funext fun p => (distances_between hP r p).symm))
  have h50 : 50 ≤ (cands (rowOf (distances (argP m d)) r) (limit (distances (argP m d)) r) 10000).length := by
    rw [← count_eq]
    refine (threshold_enough _ ht).trans (le_of_eq (congrArg Finset.card (Finset.filter_congr fun p _ => ?_)))
    rw [le_iff, rowOf_at]
    rfl
  generalize distances (argP m d) = D at *
  have hok : RowOk (fun p => inD (In m) d (10000 * r.val + p)) (inT (In m) d r.val) (inX (In m) d) (inY (In m) d) (inZ (In m) d) r.val _ _ := h
  have hcol := hok.columns (by rw [cands_congr _ hrow, hT]; exact h50) (by rw [cands_congr _ hrow, hT]; exact hcap) (by rw [hT]; exact ht) c
  have hlt : 64 * r.val + c.val < 640000 := by have := r.isLt; have := c.isLt; omega
  have e1 := flat_at (by norm_num) (f.1 : IVec S640000 32) (⟨_, hlt⟩ : Fin 640000)
  have e2 := flat_at (by norm_num) (f.2 : FVec Ideal S640000 .f32) (⟨_, hlt⟩ : Fin 640000)
  have hn : nearest (fun p => inD (In m) d (10000 * r.val + p)) c = nearest (rowOf D r) c := by
    unfold nearest
    rw [before_congr hrow]
  rw [hn] at hcol
  refine ⟨?_, ?_⟩
  · rw [fifty_at]
    exact e1.symm.trans hcol
  · rw [fifty_at]
    refine (e2.symm.trans (hok.1 c.val (by have := c.isLt; omega))).trans ?_
    dsimp only
    rw [hcol, clampW_of_lt]
    unfold sqd
    rw [read_X, read_Y, read_Z, read_X, read_Y, read_Z]
    rfl

/-- Every row's neighbours. -/
theorem all_nbrs (hpre : Cert.Pre_enough_candidates.fn (F := Ideal) (argP m d) = fun _ => 1#1)
    {f : Buf (Elt Ideal) (locT d main_v15_0) × Buf (Elt Ideal) (locT d main_v15_1)} (h : ∀ row < 10000, Row (In m) d row f) :
    fifty (f.1 : IVec S640000 32) = nbrs (distances (argP m d)) := by
  funext j
  obtain ⟨r, c, rfl⟩ : ∃ r : Fin 10000, ∃ c : Fin 50, j = ix2 r c := ⟨j 0, j 1, eq_ix2 j⟩
  exact (row_value m d hpre r (h r.val r.isLt) c).1

theorem centres_eq : centres = ends := by
  funext j
  obtain ⟨e, rfl⟩ : ∃ e : Fin 500000, j = ix1 e := ⟨j 0, funext fun a => by match a with | ⟨0, _⟩ => rfl⟩
  obtain ⟨r, c, he⟩ : ∃ (r : Fin 10000) (c : Fin 50), e.val = 50 * r.val + c.val :=
    ⟨⟨e.val / 50, by have := e.isLt; omega⟩, ⟨e.val % 50, by omega⟩, by show e.val = 50 * (e.val / 50) + e.val % 50; omega⟩
  obtain ⟨v, hv⟩ := e
  obtain rfl : v = 50 * r.val + c.val := he
  rw [ends_at]
  refine (cast_matrix_vector _ _ r c hv).trans ?_
  refine (Routing.bcRows _ _ _ r c).trans rfl

/-- The first result. -/
theorem out_edges_eq (hpre : Cert.Pre_enough_candidates.fn (F := Ideal) (argP m d) = fun _ => 1#1)
    {f : Buf (Elt Ideal) (locT d main_v15_0) × Buf (Elt Ideal) (locT d main_v15_1)} (h : ∀ row < 10000, Row (In m) d row f) :
    (Out m d f (Proc.devRef .tc main_v33) : IVec S2x1000000 32) = edges (distances (argP m d)) := by
  rw [out_edges, all_nbrs m d hpre h, centres_eq]
  unfold stackWords joinWords
  exact (edges_rows (distances (argP m d)) _ _ _).symm

/-! ### The second result -/

/-- Half of the edges' rows, read at an edge. -/
theorem half_at (hpre : Cert.Pre_enough_candidates.fn (F := Ideal) (argP m d) = fun _ => 1#1)
    {f : Buf (Elt Ideal) (locT d main_v15_0) × Buf (Elt Ideal) (locT d main_v15_1)} (h : ∀ row < 10000, Row (In m) d row f)
    (r : Fin 10000) (c : Fin 50) (e : Fin 500000) (he : e.val = 50 * r.val + c.val) (b : Fin 5) :
    half m d f (ix2 e b) = basis (cutoff (argP m d)) (reach (argP m d) r c) b := by
  have hl : ∀ r c, readSq (at_ fun _ => Mid m d f) d (ix2 r (wide c)) = sq (argP m d) r (nearest (rowOf (distances (argP m d)) r) c) := fun r c =>
    (mid_fifty m d f r c).trans (row_value m d hpre r (h r.val r.isLt) c).2
  have hcut : readCut (at_ fun _ => Late m d f) d (ix1 (0 : Fin 1)) = cutoff (argP m d) := by
    rw [late_cutoff]
    refine (shapeCast_apply _ _ _ (Shape.Idx.first h_S_) (by rw [Shape.rowMajor_val_one]; rfl)).trans ?_
    rw [most_total, most_column]
    refine congrArg _ (funext fun r => ?_)
    exact (left_longest _ 1 d r).trans (congrArg _ (funext fun c => congrArg length (hl r c)))
  have hlen : readLen (at_ fun _ => Late m d f) d (ix2 e (0 : Fin 1)) = reach (argP m d) r c := by
    rw [late_lengths]
    refine (shapeCast_apply _ _ _ (ix2 r c) ?_).trans ((left_lengths _ 1 d r c).trans (congrArg length (hl r c)))
    rw [Shape.rowMajor_val_two, Shape.rowMajor_val_two]
    show r.val * 50 + c.val = e.val * 1 + 0
    omega
  refine (left_basis _ 1 d e b).trans ?_
  rw [hcut, hlen]

theorem joinRows_at (x : FVec Ideal S500000x5 .f32) (e : Fin 1000000) (b : Fin 5) :
    joinRows x x (ix2 e b) = x (ix2 (⟨e.val % 500000, Nat.mod_lt _ (by norm_num)⟩ : Fin 500000) b) := by
  have hel := e.isLt
  unfold joinRows
  by_cases hc : e.val < 500000
  · refine concatenate_pair_apply_left (t := S1000000x5) (s₁ := S500000x5) (s₂ := S500000x5) 0 _ _ _ _ rfl _ fun a => ?_
    match a with
    | ⟨0, _⟩ => show e.val % 500000 = e.val; omega
    | ⟨1, _⟩ => rfl
  · refine concatenate_pair_apply_right (t := S1000000x5) (s₁ := S500000x5) (s₂ := S500000x5) 0 _ _ _ _ rfl rfl _
      (fun a ha => by match a with | ⟨0, _⟩ => exact absurd rfl ha | ⟨1, _⟩ => rfl) ?_
    show e.val % 500000 + 500000 = e.val
    omega

/-- The reference's second result, of the points. -/
def rows (P : Points) : FVec Ideal (⟨2, ![1000000, 5]⟩ : Shape) .f32 := fun j => basis (cutoff P) (reach P (edgeRow (j 0)) (edgeCol (j 0))) (j 1)

theorem out_rows_eq (hpre : Cert.Pre_enough_candidates.fn (F := Ideal) (argP m d) = fun _ => 1#1)
    {f : Buf (Elt Ideal) (locT d main_v15_0) × Buf (Elt Ideal) (locT d main_v15_1)} (h : ∀ row < 10000, Row (In m) d row f) :
    (Out m d f (Proc.devRef .tc main_v34) : FVec Ideal S1000000x5 .f32) = rows (argP m d) := by
  rw [out_rows]
  funext j
  obtain ⟨e, b, rfl⟩ : ∃ e : Fin 1000000, ∃ b : Fin 5, j = ix2 e b := ⟨j 0, j 1, eq_ix2 j⟩
  refine (joinRows_at _ e b).trans (half_at m d hpre h (edgeRow e) (edgeCol e) _ ?_ b)
  show e.val % 500000 = 50 * (e.val % 500000 / 50) + e.val % 50
  omega

theorem attributes_rows {P : Points} (hP : Finite P) (h0 h1) (h : Cert.ReferenceIdeal.S1000000.ReducesTo [0] Cert.ReferenceIdeal.S_) (hu) :
    attributes (Host.reduce FloatOps.maximumf (lengthsAll P (side (distances P) 0 h0) (side (distances P) 1 h1)) (constant (F := Ideal) Cert.ReferenceIdeal.S_ .f32 0xFF800000#32) h hu)
      (lengthsAll P (side (distances P) 0 h0) (side (distances P) 1 h1)) = rows P := by
  funext j
  obtain ⟨e, b, rfl⟩ : ∃ e : Fin 1000000, ∃ b : Fin 5, j = ix2 e b := ⟨j 0, j 1, eq_ix2 j⟩
  obtain ⟨c, hc, ec⟩ := cutoff_real hP
  obtain ⟨x, -, ex⟩ := reach_real hP (edgeRow e) (edgeCol e)
  refine (attributes_at ((cutoff_sides hP h0 h1 h hu _).trans ec) hc ((lengths_sides hP h0 h1 e).trans ex) b).trans ?_
  rw [← ec, ← ex]
  rfl

/-! ### The claims -/

/-- The reference runs, and ends with its argument unchanged. -/
theorem frame_reference : Cert.quiescent_ReferenceIdeal := fun m ρ _ =>
  (θ_run Cert.ReferenceIdeal.defs _ _).mono (fun r h => ⟨fun c => (h c).2.2, sem_eq_zero_of_no_sems (by decide) r.2⟩)
    (Ref.run (F := Ideal) m ρ)

section Terms
variable (V : Valuation Cert.ReferenceIdeal.τ Cert.ReferenceIdeal.sig (Elt Ideal)) (P : Points)
  (hP : V (Proc.devRef .tc Cert.ReferenceIdeal.main_arg0) = P)
include hP

theorem term_distances : Ref.res_main_v23 V = Host.negf (distances P) := by
  subst hP
  rfl

theorem term_edges : Ref.res_main_v32 V = edges (distances P) := by
  unfold Ref.res_main_v32 Ref.res_main_v30
  rw [term_distances V P hP, topK_nbrs]
  rfl

theorem term_side0 : Ref.res_main_v34 V = side (distances P) 0 Cert.ReferenceIdeal.Facts₀.slices_S2x1000000_S1x1000000_0_0 := by
  unfold Ref.res_main_v34
  rw [term_edges V P hP]
  rfl

theorem term_side1 : Ref.res_main_v43 V = side (distances P) 1 Cert.ReferenceIdeal.Facts₀.slices_S2x1000000_S1x1000000_1_0 := by
  unfold Ref.res_main_v43
  rw [term_edges V P hP]
  rfl

theorem term_lengths : Ref.res_main_v56 V = lengthsAll P (side (distances P) 0 Cert.ReferenceIdeal.Facts₀.slices_S2x1000000_S1x1000000_0_0)
    (side (distances P) 1 Cert.ReferenceIdeal.Facts₀.slices_S2x1000000_S1x1000000_1_0) := by
  rw [← term_side0 V P hP, ← term_side1 V P hP]
  subst hP
  rfl

theorem term_rows (hf : Finite P) : Host.exp (Host.divf (Host.negf (mulf (Ref.res_main_v69 V) (Ref.res_main_v69 V)))
    (broadcastInDim Cert.ReferenceIdeal.S1000000x5 ![] Cert.ReferenceIdeal.Facts₀.bcast_S_S1000000x5
      (mulf (mulf (constant Cert.ReferenceIdeal.S_ .f32 0x40000000#32) (Ref.res_main_v64 V)) (Ref.res_main_v64 V)))) = rows P := by
  refine Eq.trans (b := attributes (Ref.res_main_v57 V) (Ref.res_main_v56 V)) rfl ?_
  unfold Ref.res_main_v57
  rw [term_lengths V P hP]
  exact attributes_rows hf _ _ _ _

end Terms

/-- The reference's results. -/
theorem run_reference (m : (ℓ : Loc Cert.ReferenceIdeal.nD Cert.ReferenceIdeal.τ Cert.ReferenceIdeal.sig) → Buf (Elt Ideal) ℓ)
    (ρ : Dev Cert.ReferenceIdeal.nD → PrngReg) (P : Dev Cert.ReferenceIdeal.nD → Points) (hf : ∀ c, Finite (P c))
    (hP : ∀ c : Dev Cert.ReferenceIdeal.nD, m ((c.tc : Thread Cert.ReferenceIdeal.nD Cert.ReferenceIdeal.τ).loc Cert.ReferenceIdeal.main_arg0) = P c) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v32) = edges (distances (P c))
        ∧ r.2.mem ((c.tc : Thread Cert.ReferenceIdeal.nD Cert.ReferenceIdeal.τ).loc Cert.ReferenceIdeal.main_v76) = rows (P c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) :=
  (θ_run Cert.ReferenceIdeal.defs _ _).mono (fun r h c => ⟨(h c).1.trans (term_edges _ _ (hP c)), (h c).2.1.trans (term_rows _ _ (hP c) (hf c)), (h c).2.2⟩)
    (Ref.run (F := Ideal) m ρ)

/-- The kernel's edges and basis functions are the reference's. -/
theorem algebraic : Cert.algebraic_KernelIdeal_ReferenceIdeal_pre_enough_candidates := by
  intro m g m' g' hpre hargs
  refine ⟨fun c => edges (distances (argP m c)), fun c => rows (argP m c), ?_,
    run_reference m' g' (argP m) (fun c => pre_finite (hpre c)) hargs⟩
  refine (θ_run Cert.KernelIdeal.defs _ _).mono (fun r h c => ?_) (run_main (F := Ideal) m g)
  obtain ⟨f, hf, h⟩ := h.1 c
  refine ⟨?_, ?_, ?_⟩
  · exact (h main_v33 (by unfold endRefs; decide)).trans (out_edges_eq m c (hpre c) hf)
  · exact (h main_v34 (by unfold endRefs; decide)).trans (out_rows_eq m c (hpre c) hf)
  · exact (h main_arg0 (by unfold endRefs; decide)).trans (out_arg m c f)

end Cert.Proof.Knn

end

end
-- ==== Proof.lean ====
module

public import proofs.«01_k».proof.Defs
public import proofs.«01_k».proof.Proof.Frame
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_enough_candidates.Gen.facts,
    Knn.frame_kernel, Knn.frame_ideal, fun m ρ _ => Knn.frame_ideal m ρ trivial, Knn.frame_reference, fun m ρ _ => Knn.frame_reference m ρ trivial,
    trivial, Knn.algebraic⟩

end Cert.Proof

end
